-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  True

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v73) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hFfn : Cert.Ffn.Facts) (hFfnIdeal : Cert.FfnIdeal.Facts) (hFfnReferenceIdeal : Cert.FfnReferenceIdeal.Facts) (hAda : Cert.Ada.Facts) (hAdaIdeal : Cert.AdaIdeal.Facts) (hAdaReferenceIdeal : Cert.AdaReferenceIdeal.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ preserves_Ffn_FfnIdeal
    ∧ algebraic_FfnIdeal_FfnReferenceIdeal (hFfnIdeal := hFfnIdeal) (hFfnReferenceIdeal := hFfnReferenceIdeal)
    ∧ preserves_Ada_AdaIdeal
    ∧ algebraic_AdaIdeal_AdaReferenceIdeal (hAdaIdeal := hAdaIdeal) (hAdaReferenceIdeal := hAdaReferenceIdeal)
-- ==== Kernel.lean ====
abbrev S8x4096x1024 : Shape := ⟨3, ![8, 4096, 1024]⟩
abbrev S8x6x1024 : Shape := ⟨3, ![8, 6, 1024]⟩
abbrev S1024 : Shape := ⟨1, ![1024]⟩
abbrev S1024x2568 : Shape := ⟨2, ![1024, 2568]⟩
abbrev S4x1024 : Shape := ⟨2, ![4, 1024]⟩
abbrev S4 : Shape := ⟨1, ![4]⟩
abbrev S512 : Shape := ⟨1, ![512]⟩
abbrev S4x128x128 : Shape := ⟨3, ![4, 128, 128]⟩
abbrev S1024x1024 : Shape := ⟨2, ![1024, 1024]⟩
abbrev S1024x2560 : Shape := ⟨2, ![1024, 2560]⟩
abbrev S1024x4 : Shape := ⟨2, ![1024, 4]⟩
abbrev S_ : Shape := ⟨0, ![]⟩
abbrev S1024x128 : Shape := ⟨2, ![1024, 128]⟩
abbrev S1024x256 : Shape := ⟨2, ![1024, 256]⟩
abbrev S128 : Shape := ⟨1, ![128]⟩
abbrev S256 : Shape := ⟨1, ![256]⟩
abbrev S1x256 : Shape := ⟨2, ![1, 256]⟩
abbrev S1x1024 : Shape := ⟨2, ![1, 1024]⟩
abbrev S1x512 : Shape := ⟨2, ![1, 512]⟩
abbrev S8x8x4096x128 : Shape := ⟨4, ![8, 8, 4096, 128]⟩
abbrev S8x4096x1 : Shape := ⟨3, ![8, 4096, 1]⟩
abbrev S1x6x1024 : Shape := ⟨3, ![1, 6, 1024]⟩
abbrev S1x8x1024x128 : Shape := ⟨4, ![1, 8, 1024, 128]⟩
abbrev S1x1024x1 : Shape := ⟨3, ![1, 1024, 1]⟩
abbrev S2x128x8x1024 : Shape := ⟨4, ![2, 128, 8, 1024]⟩
abbrev S2 : Shape := ⟨1, ![2]⟩
abbrev S12x1024x128 : Shape := ⟨3, ![12, 1024, 128]⟩
abbrev S5x1024x128 : Shape := ⟨3, ![5, 1024, 128]⟩
abbrev S4x1024x128 : Shape := ⟨3, ![4, 1024, 128]⟩
abbrev S24x1024 : Shape := ⟨2, ![24, 1024]⟩
abbrev S120x512 : Shape := ⟨2, ![120, 512]⟩
abbrev S4x128x256 : Shape := ⟨3, ![4, 128, 256]⟩
abbrev S8x128 : Shape := ⟨2, ![8, 128]⟩
abbrev S1 : Shape := ⟨1, ![1]⟩
abbrev S1x128x1x1024 : Shape := ⟨4, ![1, 128, 1, 1024]⟩
abbrev S128x1024 : Shape := ⟨2, ![128, 1024]⟩
abbrev S1x128x1024 : Shape := ⟨3, ![1, 128, 1024]⟩
abbrev S1x128x8x1024 : Shape := ⟨4, ![1, 128, 8, 1024]⟩
abbrev S128x8x1024 : Shape := ⟨3, ![128, 8, 1024]⟩
abbrev S1x1x1024 : Shape := ⟨3, ![1, 1, 1024]⟩
abbrev S1024x1 : Shape := ⟨2, ![1024, 1]⟩
abbrev S1024x512 : Shape := ⟨2, ![1024, 512]⟩
abbrev S64x128 : Shape := ⟨2, ![64, 128]⟩
abbrev S56x128 : Shape := ⟨2, ![56, 128]⟩
abbrev S16x128 : Shape := ⟨2, ![16, 128]⟩
abbrev S48x128 : Shape := ⟨2, ![48, 128]⟩
abbrev S32x128 : Shape := ⟨2, ![32, 128]⟩
abbrev S8x512 : Shape := ⟨2, ![8, 512]⟩
abbrev S1032x128 : Shape := ⟨2, ![1032, 128]⟩
abbrev S1x128x128 : Shape := ⟨3, ![1, 128, 128]⟩
abbrev S128x128 : Shape := ⟨2, ![128, 128]⟩
abbrev S1x128 : Shape := ⟨2, ![1, 128]⟩
abbrev S24x512 : Shape := ⟨2, ![24, 512]⟩
abbrev S24x128 : Shape := ⟨2, ![24, 128]⟩
abbrev S1048x128 : Shape := ⟨2, ![1048, 128]⟩
abbrev S1040x128 : Shape := ⟨2, ![1040, 128]⟩
abbrev S56x512 : Shape := ⟨2, ![56, 512]⟩
abbrev S1080x128 : Shape := ⟨2, ![1080, 128]⟩
abbrev S1072x128 : Shape := ⟨2, ![1072, 128]⟩
abbrev S1056x128 : Shape := ⟨2, ![1056, 128]⟩
abbrev S120x128 : Shape := ⟨2, ![120, 128]⟩
abbrev S1144x128 : Shape := ⟨2, ![1144, 128]⟩
abbrev S1136x128 : Shape := ⟨2, ![1136, 128]⟩
abbrev S1120x128 : Shape := ⟨2, ![1120, 128]⟩
abbrev S1088x128 : Shape := ⟨2, ![1088, 128]⟩
abbrev S1x1024x128 : Shape := ⟨3, ![1, 1024, 128]⟩
abbrev S8x1024 : Shape := ⟨2, ![8, 1024]⟩
abbrev S1048x1024 : Shape := ⟨2, ![1048, 1024]⟩
abbrev S256x256 : Shape := ⟨2, ![256, 256]⟩
abbrev S256x128 : Shape := ⟨2, ![256, 128]⟩
abbrev S1x128x256 : Shape := ⟨3, ![1, 128, 256]⟩
abbrev S128x256 : Shape := ⟨2, ![128, 256]⟩
abbrev S256x1 : Shape := ⟨2, ![256, 1]⟩
abbrev S1x1 : Shape := ⟨2, ![1, 1]⟩
abbrev S512x1024 : Shape := ⟨2, ![512, 1024]⟩
abbrev S1x64x8x1024 : Shape := ⟨4, ![1, 64, 8, 1024]⟩
abbrev S64x8x1024 : Shape := ⟨3, ![64, 8, 1024]⟩
abbrev S512x128 : Shape := ⟨2, ![512, 128]⟩
abbrev S1x1x512x128 : Shape := ⟨4, ![1, 1, 512, 128]⟩
abbrev S512x1 : Shape := ⟨2, ![512, 1]⟩
abbrev S1x512x1 : Shape := ⟨3, ![1, 512, 1]⟩

abbrev nBuf : Space → Nat
  | .hbm => 40
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x2568, .f32⟩
  | .hbm, ⟨4, _⟩ => ⟨S4x1024, .f32⟩
  | .hbm, ⟨5, _⟩ => ⟨S1024, .f32⟩
  | .hbm, ⟨6, _⟩ => ⟨S4, .f32⟩
  | .hbm, ⟨7, _⟩ => ⟨S4, .f32⟩
  | .hbm, ⟨8, _⟩ => ⟨S512, .f32⟩
  | .hbm, ⟨9, _⟩ => ⟨S4x128x128, .f32⟩
  | .hbm, ⟨10, _⟩ => ⟨S512, .f32⟩
  | .hbm, ⟨11, _⟩ => ⟨S1024x1024, .f32⟩
  | .hbm, ⟨12, _⟩ => ⟨S1024x2560, .f32⟩
  | .hbm, ⟨13, _⟩ => ⟨S1024x2560, .bf16⟩
  | .hbm, ⟨14, _⟩ => ⟨S1024x4, .f32⟩
  | .hbm, ⟨15, _⟩ => ⟨S1024x4, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x256, .f32⟩
  | .hbm, ⟨23, _⟩ => ⟨S1024x256, .bf16⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S_, .i32⟩
  | .hbm, ⟨28, _⟩ => ⟨S_, .f32⟩
  | .hbm, ⟨29, _⟩ => ⟨S128, .f32⟩
  | .hbm, ⟨30, _⟩ => ⟨S256, .f32⟩
  | .hbm, ⟨31, _⟩ => ⟨S1x256, .f32⟩
  | .hbm, ⟨32, _⟩ => ⟨S1x1024, .f32⟩
  | .hbm, ⟨33, _⟩ => ⟨S1x1024, .f32⟩
  | .hbm, ⟨34, _⟩ => ⟨S1x512, .f32⟩
  | .hbm, ⟨35, _⟩ => ⟨S4x128x128, .bf16⟩
  | .hbm, ⟨36, _⟩ => ⟨S1x512, .f32⟩
  | .hbm, ⟨37, _⟩ => ⟨S1024x1024, .bf16⟩
  | .hbm, ⟨38, _⟩ => ⟨S8x8x4096x128, .f32⟩
  | .hbm, ⟨39, _⟩ => ⟨S8x4096x1, .f32⟩
  | .local _ .vmem, ⟨0, _⟩ => ⟨S1x6x1024, .f32⟩
  | .local _ .vmem, ⟨1, _⟩ => ⟨S1x6x1024, .f32⟩
  | .local _ .vmem, ⟨2, _⟩ => ⟨S1x1024, .f32⟩
  | .local _ .vmem, ⟨3, _⟩ => ⟨S1024x2560, .bf16⟩
  | .local _ .vmem, ⟨4, _⟩ => ⟨S1024x256, .bf16⟩
  | .local _ .vmem, ⟨5, _⟩ => ⟨S1x256, .f32⟩
  | .local _ .vmem, ⟨6, _⟩ => ⟨S4x1024, .f32⟩
  | .local _ .vmem, ⟨7, _⟩ => ⟨S1x1024, .f32⟩
  | .local _ .vmem, ⟨8, _⟩ => ⟨S1x512, .f32⟩
  | .local _ .vmem, ⟨9, _⟩ => ⟨S4x128x128, .bf16⟩
  | .local _ .vmem, ⟨10, _⟩ => ⟨S1x512, .f32⟩
  | .local _ .vmem, ⟨11, _⟩ => ⟨S1024x1024, .bf16⟩
  | .local _ .vmem, ⟨12, _⟩ => ⟨S1x8x1024x128, .f32⟩
  | .local _ .vmem, ⟨13, _⟩ => ⟨S1x8x1024x128, .f32⟩
  | .local _ .vmem, ⟨14, _⟩ => ⟨S1x1024x1, .f32⟩
  | .local _ .vmem, ⟨15, _⟩ => ⟨S1x1024x1, .f32⟩
  | .local _ .vmem, ⟨16, _⟩ => ⟨S2x128x8x1024, .f32⟩
  | .local _ .vmem, ⟨17, _⟩ => ⟨S12x1024x128, .f32⟩
  | .local _ .vmem, ⟨18, _⟩ => ⟨S5x1024x128, .f32⟩
  | .local _ .vmem, ⟨19, _⟩ => ⟨S4x1024x128, .f32⟩
  | .local _ .vmem, ⟨20, _⟩ => ⟨S1024x1024, .bf16⟩
  | .local _ .vmem, ⟨21, _⟩ => ⟨S24x1024, .f32⟩
  | .local _ .vmem, ⟨22, _⟩ => ⟨S120x512, .f32⟩
  | .local _ .vmem, ⟨23, _⟩ => ⟨S4x128x256, .f32⟩
  | .local _ .vmem, ⟨24, _⟩ => ⟨S8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_c_0 : Ref sig .tc := ⟨.hbm, 19, rfl⟩
abbrev main_call1_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_call2_v0 : Ref sig .tc := ⟨.hbm, 25, rfl⟩
abbrev main_v8 : Ref sig .tc := ⟨.hbm, 26, rfl⟩
abbrev main_c_2 : Ref sig .tc := ⟨.hbm, 27, rfl⟩
abbrev main_call3_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_3 : BitVec 32 := 0#32
  let v12 : BitVec 1 := Scalar.cmpi .eq v1 c0_i32_3
  let v13 : BitVec 32 := Scalar.extui v12
  let c0_i32_4 : BitVec 32 := 0#32
  let v14 : BitVec 1 := Scalar.cmpi .ne v13 c0_i32_4
  v14

def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off2 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_1119 : BitVec 32 := 0#32
  let c0_i32_1118 : BitVec 32 := 0#32
  let c0_i32_1120 : BitVec 32 := 0#32
  ![v11.toNat, 0, 0, 0]
def k0_off3 (i : grid0.Coords) (c0_i32_1110 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_1097 : BitVec 32 := 0#32
  let v2720 : BitVec 1 := Scalar.cmpi .sgt v1 c0_i32_1097
  let v2721 : BitVec 32 := Scalar.extui v2720
  let c0_i32_1098 : BitVec 32 := 0#32
  let v2722 : BitVec 1 := Scalar.cmpi .slt v1 c0_i32_1098
  let v2723 : BitVec 32 := Scalar.extui v2722
  let v2724 : BitVec 32 := Scalar.subi v2721 v2723
  let c4_i32_1096 : BitVec 32 := 4#32
  let c0_i32_1099 : BitVec 32 := 0#32
  let v2725 : BitVec 1 := Scalar.cmpi .sgt c4_i32_1096 c0_i32_1099
  let v2726 : BitVec 32 := Scalar.extui v2725
  let c0_i32_1100 : BitVec 32 := 0#32
  let v2727 : BitVec 1 := Scalar.cmpi .slt c4_i32_1096 c0_i32_1100
  let v2728 : BitVec 32 := Scalar.extui v2727
  let v2729 : BitVec 32 := Scalar.subi v2726 v2728
  let v2730 : BitVec 1 := Scalar.cmpi .ne v2724 v2729
  let v2731 : BitVec 32 := Scalar.remsi v1 c4_i32_1096
  let c0_i32_1101 : BitVec 32 := 0#32
  let v2732 : BitVec 1 := Scalar.cmpi .ne v2731 c0_i32_1101
  let v2733 : BitVec 1 := Scalar.andi v2730 v2732
  let v2719 : BitVec 32 := Scalar.divsi v1 c4_i32_1096
  let c1_i32_1102 : BitVec 32 := 1#32
  let v2734 : BitVec 32 := Scalar.subi v2719 c1_i32_1102
  let v2735 : BitVec 32 := Scalar.select v2733 v2734 v2719
  let c4_i32_1103 : BitVec 32 := 4#32
  let c0_i32_1104 : BitVec 32 := 0#32
  let v2736 : BitVec 1 := Scalar.cmpi .eq c4_i32_1103 c0_i32_1104
  let c1_i32_1105 : BitVec 32 := 1#32
  let v2737 : BitVec 32 := Scalar.select v2736 c1_i32_1105 c4_i32_1103
  let v2738 : BitVec 32 := Scalar.remsi v1 v2737
  let c0_i32_1107 : BitVec 32 := 0#32
  let v2740 : BitVec 1 := Scalar.cmpi .slt v2738 c0_i32_1107
  let c0_i32_1108 : BitVec 32 := 0#32
  let v2741 : BitVec 1 := Scalar.cmpi .slt v2737 c0_i32_1108
  let v2742 : BitVec 1 := Scalar.xori v2740 v2741
  let c0_i32_1106 : BitVec 32 := 0#32
  let v2739 : BitVec 1 := Scalar.cmpi .ne v2738 c0_i32_1106
  let v2743 : BitVec 1 := Scalar.andi v2742 v2739
  let v2744 : BitVec 32 := Scalar.addi v2738 v2737
  let v2745 : BitVec 32 := Scalar.select v2743 v2744 v2738
  let c1024_i32_1109 : BitVec 32 := 1024#32
  let v2746 : BitVec 32 := Scalar.muli v2745 c1024_i32_1109
  let v2747 : BitVec 32 := Scalar.addi v2746 c0_i32_1110
  let c0_i32_1121 : BitVec 32 := 0#32
  ![v2735.toNat, v2747.toNat, 0]
def k0_off4 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_1123 : BitVec 32 := 0#32
  let c1_i32_1122 : BitVec 32 := 1#32
  let c0_i32_1124 : BitVec 32 := 0#32
  ![v11.toNat, 0, 1, 0]
def k0_off5 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_1127 : BitVec 32 := 0#32
  let c2_i32_1126 : BitVec 32 := 2#32
  let c0_i32_1128 : BitVec 32 := 0#32
  ![v11.toNat, 0, 2, 0]
def k0_off6 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_1131 : BitVec 32 := 0#32
  let c3_i32_1130 : BitVec 32 := 3#32
  let c0_i32_1132 : BitVec 32 := 0#32
  ![v11.toNat, 0, 3, 0]
def k0_off7 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_1135 : BitVec 32 := 0#32
  let c4_i32_1134 : BitVec 32 := 4#32
  let c0_i32_1136 : BitVec 32 := 0#32
  ![v11.toNat, 0, 4, 0]
def k0_off8 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_1139 : BitVec 32 := 0#32
  let c5_i32_1138 : BitVec 32 := 5#32
  let c0_i32_1140 : BitVec 32 := 0#32
  ![v11.toNat, 0, 5, 0]
def k0_off9 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_1143 : BitVec 32 := 0#32
  let c6_i32_1142 : BitVec 32 := 6#32
  let c0_i32_1144 : BitVec 32 := 0#32
  ![v11.toNat, 0, 6, 0]
def k0_off10 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_1147 : BitVec 32 := 0#32
  let c7_i32_1146 : BitVec 32 := 7#32
  let c0_i32_1148 : BitVec 32 := 0#32
  ![v11.toNat, 0, 7, 0]
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_5 : BitVec 32 := 1#32
  let v15 : BitVec 32 := Scalar.addi v1 c1_i32_5
  let c32_i32 : BitVec 32 := 32#32
  let v16 : BitVec 1 := Scalar.cmpi .slt v15 c32_i32
  let v17 : BitVec 32 := Scalar.extui v16
  let c0_i32_6 : BitVec 32 := 0#32
  let v18 : BitVec 1 := Scalar.cmpi .ne v17 c0_i32_6
  v18

def k0_off11 (i : grid0.Coords) : Fin 1 → Nat :=
  let c1_i32_1097 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2720 : BitVec 32 := Scalar.subi c1_i32_1097 v11
  ![v2720.toNat]
def k0_off12 (i : grid0.Coords) : Fin 4 → Nat :=
  let c1_i32_1097 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2720 : BitVec 32 := Scalar.subi c1_i32_1097 v11
  let c0_i32_1121 : BitVec 32 := 0#32
  let c0_i32_1120 : BitVec 32 := 0#32
  let c0_i32_1122 : BitVec 32 := 0#32
  ![v2720.toNat, 0, 0, 0]
def k0_off13 (i : grid0.Coords) (c0_i32_1112 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_1096 : BitVec 32 := 1#32
  let v2719 : BitVec 32 := Scalar.addi v1 c1_i32_1096
  let c0_i32_1099 : BitVec 32 := 0#32
  let v2722 : BitVec 1 := Scalar.cmpi .sgt v2719 c0_i32_1099
  let v2723 : BitVec 32 := Scalar.extui v2722
  let c0_i32_1100 : BitVec 32 := 0#32
  let v2724 : BitVec 1 := Scalar.cmpi .slt v2719 c0_i32_1100
  let v2725 : BitVec 32 := Scalar.extui v2724
  let v2726 : BitVec 32 := Scalar.subi v2723 v2725
  let c4_i32_1098 : BitVec 32 := 4#32
  let c0_i32_1101 : BitVec 32 := 0#32
  let v2727 : BitVec 1 := Scalar.cmpi .sgt c4_i32_1098 c0_i32_1101
  let v2728 : BitVec 32 := Scalar.extui v2727
  let c0_i32_1102 : BitVec 32 := 0#32
  let v2729 : BitVec 1 := Scalar.cmpi .slt c4_i32_1098 c0_i32_1102
  let v2730 : BitVec 32 := Scalar.extui v2729
  let v2731 : BitVec 32 := Scalar.subi v2728 v2730
  let v2732 : BitVec 1 := Scalar.cmpi .ne v2726 v2731
  let v2733 : BitVec 32 := Scalar.remsi v2719 c4_i32_1098
  let c0_i32_1103 : BitVec 32 := 0#32
  let v2734 : BitVec 1 := Scalar.cmpi .ne v2733 c0_i32_1103
  let v2735 : BitVec 1 := Scalar.andi v2732 v2734
  let v2721 : BitVec 32 := Scalar.divsi v2719 c4_i32_1098
  let c1_i32_1104 : BitVec 32 := 1#32
  let v2736 : BitVec 32 := Scalar.subi v2721 c1_i32_1104
  let v2737 : BitVec 32 := Scalar.select v2735 v2736 v2721
  let c4_i32_1105 : BitVec 32 := 4#32
  let c0_i32_1106 : BitVec 32 := 0#32
  let v2738 : BitVec 1 := Scalar.cmpi .eq c4_i32_1105 c0_i32_1106
  let c1_i32_1107 : BitVec 32 := 1#32
  let v2739 : BitVec 32 := Scalar.select v2738 c1_i32_1107 c4_i32_1105
  let v2740 : BitVec 32 := Scalar.remsi v2719 v2739
  let c0_i32_1109 : BitVec 32 := 0#32
  let v2742 : BitVec 1 := Scalar.cmpi .slt v2740 c0_i32_1109
  let c0_i32_1110 : BitVec 32 := 0#32
  let v2743 : BitVec 1 := Scalar.cmpi .slt v2739 c0_i32_1110
  let v2744 : BitVec 1 := Scalar.xori v2742 v2743
  let c0_i32_1108 : BitVec 32 := 0#32
  let v2741 : BitVec 1 := Scalar.cmpi .ne v2740 c0_i32_1108
  let v2745 : BitVec 1 := Scalar.andi v2744 v2741
  let v2746 : BitVec 32 := Scalar.addi v2740 v2739
  let v2747 : BitVec 32 := Scalar.select v2745 v2746 v2740
  let c1024_i32_1111 : BitVec 32 := 1024#32
  let v2748 : BitVec 32 := Scalar.muli v2747 c1024_i32_1111
  let v2749 : BitVec 32 := Scalar.addi v2748 c0_i32_1112
  let c0_i32_1123 : BitVec 32 := 0#32
  ![v2737.toNat, v2749.toNat, 0]
def k0_off14 (i : grid0.Coords) : Fin 4 → Nat :=
  let c1_i32_1097 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2720 : BitVec 32 := Scalar.subi c1_i32_1097 v11
  let c0_i32_1125 : BitVec 32 := 0#32
  let c1_i32_1124 : BitVec 32 := 1#32
  let c0_i32_1126 : BitVec 32 := 0#32
  ![v2720.toNat, 0, 1, 0]
def k0_off15 (i : grid0.Coords) : Fin 4 → Nat :=
  let c1_i32_1097 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2720 : BitVec 32 := Scalar.subi c1_i32_1097 v11
  let c0_i32_1129 : BitVec 32 := 0#32
  let c2_i32_1128 : BitVec 32 := 2#32
  let c0_i32_1130 : BitVec 32 := 0#32
  ![v2720.toNat, 0, 2, 0]
def k0_off16 (i : grid0.Coords) : Fin 4 → Nat :=
  let c1_i32_1097 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2720 : BitVec 32 := Scalar.subi c1_i32_1097 v11
  let c0_i32_1133 : BitVec 32 := 0#32
  let c3_i32_1132 : BitVec 32 := 3#32
  let c0_i32_1134 : BitVec 32 := 0#32
  ![v2720.toNat, 0, 3, 0]
def k0_off17 (i : grid0.Coords) : Fin 4 → Nat :=
  let c1_i32_1097 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2720 : BitVec 32 := Scalar.subi c1_i32_1097 v11
  let c0_i32_1137 : BitVec 32 := 0#32
  let c4_i32_1136 : BitVec 32 := 4#32
  let c0_i32_1138 : BitVec 32 := 0#32
  ![v2720.toNat, 0, 4, 0]
def k0_off18 (i : grid0.Coords) : Fin 4 → Nat :=
  let c1_i32_1097 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2720 : BitVec 32 := Scalar.subi c1_i32_1097 v11
  let c0_i32_1141 : BitVec 32 := 0#32
  let c5_i32_1140 : BitVec 32 := 5#32
  let c0_i32_1142 : BitVec 32 := 0#32
  ![v2720.toNat, 0, 5, 0]
def k0_off19 (i : grid0.Coords) : Fin 4 → Nat :=
  let c1_i32_1097 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2720 : BitVec 32 := Scalar.subi c1_i32_1097 v11
  let c0_i32_1145 : BitVec 32 := 0#32
  let c6_i32_1144 : BitVec 32 := 6#32
  let c0_i32_1146 : BitVec 32 := 0#32
  ![v2720.toNat, 0, 6, 0]
def k0_off20 (i : grid0.Coords) : Fin 4 → Nat :=
  let c1_i32_1097 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2720 : BitVec 32 := Scalar.subi c1_i32_1097 v11
  let c0_i32_1149 : BitVec 32 := 0#32
  let c7_i32_1148 : BitVec 32 := 7#32
  let c0_i32_1150 : BitVec 32 := 0#32
  ![v2720.toNat, 0, 7, 0]
def k0_off21 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off22 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_22 : BitVec 32 := 0#32
  let c0_i32_21 : BitVec 32 := 0#32
  let c0_i32_23 : BitVec 32 := 0#32
  ![v11.toNat, 0, 0, 0]
def k0_off23 (i : grid0.Coords) (c0_i32_20 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_8 : BitVec 32 := 0#32
  let v20 : BitVec 1 := Scalar.cmpi .sgt v1 c0_i32_8
  let v21 : BitVec 32 := Scalar.extui v20
  let c0_i32_9 : BitVec 32 := 0#32
  let v22 : BitVec 1 := Scalar.cmpi .slt v1 c0_i32_9
  let v23 : BitVec 32 := Scalar.extui v22
  let v24 : BitVec 32 := Scalar.subi v21 v23
  let c4_i32_7 : BitVec 32 := 4#32
  let c0_i32_10 : BitVec 32 := 0#32
  let v25 : BitVec 1 := Scalar.cmpi .sgt c4_i32_7 c0_i32_10
  let v26 : BitVec 32 := Scalar.extui v25
  let c0_i32_11 : BitVec 32 := 0#32
  let v27 : BitVec 1 := Scalar.cmpi .slt c4_i32_7 c0_i32_11
  let v28 : BitVec 32 := Scalar.extui v27
  let v29 : BitVec 32 := Scalar.subi v26 v28
  let v30 : BitVec 1 := Scalar.cmpi .ne v24 v29
  let v31 : BitVec 32 := Scalar.remsi v1 c4_i32_7
  let c0_i32_12 : BitVec 32 := 0#32
  let v32 : BitVec 1 := Scalar.cmpi .ne v31 c0_i32_12
  let v33 : BitVec 1 := Scalar.andi v30 v32
  let v19 : BitVec 32 := Scalar.divsi v1 c4_i32_7
  let c1_i32_13 : BitVec 32 := 1#32
  let v34 : BitVec 32 := Scalar.subi v19 c1_i32_13
  let v35 : BitVec 32 := Scalar.select v33 v34 v19
  let c4_i32_14 : BitVec 32 := 4#32
  let c0_i32_15 : BitVec 32 := 0#32
  let v36 : BitVec 1 := Scalar.cmpi .eq c4_i32_14 c0_i32_15
  let c1_i32_16 : BitVec 32 := 1#32
  let v37 : BitVec 32 := Scalar.select v36 c1_i32_16 c4_i32_14
  let v38 : BitVec 32 := Scalar.remsi v1 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let c1024_i32 : BitVec 32 := 1024#32
  let v46 : BitVec 32 := Scalar.muli v45 c1024_i32
  let v47 : BitVec 32 := Scalar.addi v46 c0_i32_20
  let c0_i32_24 : BitVec 32 := 0#32
  ![v35.toNat, v47.toNat, 0]
def k0_off24 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_26 : BitVec 32 := 0#32
  let c1_i32_25 : BitVec 32 := 1#32
  let c0_i32_27 : BitVec 32 := 0#32
  ![v11.toNat, 0, 1, 0]
def k0_off25 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_30 : BitVec 32 := 0#32
  let c2_i32_29 : BitVec 32 := 2#32
  let c0_i32_31 : BitVec 32 := 0#32
  ![v11.toNat, 0, 2, 0]
def k0_off26 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_33 : BitVec 32 := 0#32
  let c3_i32 : BitVec 32 := 3#32
  let c0_i32_34 : BitVec 32 := 0#32
  ![v11.toNat, 0, 3, 0]
def k0_off27 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_37 : BitVec 32 := 0#32
  let c4_i32_36 : BitVec 32 := 4#32
  let c0_i32_38 : BitVec 32 := 0#32
  ![v11.toNat, 0, 4, 0]
def k0_off28 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_40 : BitVec 32 := 0#32
  let c5_i32 : BitVec 32 := 5#32
  let c0_i32_41 : BitVec 32 := 0#32
  ![v11.toNat, 0, 5, 0]
def k0_off29 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_43 : BitVec 32 := 0#32
  let c6_i32 : BitVec 32 := 6#32
  let c0_i32_44 : BitVec 32 := 0#32
  ![v11.toNat, 0, 6, 0]
def k0_off30 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_46 : BitVec 32 := 0#32
  let c7_i32 : BitVec 32 := 7#32
  let c0_i32_47 : BitVec 32 := 0#32
  ![v11.toNat, 0, 7, 0]
def k0_off31 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v106 : Index := Scalar.indexCast v11
  let c0 : Index := 0#32
  let c0_51 : Index := 0#32
  let c0_52 : Index := 0#32
  ![v106.toNat, 0, 0, 0]
def k0_off32 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2625 : Index := Scalar.indexCast v11
  let c0_1013 : Index := 0#32
  let c0_1014 : Index := 0#32
  let c0_1015 : Index := 0#32
  ![v2625.toNat, 0, 0, 0]
def k0_off33 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2674 : Index := Scalar.indexCast v11
  let c64_1057 : Index := 64#32
  let c0_1058 : Index := 0#32
  let c0_1059 : Index := 0#32
  ![v2674.toNat, 64, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x6x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Ffn.lean ====
abbrev S8x4096x1024 : Shape := ⟨3, ![8, 4096, 1024]⟩
abbrev S8x6x1024 : Shape := ⟨3, ![8, 6, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x4x8x128x8x128 : Shape := ⟨6, ![8, 4, 8, 128, 8, 128]⟩
abbrev S8x8x4x128x8x128 : Shape := ⟨6, ![8, 8, 4, 128, 8, 128]⟩
abbrev S8x8x4096x128 : Shape := ⟨4, ![8, 8, 4096, 128]⟩
abbrev S_ : Shape := ⟨0, ![]⟩
abbrev S8x4096 : Shape := ⟨2, ![8, 4096]⟩
abbrev S8x4096x1 : Shape := ⟨3, ![8, 4096, 1]⟩
abbrev S8x4x8x128x1 : Shape := ⟨5, ![8, 4, 8, 128, 1]⟩
abbrev S8x4x128x8x1 : Shape := ⟨5, ![8, 4, 128, 8, 1]⟩
abbrev S1x1024 : Shape := ⟨2, ![1, 1024]⟩
abbrev S1x5632 : Shape := ⟨2, ![1, 5632]⟩
abbrev S1x8x1024x128 : Shape := ⟨4, ![1, 8, 1024, 128]⟩
abbrev S1x1024x1 : Shape := ⟨3, ![1, 1024, 1]⟩
abbrev S1x6x1024 : Shape := ⟨3, ![1, 6, 1024]⟩
abbrev S4x64x5632 : Shape := ⟨3, ![4, 64, 5632]⟩
abbrev S4x256x1024 : Shape := ⟨3, ![4, 256, 1024]⟩
abbrev S4 : Shape := ⟨1, ![4]⟩
abbrev S1024x2816 : Shape := ⟨2, ![1024, 2816]⟩
abbrev S2x128x8x1024 : Shape := ⟨4, ![2, 128, 8, 1024]⟩
abbrev S2 : Shape := ⟨1, ![2]⟩
abbrev S16x5632 : Shape := ⟨2, ![16, 5632]⟩
abbrev S1 : Shape := ⟨1, ![1]⟩
abbrev S1x64x5632 : Shape := ⟨3, ![1, 64, 5632]⟩
abbrev S64x5632 : Shape := ⟨2, ![64, 5632]⟩
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩
abbrev S1x128x1x1024 : Shape := ⟨4, ![1, 128, 1, 1024]⟩
abbrev S1x1x1024x128 : Shape := ⟨4, ![1, 1, 1024, 128]⟩
abbrev S1024x128 : Shape := ⟨2, ![1024, 128]⟩
abbrev S1024x1024 : Shape := ⟨2, ![1024, 1024]⟩
abbrev S1x1x1024 : Shape := ⟨3, ![1, 1, 1024]⟩
abbrev S1024x1 : Shape := ⟨2, ![1024, 1]⟩
abbrev S1024x256 : Shape := ⟨2, ![1024, 256]⟩
abbrev S8x256 : Shape := ⟨2, ![8, 256]⟩
abbrev S16x256 : Shape := ⟨2, ![16, 256]⟩
abbrev S1040x256 : Shape := ⟨2, ![1040, 256]⟩
abbrev S1x256 : Shape := ⟨2, ![1, 256]⟩
abbrev S256x2816 : Shape := ⟨2, ![256, 2816]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S32x8x1024 : Shape := ⟨3, ![32, 8, 1024]⟩
abbrev S1x32x8x1024 : Shape := ⟨4, ![1, 32, 8, 1024]⟩

abbrev nBuf : Space → Nat
  | .hbm => 22
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S8x4x8x128x8x128, .f32⟩
  | .hbm, ⟨9, _⟩ => ⟨S8x8x4x128x8x128, .f32⟩
  | .hbm, ⟨10, _⟩ => ⟨S8x8x4096x128, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S8x4x8x128x1, .f32⟩
  | .hbm, ⟨16, _⟩ => ⟨S8x4x128x8x1, .f32⟩
  | .hbm, ⟨17, _⟩ => ⟨S8x4096x1, .f32⟩
  | .hbm, ⟨18, _⟩ => ⟨S1x1024, .f32⟩
  | .hbm, ⟨19, _⟩ => ⟨S1x5632, .f32⟩
  | .hbm, ⟨20, _⟩ => ⟨S1x1024, .f32⟩
  | .hbm, ⟨21, _⟩ => ⟨S8x4096x1024, .f32⟩
  | .local _ .vmem, ⟨0, _⟩ => ⟨S1x8x1024x128, .f32⟩
  | .local _ .vmem, ⟨1, _⟩ => ⟨S1x8x1024x128, .f32⟩
  | .local _ .vmem, ⟨2, _⟩ => ⟨S1x1024x1, .f32⟩
  | .local _ .vmem, ⟨3, _⟩ => ⟨S1x1024x1, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S3x5632, .f32⟩
  | .local _ .vmem, ⟨8, _⟩ => ⟨S1x5632, .f32⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S4x64x5632, .f32⟩
  | .local _ .vmem, ⟨13, _⟩ => ⟨S4x256x1024, .f32⟩
  | .local _ .vmem, ⟨14, _⟩ => ⟨S1024x2816, .bf16⟩
  | .local _ .vmem, ⟨15, _⟩ => ⟨S2x128x8x1024, .f32⟩
  | .local _ .vmem, ⟨16, _⟩ => ⟨S16x5632, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch8 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_5 : BitVec 32 := 2#32
  let v15 : BitVec 1 := Scalar.cmpi .sge v1 c2_i32_5
  let v16 : BitVec 32 := Scalar.extui v15
  let c0_i32_6 : BitVec 32 := 0#32
  let v17 : BitVec 1 := Scalar.cmpi .ne v16 c0_i32_6
  v17

def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off2 (i : grid0.Coords) (c0_i32_724 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_709 : BitVec 32 := 2#32
  let v1187 : BitVec 32 := Scalar.subi v1 c2_i32_709
  let c0_i32_711 : BitVec 32 := 0#32
  let v1189 : BitVec 1 := Scalar.cmpi .sgt v1187 c0_i32_711
  let v1190 : BitVec 32 := Scalar.extui v1189
  let c0_i32_712 : BitVec 32 := 0#32
  let v1191 : BitVec 1 := Scalar.cmpi .slt v1187 c0_i32_712
  let v1192 : BitVec 32 := Scalar.extui v1191
  let v1193 : BitVec 32 := Scalar.subi v1190 v1192
  let c4_i32_710 : BitVec 32 := 4#32
  let c0_i32_713 : BitVec 32 := 0#32
  let v1194 : BitVec 1 := Scalar.cmpi .sgt c4_i32_710 c0_i32_713
  let v1195 : BitVec 32 := Scalar.extui v1194
  let c0_i32_714 : BitVec 32 := 0#32
  let v1196 : BitVec 1 := Scalar.cmpi .slt c4_i32_710 c0_i32_714
  let v1197 : BitVec 32 := Scalar.extui v1196
  let v1198 : BitVec 32 := Scalar.subi v1195 v1197
  let v1199 : BitVec 1 := Scalar.cmpi .ne v1193 v1198
  let v1200 : BitVec 32 := Scalar.remsi v1187 c4_i32_710
  let c0_i32_715 : BitVec 32 := 0#32
  let v1201 : BitVec 1 := Scalar.cmpi .ne v1200 c0_i32_715
  let v1202 : BitVec 1 := Scalar.andi v1199 v1201
  let v1188 : BitVec 32 := Scalar.divsi v1187 c4_i32_710
  let c1_i32_716 : BitVec 32 := 1#32
  let v1203 : BitVec 32 := Scalar.subi v1188 c1_i32_716
  let v1204 : BitVec 32 := Scalar.select v1202 v1203 v1188
  let c4_i32_717 : BitVec 32 := 4#32
  let c0_i32_718 : BitVec 32 := 0#32
  let v1205 : BitVec 1 := Scalar.cmpi .eq c4_i32_717 c0_i32_718
  let c1_i32_719 : BitVec 32 := 1#32
  let v1206 : BitVec 32 := Scalar.select v1205 c1_i32_719 c4_i32_717
  let v1207 : BitVec 32 := Scalar.remsi v1187 v1206
  let c0_i32_721 : BitVec 32 := 0#32
  let v1209 : BitVec 1 := Scalar.cmpi .slt v1207 c0_i32_721
  let c0_i32_722 : BitVec 32 := 0#32
  let v1210 : BitVec 1 := Scalar.cmpi .slt v1206 c0_i32_722
  let v1211 : BitVec 1 := Scalar.xori v1209 v1210
  let c0_i32_720 : BitVec 32 := 0#32
  let v1208 : BitVec 1 := Scalar.cmpi .ne v1207 c0_i32_720
  let v1212 : BitVec 1 := Scalar.andi v1211 v1208
  let v1213 : BitVec 32 := Scalar.addi v1207 v1206
  let v1214 : BitVec 32 := Scalar.select v1212 v1213 v1207
  let c1024_i32_723 : BitVec 32 := 1024#32
  let v1215 : BitVec 32 := Scalar.muli v1214 c1024_i32_723
  let v1216 : BitVec 32 := Scalar.addi v1215 c0_i32_724
  let c0_i32_733 : BitVec 32 := 0#32
  ![v1204.toNat, v1216.toNat, 0]
def k0_off3 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_734 : BitVec 32 := 0#32
  let c0_i32_732 : BitVec 32 := 0#32
  let c0_i32_735 : BitVec 32 := 0#32
  ![v11.toNat, 0, 0, 0]
def k0_off4 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_738 : BitVec 32 := 0#32
  let c1_i32_736 : BitVec 32 := 1#32
  let c0_i32_739 : BitVec 32 := 0#32
  ![v11.toNat, 0, 1, 0]
def k0_off5 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_742 : BitVec 32 := 0#32
  let c2_i32_740 : BitVec 32 := 2#32
  let c0_i32_743 : BitVec 32 := 0#32
  ![v11.toNat, 0, 2, 0]
def k0_off6 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_746 : BitVec 32 := 0#32
  let c3_i32_744 : BitVec 32 := 3#32
  let c0_i32_747 : BitVec 32 := 0#32
  ![v11.toNat, 0, 3, 0]
def k0_off7 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_750 : BitVec 32 := 0#32
  let c4_i32_748 : BitVec 32 := 4#32
  let c0_i32_751 : BitVec 32 := 0#32
  ![v11.toNat, 0, 4, 0]
def k0_off8 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_754 : BitVec 32 := 0#32
  let c5_i32_752 : BitVec 32 := 5#32
  let c0_i32_755 : BitVec 32 := 0#32
  ![v11.toNat, 0, 5, 0]
def k0_off9 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_758 : BitVec 32 := 0#32
  let c6_i32_756 : BitVec 32 := 6#32
  let c0_i32_759 : BitVec 32 := 0#32
  ![v11.toNat, 0, 6, 0]
def k0_off10 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_762 : BitVec 32 := 0#32
  let c7_i32_760 : BitVec 32 := 7#32
  let c0_i32_763 : BitVec 32 := 0#32
  ![v11.toNat, 0, 7, 0]
def k0_off11 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v970 : Index := Scalar.indexCast v11
  let c0_530 : Index := 0#32
  let c0_531 : Index := 0#32
  let c0_532 : Index := 0#32
  ![v970.toNat, 0, 0, 0]
def k0_off12 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1012 : Index := Scalar.indexCast v11
  let c32 : Index := 32#32
  let c0_575 : Index := 0#32
  let c0_576 : Index := 0#32
  ![v1012.toNat, 32, 0, 0]
def k0_off13 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1054 : Index := Scalar.indexCast v11
  let c64 : Index := 64#32
  let c0_619 : Index := 0#32
  let c0_620 : Index := 0#32
  ![v1054.toNat, 64, 0, 0]
def k0_off14 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1096 : Index := Scalar.indexCast v11
  let c96 : Index := 96#32
  let c0_663 : Index := 0#32
  let c0_664 : Index := 0#32
  ![v1096.toNat, 96, 0, 0]
def k0_off15 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off16 (i : grid0.Coords) (c0_i32_678 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_666 : BitVec 32 := 0#32
  let v1101 : BitVec 1 := Scalar.cmpi .sgt v1 c0_i32_666
  let v1102 : BitVec 32 := Scalar.extui v1101
  let c0_i32_667 : BitVec 32 := 0#32
  let v1103 : BitVec 1 := Scalar.cmpi .slt v1 c0_i32_667
  let v1104 : BitVec 32 := Scalar.extui v1103
  let v1105 : BitVec 32 := Scalar.subi v1102 v1104
  let c4_i32_665 : BitVec 32 := 4#32
  let c0_i32_668 : BitVec 32 := 0#32
  let v1106 : BitVec 1 := Scalar.cmpi .sgt c4_i32_665 c0_i32_668
  let v1107 : BitVec 32 := Scalar.extui v1106
  let c0_i32_669 : BitVec 32 := 0#32
  let v1108 : BitVec 1 := Scalar.cmpi .slt c4_i32_665 c0_i32_669
  let v1109 : BitVec 32 := Scalar.extui v1108
  let v1110 : BitVec 32 := Scalar.subi v1107 v1109
  let v1111 : BitVec 1 := Scalar.cmpi .ne v1105 v1110
  let v1112 : BitVec 32 := Scalar.remsi v1 c4_i32_665
  let c0_i32_670 : BitVec 32 := 0#32
  let v1113 : BitVec 1 := Scalar.cmpi .ne v1112 c0_i32_670
  let v1114 : BitVec 1 := Scalar.andi v1111 v1113
  let v1100 : BitVec 32 := Scalar.divsi v1 c4_i32_665
  let c1_i32_671 : BitVec 32 := 1#32
  let v1115 : BitVec 32 := Scalar.subi v1100 c1_i32_671
  let v1116 : BitVec 32 := Scalar.select v1114 v1115 v1100
  let c4_i32_672 : BitVec 32 := 4#32
  let c0_i32_673 : BitVec 32 := 0#32
  let v1117 : BitVec 1 := Scalar.cmpi .eq c4_i32_672 c0_i32_673
  let c1_i32_674 : BitVec 32 := 1#32
  let v1118 : BitVec 32 := Scalar.select v1117 c1_i32_674 c4_i32_672
  let v1119 : BitVec 32 := Scalar.remsi v1 v1118
  let c0_i32_676 : BitVec 32 := 0#32
  let v1121 : BitVec 1 := Scalar.cmpi .slt v1119 c0_i32_676
  let c0_i32_677 : BitVec 32 := 0#32
  let v1122 : BitVec 1 := Scalar.cmpi .slt v1118 c0_i32_677
  let v1123 : BitVec 1 := Scalar.xori v1121 v1122
  let c0_i32_675 : BitVec 32 := 0#32
  let v1120 : BitVec 1 := Scalar.cmpi .ne v1119 c0_i32_675
  let v1124 : BitVec 1 := Scalar.andi v1123 v1120
  let v1125 : BitVec 32 := Scalar.addi v1119 v1118
  let v1126 : BitVec 32 := Scalar.select v1124 v1125 v1119
  let c1024_i32 : BitVec 32 := 1024#32
  let v1127 : BitVec 32 := Scalar.muli v1126 c1024_i32
  let v1128 : BitVec 32 := Scalar.addi v1127 c0_i32_678
  let c0_i32_680 : BitVec 32 := 0#32
  ![v1116.toNat, v1128.toNat, 0]
def k0_off17 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_681 : BitVec 32 := 0#32
  let c0_i32_679 : BitVec 32 := 0#32
  let c0_i32_682 : BitVec 32 := 0#32
  ![v11.toNat, 0, 0, 0]
def k0_off18 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_685 : BitVec 32 := 0#32
  let c1_i32_683 : BitVec 32 := 1#32
  let c0_i32_686 : BitVec 32 := 0#32
  ![v11.toNat, 0, 1, 0]
def k0_off19 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_689 : BitVec 32 := 0#32
  let c2_i32_687 : BitVec 32 := 2#32
  let c0_i32_690 : BitVec 32 := 0#32
  ![v11.toNat, 0, 2, 0]
def k0_off20 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_692 : BitVec 32 := 0#32
  let c3_i32 : BitVec 32 := 3#32
  let c0_i32_693 : BitVec 32 := 0#32
  ![v11.toNat, 0, 3, 0]
def k0_off21 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_696 : BitVec 32 := 0#32
  let c4_i32_694 : BitVec 32 := 4#32
  let c0_i32_697 : BitVec 32 := 0#32
  ![v11.toNat, 0, 4, 0]
def k0_off22 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_699 : BitVec 32 := 0#32
  let c5_i32 : BitVec 32 := 5#32
  let c0_i32_700 : BitVec 32 := 0#32
  ![v11.toNat, 0, 5, 0]
def k0_off23 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_702 : BitVec 32 := 0#32
  let c6_i32 : BitVec 32 := 6#32
  let c0_i32_703 : BitVec 32 := 0#32
  ![v11.toNat, 0, 6, 0]
def k0_off24 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_706 : BitVec 32 := 0#32
  let c7_i32_704 : BitVec 32 := 7#32
  let c0_i32_707 : BitVec 32 := 0#32
  ![v11.toNat, 0, 7, 0]
def k0_cond4 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c31_i32 : BitVec 32 := 31#32
  let v1184 : BitVec 1 := Scalar.cmpi .eq v1 c31_i32
  let v1185 : BitVec 32 := Scalar.extui v1184
  let c0_i32_708 : BitVec 32 := 0#32
  let v1186 : BitVec 1 := Scalar.cmpi .ne v1185 c0_i32_708
  v1186

def k0_off25 (i : grid0.Coords) : Fin 1 → Nat :=
  let c1_i32_710 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1188 : BitVec 32 := Scalar.subi c1_i32_710 v11
  ![v1188.toNat]
def k0_off26 (i : grid0.Coords) (c0_i32_725 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_709 : BitVec 32 := 1#32
  let v1187 : BitVec 32 := Scalar.subi v1 c1_i32_709
  let c0_i32_712 : BitVec 32 := 0#32
  let v1190 : BitVec 1 := Scalar.cmpi .sgt v1187 c0_i32_712
  let v1191 : BitVec 32 := Scalar.extui v1190
  let c0_i32_713 : BitVec 32 := 0#32
  let v1192 : BitVec 1 := Scalar.cmpi .slt v1187 c0_i32_713
  let v1193 : BitVec 32 := Scalar.extui v1192
  let v1194 : BitVec 32 := Scalar.subi v1191 v1193
  let c4_i32_711 : BitVec 32 := 4#32
  let c0_i32_714 : BitVec 32 := 0#32
  let v1195 : BitVec 1 := Scalar.cmpi .sgt c4_i32_711 c0_i32_714
  let v1196 : BitVec 32 := Scalar.extui v1195
  let c0_i32_715 : BitVec 32 := 0#32
  let v1197 : BitVec 1 := Scalar.cmpi .slt c4_i32_711 c0_i32_715
  let v1198 : BitVec 32 := Scalar.extui v1197
  let v1199 : BitVec 32 := Scalar.subi v1196 v1198
  let v1200 : BitVec 1 := Scalar.cmpi .ne v1194 v1199
  let v1201 : BitVec 32 := Scalar.remsi v1187 c4_i32_711
  let c0_i32_716 : BitVec 32 := 0#32
  let v1202 : BitVec 1 := Scalar.cmpi .ne v1201 c0_i32_716
  let v1203 : BitVec 1 := Scalar.andi v1200 v1202
  let v1189 : BitVec 32 := Scalar.divsi v1187 c4_i32_711
  let c1_i32_717 : BitVec 32 := 1#32
  let v1204 : BitVec 32 := Scalar.subi v1189 c1_i32_717
  let v1205 : BitVec 32 := Scalar.select v1203 v1204 v1189
  let c4_i32_718 : BitVec 32 := 4#32
  let c0_i32_719 : BitVec 32 := 0#32
  let v1206 : BitVec 1 := Scalar.cmpi .eq c4_i32_718 c0_i32_719
  let c1_i32_720 : BitVec 32 := 1#32
  let v1207 : BitVec 32 := Scalar.select v1206 c1_i32_720 c4_i32_718
  let v1208 : BitVec 32 := Scalar.remsi v1187 v1207
  let c0_i32_722 : BitVec 32 := 0#32
  let v1210 : BitVec 1 := Scalar.cmpi .slt v1208 c0_i32_722
  let c0_i32_723 : BitVec 32 := 0#32
  let v1211 : BitVec 1 := Scalar.cmpi .slt v1207 c0_i32_723
  let v1212 : BitVec 1 := Scalar.xori v1210 v1211
  let c0_i32_721 : BitVec 32 := 0#32
  let v1209 : BitVec 1 := Scalar.cmpi .ne v1208 c0_i32_721
  let v1213 : BitVec 1 := Scalar.andi v1212 v1209
  let v1214 : BitVec 32 := Scalar.addi v1208 v1207
  let v1215 : BitVec 32 := Scalar.select v1213 v1214 v1208
  let c1024_i32_724 : BitVec 32 := 1024#32
  let v1216 : BitVec 32 := Scalar.muli v1215 c1024_i32_724
  let v1217 : BitVec 32 := Scalar.addi v1216 c0_i32_725
  let c0_i32_734 : BitVec 32 := 0#32
  ![v1205.toNat, v1217.toNat, 0]
def k0_off27 (i : grid0.Coords) : Fin 4 → Nat :=
  let c1_i32_710 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1188 : BitVec 32 := Scalar.subi c1_i32_710 v11
  let c0_i32_735 : BitVec 32 := 0#32
  let c0_i32_733 : BitVec 32 := 0#32
  let c0_i32_736 : BitVec 32 := 0#32
  ![v1188.toNat, 0, 0, 0]
def k0_off28 (i : grid0.Coords) : Fin 4 → Nat :=
  let c1_i32_710 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1188 : BitVec 32 := Scalar.subi c1_i32_710 v11
  let c0_i32_739 : BitVec 32 := 0#32
  let c1_i32_737 : BitVec 32 := 1#32
  let c0_i32_740 : BitVec 32 := 0#32
  ![v1188.toNat, 0, 1, 0]
def k0_off29 (i : grid0.Coords) : Fin 4 → Nat :=
  let c1_i32_710 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1188 : BitVec 32 := Scalar.subi c1_i32_710 v11
  let c0_i32_743 : BitVec 32 := 0#32
  let c2_i32_741 : BitVec 32 := 2#32
  let c0_i32_744 : BitVec 32 := 0#32
  ![v1188.toNat, 0, 2, 0]
def k0_off30 (i : grid0.Coords) : Fin 4 → Nat :=
  let c1_i32_710 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1188 : BitVec 32 := Scalar.subi c1_i32_710 v11
  let c0_i32_747 : BitVec 32 := 0#32
  let c3_i32_745 : BitVec 32 := 3#32
  let c0_i32_748 : BitVec 32 := 0#32
  ![v1188.toNat, 0, 3, 0]
def k0_off31 (i : grid0.Coords) : Fin 4 → Nat :=
  let c1_i32_710 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1188 : BitVec 32 := Scalar.subi c1_i32_710 v11
  let c0_i32_751 : BitVec 32 := 0#32
  let c4_i32_749 : BitVec 32 := 4#32
  let c0_i32_752 : BitVec 32 := 0#32
  ![v1188.toNat, 0, 4, 0]
def k0_off32 (i : grid0.Coords) : Fin 4 → Nat :=
  let c1_i32_710 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1188 : BitVec 32 := Scalar.subi c1_i32_710 v11
  let c0_i32_755 : BitVec 32 := 0#32
  let c5_i32_753 : BitVec 32 := 5#32
  let c0_i32_756 : BitVec 32 := 0#32
  ![v1188.toNat, 0, 5, 0]
def k0_off33 (i : grid0.Coords) : Fin 4 → Nat :=
  let c1_i32_710 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1188 : BitVec 32 := Scalar.subi c1_i32_710 v11
  let c0_i32_759 : BitVec 32 := 0#32
  let c6_i32_757 : BitVec 32 := 6#32
  let c0_i32_760 : BitVec 32 := 0#32
  ![v1188.toNat, 0, 6, 0]
def k0_off34 (i : grid0.Coords) : Fin 4 → Nat :=
  let c1_i32_710 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1188 : BitVec 32 := Scalar.subi c1_i32_710 v11
  let c0_i32_763 : BitVec 32 := 0#32
  let c7_i32_761 : BitVec 32 := 7#32
  let c0_i32_764 : BitVec 32 := 0#32
  ![v1188.toNat, 0, 7, 0]
def k0_off35 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off36 (i : grid0.Coords) (c0_i32_779 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_766 : BitVec 32 := 0#32
  let v1274 : BitVec 1 := Scalar.cmpi .sgt v1 c0_i32_766
  let v1275 : BitVec 32 := Scalar.extui v1274
  let c0_i32_767 : BitVec 32 := 0#32
  let v1276 : BitVec 1 := Scalar.cmpi .slt v1 c0_i32_767
  let v1277 : BitVec 32 := Scalar.extui v1276
  let v1278 : BitVec 32 := Scalar.subi v1275 v1277
  let c4_i32_765 : BitVec 32 := 4#32
  let c0_i32_768 : BitVec 32 := 0#32
  let v1279 : BitVec 1 := Scalar.cmpi .sgt c4_i32_765 c0_i32_768
  let v1280 : BitVec 32 := Scalar.extui v1279
  let c0_i32_769 : BitVec 32 := 0#32
  let v1281 : BitVec 1 := Scalar.cmpi .slt c4_i32_765 c0_i32_769
  let v1282 : BitVec 32 := Scalar.extui v1281
  let v1283 : BitVec 32 := Scalar.subi v1280 v1282
  let v1284 : BitVec 1 := Scalar.cmpi .ne v1278 v1283
  let v1285 : BitVec 32 := Scalar.remsi v1 c4_i32_765
  let c0_i32_770 : BitVec 32 := 0#32
  let v1286 : BitVec 1 := Scalar.cmpi .ne v1285 c0_i32_770
  let v1287 : BitVec 1 := Scalar.andi v1284 v1286
  let v1273 : BitVec 32 := Scalar.divsi v1 c4_i32_765
  let c1_i32_771 : BitVec 32 := 1#32
  let v1288 : BitVec 32 := Scalar.subi v1273 c1_i32_771
  let v1289 : BitVec 32 := Scalar.select v1287 v1288 v1273
  let c4_i32_772 : BitVec 32 := 4#32
  let c0_i32_773 : BitVec 32 := 0#32
  let v1290 : BitVec 1 := Scalar.cmpi .eq c4_i32_772 c0_i32_773
  let c1_i32_774 : BitVec 32 := 1#32
  let v1291 : BitVec 32 := Scalar.select v1290 c1_i32_774 c4_i32_772
  let v1292 : BitVec 32 := Scalar.remsi v1 v1291
  let c0_i32_776 : BitVec 32 := 0#32
  let v1294 : BitVec 1 := Scalar.cmpi .slt v1292 c0_i32_776
  let c0_i32_777 : BitVec 32 := 0#32
  let v1295 : BitVec 1 := Scalar.cmpi .slt v1291 c0_i32_777
  let v1296 : BitVec 1 := Scalar.xori v1294 v1295
  let c0_i32_775 : BitVec 32 := 0#32
  let v1293 : BitVec 1 := Scalar.cmpi .ne v1292 c0_i32_775
  let v1297 : BitVec 1 := Scalar.andi v1296 v1293
  let v1298 : BitVec 32 := Scalar.addi v1292 v1291
  let v1299 : BitVec 32 := Scalar.select v1297 v1298 v1292
  let c1024_i32_778 : BitVec 32 := 1024#32
  let v1300 : BitVec 32 := Scalar.muli v1299 c1024_i32_778
  let v1301 : BitVec 32 := Scalar.addi v1300 c0_i32_779
  let c0_i32_788 : BitVec 32 := 0#32
  ![v1289.toNat, v1301.toNat, 0]
def k0_off37 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_789 : BitVec 32 := 0#32
  let c0_i32_787 : BitVec 32 := 0#32
  let c0_i32_790 : BitVec 32 := 0#32
  ![v11.toNat, 0, 0, 0]
def k0_off38 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_793 : BitVec 32 := 0#32
  let c1_i32_791 : BitVec 32 := 1#32
  let c0_i32_794 : BitVec 32 := 0#32
  ![v11.toNat, 0, 1, 0]
def k0_off39 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_797 : BitVec 32 := 0#32
  let c2_i32_795 : BitVec 32 := 2#32
  let c0_i32_798 : BitVec 32 := 0#32
  ![v11.toNat, 0, 2, 0]
def k0_off40 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_801 : BitVec 32 := 0#32
  let c3_i32_799 : BitVec 32 := 3#32
  let c0_i32_802 : BitVec 32 := 0#32
  ![v11.toNat, 0, 3, 0]
def k0_off41 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_805 : BitVec 32 := 0#32
  let c4_i32_803 : BitVec 32 := 4#32
  let c0_i32_806 : BitVec 32 := 0#32
  ![v11.toNat, 0, 4, 0]
def k0_off42 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_809 : BitVec 32 := 0#32
  let c5_i32_807 : BitVec 32 := 5#32
  let c0_i32_810 : BitVec 32 := 0#32
  ![v11.toNat, 0, 5, 0]
def k0_off43 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_813 : BitVec 32 := 0#32
  let c6_i32_811 : BitVec 32 := 6#32
  let c0_i32_814 : BitVec 32 := 0#32
  ![v11.toNat, 0, 6, 0]
def k0_off44 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_817 : BitVec 32 := 0#32
  let c7_i32_815 : BitVec 32 := 7#32
  let c0_i32_818 : BitVec 32 := 0#32
  ![v11.toNat, 0, 7, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== FfnReferenceIdeal.lean ====
abbrev S8x4096x1024 : Shape := ⟨3, ![8, 4096, 1024]⟩
abbrev S8x6x1024 : Shape := ⟨3, ![8, 6, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 92
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x5632, .f32⟩
  | .hbm, ⟨35, _⟩ => ⟨S_, .f32⟩
  | .hbm, ⟨36, _⟩ => ⟨S8x4098x5632, .f32⟩
  | .hbm, ⟨37, _⟩ => ⟨S1x5632, .f32⟩
  | .hbm, ⟨38, _⟩ => ⟨S5632, .f32⟩
  | .hbm, ⟨39, _⟩ => ⟨S8x4096x5632, .f32⟩
  | .hbm, ⟨40, _⟩ => ⟨S1x1x5632, .f32⟩
  | .hbm, ⟨41, _⟩ => ⟨S8x4096x5632, .f32⟩
  | .hbm, ⟨42, _⟩ => ⟨S8x4096x5632, .f32⟩
  | .hbm, ⟨43, _⟩ => ⟨S1x5632, .f32⟩
  | .hbm, ⟨44, _⟩ => ⟨S5632, .f32⟩
  | .hbm, ⟨45, _⟩ => ⟨S8x4096x5632, .f32⟩
  | .hbm, ⟨46, _⟩ => ⟨S1x1x5632, .f32⟩
  | .hbm, ⟨47, _⟩ => ⟨S8x4096x5632, .f32⟩
  | .hbm, ⟨48, _⟩ => ⟨S8x4096x5632, .f32⟩
  | .hbm, ⟨49, _⟩ => ⟨S8x4096x5632, .f32⟩
  | .hbm, ⟨50, _⟩ => ⟨S1x5632, .f32⟩
  | .hbm, ⟨51, _⟩ => ⟨S5632, .f32⟩
  | .hbm, ⟨52, _⟩ => ⟨S8x4096x5632, .f32⟩
  | .hbm, ⟨53, _⟩ => ⟨S1x1x5632, .f32⟩
  | .hbm, ⟨54, _⟩ => ⟨S8x4096x5632, .f32⟩
  | .hbm, ⟨55, _⟩ => ⟨S8x4096x5632, .f32⟩
  | .hbm, ⟨56, _⟩ => ⟨S8x4096x5632, .f32⟩
  | .hbm, ⟨57, _⟩ => ⟨S1x1x5632, .f32⟩
  | .hbm, ⟨58, _⟩ => ⟨S8x4096x5632, .f32⟩
  | .hbm, ⟨59, _⟩ => ⟨S8x4096x5632, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S_, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S_, .f32⟩
  | .hbm, ⟨81, _⟩ => ⟨S8x4096x1, .f32⟩
  | .hbm, ⟨82, _⟩ => ⟨S8x4096x1, .f32⟩
  | .hbm, ⟨83, _⟩ => ⟨S_, .f32⟩
  | .hbm, ⟨84, _⟩ => ⟨S8x4096x1, .f32⟩
  | .hbm, ⟨85, _⟩ => ⟨S8x4096x1, .f32⟩
  | .hbm, ⟨86, _⟩ => ⟨S8x4096x1, .f32⟩
  | .hbm, ⟨87, _⟩ => ⟨S8x4096x1024, .f32⟩
  | .hbm, ⟨88, _⟩ => ⟨S8x4096x1024, .f32⟩
  | .hbm, ⟨89, _⟩ => ⟨S1x1x1024, .f32⟩
  | .hbm, ⟨90, _⟩ => ⟨S8x4096x1024, .f32⟩
  | .hbm, ⟨91, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_4 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Ada.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Ring.lean ====
/-
The mixer kernel's input ring, by hand: `x` (left in HBM) is streamed, one block of 1024 rows per grid point,
through the two slots of `cc0_scratch0`. A block is eight strands of 128 rows; each strand is one transfer into one
sublane of the slot, the eight of them counted on the slot's own DMA semaphore. At point `t` the transfers of block
`t + 1` are started into the other slot, then block `t`'s eight are waited for.

This module names the pieces (`rwin`, `rslot`, `srcB`, `cellR`), shows how a slot splits into its strands and how a
copy of `x` splits into a block's strands and the rest, states the two forms a slot takes between points (`free`,
`flight`) and the ring's invariant (`ringAt`), and gives the closed forms of the body's offsets.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

-- rectangles of long axes are looked at once per coordinate
set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

instance : NeZero grid0.N := ⟨by rw [N_0]; decide⟩

/-! ## The body's three conditions, in the point -/

abbrev cond0 (i : grid0.Coords) : Prop := k0_cond1 i = 1#1
abbrev cond1 (i : grid0.Coords) : Prop := k0_cond2 i = 1#1
abbrev cond2 (i : grid0.Coords) : Prop :=
  (Scalar.cmpi .ne (Scalar.extui (Scalar.cmpi .eq (BitVec.ofNat 32 (i 1).val) 0#32)) 0#32) = 1#1

/-- The first block is started at the first point. -/
theorem hcond0 : ∀ t : Fin cfg0.N, cond0 (grid0.coords t) ↔ t.val = 0 :=
  (by decide +kernel : ∀ t : Fin grid0.N, cond0 (grid0.coords t) ↔ t.val = 0)
/-- The next block is started at every point but the last. -/
theorem hcond1 : ∀ t : Fin cfg0.N, cond1 (grid0.coords t) ↔ t.val < 31 :=
  (by decide +kernel : ∀ t : Fin grid0.N, cond1 (grid0.coords t) ↔ t.val < 31)
/-- The carried state is zeroed at a batch row's first tile. -/
theorem hcond2 : ∀ t : Fin cfg0.N, cond2 (grid0.coords t) ↔ t.val % 4 = 0 :=
  (by decide +kernel : ∀ t : Fin grid0.N, cond2 (grid0.coords t) ↔ t.val % 4 = 0)

/-! ## The memrefs -/

/-- The scratch operands, whole: the two slots, then the per-column slabs and the state carried between tiles. -/
abbrev scM0 : Memref sig .tc .vmem S2x128x8x1024 .f32 := Memref.whole cc0_scratch0
abbrev scM1 : Memref sig .tc .vmem S12x1024x128 .f32 := Memref.whole cc0_scratch2
abbrev scM2 : Memref sig .tc .vmem S5x1024x128 .f32 := Memref.whole cc0_scratch3
abbrev scM3 : Memref sig .tc .vmem S4x1024x128 .f32 := Memref.whole cc0_scratch4
abbrev scM4 : Memref sig .tc .vmem S1024x1024 .bf16 := Memref.whole cc0_scratch5
abbrev scM5 : Memref sig .tc .vmem S24x1024 .f32 := Memref.whole cc0_scratch6
abbrev scM6 : Memref sig .tc .vmem S120x512 .f32 := Memref.whole cc0_scratch7
abbrev scM7 : Memref sig .tc .vmem S4x128x256 .f32 := Memref.whole cc0_scratch8
abbrev scM8 : Memref sig .tc .vmem S8x128 .f32 := Memref.whole cc0_scratch9
/-- The operand left in HBM that the body copies itself. -/
abbrev hbM : Memref sig .tc .hbm S8x4096x1024 .f32 := Memref.whole main_arg0

/-- The contents of memref `M`'s buffer on core `c`, and that buffer held whole. -/
abbrev HbBuf (c : Dev nD) {sp : Space} {S : Shape} {e : EltTy} (M : Memref sig .tc sp S e) : Type :=
  Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

theorem inb_win (s : Fin 2) (w : Fin 8) : ∀ a, (![s.val, 0, w.val, 0] : Fin 4 → Nat) a + S1x128x1x1024.size a ≤ S2x128x8x1024.size a := by
  have := s.isLt; have := w.isLt; intro a; fin_cases a <;> simp <;> omega
theorem inb_slot (s : Fin 2) : ∀ a, (![s.val, 0, 0, 0] : Fin 4 → Nat) a + S1x128x8x1024.size a ≤ S2x128x8x1024.size a := by
  have := s.isLt; intro a; fin_cases a <;> simp <;> omega
theorem inb_cell (s : Fin 2) : ∀ a, (![s.val] : Fin 1 → Nat) a + S1.size a ≤ S2.size a := by
  have := s.isLt; intro a; fin_cases a <;> simp <;> omega
theorem inb_src (b : Fin 32) (w : Fin 8) : ∀ a, (![b.val / 4, 1024 * (b.val % 4) + 128 * w.val, 0] : Fin 3 → Nat) a + S1x128x1024.size a ≤ S8x4096x1024.size a := by
  have := b.isLt; have := w.isLt; intro a; fin_cases a <;> simp <;> omega

/-- Strand `w` of slot `s`: what one transfer fills. -/
def rwin (s : Fin 2) (w : Fin 8) : Memref sig .tc .vmem S128x1024 .f32 :=
  (scM0.slice (Rect.unit (s := S2x128x8x1024) ![s.val, 0, w.val, 0] S1x128x1x1024.size (inb_win s w)) (fun _ => rfl)).squeeze S128x1024 squeezes_S1x128x1x1024_S128x1024
/-- Slot `s` whole. -/
def rslot (s : Fin 2) : Memref sig .tc .vmem S1x128x8x1024 .f32 :=
  scM0.slice (Rect.unit (s := S2x128x8x1024) ![s.val, 0, 0, 0] S1x128x8x1024.size (inb_slot s)) (fun _ => rfl)
/-- Strand `w` of block `b` of `x`: rows `1024 (b % 4) + 128 w` on of batch row `b / 4`. -/
def srcB (b : Fin 32) (w : Fin 8) : Memref sig .tc .hbm S128x1024 .f32 :=
  (hbM.slice (Rect.unit (s := S8x4096x1024) ![b.val / 4, 1024 * (b.val % 4) + 128 * w.val, 0] S1x128x1024.size (inb_src b w)) (fun _ => rfl)).squeeze S128x1024 squeezes_S1x128x1024_S128x1024
/-- Slot `s`'s semaphore cell. -/
def cellA (s : Fin 2) : DmaSems sig S_ :=
  (cc0_scratch1.slice (Rect.unit (s := S2) ![s.val] S1.size (inb_cell s))).squeeze S_ squeezes_S1_S_
abbrev cellR (s : Fin 2) : SemLoc sig := SemLoc.dma (cellA s).sem

theorem cellR_0 : cellR 0 = SemLoc.dma 16 := by decide
theorem cellR_1 : cellR 1 = SemLoc.dma 17 := by decide

/-- The body's own semaphores: none is a window's. -/
abbrev osem0 : Fin 2 → SemLoc sig := fun j => (![SemLoc.dma 16, SemLoc.dma 17] : Fin 2 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0) := by
  rw [Pipeline.ownSems0_eq_of_list c osem0 [0, 1] (by decide) (by decide)]; rfl
/-- The HBM operand the body moves, as a reference: unscoped, no window's array. -/
def H0 : Finset (Ref sig .tc) := {main_arg0}
theorem H0_sub : H0 ⊆ Pipeline.restRefs sig spec0 := by decide

/-! ## Element sets: a slot is its strands, a block's strands are apart -/

abbrev winSet (s : Fin 2) (w : Fin 8) : Finset S2x128x8x1024.Idx :=
  (Rect.unit (s := S2x128x8x1024) ![s.val, 0, w.val, 0] S1x128x1x1024.size (inb_win s w)).set
abbrev slotSet (s : Fin 2) : Finset S2x128x8x1024.Idx :=
  (Rect.unit (s := S2x128x8x1024) ![s.val, 0, 0, 0] S1x128x8x1024.size (inb_slot s)).set
abbrev srcSet (b : Fin 32) (w : Fin 8) : Finset S8x4096x1024.Idx :=
  (Rect.unit (s := S8x4096x1024) ![b.val / 4, 1024 * (b.val % 4) + 128 * w.val, 0] S1x128x1024.size (inb_src b w)).set

theorem rwin_set (s : Fin 2) (w : Fin 8) : (rwin s w).view.set = winSet s w := by
  simp only [rwin, Memref.view_squeeze, View.set_reshape]; exact View.set_slice_whole _ _
theorem rslot_set (s : Fin 2) : (rslot s).view.set = slotSet s := View.set_slice_whole _ _
theorem srcB_set (b : Fin 32) (w : Fin 8) : (srcB b w).view.set = srcSet b w := by
  simp only [srcB, Memref.view_squeeze, View.set_reshape]; exact View.set_slice_whole _ _

theorem mem_winSet (s : Fin 2) (w : Fin 8) (i : S2x128x8x1024.Idx) : i ∈ winSet s w ↔ (i 0).val = s.val ∧ (i 2).val = w.val := by
  have h1 : (i 1).val < 128 := (i 1).isLt
  have h3 : (i 3).val < 1024 := (i 3).isLt
  rw [Rect.mem_set_unit]
  constructor
  · intro h
    have a := h 0; have b := h 2
    simp at a b; omega
  · rintro ⟨a, b⟩ k
    fin_cases k <;> simp <;> omega
theorem mem_slotSet (s : Fin 2) (i : S2x128x8x1024.Idx) : i ∈ slotSet s ↔ (i 0).val = s.val := by
  have h1 : (i 1).val < 128 := (i 1).isLt
  have h2 : (i 2).val < 8 := (i 2).isLt
  have h3 : (i 3).val < 1024 := (i 3).isLt
  rw [Rect.mem_set_unit]
  constructor
  · intro h
    have a := h 0
    simp at a; omega
  · rintro a k
    fin_cases k <;> simp <;> omega

theorem win_disjoint (s : Fin 2) (w w' : Fin 8) (h : w ≠ w') : Disjoint (winSet s w) (winSet s w') :=
  Finset.disjoint_left.2 fun i hi hi' => h (Fin.ext (((mem_winSet s w i).1 hi).2.symm.trans ((mem_winSet s w' i).1 hi').2))
theorem win_cover (s : Fin 2) : Finset.univ.biUnion (winSet s) = slotSet s := by
  ext i
  simp only [Finset.mem_biUnion, Finset.mem_univ, true_and, mem_winSet, mem_slotSet]
  exact ⟨fun ⟨_, h, _⟩ => h, fun h => ⟨i 2, h, rfl⟩⟩
theorem slot_disjoint (s s' : Fin 2) (h : s ≠ s') : Disjoint (slotSet s) (slotSet s') :=
  Finset.disjoint_left.2 fun i hi hi' => h (Fin.ext (((mem_slotSet s i).1 hi).symm.trans ((mem_slotSet s' i).1 hi')))
theorem slot_cover (c : Dev nD) : Finset.univ.biUnion slotSet = (Finset.univ : Finset (Idx ((c : Thread nD τ).loc cc0_scratch0))) :=
  Finset.eq_univ_iff_forall.2 fun i => Finset.mem_biUnion.2 ⟨(i : S2x128x8x1024.Idx) 0, Finset.mem_univ _, (mem_slotSet _ i).2 rfl⟩
theorem src_disjoint (b : Fin 32) (w w' : Fin 8) (h : w ≠ w') : Disjoint (srcSet b w) (srcSet b w') := by
  refine Finset.disjoint_left.2 fun i hi hi' => h (Fin.ext ?_)
  have a := (Rect.mem_set_unit.1 hi) 1
  have a' := (Rect.mem_set_unit.1 hi') 1
  simp at a a'; omega
/-- The elements of `x` block `b` reads. -/
def blockSet (b : Fin 32) : Finset S8x4096x1024.Idx := Finset.univ.biUnion (srcSet b)

/-! ## What a slot holds between points -/

section Ring
variable (c : Dev nD) (W0 : HbBuf (F := F) c hbM)

/-- Each slot borrows from its own half of `x`. -/
def qs (s : Fin 2) : PosShare TreeShare := (![fullShare.left, fullShare.right] : Fin 2 → PosShare TreeShare) s
abbrev winP (s : Fin 2) (w : Fin 8) (e : HbBuf (F := F) c scM0) : sProp 𝕄 := (rwin s w).view.loc (c : Thread nD τ) ↦[(rwin s w).view.set]{fullShare} e
abbrev srcP (s : Fin 2) (b : Fin 32) (w : Fin 8) : sProp 𝕄 := (srcB b w).view.loc (c : Thread nD τ) ↦[(srcB b w).view.set]{qs s} W0
def restP (s : Fin 2) (b : Fin 32) : sProp 𝕄 := ((c : Thread nD τ).loc main_arg0) ↦[Finset.univ \ blockSet b]{qs s} W0
abbrev copyP (s : Fin 2) : sProp 𝕄 := ((c : Thread nD τ).loc main_arg0) ↦[Finset.univ]{qs s} W0
abbrev slotP (s : Fin 2) (e : HbBuf (F := F) c scM0) : sProp 𝕄 := (rslot s).view.loc (c : Thread nD τ) ↦[(rslot s).view.set]{fullShare} e
/-- A strand landed: block `b`'s rows written over the strand. -/
abbrev landed (s : Fin 2) (b : Fin 32) (w : Fin 8) : HbBuf (F := F) c scM0 :=
  (rwin s w).view.writes (Elt F) (rwin s w).view.junk [⟨Rect.whole S128x1024, ReadAs.same.apply ((srcB b w).view.read (Elt F) W0)⟩]
/-- What one transfer delivers: its strand landed, its source back. -/
abbrev winD (s : Fin 2) (b : Fin 32) : Fin 8 → sProp 𝕄 :=
  ![iprop(winP c s 0 (landed c W0 s b 0) ∗ srcP c W0 s b 0),
    iprop(winP c s 1 (landed c W0 s b 1) ∗ srcP c W0 s b 1),
    iprop(winP c s 2 (landed c W0 s b 2) ∗ srcP c W0 s b 2),
    iprop(winP c s 3 (landed c W0 s b 3) ∗ srcP c W0 s b 3),
    iprop(winP c s 4 (landed c W0 s b 4) ∗ srcP c W0 s b 4),
    iprop(winP c s 5 (landed c W0 s b 5) ∗ srcP c W0 s b 5),
    iprop(winP c s 6 (landed c W0 s b 6) ∗ srcP c W0 s b 6),
    iprop(winP c s 7 (landed c W0 s b 7) ∗ srcP c W0 s b 7)]
/-- One transfer's amount on its slot's cell. -/
abbrev NN : ℕ := (rwin 0 0).view.amount (cellR 0)
abbrev batchP (s : Fin 2) (b : Fin 32) : sProp 𝕄 :=
  Transfers.Batch countersEmb (c : Thread nD τ) (cellR s) default NN (winD c W0 s b) 8 0
abbrev cellP (s : Fin 2) : sProp 𝕄 := semVal ((c : Thread nD τ), cellR s) 0

/-- A slot with nothing in flight: its cell at zero, its elements at some contents, its half of `x`. -/
def free (s : Fin 2) : sProp 𝕄 := iprop(cellP c s ∗ (∃ e, slotP c s e) ∗ copyP c W0 s)
/-- A slot with block `b` in flight into it: the batch, and the rest of its half of `x`. -/
def flight (s : Fin 2) (b : Fin 32) : sProp 𝕄 := iprop(batchP c W0 s b ∗ restP c W0 s b)
/-- The ring before point `k`: nothing in flight before the first point; before a later one its block in flight into its
    slot, the other slot free; nothing in flight at the end. -/
def ringAt (k : ℕ) : sProp 𝕄 :=
  if k = 0 then iprop(free c W0 0 ∗ free c W0 1)
  else if k < 32 then iprop(flight c W0 (Ring.sl 2 k) (Ring.bk 32 k) ∗ free c W0 (Ring.sl 2 (k + 1)))
  else iprop(free c W0 0 ∗ free c W0 1)

/-- A points-to is storable, at any signature and algebra (stated over variables: citing it unfolds nothing of this program). -/
theorem storable_pt {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
theorem storable_winD (s : Fin 2) (b : Fin 32) : ∀ w, Storable (upEmb : UEmb _ 𝕄) (winD (F := F) c W0 s b w) := by
  intro w; fin_cases w <;> exact @Storable.sep _ _ _ _ _ _ _ _ (storable_pt _ _ _ _) (storable_pt _ _ _ _)

omit [FloatOps F] in
theorem winP_eq (s : Fin 2) (w : Fin 8) (e : HbBuf (F := F) c scM0) :
    winP c s w e = (((c : Thread nD τ).loc cc0_scratch0) ↦[winSet s w]{fullShare} e : sProp 𝕄) := by
  unfold winP; rw [rwin_set]; rfl
omit [FloatOps F] in
theorem slotP_eq (s : Fin 2) (e : HbBuf (F := F) c scM0) :
    slotP c s e = (((c : Thread nD τ).loc cc0_scratch0) ↦[slotSet s]{fullShare} e : sProp 𝕄) := by
  unfold slotP; rw [rslot_set]; rfl
omit [FloatOps F] in
theorem srcP_eq (s : Fin 2) (b : Fin 32) (w : Fin 8) :
    srcP c W0 s b w = (((c : Thread nD τ).loc main_arg0) ↦[srcSet b w]{qs s} W0 : sProp 𝕄) := by
  unfold srcP; rw [srcB_set]; rfl

omit [FloatOps F] in
theorem bigSep_fin8 (P : Fin 8 → sProp 𝕄) : bigSep Finset.univ P = iprop(P 0 ∗ P 1 ∗ P 2 ∗ P 3 ∗ P 4 ∗ P 5 ∗ P 6 ∗ P 7) := by
  rw [BI.bigSep_eq_bigSepL_of_eq [0, 1, 2, 3, 4, 5, 6, 7] (by decide) (by decide)]; rfl

omit [FloatOps F] in
/-- A slot held at one contents is its strands at it. -/
theorem slot_split (s : Fin 2) (e : HbBuf (F := F) c scM0) :
    slotP c s e = iprop(winP c s 0 e ∗ winP c s 1 e ∗ winP c s 2 e ∗ winP c s 3 e ∗ winP c s 4 e ∗ winP c s 5 e ∗ winP c s 6 e ∗ winP c s 7 e) := by
  rw [slotP_eq, Ring.pointsTo_sub_blocks (winSet s) (win_disjoint s) (slotSet s) (win_cover s) e, bigSep_fin8]
  simp only [winP_eq]
omit [FloatOps F] in
/-- Strands held each at its own contents are the slot at some contents, which are on each strand that strand's. -/
theorem slot_join (s : Fin 2) (fs : Fin 8 → HbBuf (F := F) c scM0) :
    iprop(winP c s 0 (fs 0) ∗ winP c s 1 (fs 1) ∗ winP c s 2 (fs 2) ∗ winP c s 3 (fs 3) ∗ winP c s 4 (fs 4) ∗ winP c s 5 (fs 5) ∗ winP c s 6 (fs 6) ∗ winP c s 7 (fs 7))
      ⊢ (iprop(∃ e, ⌜∀ w, ∀ i ∈ winSet s w, e i = fs w i⌝ ∗ slotP c s e) : sProp 𝕄) := by
  have h : bigSep Finset.univ (fun w => (((c : Thread nD τ).loc cc0_scratch0) ↦[winSet s w]{fullShare} fs w : sProp 𝕄))
      ⊢ iprop(∃ g, ⌜∀ w ∈ (Finset.univ : Finset (Fin 8)), ∀ i ∈ winSet s w, g i = fs w i⌝ ∗ ((c : Thread nD τ).loc cc0_scratch0) ↦[Finset.univ.biUnion (winSet s)]{fullShare} g) :=
    pointsTo_biUnion_join (ℓ := (c : Thread nD τ).loc cc0_scratch0) (q := fullShare) (Finset.univ : Finset (Fin 8)) (winSet s) fs (fs 0) (fun w _ w' _ h => win_disjoint s w w' h)
  rw [win_cover, bigSep_fin8] at h
  simp only [winP_eq, slotP_eq]
  refine h.trans ?_
  iintro ⟨%g, %hg, H⟩
  iexists g
  isplitr
  · ipureintro; exact fun w i hi => hg w (Finset.mem_univ w) i hi
  iexact H
omit [FloatOps F] in
/-- A slot's half of `x` is block `b`'s strands and the rest. -/
theorem copy_split (s : Fin 2) (b : Fin 32) :
    copyP c W0 s ⊣⊢ iprop((srcP c W0 s b 0 ∗ srcP c W0 s b 1 ∗ srcP c W0 s b 2 ∗ srcP c W0 s b 3 ∗ srcP c W0 s b 4 ∗ srcP c W0 s b 5 ∗ srcP c W0 s b 6 ∗ srcP c W0 s b 7) ∗ restP c W0 s b) := by
  simp only [srcP_eq]
  rw [← bigSep_fin8 (fun w => (((c : Thread nD τ).loc main_arg0) ↦[srcSet b w]{qs s} W0 : sProp 𝕄)),
    ← Ring.pointsTo_sub_blocks (srcSet b) (src_disjoint b) (blockSet b) rfl W0]
  unfold restP; exact pointsTo_split_subset (Finset.subset_univ _)

omit [FloatOps F] in
/-- `x` whole is the two slots' halves. -/
theorem whole_split : (hbPt c hbM W0 : sProp 𝕄) ⊣⊢ iprop(copyP c W0 0 ∗ copyP c W0 1) :=
  pointsTo_share (PosShare.mem_left_op_right fullShare)
omit [FloatOps F] in
theorem bigSep_fin2 (P : Fin 2 → sProp 𝕄) : bigSep Finset.univ P = iprop(P 0 ∗ P 1) := by
  rw [BI.bigSep_eq_bigSepL_of_eq [0, 1] (by decide) (by decide)]; rfl
omit [FloatOps F] in
/-- The slot buffer whole at some contents is its two slots; -/
theorem slots_split (e : HbBuf (F := F) c scM0) : (hbPt c scM0 e : sProp 𝕄) = iprop(slotP c 0 e ∗ slotP c 1 e) := by
  rw [slotP_eq, slotP_eq]
  exact (Ring.pointsTo_blocks (ℓ := (c : Thread nD τ).loc cc0_scratch0) slotSet slot_disjoint (slot_cover c) e).trans (bigSep_fin2 _)
omit [FloatOps F] in
/-- and back. -/
theorem slots_join : iprop((∃ e, slotP c 0 e) ∗ (∃ e, slotP c 1 e)) ⊢ (iprop(∃ e, hbPt c scM0 e) : sProp 𝕄) := by
  simp only [slotP_eq]
  iintro ⟨⟨%e0, H0⟩, H1⟩
  have h : ∀ f₀ : HbBuf (F := F) c scM0, bigSep Finset.univ (fun s => iprop(∃ e : HbBuf (F := F) c scM0, ((c : Thread nD τ).loc cc0_scratch0) ↦[slotSet s]{fullShare} e))
      ⊢ (iprop(∃ g, hbPt c scM0 g) : sProp 𝕄) :=
    Ring.pointsTo_blocks_join_exists (ℓ := (c : Thread nD τ).loc cc0_scratch0) slotSet slot_disjoint (slot_cover c)
  have h := h e0
  rw [bigSep_fin2] at h
  iapply h
  isplitl [H0]
  · iexists e0; iexact H0
  iexact H1

/-- The ring before the first point: both slots free. -/
theorem ring_in : iprop((∃ e, hbPt c scM0 e) ∗ (semVal ((c : Thread nD τ), SemLoc.dma 16) 0 ∗ semVal ((c : Thread nD τ), SemLoc.dma 17) 0) ∗ hbPt c hbM W0)
    ⊢ (iprop(free c W0 0 ∗ free c W0 1) : sProp 𝕄) := by
  unfold free cellP
  rw [cellR_0, cellR_1]
  iintro ⟨⟨%e, He⟩, ⟨C0, C1⟩, X⟩
  ihave G := (whole_split c W0).1 $$ X
  icases G with ⟨X0, X1⟩
  ihave G := (Entails.of_eq (slots_split c e)) $$ He
  icases G with ⟨E0, E1⟩
  isplitl [C0 E0 X0]
  · isplitl [C0]; · iexact C0
    isplitl [E0]; · iexists e; iexact E0
    iexact X0
  isplitl [C1]; · iexact C1
  isplitl [E1]; · iexists e; iexact E1
  iexact X1
/-- and after the last what it was made of. -/
theorem ring_out : (iprop(free c W0 0 ∗ free c W0 1) : sProp 𝕄)
    ⊢ iprop((∃ e, hbPt c scM0 e) ∗ (semVal ((c : Thread nD τ), SemLoc.dma 16) 0 ∗ semVal ((c : Thread nD τ), SemLoc.dma 17) 0) ∗ hbPt c hbM W0) := by
  unfold free cellP
  rw [cellR_0, cellR_1]
  iintro ⟨⟨C0, E0, X0⟩, ⟨C1, E1, X1⟩⟩
  isplitl [E0 E1]
  · iapply (slots_join c)
    isplitl [E0]; · iexact E0
    iexact E1
  isplitl [C0 C1]
  · isplitl [C0]; · iexact C0
    iexact C1
  iapply (whole_split c W0).2
  isplitl [X0]; · iexact X0
  iexact X1
end Ring

/-! ## The body's offsets in closed form: each operand the body names is one of the pieces above -/

theorem off1_eq : ∀ t : Fin grid0.N, k0_off1 (grid0.coords t) = ![(Ring.sl 2 t.val).val] := by decide +kernel
@[sl_canon] theorem canon1 (t : Fin grid0.N) (h : cond0 (grid0.coords t)) :
    (cc0_scratch1.slice (Rect.unit (s := S2) (k0_off1 (grid0.coords t)) S1.size (k0_off1_inb (grid0.coords t) h))).squeeze S_ squeezes_S1_S_ = cellA (Ring.sl 2 t.val) :=
  congrArg (fun A : DmaSems sig S1 => A.squeeze S_ squeezes_S1_S_) (SemArray.slice_unit_congr _ (off1_eq t) _ _)
@[sl_canon] theorem canon1' (t : Fin grid0.N) (h : cond0 (grid0.coords t)) :
    (cc0_scratch1.slice (Rect.unit (s := S2) (k0_off1 (grid0.coords t)) ![1] (k0_off1_inb (grid0.coords t) h))).squeeze S_ squeezes_S1_S_ = cellA (Ring.sl 2 t.val) :=
  canon1 t h
theorem off2_eq : ∀ t : Fin grid0.N, k0_off2 (grid0.coords t) = ![(Ring.sl 2 t.val).val, 0, 0, 0] := by decide +kernel
@[sl_canon] theorem canon2 (t : Fin grid0.N) (h : cond0 (grid0.coords t)) :
    (scM0.slice (Rect.unit (s := S2x128x8x1024) (k0_off2 (grid0.coords t)) S1x128x1x1024.size (k0_off2_inb (grid0.coords t) h)) (fun _ => rfl)).squeeze S128x1024 squeezes_S1x128x1x1024_S128x1024 = rwin (Ring.sl 2 t.val) 0 :=
  congrArg (fun M : Memref sig .tc .vmem S1x128x1x1024 .f32 => M.squeeze S128x1024 squeezes_S1x128x1x1024_S128x1024) (Memref.slice_unit_congr _ (off2_eq t) _ _ (fun _ => rfl) (fun _ => rfl))
@[sl_canon] theorem canon2' (t : Fin grid0.N) (h : cond0 (grid0.coords t)) :
    (scM0.slice (Rect.unit (s := S2x128x8x1024) (k0_off2 (grid0.coords t)) ![1, 128, 1, 1024] (k0_off2_inb (grid0.coords t) h)) (fun _ => rfl)).squeeze S128x1024 squeezes_S1x128x1x1024_S128x1024 = rwin (Ring.sl 2 t.val) 0 :=
  canon2 t h
theorem off4_eq : ∀ t : Fin grid0.N, k0_off4 (grid0.coords t) = ![(Ring.sl 2 t.val).val, 0, 1, 0] := by decide +kernel
@[sl_canon] theorem canon4 (t : Fin grid0.N) (h : cond0 (grid0.coords t)) :
    (scM0.slice (Rect.unit (s := S2x128x8x1024) (k0_off4 (grid0.coords t)) S1x128x1x1024.size (k0_off4_inb (grid0.coords t) h)) (fun _ => rfl)).squeeze S128x1024 squeezes_S1x128x1x1024_S128x1024 = rwin (Ring.sl 2 t.val) 1 :=
  congrArg (fun M : Memref sig .tc .vmem S1x128x1x1024 .f32 => M.squeeze S128x1024 squeezes_S1x128x1x1024_S128x1024) (Memref.slice_unit_congr _ (off4_eq t) _ _ (fun _ => rfl) (fun _ => rfl))
@[sl_canon] theorem canon4' (t : Fin grid0.N) (h : cond0 (grid0.coords t)) :
    (scM0.slice (Rect.unit (s := S2x128x8x1024) (k0_off4 (grid0.coords t)) ![1, 128, 1, 1024] (k0_off4_inb (grid0.coords t) h)) (fun _ => rfl)).squeeze S128x1024 squeezes_S1x128x1x1024_S128x1024 = rwin (Ring.sl 2 t.val) 1 :=
  canon4 t h
theorem off5_eq : ∀ t : Fin grid0.N, k0_off5 (grid0.coords t) = ![(Ring.sl 2 t.val).val, 0, 2, 0] := by decide +kernel
@[sl_canon] theorem canon5 (t : Fin grid0.N) (h : cond0 (grid0.coords t)) :
    (scM0.slice (Rect.unit (s := S2x128x8x1024) (k0_off5 (grid0.coords t)) S1x128x1x1024.size (k0_off5_inb (grid0.coords t) h)) (fun _ => rfl)).squeeze S128x1024 squeezes_S1x128x1x1024_S128x1024 = rwin (Ring.sl 2 t.val) 2 :=
  congrArg (fun M : Memref sig .tc .vmem S1x128x1x1024 .f32 => M.squeeze S128x1024 squeezes_S1x128x1x1024_S128x1024) (Memref.slice_unit_congr _ (off5_eq t) _ _ (fun _ => rfl) (fun _ => rfl))
@[sl_canon] theorem canon5' (t : Fin grid0.N) (h : cond0 (grid0.coords t)) :
    (scM0.slice (Rect.unit (s := S2x128x8x1024) (k0_off5 (grid0.coords t)) ![1, 128, 1, 1024] (k0_off5_inb (grid0.coords t) h)) (fun _ => rfl)).squeeze S128x1024 squeezes_S1x128x1x1024_S128x1024 = rwin (Ring.sl 2 t.val) 2 :=
  canon5 t h
theorem off6_eq : ∀ t : Fin grid0.N, k0_off6 (grid0.coords t) = ![(Ring.sl 2 t.val).val, 0, 3, 0] := by decide +kernel
@[sl_canon] theorem canon6 (t : Fin grid0.N) (h : cond0 (grid0.coords t)) :
    (scM0.slice (Rect.unit (s := S2x128x8x1024) (k0_off6 (grid0.coords t)) S1x128x1x1024.size (k0_off6_inb (grid0.coords t) h)) (fun _ => rfl)).squeeze S128x1024 squeezes_S1x128x1x1024_S128x1024 = rwin (Ring.sl 2 t.val) 3 :=
  congrArg (fun M : Memref sig .tc .vmem S1x128x1x1024 .f32 => M.squeeze S128x1024 squeezes_S1x128x1x1024_S128x1024) (Memref.slice_unit_congr _ (off6_eq t) _ _ (fun _ => rfl) (fun _ => rfl))
@[sl_canon] theorem canon6' (t : Fin grid0.N) (h : cond0 (grid0.coords t)) :
    (scM0.slice (Rect.unit (s := S2x128x8x1024) (k0_off6 (grid0.coords t)) ![1, 128, 1, 1024] (k0_off6_inb (grid0.coords t) h)) (fun _ => rfl)).squeeze S128x1024 squeezes_S1x128x1x1024_S128x1024 = rwin (Ring.sl 2 t.val) 3 :=
  canon6 t h
theorem off7_eq : ∀ t : Fin grid0.N, k0_off7 (grid0.coords t) = ![(Ring.sl 2 t.val).val, 0, 4, 0] := by decide +kernel
@[sl_canon] theorem canon7 (t : Fin grid0.N) (h : cond0 (grid0.coords t)) :
    (scM0.slice (Rect.unit (s := S2x128x8x1024) (k0_off7 (grid0.coords t)) S1x128x1x1024.size (k0_off7_inb (grid0.coords t) h)) (fun _ => rfl)).squeeze S128x1024 squeezes_S1x128x1x1024_S128x1024 = rwin (Ring.sl 2 t.val) 4 :=
  congrArg (fun M : Memref sig .tc .vmem S1x128x1x1024 .f32 => M.squeeze S128x1024 squeezes_S1x128x1x1024_S128x1024) (Memref.slice_unit_congr _ (off7_eq t) _ _ (fun _ => rfl) (fun _ => rfl))
@[sl_canon] theorem canon7' (t : Fin grid0.N) (h : cond0 (grid0.coords t)) :
    (scM0.slice (Rect.unit (s := S2x128x8x1024) (k0_off7 (grid0.coords t)) ![1, 128, 1, 1024] (k0_off7_inb (grid0.coords t) h)) (fun _ => rfl)).squeeze S128x1024 squeezes_S1x128x1x1024_S128x1024 = rwin (Ring.sl 2 t.val) 4 :=
  canon7 t h
theorem off8_eq : ∀ t : Fin grid0.N, k0_off8 (grid0.coords t) = ![(Ring.sl 2 t.val).val, 0, 5, 0] := by decide +kernel
@[sl_canon] theorem canon8 (t : Fin grid0.N) (h : cond0 (grid0.coords t)) :
    (scM0.slice (Rect.unit (s := S2x128x8x1024) (k0_off8 (grid0.coords t)) S1x128x1x1024.size (k0_off8_inb (grid0.coords t) h)) (fun _ => rfl)).squeeze S128x1024 squeezes_S1x128x1x1024_S128x1024 = rwin (Ring.sl 2 t.val) 5 :=
  congrArg (fun M : Memref sig .tc .vmem S1x128x1x1024 .f32 => M.squeeze S128x1024 squeezes_S1x128x1x1024_S128x1024) (Memref.slice_unit_congr _ (off8_eq t) _ _ (fun _ => rfl) (fun _ => rfl))
@[sl_canon] theorem canon8' (t : Fin grid0.N) (h : cond0 (grid0.coords t)) :
    (scM0.slice (Rect.unit (s := S2x128x8x1024) (k0_off8 (grid0.coords t)) ![1, 128, 1, 1024] (k0_off8_inb (grid0.coords t) h)) (fun _ => rfl)).squeeze S128x1024 squeezes_S1x128x1x1024_S128x1024 = rwin (Ring.sl 2 t.val) 5 :=
  canon8 t h
theorem off9_eq : ∀ t : Fin grid0.N, k0_off9 (grid0.coords t) = ![(Ring.sl 2 t.val).val, 0, 6, 0] := by decide +kernel
@[sl_canon] theorem canon9 (t : Fin grid0.N) (h : cond0 (grid0.coords t)) :
    (scM0.slice (Rect.unit (s := S2x128x8x1024) (k0_off9 (grid0.coords t)) S1x128x1x1024.size (k0_off9_inb (grid0.coords t) h)) (fun _ => rfl)).squeeze S128x1024 squeezes_S1x128x1x1024_S128x1024 = rwin (Ring.sl 2 t.val) 6 :=
  congrArg (fun M : Memref sig .tc .vmem S1x128x1x1024 .f32 => M.squeeze S128x1024 squeezes_S1x128x1x1024_S128x1024) (Memref.slice_unit_congr _ (off9_eq t) _ _ (fun _ => rfl) (fun _ => rfl))
@[sl_canon] theorem canon9' (t : Fin grid0.N) (h : cond0 (grid0.coords t)) :
    (scM0.slice (Rect.unit (s := S2x128x8x1024) (k0_off9 (grid0.coords t)) ![1, 128, 1, 1024] (k0_off9_inb (grid0.coords t) h)) (fun _ => rfl)).squeeze S128x1024 squeezes_S1x128x1x1024_S128x1024 = rwin (Ring.sl 2 t.val) 6 :=
  canon9 t h
theorem off10_eq : ∀ t : Fin grid0.N, k0_off10 (grid0.coords t) = ![(Ring.sl 2 t.val).val, 0, 7, 0] := by decide +kernel
@[sl_canon] theorem canon10 (t : Fin grid0.N) (h : cond0 (grid0.coords t)) :
    (scM0.slice (Rect.unit (s := S2x128x8x1024) (k0_off10 (grid0.coords t)) S1x128x1x1024.size (k0_off10_inb (grid0.coords t) h)) (fun _ => rfl)).squeeze S128x1024 squeezes_S1x128x1x1024_S128x1024 = rwin (Ring.sl 2 t.val) 7 :=
  congrArg (fun M : Memref sig .tc .vmem S1x128x1x1024 .f32 => M.squeeze S128x1024 squeezes_S1x128x1x1024_S128x1024) (Memref.slice_unit_congr _ (off10_eq t) _ _ (fun _ => rfl) (fun _ => rfl))
@[sl_canon] theorem canon10' (t : Fin grid0.N) (h : cond0 (grid0.coords t)) :
    (scM0.slice (Rect.unit (s := S2x128x8x1024) (k0_off10 (grid0.coords t)) ![1, 128, 1, 1024] (k0_off10_inb (grid0.coords t) h)) (fun _ => rfl)).squeeze S128x1024 squeezes_S1x128x1x1024_S128x1024 = rwin (Ring.sl 2 t.val) 7 :=
  canon10 t h
theorem off3_eq : ∀ (t : Fin grid0.N) (w : Fin 8), k0_off3 (grid0.coords t) (BitVec.ofNat 32 (128 * w.val)) = ![(Ring.bk 32 t.val).val / 4, 1024 * ((Ring.bk 32 t.val).val % 4) + 128 * w.val, 0] := by decide +kernel
@[sl_canon] theorem canon3_0 (t : Fin grid0.N) (h : cond0 (grid0.coords t)) :
    (hbM.slice (Rect.unit (s := S8x4096x1024) (k0_off3 (grid0.coords t) 0#32) S1x128x1024.size (k0_off3_inb (grid0.coords t) h 0)) (fun _ => rfl)).squeeze S128x1024 squeezes_S1x128x1024_S128x1024 = srcB (Ring.bk 32 t.val) 0 :=
  congrArg (fun M : Memref sig .tc .hbm S1x128x1024 .f32 => M.squeeze S128x1024 squeezes_S1x128x1024_S128x1024) (Memref.slice_unit_congr _ (off3_eq t 0) _ _ (fun _ => rfl) (fun _ => rfl))
@[sl_canon] theorem canon3_0' (t : Fin grid0.N) (h : cond0 (grid0.coords t)) :
    (hbM.slice (Rect.unit (s := S8x4096x1024) (k0_off3 (grid0.coords t) 0#32) ![1, 128, 1024] (k0_off3_inb (grid0.coords t) h 0)) (fun _ => rfl)).squeeze S128x1024 squeezes_S1x128x1024_S128x1024 = srcB (Ring.bk 32 t.val) 0 :=
  canon3_0 t h
@[sl_canon] theorem canon3_1 (t : Fin grid0.N) (h : cond0 (grid0.coords t)) :
    (hbM.slice (Rect.unit (s := S8x4096x1024) (k0_off3 (grid0.coords t) 128#32) S1x128x1024.size (k0_off3_inb (grid0.coords t) h 1)) (fun _ => rfl)).squeeze S128x1024 squeezes_S1x128x1024_S128x1024 = srcB (Ring.bk 32 t.val) 1 :=
  congrArg (fun M : Memref sig .tc .hbm S1x128x1024 .f32 => M.squeeze S128x1024 squeezes_S1x128x1024_S128x1024) (Memref.slice_unit_congr _ (off3_eq t 1) _ _ (fun _ => rfl) (fun _ => rfl))
@[sl_canon] theorem canon3_1' (t : Fin grid0.N) (h : cond0 (grid0.coords t)) :
    (hbM.slice (Rect.unit (s := S8x4096x1024) (k0_off3 (grid0.coords t) 128#32) ![1, 128, 1024] (k0_off3_inb (grid0.coords t) h 1)) (fun _ => rfl)).squeeze S128x1024 squeezes_S1x128x1024_S128x1024 = srcB (Ring.bk 32 t.val) 1 :=
  canon3_1 t h
@[sl_canon] theorem canon3_2 (t : Fin grid0.N) (h : cond0 (grid0.coords t)) :
    (hbM.slice (Rect.unit (s := S8x4096x1024) (k0_off3 (grid0.coords t) 256#32) S1x128x1024.size (k0_off3_inb (grid0.coords t) h 2)) (fun _ => rfl)).squeeze S128x1024 squeezes_S1x128x1024_S128x1024 = srcB (Ring.bk 32 t.val) 2 :=
  congrArg (fun M : Memref sig .tc .hbm S1x128x1024 .f32 => M.squeeze S128x1024 squeezes_S1x128x1024_S128x1024) (Memref.slice_unit_congr _ (off3_eq t 2) _ _ (fun _ => rfl) (fun _ => rfl))
@[sl_canon] theorem canon3_2' (t : Fin grid0.N) (h : cond0 (grid0.coords t)) :
    (hbM.slice (Rect.unit (s := S8x4096x1024) (k0_off3 (grid0.coords t) 256#32) ![1, 128, 1024] (k0_off3_inb (grid0.coords t) h 2)) (fun _ => rfl)).squeeze S128x1024 squeezes_S1x128x1024_S128x1024 = srcB (Ring.bk 32 t.val) 2 :=
  canon3_2 t h
@[sl_canon] theorem canon3_3 (t : Fin grid0.N) (h : cond0 (grid0.coords t)) :
    (hbM.slice (Rect.unit (s := S8x4096x1024) (k0_off3 (grid0.coords t) 384#32) S1x128x1024.size (k0_off3_inb (grid0.coords t) h 3)) (fun _ => rfl)).squeeze S128x1024 squeezes_S1x128x1024_S128x1024 = srcB (Ring.bk 32 t.val) 3 :=
  congrArg (fun M : Memref sig .tc .hbm S1x128x1024 .f32 => M.squeeze S128x1024 squeezes_S1x128x1024_S128x1024) (Memref.slice_unit_congr _ (off3_eq t 3) _ _ (fun _ => rfl) (fun _ => rfl))
@[sl_canon] theorem canon3_3' (t : Fin grid0.N) (h : cond0 (grid0.coords t)) :
    (hbM.slice (Rect.unit (s := S8x4096x1024) (k0_off3 (grid0.coords t) 384#32) ![1, 128, 1024] (k0_off3_inb (grid0.coords t) h 3)) (fun _ => rfl)).squeeze S128x1024 squeezes_S1x128x1024_S128x1024 = srcB (Ring.bk 32 t.val) 3 :=
  canon3_3 t h
@[sl_canon] theorem canon3_4 (t : Fin grid0.N) (h : cond0 (grid0.coords t)) :
    (hbM.slice (Rect.unit (s := S8x4096x1024) (k0_off3 (grid0.coords t) 512#32) S1x128x1024.size (k0_off3_inb (grid0.coords t) h 4)) (fun _ => rfl)).squeeze S128x1024 squeezes_S1x128x1024_S128x1024 = srcB (Ring.bk 32 t.val) 4 :=
  congrArg (fun M : Memref sig .tc .hbm S1x128x1024 .f32 => M.squeeze S128x1024 squeezes_S1x128x1024_S128x1024) (Memref.slice_unit_congr _ (off3_eq t 4) _ _ (fun _ => rfl) (fun _ => rfl))
@[sl_canon] theorem canon3_4' (t : Fin grid0.N) (h : cond0 (grid0.coords t)) :
    (hbM.slice (Rect.unit (s := S8x4096x1024) (k0_off3 (grid0.coords t) 512#32) ![1, 128, 1024] (k0_off3_inb (grid0.coords t) h 4)) (fun _ => rfl)).squeeze S128x1024 squeezes_S1x128x1024_S128x1024 = srcB (Ring.bk 32 t.val) 4 :=
  canon3_4 t h
@[sl_canon] theorem canon3_5 (t : Fin grid0.N) (h : cond0 (grid0.coords t)) :
    (hbM.slice (Rect.unit (s := S8x4096x1024) (k0_off3 (grid0.coords t) 640#32) S1x128x1024.size (k0_off3_inb (grid0.coords t) h 5)) (fun _ => rfl)).squeeze S128x1024 squeezes_S1x128x1024_S128x1024 = srcB (Ring.bk 32 t.val) 5 :=
  congrArg (fun M : Memref sig .tc .hbm S1x128x1024 .f32 => M.squeeze S128x1024 squeezes_S1x128x1024_S128x1024) (Memref.slice_unit_congr _ (off3_eq t 5) _ _ (fun _ => rfl) (fun _ => rfl))
@[sl_canon] theorem canon3_5' (t : Fin grid0.N) (h : cond0 (grid0.coords t)) :
    (hbM.slice (Rect.unit (s := S8x4096x1024) (k0_off3 (grid0.coords t) 640#32) ![1, 128, 1024] (k0_off3_inb (grid0.coords t) h 5)) (fun _ => rfl)).squeeze S128x1024 squeezes_S1x128x1024_S128x1024 = srcB (Ring.bk 32 t.val) 5 :=
  canon3_5 t h
@[sl_canon] theorem canon3_6 (t : Fin grid0.N) (h : cond0 (grid0.coords t)) :
    (hbM.slice (Rect.unit (s := S8x4096x1024) (k0_off3 (grid0.coords t) 768#32) S1x128x1024.size (k0_off3_inb (grid0.coords t) h 6)) (fun _ => rfl)).squeeze S128x1024 squeezes_S1x128x1024_S128x1024 = srcB (Ring.bk 32 t.val) 6 :=
  congrArg (fun M : Memref sig .tc .hbm S1x128x1024 .f32 => M.squeeze S128x1024 squeezes_S1x128x1024_S128x1024) (Memref.slice_unit_congr _ (off3_eq t 6) _ _ (fun _ => rfl) (fun _ => rfl))
@[sl_canon] theorem canon3_6' (t : Fin grid0.N) (h : cond0 (grid0.coords t)) :
    (hbM.slice (Rect.unit (s := S8x4096x1024) (k0_off3 (grid0.coords t) 768#32) ![1, 128, 1024] (k0_off3_inb (grid0.coords t) h 6)) (fun _ => rfl)).squeeze S128x1024 squeezes_S1x128x1024_S128x1024 = srcB (Ring.bk 32 t.val) 6 :=
  canon3_6 t h
@[sl_canon] theorem canon3_7 (t : Fin grid0.N) (h : cond0 (grid0.coords t)) :
    (hbM.slice (Rect.unit (s := S8x4096x1024) (k0_off3 (grid0.coords t) 896#32) S1x128x1024.size (k0_off3_inb (grid0.coords t) h 7)) (fun _ => rfl)).squeeze S128x1024 squeezes_S1x128x1024_S128x1024 = srcB (Ring.bk 32 t.val) 7 :=
  congrArg (fun M : Memref sig .tc .hbm S1x128x1024 .f32 => M.squeeze S128x1024 squeezes_S1x128x1024_S128x1024) (Memref.slice_unit_congr _ (off3_eq t 7) _ _ (fun _ => rfl) (fun _ => rfl))
@[sl_canon] theorem canon3_7' (t : Fin grid0.N) (h : cond0 (grid0.coords t)) :
    (hbM.slice (Rect.unit (s := S8x4096x1024) (k0_off3 (grid0.coords t) 896#32) ![1, 128, 1024] (k0_off3_inb (grid0.coords t) h 7)) (fun _ => rfl)).squeeze S128x1024 squeezes_S1x128x1024_S128x1024 = srcB (Ring.bk 32 t.val) 7 :=
  canon3_7 t h
theorem off11_eq : ∀ t : Fin grid0.N, k0_off11 (grid0.coords t) = ![(Ring.sl 2 (t.val + 1)).val] := by decide +kernel
@[sl_canon] theorem canon11 (t : Fin grid0.N) (h : cond1 (grid0.coords t)) :
    (cc0_scratch1.slice (Rect.unit (s := S2) (k0_off11 (grid0.coords t)) S1.size (k0_off11_inb (grid0.coords t) h))).squeeze S_ squeezes_S1_S_ = cellA (Ring.sl 2 (t.val + 1)) :=
  congrArg (fun A : DmaSems sig S1 => A.squeeze S_ squeezes_S1_S_) (SemArray.slice_unit_congr _ (off11_eq t) _ _)
@[sl_canon] theorem canon11' (t : Fin grid0.N) (h : cond1 (grid0.coords t)) :
    (cc0_scratch1.slice (Rect.unit (s := S2) (k0_off11 (grid0.coords t)) ![1] (k0_off11_inb (grid0.coords t) h))).squeeze S_ squeezes_S1_S_ = cellA (Ring.sl 2 (t.val + 1)) :=
  canon11 t h
theorem off12_eq : ∀ t : Fin grid0.N, k0_off12 (grid0.coords t) = ![(Ring.sl 2 (t.val + 1)).val, 0, 0, 0] := by decide +kernel
@[sl_canon] theorem canon12 (t : Fin grid0.N) (h : cond1 (grid0.coords t)) :
    (scM0.slice (Rect.unit (s := S2x128x8x1024) (k0_off12 (grid0.coords t)) S1x128x1x1024.size (k0_off12_inb (grid0.coords t) h)) (fun _ => rfl)).squeeze S128x1024 squeezes_S1x128x1x1024_S128x1024 = rwin (Ring.sl 2 (t.val + 1)) 0 :=
  congrArg (fun M : Memref sig .tc .vmem S1x128x1x1024 .f32 => M.squeeze S128x1024 squeezes_S1x128x1x1024_S128x1024) (Memref.slice_unit_congr _ (off12_eq t) _ _ (fun _ => rfl) (fun _ => rfl))
@[sl_canon] theorem canon12' (t : Fin grid0.N) (h : cond1 (grid0.coords t)) :
    (scM0.slice (Rect.unit (s := S2x128x8x1024) (k0_off12 (grid0.coords t)) ![1, 128, 1, 1024] (k0_off12_inb (grid0.coords t) h)) (fun _ => rfl)).squeeze S128x1024 squeezes_S1x128x1x1024_S128x1024 = rwin (Ring.sl 2 (t.val + 1)) 0 :=
  canon12 t h
theorem off14_eq : ∀ t : Fin grid0.N, k0_off14 (grid0.coords t) = ![(Ring.sl 2 (t.val + 1)).val, 0, 1, 0] := by decide +kernel
@[sl_canon] theorem canon14 (t : Fin grid0.N) (h : cond1 (grid0.coords t)) :
    (scM0.slice (Rect.unit (s := S2x128x8x1024) (k0_off14 (grid0.coords t)) S1x128x1x1024.size (k0_off14_inb (grid0.coords t) h)) (fun _ => rfl)).squeeze S128x1024 squeezes_S1x128x1x1024_S128x1024 = rwin (Ring.sl 2 (t.val + 1)) 1 :=
  congrArg (fun M : Memref sig .tc .vmem S1x128x1x1024 .f32 => M.squeeze S128x1024 squeezes_S1x128x1x1024_S128x1024) (Memref.slice_unit_congr _ (off14_eq t) _ _ (fun _ => rfl) (fun _ => rfl))
@[sl_canon] theorem canon14' (t : Fin grid0.N) (h : cond1 (grid0.coords t)) :
    (scM0.slice (Rect.unit (s := S2x128x8x1024) (k0_off14 (grid0.coords t)) ![1, 128, 1, 1024] (k0_off14_inb (grid0.coords t) h)) (fun _ => rfl)).squeeze S128x1024 squeezes_S1x128x1x1024_S128x1024 = rwin (Ring.sl 2 (t.val + 1)) 1 :=
  canon14 t h
theorem off15_eq : ∀ t : Fin grid0.N, k0_off15 (grid0.coords t) = ![(Ring.sl 2 (t.val + 1)).val, 0, 2, 0] := by decide +kernel
@[sl_canon] theorem canon15 (t : Fin grid0.N) (h : cond1 (grid0.coords t)) :
    (scM0.slice (Rect.unit (s := S2x128x8x1024) (k0_off15 (grid0.coords t)) S1x128x1x1024.size (k0_off15_inb (grid0.coords t) h)) (fun _ => rfl)).squeeze S128x1024 squeezes_S1x128x1x1024_S128x1024 = rwin (Ring.sl 2 (t.val + 1)) 2 :=
  congrArg (fun M : Memref sig .tc .vmem S1x128x1x1024 .f32 => M.squeeze S128x1024 squeezes_S1x128x1x1024_S128x1024) (Memref.slice_unit_congr _ (off15_eq t) _ _ (fun _ => rfl) (fun _ => rfl))
@[sl_canon] theorem canon15' (t : Fin grid0.N) (h : cond1 (grid0.coords t)) :
    (scM0.slice (Rect.unit (s := S2x128x8x1024) (k0_off15 (grid0.coords t)) ![1, 128, 1, 1024] (k0_off15_inb (grid0.coords t) h)) (fun _ => rfl)).squeeze S128x1024 squeezes_S1x128x1x1024_S128x1024 = rwin (Ring.sl 2 (t.val + 1)) 2 :=
  canon15 t h
theorem off16_eq : ∀ t : Fin grid0.N, k0_off16 (grid0.coords t) = ![(Ring.sl 2 (t.val + 1)).val, 0, 3, 0] := by decide +kernel
@[sl_canon] theorem canon16 (t : Fin grid0.N) (h : cond1 (grid0.coords t)) :
    (scM0.slice (Rect.unit (s := S2x128x8x1024) (k0_off16 (grid0.coords t)) S1x128x1x1024.size (k0_off16_inb (grid0.coords t) h)) (fun _ => rfl)).squeeze S128x1024 squeezes_S1x128x1x1024_S128x1024 = rwin (Ring.sl 2 (t.val + 1)) 3 :=
  congrArg (fun M : Memref sig .tc .vmem S1x128x1x1024 .f32 => M.squeeze S128x1024 squeezes_S1x128x1x1024_S128x1024) (Memref.slice_unit_congr _ (off16_eq t) _ _ (fun _ => rfl) (fun _ => rfl))
@[sl_canon] theorem canon16' (t : Fin grid0.N) (h : cond1 (grid0.coords t)) :
    (scM0.slice (Rect.unit (s := S2x128x8x1024) (k0_off16 (grid0.coords t)) ![1, 128, 1, 1024] (k0_off16_inb (grid0.coords t) h)) (fun _ => rfl)).squeeze S128x1024 squeezes_S1x128x1x1024_S128x1024 = rwin (Ring.sl 2 (t.val + 1)) 3 :=
  canon16 t h
theorem off17_eq : ∀ t : Fin grid0.N, k0_off17 (grid0.coords t) = ![(Ring.sl 2 (t.val + 1)).val, 0, 4, 0] := by decide +kernel
@[sl_canon] theorem canon17 (t : Fin grid0.N) (h : cond1 (grid0.coords t)) :
    (scM0.slice (Rect.unit (s := S2x128x8x1024) (k0_off17 (grid0.coords t)) S1x128x1x1024.size (k0_off17_inb (grid0.coords t) h)) (fun _ => rfl)).squeeze S128x1024 squeezes_S1x128x1x1024_S128x1024 = rwin (Ring.sl 2 (t.val + 1)) 4 :=
  congrArg (fun M : Memref sig .tc .vmem S1x128x1x1024 .f32 => M.squeeze S128x1024 squeezes_S1x128x1x1024_S128x1024) (Memref.slice_unit_congr _ (off17_eq t) _ _ (fun _ => rfl) (fun _ => rfl))
@[sl_canon] theorem canon17' (t : Fin grid0.N) (h : cond1 (grid0.coords t)) :
    (scM0.slice (Rect.unit (s := S2x128x8x1024) (k0_off17 (grid0.coords t)) ![1, 128, 1, 1024] (k0_off17_inb (grid0.coords t) h)) (fun _ => rfl)).squeeze S128x1024 squeezes_S1x128x1x1024_S128x1024 = rwin (Ring.sl 2 (t.val + 1)) 4 :=
  canon17 t h
theorem off18_eq : ∀ t : Fin grid0.N, k0_off18 (grid0.coords t) = ![(Ring.sl 2 (t.val + 1)).val, 0, 5, 0] := by decide +kernel
@[sl_canon] theorem canon18 (t : Fin grid0.N) (h : cond1 (grid0.coords t)) :
    (scM0.slice (Rect.unit (s := S2x128x8x1024) (k0_off18 (grid0.coords t)) S1x128x1x1024.size (k0_off18_inb (grid0.coords t) h)) (fun _ => rfl)).squeeze S128x1024 squeezes_S1x128x1x1024_S128x1024 = rwin (Ring.sl 2 (t.val + 1)) 5 :=
  congrArg (fun M : Memref sig .tc .vmem S1x128x1x1024 .f32 => M.squeeze S128x1024 squeezes_S1x128x1x1024_S128x1024) (Memref.slice_unit_congr _ (off18_eq t) _ _ (fun _ => rfl) (fun _ => rfl))
@[sl_canon] theorem canon18' (t : Fin grid0.N) (h : cond1 (grid0.coords t)) :
    (scM0.slice (Rect.unit (s := S2x128x8x1024) (k0_off18 (grid0.coords t)) ![1, 128, 1, 1024] (k0_off18_inb (grid0.coords t) h)) (fun _ => rfl)).squeeze S128x1024 squeezes_S1x128x1x1024_S128x1024 = rwin (Ring.sl 2 (t.val + 1)) 5 :=
  canon18 t h
theorem off19_eq : ∀ t : Fin grid0.N, k0_off19 (grid0.coords t) = ![(Ring.sl 2 (t.val + 1)).val, 0, 6, 0] := by decide +kernel
@[sl_canon] theorem canon19 (t : Fin grid0.N) (h : cond1 (grid0.coords t)) :
    (scM0.slice (Rect.unit (s := S2x128x8x1024) (k0_off19 (grid0.coords t)) S1x128x1x1024.size (k0_off19_inb (grid0.coords t) h)) (fun _ => rfl)).squeeze S128x1024 squeezes_S1x128x1x1024_S128x1024 = rwin (Ring.sl 2 (t.val + 1)) 6 :=
  congrArg (fun M : Memref sig .tc .vmem S1x128x1x1024 .f32 => M.squeeze S128x1024 squeezes_S1x128x1x1024_S128x1024) (Memref.slice_unit_congr _ (off19_eq t) _ _ (fun _ => rfl) (fun _ => rfl))
@[sl_canon] theorem canon19' (t : Fin grid0.N) (h : cond1 (grid0.coords t)) :
    (scM0.slice (Rect.unit (s := S2x128x8x1024) (k0_off19 (grid0.coords t)) ![1, 128, 1, 1024] (k0_off19_inb (grid0.coords t) h)) (fun _ => rfl)).squeeze S128x1024 squeezes_S1x128x1x1024_S128x1024 = rwin (Ring.sl 2 (t.val + 1)) 6 :=
  canon19 t h
theorem off20_eq : ∀ t : Fin grid0.N, k0_off20 (grid0.coords t) = ![(Ring.sl 2 (t.val + 1)).val, 0, 7, 0] := by decide +kernel
@[sl_canon] theorem canon20 (t : Fin grid0.N) (h : cond1 (grid0.coords t)) :
    (scM0.slice (Rect.unit (s := S2x128x8x1024) (k0_off20 (grid0.coords t)) S1x128x1x1024.size (k0_off20_inb (grid0.coords t) h)) (fun _ => rfl)).squeeze S128x1024 squeezes_S1x128x1x1024_S128x1024 = rwin (Ring.sl 2 (t.val + 1)) 7 :=
  congrArg (fun M : Memref sig .tc .vmem S1x128x1x1024 .f32 => M.squeeze S128x1024 squeezes_S1x128x1x1024_S128x1024) (Memref.slice_unit_congr _ (off20_eq t) _ _ (fun _ => rfl) (fun _ => rfl))
@[sl_canon] theorem canon20' (t : Fin grid0.N) (h : cond1 (grid0.coords t)) :
    (scM0.slice (Rect.unit (s := S2x128x8x1024) (k0_off20 (grid0.coords t)) ![1, 128, 1, 1024] (k0_off20_inb (grid0.coords t) h)) (fun _ => rfl)).squeeze S128x1024 squeezes_S1x128x1x1024_S128x1024 = rwin (Ring.sl 2 (t.val + 1)) 7 :=
  canon20 t h
theorem off13_eq : ∀ (t : Fin grid0.N) (w : Fin 8), cond1 (grid0.coords t) → k0_off13 (grid0.coords t) (BitVec.ofNat 32 (128 * w.val)) = ![(Ring.bk 32 (t.val + 1)).val / 4, 1024 * ((Ring.bk 32 (t.val + 1)).val % 4) + 128 * w.val, 0] := by decide +kernel
@[sl_canon] theorem canon13_0 (t : Fin grid0.N) (h : cond1 (grid0.coords t)) :
    (hbM.slice (Rect.unit (s := S8x4096x1024) (k0_off13 (grid0.coords t) 0#32) S1x128x1024.size (k0_off13_inb (grid0.coords t) h 0)) (fun _ => rfl)).squeeze S128x1024 squeezes_S1x128x1024_S128x1024 = srcB (Ring.bk 32 (t.val + 1)) 0 :=
  congrArg (fun M : Memref sig .tc .hbm S1x128x1024 .f32 => M.squeeze S128x1024 squeezes_S1x128x1024_S128x1024) (Memref.slice_unit_congr _ (off13_eq t 0 h) _ _ (fun _ => rfl) (fun _ => rfl))
@[sl_canon] theorem canon13_0' (t : Fin grid0.N) (h : cond1 (grid0.coords t)) :
    (hbM.slice (Rect.unit (s := S8x4096x1024) (k0_off13 (grid0.coords t) 0#32) ![1, 128, 1024] (k0_off13_inb (grid0.coords t) h 0)) (fun _ => rfl)).squeeze S128x1024 squeezes_S1x128x1024_S128x1024 = srcB (Ring.bk 32 (t.val + 1)) 0 :=
  canon13_0 t h
@[sl_canon] theorem canon13_1 (t : Fin grid0.N) (h : cond1 (grid0.coords t)) :
    (hbM.slice (Rect.unit (s := S8x4096x1024) (k0_off13 (grid0.coords t) 128#32) S1x128x1024.size (k0_off13_inb (grid0.coords t) h 1)) (fun _ => rfl)).squeeze S128x1024 squeezes_S1x128x1024_S128x1024 = srcB (Ring.bk 32 (t.val + 1)) 1 :=
  congrArg (fun M : Memref sig .tc .hbm S1x128x1024 .f32 => M.squeeze S128x1024 squeezes_S1x128x1024_S128x1024) (Memref.slice_unit_congr _ (off13_eq t 1 h) _ _ (fun _ => rfl) (fun _ => rfl))
@[sl_canon] theorem canon13_1' (t : Fin grid0.N) (h : cond1 (grid0.coords t)) :
    (hbM.slice (Rect.unit (s := S8x4096x1024) (k0_off13 (grid0.coords t) 128#32) ![1, 128, 1024] (k0_off13_inb (grid0.coords t) h 1)) (fun _ => rfl)).squeeze S128x1024 squeezes_S1x128x1024_S128x1024 = srcB (Ring.bk 32 (t.val + 1)) 1 :=
  canon13_1 t h
@[sl_canon] theorem canon13_2 (t : Fin grid0.N) (h : cond1 (grid0.coords t)) :
    (hbM.slice (Rect.unit (s := S8x4096x1024) (k0_off13 (grid0.coords t) 256#32) S1x128x1024.size (k0_off13_inb (grid0.coords t) h 2)) (fun _ => rfl)).squeeze S128x1024 squeezes_S1x128x1024_S128x1024 = srcB (Ring.bk 32 (t.val + 1)) 2 :=
  congrArg (fun M : Memref sig .tc .hbm S1x128x1024 .f32 => M.squeeze S128x1024 squeezes_S1x128x1024_S128x1024) (Memref.slice_unit_congr _ (off13_eq t 2 h) _ _ (fun _ => rfl) (fun _ => rfl))
@[sl_canon] theorem canon13_2' (t : Fin grid0.N) (h : cond1 (grid0.coords t)) :
    (hbM.slice (Rect.unit (s := S8x4096x1024) (k0_off13 (grid0.coords t) 256#32) ![1, 128, 1024] (k0_off13_inb (grid0.coords t) h 2)) (fun _ => rfl)).squeeze S128x1024 squeezes_S1x128x1024_S128x1024 = srcB (Ring.bk 32 (t.val + 1)) 2 :=
  canon13_2 t h
@[sl_canon] theorem canon13_3 (t : Fin grid0.N) (h : cond1 (grid0.coords t)) :
    (hbM.slice (Rect.unit (s := S8x4096x1024) (k0_off13 (grid0.coords t) 384#32) S1x128x1024.size (k0_off13_inb (grid0.coords t) h 3)) (fun _ => rfl)).squeeze S128x1024 squeezes_S1x128x1024_S128x1024 = srcB (Ring.bk 32 (t.val + 1)) 3 :=
  congrArg (fun M : Memref sig .tc .hbm S1x128x1024 .f32 => M.squeeze S128x1024 squeezes_S1x128x1024_S128x1024) (Memref.slice_unit_congr _ (off13_eq t 3 h) _ _ (fun _ => rfl) (fun _ => rfl))
@[sl_canon] theorem canon13_3' (t : Fin grid0.N) (h : cond1 (grid0.coords t)) :
    (hbM.slice (Rect.unit (s := S8x4096x1024) (k0_off13 (grid0.coords t) 384#32) ![1, 128, 1024] (k0_off13_inb (grid0.coords t) h 3)) (fun _ => rfl)).squeeze S128x1024 squeezes_S1x128x1024_S128x1024 = srcB (Ring.bk 32 (t.val + 1)) 3 :=
  canon13_3 t h
@[sl_canon] theorem canon13_4 (t : Fin grid0.N) (h : cond1 (grid0.coords t)) :
    (hbM.slice (Rect.unit (s := S8x4096x1024) (k0_off13 (grid0.coords t) 512#32) S1x128x1024.size (k0_off13_inb (grid0.coords t) h 4)) (fun _ => rfl)).squeeze S128x1024 squeezes_S1x128x1024_S128x1024 = srcB (Ring.bk 32 (t.val + 1)) 4 :=
  congrArg (fun M : Memref sig .tc .hbm S1x128x1024 .f32 => M.squeeze S128x1024 squeezes_S1x128x1024_S128x1024) (Memref.slice_unit_congr _ (off13_eq t 4 h) _ _ (fun _ => rfl) (fun _ => rfl))
@[sl_canon] theorem canon13_4' (t : Fin grid0.N) (h : cond1 (grid0.coords t)) :
    (hbM.slice (Rect.unit (s := S8x4096x1024) (k0_off13 (grid0.coords t) 512#32) ![1, 128, 1024] (k0_off13_inb (grid0.coords t) h 4)) (fun _ => rfl)).squeeze S128x1024 squeezes_S1x128x1024_S128x1024 = srcB (Ring.bk 32 (t.val + 1)) 4 :=
  canon13_4 t h
@[sl_canon] theorem canon13_5 (t : Fin grid0.N) (h : cond1 (grid0.coords t)) :
    (hbM.slice (Rect.unit (s := S8x4096x1024) (k0_off13 (grid0.coords t) 640#32) S1x128x1024.size (k0_off13_inb (grid0.coords t) h 5)) (fun _ => rfl)).squeeze S128x1024 squeezes_S1x128x1024_S128x1024 = srcB (Ring.bk 32 (t.val + 1)) 5 :=
  congrArg (fun M : Memref sig .tc .hbm S1x128x1024 .f32 => M.squeeze S128x1024 squeezes_S1x128x1024_S128x1024) (Memref.slice_unit_congr _ (off13_eq t 5 h) _ _ (fun _ => rfl) (fun _ => rfl))
@[sl_canon] theorem canon13_5' (t : Fin grid0.N) (h : cond1 (grid0.coords t)) :
    (hbM.slice (Rect.unit (s := S8x4096x1024) (k0_off13 (grid0.coords t) 640#32) ![1, 128, 1024] (k0_off13_inb (grid0.coords t) h 5)) (fun _ => rfl)).squeeze S128x1024 squeezes_S1x128x1024_S128x1024 = srcB (Ring.bk 32 (t.val + 1)) 5 :=
  canon13_5 t h
@[sl_canon] theorem canon13_6 (t : Fin grid0.N) (h : cond1 (grid0.coords t)) :
    (hbM.slice (Rect.unit (s := S8x4096x1024) (k0_off13 (grid0.coords t) 768#32) S1x128x1024.size (k0_off13_inb (grid0.coords t) h 6)) (fun _ => rfl)).squeeze S128x1024 squeezes_S1x128x1024_S128x1024 = srcB (Ring.bk 32 (t.val + 1)) 6 :=
  congrArg (fun M : Memref sig .tc .hbm S1x128x1024 .f32 => M.squeeze S128x1024 squeezes_S1x128x1024_S128x1024) (Memref.slice_unit_congr _ (off13_eq t 6 h) _ _ (fun _ => rfl) (fun _ => rfl))
@[sl_canon] theorem canon13_6' (t : Fin grid0.N) (h : cond1 (grid0.coords t)) :
    (hbM.slice (Rect.unit (s := S8x4096x1024) (k0_off13 (grid0.coords t) 768#32) ![1, 128, 1024] (k0_off13_inb (grid0.coords t) h 6)) (fun _ => rfl)).squeeze S128x1024 squeezes_S1x128x1024_S128x1024 = srcB (Ring.bk 32 (t.val + 1)) 6 :=
  canon13_6 t h
@[sl_canon] theorem canon13_7 (t : Fin grid0.N) (h : cond1 (grid0.coords t)) :
    (hbM.slice (Rect.unit (s := S8x4096x1024) (k0_off13 (grid0.coords t) 896#32) S1x128x1024.size (k0_off13_inb (grid0.coords t) h 7)) (fun _ => rfl)).squeeze S128x1024 squeezes_S1x128x1024_S128x1024 = srcB (Ring.bk 32 (t.val + 1)) 7 :=
  congrArg (fun M : Memref sig .tc .hbm S1x128x1024 .f32 => M.squeeze S128x1024 squeezes_S1x128x1024_S128x1024) (Memref.slice_unit_congr _ (off13_eq t 7 h) _ _ (fun _ => rfl) (fun _ => rfl))
@[sl_canon] theorem canon13_7' (t : Fin grid0.N) (h : cond1 (grid0.coords t)) :
    (hbM.slice (Rect.unit (s := S8x4096x1024) (k0_off13 (grid0.coords t) 896#32) ![1, 128, 1024] (k0_off13_inb (grid0.coords t) h 7)) (fun _ => rfl)).squeeze S128x1024 squeezes_S1x128x1024_S128x1024 = srcB (Ring.bk 32 (t.val + 1)) 7 :=
  canon13_7 t h
theorem off21_eq : ∀ t : Fin grid0.N, k0_off21 (grid0.coords t) = ![(Ring.sl 2 t.val).val] := by decide +kernel
@[sl_canon] theorem canon21 (t : Fin grid0.N) :
    (cc0_scratch1.slice (Rect.unit (s := S2) (k0_off21 (grid0.coords t)) S1.size (k0_off21_inb (grid0.coords t)))).squeeze S_ squeezes_S1_S_ = cellA (Ring.sl 2 t.val) :=
  congrArg (fun A : DmaSems sig S1 => A.squeeze S_ squeezes_S1_S_) (SemArray.slice_unit_congr _ (off21_eq t) _ _)
@[sl_canon] theorem canon21' (t : Fin grid0.N) :
    (cc0_scratch1.slice (Rect.unit (s := S2) (k0_off21 (grid0.coords t)) ![1] (k0_off21_inb (grid0.coords t)))).squeeze S_ squeezes_S1_S_ = cellA (Ring.sl 2 t.val) :=
  canon21 t
theorem off22_eq : ∀ t : Fin grid0.N, k0_off22 (grid0.coords t) = ![(Ring.sl 2 t.val).val, 0, 0, 0] := by decide +kernel
@[sl_canon] theorem canon22 (t : Fin grid0.N) :
    (scM0.slice (Rect.unit (s := S2x128x8x1024) (k0_off22 (grid0.coords t)) S1x128x1x1024.size (k0_off22_inb (grid0.coords t))) (fun _ => rfl)).squeeze S128x1024 squeezes_S1x128x1x1024_S128x1024 = rwin (Ring.sl 2 t.val) 0 :=
  congrArg (fun M : Memref sig .tc .vmem S1x128x1x1024 .f32 => M.squeeze S128x1024 squeezes_S1x128x1x1024_S128x1024) (Memref.slice_unit_congr _ (off22_eq t) _ _ (fun _ => rfl) (fun _ => rfl))
@[sl_canon] theorem canon22' (t : Fin grid0.N) :
    (scM0.slice (Rect.unit (s := S2x128x8x1024) (k0_off22 (grid0.coords t)) ![1, 128, 1, 1024] (k0_off22_inb (grid0.coords t))) (fun _ => rfl)).squeeze S128x1024 squeezes_S1x128x1x1024_S128x1024 = rwin (Ring.sl 2 t.val) 0 :=
  canon22 t
theorem off24_eq : ∀ t : Fin grid0.N, k0_off24 (grid0.coords t) = ![(Ring.sl 2 t.val).val, 0, 1, 0] := by decide +kernel
@[sl_canon] theorem canon24 (t : Fin grid0.N) :
    (scM0.slice (Rect.unit (s := S2x128x8x1024) (k0_off24 (grid0.coords t)) S1x128x1x1024.size (k0_off24_inb (grid0.coords t))) (fun _ => rfl)).squeeze S128x1024 squeezes_S1x128x1x1024_S128x1024 = rwin (Ring.sl 2 t.val) 1 :=
  congrArg (fun M : Memref sig .tc .vmem S1x128x1x1024 .f32 => M.squeeze S128x1024 squeezes_S1x128x1x1024_S128x1024) (Memref.slice_unit_congr _ (off24_eq t) _ _ (fun _ => rfl) (fun _ => rfl))
@[sl_canon] theorem canon24' (t : Fin grid0.N) :
    (scM0.slice (Rect.unit (s := S2x128x8x1024) (k0_off24 (grid0.coords t)) ![1, 128, 1, 1024] (k0_off24_inb (grid0.coords t))) (fun _ => rfl)).squeeze S128x1024 squeezes_S1x128x1x1024_S128x1024 = rwin (Ring.sl 2 t.val) 1 :=
  canon24 t
theorem off25_eq : ∀ t : Fin grid0.N, k0_off25 (grid0.coords t) = ![(Ring.sl 2 t.val).val, 0, 2, 0] := by decide +kernel
@[sl_canon] theorem canon25 (t : Fin grid0.N) :
    (scM0.slice (Rect.unit (s := S2x128x8x1024) (k0_off25 (grid0.coords t)) S1x128x1x1024.size (k0_off25_inb (grid0.coords t))) (fun _ => rfl)).squeeze S128x1024 squeezes_S1x128x1x1024_S128x1024 = rwin (Ring.sl 2 t.val) 2 :=
  congrArg (fun M : Memref sig .tc .vmem S1x128x1x1024 .f32 => M.squeeze S128x1024 squeezes_S1x128x1x1024_S128x1024) (Memref.slice_unit_congr _ (off25_eq t) _ _ (fun _ => rfl) (fun _ => rfl))
@[sl_canon] theorem canon25' (t : Fin grid0.N) :
    (scM0.slice (Rect.unit (s := S2x128x8x1024) (k0_off25 (grid0.coords t)) ![1, 128, 1, 1024] (k0_off25_inb (grid0.coords t))) (fun _ => rfl)).squeeze S128x1024 squeezes_S1x128x1x1024_S128x1024 = rwin (Ring.sl 2 t.val) 2 :=
  canon25 t
theorem off26_eq : ∀ t : Fin grid0.N, k0_off26 (grid0.coords t) = ![(Ring.sl 2 t.val).val, 0, 3, 0] := by decide +kernel
@[sl_canon] theorem canon26 (t : Fin grid0.N) :
    (scM0.slice (Rect.unit (s := S2x128x8x1024) (k0_off26 (grid0.coords t)) S1x128x1x1024.size (k0_off26_inb (grid0.coords t))) (fun _ => rfl)).squeeze S128x1024 squeezes_S1x128x1x1024_S128x1024 = rwin (Ring.sl 2 t.val) 3 :=
  congrArg (fun M : Memref sig .tc .vmem S1x128x1x1024 .f32 => M.squeeze S128x1024 squeezes_S1x128x1x1024_S128x1024) (Memref.slice_unit_congr _ (off26_eq t) _ _ (fun _ => rfl) (fun _ => rfl))
@[sl_canon] theorem canon26' (t : Fin grid0.N) :
    (scM0.slice (Rect.unit (s := S2x128x8x1024) (k0_off26 (grid0.coords t)) ![1, 128, 1, 1024] (k0_off26_inb (grid0.coords t))) (fun _ => rfl)).squeeze S128x1024 squeezes_S1x128x1x1024_S128x1024 = rwin (Ring.sl 2 t.val) 3 :=
  canon26 t
theorem off27_eq : ∀ t : Fin grid0.N, k0_off27 (grid0.coords t) = ![(Ring.sl 2 t.val).val, 0, 4, 0] := by decide +kernel
@[sl_canon] theorem canon27 (t : Fin grid0.N) :
    (scM0.slice (Rect.unit (s := S2x128x8x1024) (k0_off27 (grid0.coords t)) S1x128x1x1024.size (k0_off27_inb (grid0.coords t))) (fun _ => rfl)).squeeze S128x1024 squeezes_S1x128x1x1024_S128x1024 = rwin (Ring.sl 2 t.val) 4 :=
  congrArg (fun M : Memref sig .tc .vmem S1x128x1x1024 .f32 => M.squeeze S128x1024 squeezes_S1x128x1x1024_S128x1024) (Memref.slice_unit_congr _ (off27_eq t) _ _ (fun _ => rfl) (fun _ => rfl))
@[sl_canon] theorem canon27' (t : Fin grid0.N) :
    (scM0.slice (Rect.unit (s := S2x128x8x1024) (k0_off27 (grid0.coords t)) ![1, 128, 1, 1024] (k0_off27_inb (grid0.coords t))) (fun _ => rfl)).squeeze S128x1024 squeezes_S1x128x1x1024_S128x1024 = rwin (Ring.sl 2 t.val) 4 :=
  canon27 t
theorem off28_eq : ∀ t : Fin grid0.N, k0_off28 (grid0.coords t) = ![(Ring.sl 2 t.val).val, 0, 5, 0] := by decide +kernel
@[sl_canon] theorem canon28 (t : Fin grid0.N) :
    (scM0.slice (Rect.unit (s := S2x128x8x1024) (k0_off28 (grid0.coords t)) S1x128x1x1024.size (k0_off28_inb (grid0.coords t))) (fun _ => rfl)).squeeze S128x1024 squeezes_S1x128x1x1024_S128x1024 = rwin (Ring.sl 2 t.val) 5 :=
  congrArg (fun M : Memref sig .tc .vmem S1x128x1x1024 .f32 => M.squeeze S128x1024 squeezes_S1x128x1x1024_S128x1024) (Memref.slice_unit_congr _ (off28_eq t) _ _ (fun _ => rfl) (fun _ => rfl))
@[sl_canon] theorem canon28' (t : Fin grid0.N) :
    (scM0.slice (Rect.unit (s := S2x128x8x1024) (k0_off28 (grid0.coords t)) ![1, 128, 1, 1024] (k0_off28_inb (grid0.coords t))) (fun _ => rfl)).squeeze S128x1024 squeezes_S1x128x1x1024_S128x1024 = rwin (Ring.sl 2 t.val) 5 :=
  canon28 t
theorem off29_eq : ∀ t : Fin grid0.N, k0_off29 (grid0.coords t) = ![(Ring.sl 2 t.val).val, 0, 6, 0] := by decide +kernel
@[sl_canon] theorem canon29 (t : Fin grid0.N) :
    (scM0.slice (Rect.unit (s := S2x128x8x1024) (k0_off29 (grid0.coords t)) S1x128x1x1024.size (k0_off29_inb (grid0.coords t))) (fun _ => rfl)).squeeze S128x1024 squeezes_S1x128x1x1024_S128x1024 = rwin (Ring.sl 2 t.val) 6 :=
  congrArg (fun M : Memref sig .tc .vmem S1x128x1x1024 .f32 => M.squeeze S128x1024 squeezes_S1x128x1x1024_S128x1024) (Memref.slice_unit_congr _ (off29_eq t) _ _ (fun _ => rfl) (fun _ => rfl))
@[sl_canon] theorem canon29' (t : Fin grid0.N) :
    (scM0.slice (Rect.unit (s := S2x128x8x1024) (k0_off29 (grid0.coords t)) ![1, 128, 1, 1024] (k0_off29_inb (grid0.coords t))) (fun _ => rfl)).squeeze S128x1024 squeezes_S1x128x1x1024_S128x1024 = rwin (Ring.sl 2 t.val) 6 :=
  canon29 t
theorem off30_eq : ∀ t : Fin grid0.N, k0_off30 (grid0.coords t) = ![(Ring.sl 2 t.val).val, 0, 7, 0] := by decide +kernel
@[sl_canon] theorem canon30 (t : Fin grid0.N) :
    (scM0.slice (Rect.unit (s := S2x128x8x1024) (k0_off30 (grid0.coords t)) S1x128x1x1024.size (k0_off30_inb (grid0.coords t))) (fun _ => rfl)).squeeze S128x1024 squeezes_S1x128x1x1024_S128x1024 = rwin (Ring.sl 2 t.val) 7 :=
  congrArg (fun M : Memref sig .tc .vmem S1x128x1x1024 .f32 => M.squeeze S128x1024 squeezes_S1x128x1x1024_S128x1024) (Memref.slice_unit_congr _ (off30_eq t) _ _ (fun _ => rfl) (fun _ => rfl))
@[sl_canon] theorem canon30' (t : Fin grid0.N) :
    (scM0.slice (Rect.unit (s := S2x128x8x1024) (k0_off30 (grid0.coords t)) ![1, 128, 1, 1024] (k0_off30_inb (grid0.coords t))) (fun _ => rfl)).squeeze S128x1024 squeezes_S1x128x1x1024_S128x1024 = rwin (Ring.sl 2 t.val) 7 :=
  canon30 t
theorem off23_eq : ∀ (t : Fin grid0.N) (w : Fin 8), k0_off23 (grid0.coords t) (BitVec.ofNat 32 (128 * w.val)) = ![(Ring.bk 32 t.val).val / 4, 1024 * ((Ring.bk 32 t.val).val % 4) + 128 * w.val, 0] := by decide +kernel
@[sl_canon] theorem canon23_0 (t : Fin grid0.N) :
    (hbM.slice (Rect.unit (s := S8x4096x1024) (k0_off23 (grid0.coords t) 0#32) S1x128x1024.size (k0_off23_inb (grid0.coords t) 0)) (fun _ => rfl)).squeeze S128x1024 squeezes_S1x128x1024_S128x1024 = srcB (Ring.bk 32 t.val) 0 :=
  congrArg (fun M : Memref sig .tc .hbm S1x128x1024 .f32 => M.squeeze S128x1024 squeezes_S1x128x1024_S128x1024) (Memref.slice_unit_congr _ (off23_eq t 0) _ _ (fun _ => rfl) (fun _ => rfl))
@[sl_canon] theorem canon23_0' (t : Fin grid0.N) :
    (hbM.slice (Rect.unit (s := S8x4096x1024) (k0_off23 (grid0.coords t) 0#32) ![1, 128, 1024] (k0_off23_inb (grid0.coords t) 0)) (fun _ => rfl)).squeeze S128x1024 squeezes_S1x128x1024_S128x1024 = srcB (Ring.bk 32 t.val) 0 :=
  canon23_0 t
@[sl_canon] theorem canon23_1 (t : Fin grid0.N) :
    (hbM.slice (Rect.unit (s := S8x4096x1024) (k0_off23 (grid0.coords t) 128#32) S1x128x1024.size (k0_off23_inb (grid0.coords t) 1)) (fun _ => rfl)).squeeze S128x1024 squeezes_S1x128x1024_S128x1024 = srcB (Ring.bk 32 t.val) 1 :=
  congrArg (fun M : Memref sig .tc .hbm S1x128x1024 .f32 => M.squeeze S128x1024 squeezes_S1x128x1024_S128x1024) (Memref.slice_unit_congr _ (off23_eq t 1) _ _ (fun _ => rfl) (fun _ => rfl))
@[sl_canon] theorem canon23_1' (t : Fin grid0.N) :
    (hbM.slice (Rect.unit (s := S8x4096x1024) (k0_off23 (grid0.coords t) 128#32) ![1, 128, 1024] (k0_off23_inb (grid0.coords t) 1)) (fun _ => rfl)).squeeze S128x1024 squeezes_S1x128x1024_S128x1024 = srcB (Ring.bk 32 t.val) 1 :=
  canon23_1 t
@[sl_canon] theorem canon23_2 (t : Fin grid0.N) :
    (hbM.slice (Rect.unit (s := S8x4096x1024) (k0_off23 (grid0.coords t) 256#32) S1x128x1024.size (k0_off23_inb (grid0.coords t) 2)) (fun _ => rfl)).squeeze S128x1024 squeezes_S1x128x1024_S128x1024 = srcB (Ring.bk 32 t.val) 2 :=
  congrArg (fun M : Memref sig .tc .hbm S1x128x1024 .f32 => M.squeeze S128x1024 squeezes_S1x128x1024_S128x1024) (Memref.slice_unit_congr _ (off23_eq t 2) _ _ (fun _ => rfl) (fun _ => rfl))
@[sl_canon] theorem canon23_2' (t : Fin grid0.N) :
    (hbM.slice (Rect.unit (s := S8x4096x1024) (k0_off23 (grid0.coords t) 256#32) ![1, 128, 1024] (k0_off23_inb (grid0.coords t) 2)) (fun _ => rfl)).squeeze S128x1024 squeezes_S1x128x1024_S128x1024 = srcB (Ring.bk 32 t.val) 2 :=
  canon23_2 t
@[sl_canon] theorem canon23_3 (t : Fin grid0.N) :
    (hbM.slice (Rect.unit (s := S8x4096x1024) (k0_off23 (grid0.coords t) 384#32) S1x128x1024.size (k0_off23_inb (grid0.coords t) 3)) (fun _ => rfl)).squeeze S128x1024 squeezes_S1x128x1024_S128x1024 = srcB (Ring.bk 32 t.val) 3 :=
  congrArg (fun M : Memref sig .tc .hbm S1x128x1024 .f32 => M.squeeze S128x1024 squeezes_S1x128x1024_S128x1024) (Memref.slice_unit_congr _ (off23_eq t 3) _ _ (fun _ => rfl) (fun _ => rfl))
@[sl_canon] theorem canon23_3' (t : Fin grid0.N) :
    (hbM.slice (Rect.unit (s := S8x4096x1024) (k0_off23 (grid0.coords t) 384#32) ![1, 128, 1024] (k0_off23_inb (grid0.coords t) 3)) (fun _ => rfl)).squeeze S128x1024 squeezes_S1x128x1024_S128x1024 = srcB (Ring.bk 32 t.val) 3 :=
  canon23_3 t
@[sl_canon] theorem canon23_4 (t : Fin grid0.N) :
    (hbM.slice (Rect.unit (s := S8x4096x1024) (k0_off23 (grid0.coords t) 512#32) S1x128x1024.size (k0_off23_inb (grid0.coords t) 4)) (fun _ => rfl)).squeeze S128x1024 squeezes_S1x128x1024_S128x1024 = srcB (Ring.bk 32 t.val) 4 :=
  congrArg (fun M : Memref sig .tc .hbm S1x128x1024 .f32 => M.squeeze S128x1024 squeezes_S1x128x1024_S128x1024) (Memref.slice_unit_congr _ (off23_eq t 4) _ _ (fun _ => rfl) (fun _ => rfl))
@[sl_canon] theorem canon23_4' (t : Fin grid0.N) :
    (hbM.slice (Rect.unit (s := S8x4096x1024) (k0_off23 (grid0.coords t) 512#32) ![1, 128, 1024] (k0_off23_inb (grid0.coords t) 4)) (fun _ => rfl)).squeeze S128x1024 squeezes_S1x128x1024_S128x1024 = srcB (Ring.bk 32 t.val) 4 :=
  canon23_4 t
@[sl_canon] theorem canon23_5 (t : Fin grid0.N) :
    (hbM.slice (Rect.unit (s := S8x4096x1024) (k0_off23 (grid0.coords t) 640#32) S1x128x1024.size (k0_off23_inb (grid0.coords t) 5)) (fun _ => rfl)).squeeze S128x1024 squeezes_S1x128x1024_S128x1024 = srcB (Ring.bk 32 t.val) 5 :=
  congrArg (fun M : Memref sig .tc .hbm S1x128x1024 .f32 => M.squeeze S128x1024 squeezes_S1x128x1024_S128x1024) (Memref.slice_unit_congr _ (off23_eq t 5) _ _ (fun _ => rfl) (fun _ => rfl))
@[sl_canon] theorem canon23_5' (t : Fin grid0.N) :
    (hbM.slice (Rect.unit (s := S8x4096x1024) (k0_off23 (grid0.coords t) 640#32) ![1, 128, 1024] (k0_off23_inb (grid0.coords t) 5)) (fun _ => rfl)).squeeze S128x1024 squeezes_S1x128x1024_S128x1024 = srcB (Ring.bk 32 t.val) 5 :=
  canon23_5 t
@[sl_canon] theorem canon23_6 (t : Fin grid0.N) :
    (hbM.slice (Rect.unit (s := S8x4096x1024) (k0_off23 (grid0.coords t) 768#32) S1x128x1024.size (k0_off23_inb (grid0.coords t) 6)) (fun _ => rfl)).squeeze S128x1024 squeezes_S1x128x1024_S128x1024 = srcB (Ring.bk 32 t.val) 6 :=
  congrArg (fun M : Memref sig .tc .hbm S1x128x1024 .f32 => M.squeeze S128x1024 squeezes_S1x128x1024_S128x1024) (Memref.slice_unit_congr _ (off23_eq t 6) _ _ (fun _ => rfl) (fun _ => rfl))
@[sl_canon] theorem canon23_6' (t : Fin grid0.N) :
    (hbM.slice (Rect.unit (s := S8x4096x1024) (k0_off23 (grid0.coords t) 768#32) ![1, 128, 1024] (k0_off23_inb (grid0.coords t) 6)) (fun _ => rfl)).squeeze S128x1024 squeezes_S1x128x1024_S128x1024 = srcB (Ring.bk 32 t.val) 6 :=
  canon23_6 t
@[sl_canon] theorem canon23_7 (t : Fin grid0.N) :
    (hbM.slice (Rect.unit (s := S8x4096x1024) (k0_off23 (grid0.coords t) 896#32) S1x128x1024.size (k0_off23_inb (grid0.coords t) 7)) (fun _ => rfl)).squeeze S128x1024 squeezes_S1x128x1024_S128x1024 = srcB (Ring.bk 32 t.val) 7 :=
  congrArg (fun M : Memref sig .tc .hbm S1x128x1024 .f32 => M.squeeze S128x1024 squeezes_S1x128x1024_S128x1024) (Memref.slice_unit_congr _ (off23_eq t 7) _ _ (fun _ => rfl) (fun _ => rfl))
@[sl_canon] theorem canon23_7' (t : Fin grid0.N) :
    (hbM.slice (Rect.unit (s := S8x4096x1024) (k0_off23 (grid0.coords t) 896#32) ![1, 128, 1024] (k0_off23_inb (grid0.coords t) 7)) (fun _ => rfl)).squeeze S128x1024 squeezes_S1x128x1024_S128x1024 = srcB (Ring.bk 32 t.val) 7 :=
  canon23_7 t
theorem off31_eq : ∀ t : Fin grid0.N, k0_off31 (grid0.coords t) = ![(Ring.sl 2 t.val).val, 0, 0, 0] := by decide +kernel
instance (priority := high) closedOff31 (t : Fin grid0.N) : ClosedOff (k0_off31 (grid0.coords t)) := ⟨![(Ring.sl 2 t.val).val, 0, 0, 0], off31_eq t⟩
theorem off32_eq : ∀ t : Fin grid0.N, k0_off32 (grid0.coords t) = ![(Ring.sl 2 t.val).val, 0, 0, 0] := by decide +kernel
instance (priority := high) closedOff32 (t : Fin grid0.N) : ClosedOff (k0_off32 (grid0.coords t)) := ⟨![(Ring.sl 2 t.val).val, 0, 0, 0], off32_eq t⟩
theorem off33_eq : ∀ t : Fin grid0.N, k0_off33 (grid0.coords t) = ![(Ring.sl 2 t.val).val, 64, 0, 0] := by decide +kernel
instance (priority := high) closedOff33 (t : Fin grid0.N) : ClosedOff (k0_off33 (grid0.coords t)) := ⟨![(Ring.sl 2 t.val).val, 64, 0, 0], off33_eq t⟩

end Cert.KernelIdeal.Mixer

end
-- ==== Proof.RunC.lean ====
/- The body's run in one of its four cases; see `run_C`. -/
module

public import proofs.«01_k».proof.Proof.Ring

@[expose] public section

-- rectangles of long axes are looked at once per coordinate
set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the run's proof term is large
set_option maxHeartbeats 8000000 in
/-- The body at a batch row's first tile after the first row's: the next block is started, this one waited for, the state zeroed. -/
theorem run_C (c : Dev nD) (t : Fin cfg0.N) (arg3 : Memref sig .tc .vmem S1x6x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S1024x256 .bf16) (harg6 : arg6.IsWhole) (arg7 : Memref sig .tc .vmem S1x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x8x1024x128 .f32) (harg14 : arg14.IsWhole) (arg15 : Memref sig .tc .vmem S1x1024x1 .f32) (harg15 : arg15.IsWhole) (arg18 : Memref sig .tc .vmem S12x1024x128 .f32) (harg18 : arg18.IsWhole) (arg19 : Memref sig .tc .vmem S5x1024x128 .f32) (harg19 : arg19.IsWhole) (arg20 : Memref sig .tc .vmem S4x1024x128 .f32) (harg20 : arg20.IsWhole) (arg21 : Memref sig .tc .vmem S1024x1024 .bf16) (harg21 : arg21.IsWhole) (arg22 : Memref sig .tc .vmem S24x1024 .f32) (harg22 : arg22.IsWhole) (arg23 : Memref sig .tc .vmem S120x512 .f32) (harg23 : arg23.IsWhole) (arg24 : Memref sig .tc .vmem S4x128x256 .f32) (harg24 : arg24.IsWhole) (arg25 : Memref sig .tc .vmem S8x128 .f32) (harg25 : arg25.IsWhole)
    (hc0 : ¬cond0 (grid0.coords t)) (hc1 : cond1 (grid0.coords t)) (hc2 : cond2 (grid0.coords t))
    (x3 : Vec F S1x6x1024 .f32) (x4 : Vec F S1x1024 .f32) (x5 : Vec F S1024x2560 .bf16) (x6 : Vec F S1024x256 .bf16) (x7 : Vec F S1x256 .f32) (x8 : Vec F S4x1024 .f32) (x9 : Vec F S1x1024 .f32) (x10 : Vec F S1x512 .f32) (x11 : Vec F S4x128x128 .bf16) (x12 : Vec F S1x512 .f32) (x13 : Vec F S1024x1024 .bf16) (W0 : HbBuf (F := F) c hbM) :
      ∀ (W : Waits sig Unit) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (flight c W0 (Ring.sl 2 t.val) (Ring.bk 32 t.val) ∗ free c W0 (Ring.sl 2 (t.val + 1))) ∗ owes (c : Thread nD τ) 0 W
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (flight c W0 (Ring.sl 2 (t.val + 1)) (Ring.bk 32 (t.val + 1)) ∗ free c W0 (Ring.sl 2 t.val)) ∗ (∃ W', owes (c : Thread nD τ) 0 W')) -∗ K ⟨⟩))
          ⊢ wp frame (wpE (defs₀ (F := F)) Variants.none c none) Set.univ (cc0_token_mixer (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 scM0 (Memref.isWhole_whole _) cc0_scratch1 arg18 harg18 arg19 harg19 arg20 harg20 arg21 harg21 arg22 harg22 arg23 harg23 arg24 harg24 arg25 harg25) K := by
    intro W K
    haveI : Fact (¬cond0 (grid0.coords t)) := ⟨hc0⟩
    haveI : Fact (cond1 (grid0.coords t)) := ⟨hc1⟩
    haveI : Fact (cond2 (grid0.coords t)) := ⟨hc2⟩
    simp only [cc0_token_mixer_eq_skeleton]; unfold cc0_token_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns flight free
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨⟨HB, Hr0⟩, ⟨Hc1, ⟨%e1, He1⟩, Hx1⟩⟩, HW, Hk⟩
    ihave G := (Entails.of_eq (slot_split c (Ring.sl 2 (t.val + 1)) e1)) $$ He1
    icases G with ⟨E1_0, E1_1, E1_2, E1_3, E1_4, E1_5, E1_6, E1_7⟩
    ihave G := (copy_split c W0 (Ring.sl 2 (t.val + 1)) (Ring.bk 32 (t.val + 1))).1 $$ Hx1
    icases G with ⟨⟨S1_0, S1_1, S1_2, S1_3, S1_4, S1_5, S1_6, S1_7⟩, Hr1⟩
    have hD := storable_winD (F := F) c W0 (Ring.sl 2 (t.val + 1)) (Ring.bk 32 (t.val + 1))
    imod (Transfers.batch_alloc' (Lvl := ℕ) countersEmb (c : Thread nD τ) default NN (winD c W0 (Ring.sl 2 (t.val + 1)) (Ring.bk 32 (t.val + 1))) (sm := cellR (Ring.sl 2 (t.val + 1))) (E := Set.univ)) $$ Hc1 with HN
    clear hD
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc0 | sl_exact hc1 | sl_exact hc2)
    -- the eight strands have landed: from here on the slot is read whole
    ihave G := (slot_join c (Ring.sl 2 t.val) (landed c W0 (Ring.sl 2 t.val) (Ring.bk 32 t.val))) $$ [HB_dst0 HB_dst1 HB_dst2 HB_dst3 HB_dst4 HB_dst5 HB_dst6 HB_dst7]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      isplitl [HB_dst5]; · iexact HB_dst5
      isplitl [HB_dst6]; · iexact HB_dst6
      iexact HB_dst7
    icases G with ⟨%g, %hg, HS⟩
    sl_exec (disch := first | sl_exact hc0 | sl_exact hc1 | sl_exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _, _; isplitr; swap; · iexact H15
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [HB HS Hr0 HB_src0 HB_src1 HB_src2 HB_src3 HB_src4 HB_src5 HB_src6 HB_src7 HN Hr1]
    · isplitl [HN Hr1]
      · isplitl [HN]; · iexact HN
        iexact Hr1
      isplitl [HB]; · iexact HB
      isplitl [HS]; · iexists g; iexact HS
      iapply (copy_split c W0 (Ring.sl 2 t.val) (Ring.bk 32 t.val)).2
      isplitr [Hr0]; swap; · iexact Hr0
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      iexact HB_src7
    iexists _; iexact HW

end Cert.KernelIdeal.Mixer

end
-- ==== Proof.RunA.lean ====
/- The body's run in one of its four cases; see `run_A`. -/
module

public import proofs.«01_k».proof.Proof.RunC

@[expose] public section

-- rectangles of long axes are looked at once per coordinate
set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the run's proof term is large
set_option maxHeartbeats 8000000 in
/-- The body at the first point: blocks 0 and 1 are started, block 0 waited for, the carried state zeroed. -/
theorem run_A (c : Dev nD) (t : Fin cfg0.N) (arg3 : Memref sig .tc .vmem S1x6x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S1024x256 .bf16) (harg6 : arg6.IsWhole) (arg7 : Memref sig .tc .vmem S1x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x8x1024x128 .f32) (harg14 : arg14.IsWhole) (arg15 : Memref sig .tc .vmem S1x1024x1 .f32) (harg15 : arg15.IsWhole) (arg18 : Memref sig .tc .vmem S12x1024x128 .f32) (harg18 : arg18.IsWhole) (arg19 : Memref sig .tc .vmem S5x1024x128 .f32) (harg19 : arg19.IsWhole) (arg20 : Memref sig .tc .vmem S4x1024x128 .f32) (harg20 : arg20.IsWhole) (arg21 : Memref sig .tc .vmem S1024x1024 .bf16) (harg21 : arg21.IsWhole) (arg22 : Memref sig .tc .vmem S24x1024 .f32) (harg22 : arg22.IsWhole) (arg23 : Memref sig .tc .vmem S120x512 .f32) (harg23 : arg23.IsWhole) (arg24 : Memref sig .tc .vmem S4x128x256 .f32) (harg24 : arg24.IsWhole) (arg25 : Memref sig .tc .vmem S8x128 .f32) (harg25 : arg25.IsWhole)
    (hc0 : cond0 (grid0.coords t)) (hc1 : cond1 (grid0.coords t)) (hc2 : cond2 (grid0.coords t))
    (x3 : Vec F S1x6x1024 .f32) (x4 : Vec F S1x1024 .f32) (x5 : Vec F S1024x2560 .bf16) (x6 : Vec F S1024x256 .bf16) (x7 : Vec F S1x256 .f32) (x8 : Vec F S4x1024 .f32) (x9 : Vec F S1x1024 .f32) (x10 : Vec F S1x512 .f32) (x11 : Vec F S4x128x128 .bf16) (x12 : Vec F S1x512 .f32) (x13 : Vec F S1024x1024 .bf16) (W0 : HbBuf (F := F) c hbM) :
      ∀ (W : Waits sig Unit) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (free c W0 (Ring.sl 2 t.val) ∗ free c W0 (Ring.sl 2 (t.val + 1))) ∗ owes (c : Thread nD τ) 0 W
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (flight c W0 (Ring.sl 2 (t.val + 1)) (Ring.bk 32 (t.val + 1)) ∗ free c W0 (Ring.sl 2 t.val)) ∗ (∃ W', owes (c : Thread nD τ) 0 W')) -∗ K ⟨⟩))
          ⊢ wp frame (wpE (defs₀ (F := F)) Variants.none c none) Set.univ (cc0_token_mixer (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 scM0 (Memref.isWhole_whole _) cc0_scratch1 arg18 harg18 arg19 harg19 arg20 harg20 arg21 harg21 arg22 harg22 arg23 harg23 arg24 harg24 arg25 harg25) K := by
    intro W K
    haveI : Fact (cond0 (grid0.coords t)) := ⟨hc0⟩
    haveI : Fact (cond1 (grid0.coords t)) := ⟨hc1⟩
    haveI : Fact (cond2 (grid0.coords t)) := ⟨hc2⟩
    simp only [cc0_token_mixer_eq_skeleton]; unfold cc0_token_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns free flight
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨⟨Hc0, ⟨%e0, He0⟩, Hx0⟩, ⟨Hc1, ⟨%e1, He1⟩, Hx1⟩⟩, HW, Hk⟩
    ihave G := (Entails.of_eq (slot_split c (Ring.sl 2 t.val) e0)) $$ He0
    icases G with ⟨E0_0, E0_1, E0_2, E0_3, E0_4, E0_5, E0_6, E0_7⟩
    ihave G := (copy_split c W0 (Ring.sl 2 t.val) (Ring.bk 32 t.val)).1 $$ Hx0
    icases G with ⟨⟨S0_0, S0_1, S0_2, S0_3, S0_4, S0_5, S0_6, S0_7⟩, Hr0⟩
    have hD := storable_winD (F := F) c W0 (Ring.sl 2 t.val) (Ring.bk 32 t.val)
    imod (Transfers.batch_alloc' (Lvl := ℕ) countersEmb (c : Thread nD τ) default NN (winD c W0 (Ring.sl 2 t.val) (Ring.bk 32 t.val)) (sm := cellR (Ring.sl 2 t.val)) (E := Set.univ)) $$ Hc0 with HB
    clear hD
    ihave G := (Entails.of_eq (slot_split c (Ring.sl 2 (t.val + 1)) e1)) $$ He1
    icases G with ⟨E1_0, E1_1, E1_2, E1_3, E1_4, E1_5, E1_6, E1_7⟩
    ihave G := (copy_split c W0 (Ring.sl 2 (t.val + 1)) (Ring.bk 32 (t.val + 1))).1 $$ Hx1
    icases G with ⟨⟨S1_0, S1_1, S1_2, S1_3, S1_4, S1_5, S1_6, S1_7⟩, Hr1⟩
    have hD := storable_winD (F := F) c W0 (Ring.sl 2 (t.val + 1)) (Ring.bk 32 (t.val + 1))
    imod (Transfers.batch_alloc' (Lvl := ℕ) countersEmb (c : Thread nD τ) default NN (winD c W0 (Ring.sl 2 (t.val + 1)) (Ring.bk 32 (t.val + 1))) (sm := cellR (Ring.sl 2 (t.val + 1))) (E := Set.univ)) $$ Hc1 with HN
    clear hD
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc0 | sl_exact hc1 | sl_exact hc2)
    -- the eight strands have landed: from here on the slot is read whole
    ihave G := (slot_join c (Ring.sl 2 t.val) (landed c W0 (Ring.sl 2 t.val) (Ring.bk 32 t.val))) $$ [HB_dst0 HB_dst1 HB_dst2 HB_dst3 HB_dst4 HB_dst5 HB_dst6 HB_dst7]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      isplitl [HB_dst5]; · iexact HB_dst5
      isplitl [HB_dst6]; · iexact HB_dst6
      iexact HB_dst7
    icases G with ⟨%g, %hg, HS⟩
    sl_exec (disch := first | sl_exact hc0 | sl_exact hc1 | sl_exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _, _; isplitr; swap; · iexact H15
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [HB HS Hr0 HB_src0 HB_src1 HB_src2 HB_src3 HB_src4 HB_src5 HB_src6 HB_src7 HN Hr1]
    · isplitl [HN Hr1]
      · isplitl [HN]; · iexact HN
        iexact Hr1
      isplitl [HB]; · iexact HB
      isplitl [HS]; · iexists g; iexact HS
      iapply (copy_split c W0 (Ring.sl 2 t.val) (Ring.bk 32 t.val)).2
      isplitr [Hr0]; swap; · iexact Hr0
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      iexact HB_src7
    iexists _; iexact HW

end Cert.KernelIdeal.Mixer

end
-- ==== Proof.RunB.lean ====
/- The body's run in one of its four cases; see `run_B`. -/
module

public import proofs.«01_k».proof.Proof.RunA

@[expose] public section

-- rectangles of long axes are looked at once per coordinate
set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the run's proof term is large
set_option maxHeartbeats 8000000 in
/-- The body inside a batch row: the next block is started, this one waited for, the state carried over. -/
theorem run_B (c : Dev nD) (t : Fin cfg0.N) (arg3 : Memref sig .tc .vmem S1x6x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S1024x256 .bf16) (harg6 : arg6.IsWhole) (arg7 : Memref sig .tc .vmem S1x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x8x1024x128 .f32) (harg14 : arg14.IsWhole) (arg15 : Memref sig .tc .vmem S1x1024x1 .f32) (harg15 : arg15.IsWhole) (arg18 : Memref sig .tc .vmem S12x1024x128 .f32) (harg18 : arg18.IsWhole) (arg19 : Memref sig .tc .vmem S5x1024x128 .f32) (harg19 : arg19.IsWhole) (arg20 : Memref sig .tc .vmem S4x1024x128 .f32) (harg20 : arg20.IsWhole) (arg21 : Memref sig .tc .vmem S1024x1024 .bf16) (harg21 : arg21.IsWhole) (arg22 : Memref sig .tc .vmem S24x1024 .f32) (harg22 : arg22.IsWhole) (arg23 : Memref sig .tc .vmem S120x512 .f32) (harg23 : arg23.IsWhole) (arg24 : Memref sig .tc .vmem S4x128x256 .f32) (harg24 : arg24.IsWhole) (arg25 : Memref sig .tc .vmem S8x128 .f32) (harg25 : arg25.IsWhole)
    (hc0 : ¬cond0 (grid0.coords t)) (hc1 : cond1 (grid0.coords t)) (hc2 : ¬cond2 (grid0.coords t))
    (x3 : Vec F S1x6x1024 .f32) (x4 : Vec F S1x1024 .f32) (x5 : Vec F S1024x2560 .bf16) (x6 : Vec F S1024x256 .bf16) (x7 : Vec F S1x256 .f32) (x8 : Vec F S4x1024 .f32) (x9 : Vec F S1x1024 .f32) (x10 : Vec F S1x512 .f32) (x11 : Vec F S4x128x128 .bf16) (x12 : Vec F S1x512 .f32) (x13 : Vec F S1024x1024 .bf16) (W0 : HbBuf (F := F) c hbM) :
      ∀ (W : Waits sig Unit) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (flight c W0 (Ring.sl 2 t.val) (Ring.bk 32 t.val) ∗ free c W0 (Ring.sl 2 (t.val + 1))) ∗ owes (c : Thread nD τ) 0 W
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (flight c W0 (Ring.sl 2 (t.val + 1)) (Ring.bk 32 (t.val + 1)) ∗ free c W0 (Ring.sl 2 t.val)) ∗ (∃ W', owes (c : Thread nD τ) 0 W')) -∗ K ⟨⟩))
          ⊢ wp frame (wpE (defs₀ (F := F)) Variants.none c none) Set.univ (cc0_token_mixer (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 scM0 (Memref.isWhole_whole _) cc0_scratch1 arg18 harg18 arg19 harg19 arg20 harg20 arg21 harg21 arg22 harg22 arg23 harg23 arg24 harg24 arg25 harg25) K := by
    intro W K
    haveI : Fact (¬cond0 (grid0.coords t)) := ⟨hc0⟩
    haveI : Fact (cond1 (grid0.coords t)) := ⟨hc1⟩
    haveI : Fact (¬cond2 (grid0.coords t)) := ⟨hc2⟩
    simp only [cc0_token_mixer_eq_skeleton]; unfold cc0_token_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns flight free
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨⟨HB, Hr0⟩, ⟨Hc1, ⟨%e1, He1⟩, Hx1⟩⟩, HW, Hk⟩
    ihave G := (Entails.of_eq (slot_split c (Ring.sl 2 (t.val + 1)) e1)) $$ He1
    icases G with ⟨E1_0, E1_1, E1_2, E1_3, E1_4, E1_5, E1_6, E1_7⟩
    ihave G := (copy_split c W0 (Ring.sl 2 (t.val + 1)) (Ring.bk 32 (t.val + 1))).1 $$ Hx1
    icases G with ⟨⟨S1_0, S1_1, S1_2, S1_3, S1_4, S1_5, S1_6, S1_7⟩, Hr1⟩
    have hD := storable_winD (F := F) c W0 (Ring.sl 2 (t.val + 1)) (Ring.bk 32 (t.val + 1))
    imod (Transfers.batch_alloc' (Lvl := ℕ) countersEmb (c : Thread nD τ) default NN (winD c W0 (Ring.sl 2 (t.val + 1)) (Ring.bk 32 (t.val + 1))) (sm := cellR (Ring.sl 2 (t.val + 1))) (E := Set.univ)) $$ Hc1 with HN
    clear hD
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc0 | sl_exact hc1 | sl_exact hc2)
    -- the eight strands have landed: from here on the slot is read whole
    ihave G := (slot_join c (Ring.sl 2 t.val) (landed c W0 (Ring.sl 2 t.val) (Ring.bk 32 t.val))) $$ [HB_dst0 HB_dst1 HB_dst2 HB_dst3 HB_dst4 HB_dst5 HB_dst6 HB_dst7]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      isplitl [HB_dst5]; · iexact HB_dst5
      isplitl [HB_dst6]; · iexact HB_dst6
      iexact HB_dst7
    icases G with ⟨%g, %hg, HS⟩
    sl_exec (disch := first | sl_exact hc0 | sl_exact hc1 | sl_exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _, _; isplitr; swap; · iexact H15
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [HB HS Hr0 HB_src0 HB_src1 HB_src2 HB_src3 HB_src4 HB_src5 HB_src6 HB_src7 HN Hr1]
    · isplitl [HN Hr1]
      · isplitl [HN]; · iexact HN
        iexact Hr1
      isplitl [HB]; · iexact HB
      isplitl [HS]; · iexists g; iexact HS
      iapply (copy_split c W0 (Ring.sl 2 t.val) (Ring.bk 32 t.val)).2
      isplitr [Hr0]; swap; · iexact Hr0
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      iexact HB_src7
    iexists _; iexact HW

end Cert.KernelIdeal.Mixer

end
-- ==== Proof.RunD.lean ====
/- The body's run in one of its four cases; see `run_D`. -/
module

public import proofs.«01_k».proof.Proof.RunB

@[expose] public section

-- rectangles of long axes are looked at once per coordinate
set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the run's proof term is large
set_option maxHeartbeats 8000000 in
/-- The body at the last point: nothing is started, the last block waited for. -/
theorem run_D (c : Dev nD) (t : Fin cfg0.N) (arg3 : Memref sig .tc .vmem S1x6x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S1024x256 .bf16) (harg6 : arg6.IsWhole) (arg7 : Memref sig .tc .vmem S1x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x8x1024x128 .f32) (harg14 : arg14.IsWhole) (arg15 : Memref sig .tc .vmem S1x1024x1 .f32) (harg15 : arg15.IsWhole) (arg18 : Memref sig .tc .vmem S12x1024x128 .f32) (harg18 : arg18.IsWhole) (arg19 : Memref sig .tc .vmem S5x1024x128 .f32) (harg19 : arg19.IsWhole) (arg20 : Memref sig .tc .vmem S4x1024x128 .f32) (harg20 : arg20.IsWhole) (arg21 : Memref sig .tc .vmem S1024x1024 .bf16) (harg21 : arg21.IsWhole) (arg22 : Memref sig .tc .vmem S24x1024 .f32) (harg22 : arg22.IsWhole) (arg23 : Memref sig .tc .vmem S120x512 .f32) (harg23 : arg23.IsWhole) (arg24 : Memref sig .tc .vmem S4x128x256 .f32) (harg24 : arg24.IsWhole) (arg25 : Memref sig .tc .vmem S8x128 .f32) (harg25 : arg25.IsWhole)
    (hc0 : ¬cond0 (grid0.coords t)) (hc1 : ¬cond1 (grid0.coords t)) (hc2 : ¬cond2 (grid0.coords t))
    (x3 : Vec F S1x6x1024 .f32) (x4 : Vec F S1x1024 .f32) (x5 : Vec F S1024x2560 .bf16) (x6 : Vec F S1024x256 .bf16) (x7 : Vec F S1x256 .f32) (x8 : Vec F S4x1024 .f32) (x9 : Vec F S1x1024 .f32) (x10 : Vec F S1x512 .f32) (x11 : Vec F S4x128x128 .bf16) (x12 : Vec F S1x512 .f32) (x13 : Vec F S1024x1024 .bf16) (W0 : HbBuf (F := F) c hbM) :
      ∀ (W : Waits sig Unit) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (flight c W0 (Ring.sl 2 t.val) (Ring.bk 32 t.val) ∗ free c W0 (Ring.sl 2 (t.val + 1))) ∗ owes (c : Thread nD τ) 0 W
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (free c W0 (Ring.sl 2 (t.val + 1)) ∗ free c W0 (Ring.sl 2 t.val)) ∗ (∃ W', owes (c : Thread nD τ) 0 W')) -∗ K ⟨⟩))
          ⊢ wp frame (wpE (defs₀ (F := F)) Variants.none c none) Set.univ (cc0_token_mixer (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 scM0 (Memref.isWhole_whole _) cc0_scratch1 arg18 harg18 arg19 harg19 arg20 harg20 arg21 harg21 arg22 harg22 arg23 harg23 arg24 harg24 arg25 harg25) K := by
    intro W K
    haveI : Fact (¬cond0 (grid0.coords t)) := ⟨hc0⟩
    haveI : Fact (¬cond1 (grid0.coords t)) := ⟨hc1⟩
    haveI : Fact (¬cond2 (grid0.coords t)) := ⟨hc2⟩
    simp only [cc0_token_mixer_eq_skeleton]; unfold cc0_token_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns flight free
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨⟨HB, Hr0⟩, ⟨Hc1, ⟨%e1, He1⟩, Hx1⟩⟩, HW, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc0 | sl_exact hc1 | sl_exact hc2)
    -- the eight strands have landed: from here on the slot is read whole
    ihave G := (slot_join c (Ring.sl 2 t.val) (landed c W0 (Ring.sl 2 t.val) (Ring.bk 32 t.val))) $$ [HB_dst0 HB_dst1 HB_dst2 HB_dst3 HB_dst4 HB_dst5 HB_dst6 HB_dst7]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      isplitl [HB_dst5]; · iexact HB_dst5
      isplitl [HB_dst6]; · iexact HB_dst6
      iexact HB_dst7
    icases G with ⟨%g, %hg, HS⟩
    sl_exec (disch := first | sl_exact hc0 | sl_exact hc1 | sl_exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _, _; isplitr; swap; · iexact H15
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [HB HS Hr0 HB_src0 HB_src1 HB_src2 HB_src3 HB_src4 HB_src5 HB_src6 HB_src7 Hc1 He1 Hx1]
    · isplitl [Hc1 He1 Hx1]
      · isplitl [Hc1]; · iexact Hc1
        isplitl [He1]; · iexists e1; iexact He1
        iexact Hx1
      isplitl [HB]; · iexact HB
      isplitl [HS]; · iexists g; iexact HS
      iapply (copy_split c W0 (Ring.sl 2 t.val) (Ring.bk 32 t.val)).2
      isplitr [Hr0]; swap; · iexact Hr0
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      iexact HB_src7
    iexists _; iexact HW

end Cert.KernelIdeal.Mixer

end
-- ==== Proof.Frame.lean ====
/- One statement for the four cases of the body, the pipeline's proof data, the region's invariant and the launch. -/
module

public import proofs.«01_k».proof.Proof.RunD
public import proofs.«01_k».proof.Proof.Gen.KernelIdeal.Frame

@[expose] public section

-- rectangles of long axes are looked at once per coordinate
set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section ring
variable (c : Dev nD) (W0 : HbBuf (F := F) c hbM)

theorem ringAt_first (k : ℕ) (h : k = 0) : ringAt c W0 k = iprop(free c W0 (Ring.sl 2 k) ∗ free c W0 (Ring.sl 2 (k + 1))) := by
  subst h; rfl
theorem ringAt_mid (k : ℕ) (h0 : k ≠ 0) (h : k < 32) :
    ringAt c W0 k = iprop(flight c W0 (Ring.sl 2 k) (Ring.bk 32 k) ∗ free c W0 (Ring.sl 2 (k + 1))) := by
  unfold ringAt; rw [if_neg h0, if_pos h]
theorem ringAt_next (k : ℕ) (h : k < 31) :
    ringAt c W0 (k + 1) = iprop(flight c W0 (Ring.sl 2 (k + 1)) (Ring.bk 32 (k + 1)) ∗ free c W0 (Ring.sl 2 k)) := by
  rw [ringAt_mid c W0 (k + 1) (Nat.succ_ne_zero k) (by omega), show k + 1 + 1 = k + 2 from rfl, Ring.sl_add]
theorem ringAt_last (k : ℕ) (h : k = 31) : ringAt c W0 (k + 1) = iprop(free c W0 (Ring.sl 2 (k + 1)) ∗ free c W0 (Ring.sl 2 k)) := by
  subst h; rfl
end ring

theorem t_lt (t : Fin cfg0.N) : t.val < 32 := t.isLt

/-- The body at a point, the ring from before that point to before the next. -/
theorem run (c : Dev nD) (t : Fin cfg0.N) (arg3 : Memref sig .tc .vmem S1x6x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S1024x256 .bf16) (harg6 : arg6.IsWhole) (arg7 : Memref sig .tc .vmem S1x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x8x1024x128 .f32) (harg14 : arg14.IsWhole) (arg15 : Memref sig .tc .vmem S1x1024x1 .f32) (harg15 : arg15.IsWhole) (arg18 : Memref sig .tc .vmem S12x1024x128 .f32) (harg18 : arg18.IsWhole) (arg19 : Memref sig .tc .vmem S5x1024x128 .f32) (harg19 : arg19.IsWhole) (arg20 : Memref sig .tc .vmem S4x1024x128 .f32) (harg20 : arg20.IsWhole) (arg21 : Memref sig .tc .vmem S1024x1024 .bf16) (harg21 : arg21.IsWhole) (arg22 : Memref sig .tc .vmem S24x1024 .f32) (harg22 : arg22.IsWhole) (arg23 : Memref sig .tc .vmem S120x512 .f32) (harg23 : arg23.IsWhole) (arg24 : Memref sig .tc .vmem S4x128x256 .f32) (harg24 : arg24.IsWhole) (arg25 : Memref sig .tc .vmem S8x128 .f32) (harg25 : arg25.IsWhole)
    (x3 : Vec F S1x6x1024 .f32) (x4 : Vec F S1x1024 .f32) (x5 : Vec F S1024x2560 .bf16) (x6 : Vec F S1024x256 .bf16) (x7 : Vec F S1x256 .f32) (x8 : Vec F S4x1024 .f32) (x9 : Vec F S1x1024 .f32) (x10 : Vec F S1x512 .f32) (x11 : Vec F S4x128x128 .bf16) (x12 : Vec F S1x512 .f32) (x13 : Vec F S1024x1024 .bf16) (W0 : HbBuf (F := F) c hbM) :
      ∀ (W : Waits sig Unit) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ ringAt c W0 t.val ∗ owes (c : Thread nD τ) 0 W
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ ringAt c W0 (t.val + 1) ∗ (∃ W', owes (c : Thread nD τ) 0 W')) -∗ K ⟨⟩))
          ⊢ wp frame (wpE (defs₀ (F := F)) Variants.none c none) Set.univ (cc0_token_mixer (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 scM0 (Memref.isWhole_whole _) cc0_scratch1 arg18 harg18 arg19 harg19 arg20 harg20 arg21 harg21 arg22 harg22 arg23 harg23 arg24 harg24 arg25 harg25) K := by
  have hlt : t.val < 32 := t_lt t
  by_cases hc0 : cond0 (grid0.coords t)
  · have h0 : t.val = 0 := (hcond0 t).1 hc0
    rw [ringAt_first c W0 t.val h0, ringAt_next c W0 t.val (by omega)]
    exact run_A c t arg3 harg3 arg4 harg4 arg5 harg5 arg6 harg6 arg7 harg7 arg8 harg8 arg9 harg9 arg10 harg10 arg11 harg11 arg12 harg12 arg13 harg13 arg14 harg14 arg15 harg15 arg18 harg18 arg19 harg19 arg20 harg20 arg21 harg21 arg22 harg22 arg23 harg23 arg24 harg24 arg25 harg25 hc0 ((hcond1 t).2 (by omega)) ((hcond2 t).2 (by omega)) x3 x4 x5 x6 x7 x8 x9 x10 x11 x12 x13 W0
  · have h0 : t.val ≠ 0 := fun h => hc0 ((hcond0 t).2 h)
    by_cases hc1 : cond1 (grid0.coords t)
    · have h1 : t.val < 31 := (hcond1 t).1 hc1
      rw [ringAt_mid c W0 t.val h0 hlt, ringAt_next c W0 t.val h1]
      by_cases hc2 : cond2 (grid0.coords t)
      · exact run_C c t arg3 harg3 arg4 harg4 arg5 harg5 arg6 harg6 arg7 harg7 arg8 harg8 arg9 harg9 arg10 harg10 arg11 harg11 arg12 harg12 arg13 harg13 arg14 harg14 arg15 harg15 arg18 harg18 arg19 harg19 arg20 harg20 arg21 harg21 arg22 harg22 arg23 harg23 arg24 harg24 arg25 harg25 hc0 hc1 hc2 x3 x4 x5 x6 x7 x8 x9 x10 x11 x12 x13 W0
      · exact run_B c t arg3 harg3 arg4 harg4 arg5 harg5 arg6 harg6 arg7 harg7 arg8 harg8 arg9 harg9 arg10 harg10 arg11 harg11 arg12 harg12 arg13 harg13 arg14 harg14 arg15 harg15 arg18 harg18 arg19 harg19 arg20 harg20 arg21 harg21 arg22 harg22 arg23 harg23 arg24 harg24 arg25 harg25 hc0 hc1 hc2 x3 x4 x5 x6 x7 x8 x9 x10 x11 x12 x13 W0
    · have h1 : ¬t.val < 31 := fun h => hc1 ((hcond1 t).2 h)
      rw [ringAt_mid c W0 t.val h0 hlt, ringAt_last c W0 t.val (by omega)]
      exact run_D c t arg3 harg3 arg4 harg4 arg5 harg5 arg6 harg6 arg7 harg7 arg8 harg8 arg9 harg9 arg10 harg10 arg11 harg11 arg12 harg12 arg13 harg13 arg14 harg14 arg15 harg15 arg18 harg18 arg19 harg19 arg20 harg20 arg21 harg21 arg22 harg22 arg23 harg23 arg24 harg24 arg25 harg25 hc0 hc1 (fun h => by have := (hcond2 t).1 h; omega) x3 x4 x5 x6 x7 x8 x9 x10 x11 x12 x13 W0

variable (m : (ℓ : Loc nD τ sig) → Buf (Elt F) ℓ) (ρ : Dev nD → PrngReg)

/-! ## The launch's host part, at this certificate's algebra -/

/-- The host operations before the region, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The region's invariant before point `k`: the carried scratch at anything, the generator register, and the ring. -/
def Phi (c : Dev nD) (k : ℕ) : sProp 𝕄 :=
  iprop((∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ (∃ r, prngReg c r) ∗ ringAt c (V m c main_arg0) k)

/-- Nothing is stated of the two output windows. -/
def forgets0 : Fin 13 → Bool := fun w => w.val == 11 || w.val == 12

/-- The proof data: the arrays as the region finds them, the inputs' buffers left at their blocks. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
  Φ t := Phi m c t.val
  q _ := fullShare
  owed _ := 0

theorem A_eq (c : Dev nD) (w : Fin 13) : (dats m 0 c).A w = V m c (Pipeline.arrRef spec0 w) := by dsimp only [dats]
theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

/-! ## The body's obligation -/

abbrev ms0_0 (t : Fin cfg0.N) : Memref sig .tc .vmem S1x6x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2560 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x1024x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024x1 .f32 := win0_12.stage (cfg0.slots t 12)
abbrev hs0_12 (t : Fin cfg0.N) : (ms0_12 t).IsWhole := hstage0_12 ((cfg0.slots t 12).cast nbuf0_12)

def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare d) ∗ (∃ d, owns (c : Thread nD τ) (ms0_12 t) fullShare d))
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ (∃ d, owns (c : Thread nD τ) (ms0_11 t) fullShare d) ∗ (∃ d, owns (c : Thread nD τ) (ms0_12 t) fullShare d))

-- the body's arguments are the staging buffers of thirteen windows
set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [after0_0, after0_1, after0_2, after0_3, after0_4, after0_5, after0_6, after0_7, after0_8, after0_9, after0_10]
  rw [Phi_castSucc m c t, Phi_succ m c t]
  unfold Dat.owesAt Pipeline.owesWithin
  rw [show (dats m 0 c).owed t.castSucc = 0 from rfl, show (dats m 0 c).owed t.succ = 0 from rfl]
  unfold Phi
  iintro ⟨⟨HS1, HS2, HS3, HS4, HS5, HS6, HS7, HS8, Hg, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_arg0) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HR]; · iexact HR
  isplitl [HW]; · iexact HW
  iintro ⟨H0, H1, H2, H3, H4, H5, H6, H7, H8, H9, H10, H11, H12, HS1, HS2, HS3, HS4, HS5, HS6, HS7, HS8, HR, ⟨%W', HW'⟩⟩
  isplitl [HS1 HS2 HS3 HS4 HS5 HS6 HS7 HS8 Hg HR]
  · isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [Hg]; · iexact Hg
    iexact HR
  isplitl [HW']
  · iexists W'; isplitr
    · ipureintro; exact fun _ _ => Or.inl trivial
    · iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The region's two ends -/

theorem hbmPts0_eq (c : Dev nD) : (bigSep H0 (fun b => ((c : Thread nD τ).loc b) ↦{fullShare} V m c b) : sProp 𝕄) = hbPt c hbM (V m c main_arg0) := by
  rw [BI.bigSep_eq_bigSepL_of_eq [main_arg0] (by decide) (by decide)]; rfl

theorem PhiD0_eq (c : Dev nD) :
    (Pipeline.ΦD osem0 spec0 H0 (V m) c : sProp 𝕄)
      = iprop(((∃ e, hbPt c scM0 e) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d))
          ∗ (∃ r, prngReg c r) ∗ (semVal ((c : Thread nD τ), SemLoc.dma 16) 0 ∗ semVal ((c : Thread nD τ), SemLoc.dma 17) 0) ∗ hbPt c hbM (V m c main_arg0)) := by
  rw [Pipeline.ΦD_eq, scopedRest0_eq, ownSems0_eq, hbmPts0_eq]
  simp only [scM1, scM2, scM3, scM4, scM5, scM6, scM7, scM8, owns_whole]
  try rfl

theorem hin (c : Dev nD) : Pipeline.ΦD osem0 spec0 H0 (V m) c ⊢ (dats m 0 c).Φ 0 := by
  rw [PhiD0_eq, show (dats m 0 c).Φ 0 = Phi m c 0 from rfl]
  unfold Phi
  rw [show ringAt c (V m c main_arg0) 0 = iprop(free c (V m c main_arg0) 0 ∗ free c (V m c main_arg0) 1) from rfl]
  iintro ⟨⟨HE, HS1, HS2, HS3, HS4, HS5, HS6, HS7, HS8⟩, Hg, HC, HX⟩
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [Hg]; · iexact Hg
  iapply (ring_in c (V m c main_arg0))
  isplitl [HE]; · iexact HE
  isplitl [HC]; · iexact HC
  iexact HX

theorem hout (c : Dev nD) : (dats m 0 c).Φ (Fin.last cfg0.N) ⊢ Pipeline.ΦD osem0 spec0 H0 (V m) c := by
  rw [PhiD0_eq, show (dats m 0 c).Φ (Fin.last cfg0.N) = Phi m c grid0.N from rfl, show grid0.N = 32 by rw [N_0]]
  unfold Phi
  rw [show ringAt c (V m c main_arg0) 32 = iprop(free c (V m c main_arg0) 0 ∗ free c (V m c main_arg0) 1) from rfl]
  iintro ⟨HS1, HS2, HS3, HS4, HS5, HS6, HS7, HS8, Hg, HR⟩
  ihave G := (ring_out c (V m c main_arg0)) $$ HR
  icases G with ⟨HE, HC, HX⟩
  isplitl [HE HS1 HS2 HS3 HS4 HS5 HS6 HS7 HS8]
  · isplitl [HE]; · iexact HE
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  isplitl [Hg]; · iexact Hg
  isplitl [HC]; · iexact HC
  iexact HX

/-! ## The launch, and the frame -/

-- the conclusion's implicit arguments are found through plain definitions
set_option backward.isDefEq.respectTransparency.types false in
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every argument array ends as launched, and every semaphore counter at zero. -/
theorem frame_main : θ_run defs (onTc (τ := τ) (main (F := F))) ⟨m, fun _ => 0, ρ⟩
    (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 0 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 5 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩) (run_main m ρ)

end Cert.KernelIdeal.Mixer

end
-- ==== Proof.FfnSplit.lean ====
/- The body in phases; see `body_eq`. -/
module

public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first point loads both weights into VMEM. -/
noncomputable def headLoad (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) :
    Prog (TpuEff nD τ sig (Elt F) Λ₀ .tc) (PUnit) := do
  let arg0 : BitVec 32 := BitVec.ofNat 32 (i 0).val
  let arg1 : BitVec 32 := BitVec.ofNat 32 (i 1).val
  let v0 : BitVec 32 := Scalar.muli arg0 4#32
  let v1 : BitVec 32 := Scalar.addi v0 arg1
  let v2 : BitVec 1 := Scalar.cmpi .eq 2#32 0#32
  let v3 : BitVec 32 := Scalar.select v2 1#32 2#32
  let v4 : BitVec 32 := Scalar.remsi v1 v3
  let v5 : BitVec 1 := Scalar.cmpi .ne v4 0#32
  let v6 : BitVec 1 := Scalar.cmpi .slt v4 0#32
  let v7 : BitVec 1 := Scalar.cmpi .slt v3 0#32
  let v8 : BitVec 1 := Scalar.xori v6 v7
  let v9 : BitVec 1 := Scalar.andi v8 v5
  let v10 : BitVec 32 := Scalar.addi v4 v3
  let v11 : BitVec 32 := Scalar.select v9 v10 v4
  let v12 : BitVec 1 := Scalar.cmpi .eq v1 0#32
  let v13 : BitVec 32 := Scalar.extui v12
  let v14 : BitVec 1 := Scalar.cmpi .ne v13 0#32
  if k0_h1 : v14 = 1#1 then do
    k0_part1 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part2 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part3 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part4 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part5 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part6 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part7 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part8 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part9 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part10 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part11 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part12 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part13 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part14 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part15 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    k0_part16 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
    let v1613 : Vec F S1x256x1024 .f32 ← Prog.lift (.load arg15 (Rect.unit (s := S4x256x1024) ![2, 0, 0] S1x256x1024.size inb_S4x256x1024_S1x256x1024_2_0_0).toLoadRect (View.loadsAt_vmem h_S1x256x1024))
    let v1616 : Vec F S256x1024 .bf16 ← Prog.lift (.load arg13 (Rect.unit (s := S2816x1024) ![2560, 0] S256x1024.size inb_S2816x1024_S256x1024_2560_0).toLoadRect (View.loadsAt_vmem h_S256x1024))
    Prog.lift (.store arg13 (Rect.unit (s := S2816x1024) ![2560, 0] S256x1024.size inb_S2816x1024_S256x1024_2560_0) (k0_pay27 v1613) Finset.univ (View.stores_vmem h_S256x1024 (harg13.storeExact_slice rfl _ packedbf16_S2816x1024_S256x1024_2560_0) (fun _ => rfl)) (.inl rfl))
    pure ⟨⟩
  else do
    pure ⟨⟩

/-- From the third point on the slot's previous tile is waited for. -/
noncomputable def headWait (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) :
    Prog (TpuEff nD τ sig (Elt F) Λ₀ .tc) (PUnit) := do
  let arg0 : BitVec 32 := BitVec.ofNat 32 (i 0).val
  let arg1 : BitVec 32 := BitVec.ofNat 32 (i 1).val
  let v0 : BitVec 32 := Scalar.muli arg0 4#32
  let v1 : BitVec 32 := Scalar.addi v0 arg1
  let v2 : BitVec 1 := Scalar.cmpi .eq 2#32 0#32
  let v3 : BitVec 32 := Scalar.select v2 1#32 2#32
  let v4 : BitVec 32 := Scalar.remsi v1 v3
  let v5 : BitVec 1 := Scalar.cmpi .ne v4 0#32
  let v6 : BitVec 1 := Scalar.cmpi .slt v4 0#32
  let v7 : BitVec 1 := Scalar.cmpi .slt v3 0#32
  let v8 : BitVec 1 := Scalar.xori v6 v7
  let v9 : BitVec 1 := Scalar.andi v8 v5
  let v10 : BitVec 32 := Scalar.addi v4 v3
  let v11 : BitVec 32 := Scalar.select v9 v10 v4
  let v12 : BitVec 1 := Scalar.cmpi .eq v1 0#32
  let v13 : BitVec 32 := Scalar.extui v12
  let v14 : BitVec 1 := Scalar.cmpi .ne v13 0#32
  if k0_h2 : k0_cond2 i = 1#1 then do
    k0_part17 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v1
    k0_part18 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 k0_h2
    let v1256 : Memref sig .tc .hbm S1x128x1024 .f32 := arg11.slice (Rect.unit (s := S8x4096x1024) (k0_off2 i 640#32) S1x128x1024.size (k0_off2_inb i k0_h2 5)) (fun _ => rfl)
    let v1257 : Memref sig .tc .hbm S128x1024 .f32 := v1256.squeeze S128x1024 squeezes_S1x128x1024_S128x1024
    let v1258 : Memref sig .tc .vmem S1x128x1x1024 .f32 := arg18.slice (Rect.unit (s := S2x128x8x1024) (k0_off8 i) S1x128x1x1024.size (k0_off8_inb i k0_h2)) (fun _ => rfl)
    let v1259 : Memref sig .tc .vmem S128x1024 .f32 := v1258.squeeze S128x1024 squeezes_S1x128x1x1024_S128x1024
    let v1254 : DmaSems sig S1 := arg19.slice (Rect.unit (s := S2) (k0_off1 i) S1.size (k0_off1_inb i k0_h2))
    let v1255 : DmaSems sig S_ := v1254.squeeze S_ squeezes_S1_S_
    Prog.lift (.waitDma2 v1255.sem v1259 v1257 ((View.wordExact_bits rfl).reshape _ _) ((View.wordExact_bits rfl).reshape _ _))
    let v1260 : DmaSems sig S1 := arg19.slice (Rect.unit (s := S2) (k0_off1 i) S1.size (k0_off1_inb i k0_h2))
    let v1261 : DmaSems sig S_ := v1260.squeeze S_ squeezes_S1_S_
    let v1262 : Memref sig .tc .hbm S1x128x1024 .f32 := arg11.slice (Rect.unit (s := S8x4096x1024) (k0_off2 i 768#32) S1x128x1024.size (k0_off2_inb i k0_h2 6)) (fun _ => rfl)
    let v1263 : Memref sig .tc .hbm S128x1024 .f32 := v1262.squeeze S128x1024 squeezes_S1x128x1024_S128x1024
    let v1264 : Memref sig .tc .vmem S1x128x1x1024 .f32 := arg18.slice (Rect.unit (s := S2x128x8x1024) (k0_off9 i) S1x128x1x1024.size (k0_off9_inb i k0_h2)) (fun _ => rfl)
    let v1265 : Memref sig .tc .vmem S128x1024 .f32 := v1264.squeeze S128x1024 squeezes_S1x128x1x1024_S128x1024
    Prog.lift (.waitDma2 v1261.sem v1265 v1263 ((View.wordExact_bits rfl).reshape _ _) ((View.wordExact_bits rfl).reshape _ _))
    let v1266 : DmaSems sig S1 := arg19.slice (Rect.unit (s := S2) (k0_off1 i) S1.size (k0_off1_inb i k0_h2))
    let v1267 : DmaSems sig S_ := v1266.squeeze S_ squeezes_S1_S_
    let v1268 : Memref sig .tc .hbm S1x128x1024 .f32 := arg11.slice (Rect.unit (s := S8x4096x1024) (k0_off2 i 896#32) S1x128x1024.size (k0_off2_inb i k0_h2 7)) (fun _ => rfl)
    let v1269 : Memref sig .tc .hbm S128x1024 .f32 := v1268.squeeze S128x1024 squeezes_S1x128x1024_S128x1024
    let v1270 : Memref sig .tc .vmem S1x128x1x1024 .f32 := arg18.slice (Rect.unit (s := S2x128x8x1024) (k0_off10 i) S1x128x1x1024.size (k0_off10_inb i k0_h2)) (fun _ => rfl)
    let v1271 : Memref sig .tc .vmem S128x1024 .f32 := v1270.squeeze S128x1024 squeezes_S1x128x1x1024_S128x1024
    Prog.lift (.waitDma2 v1267.sem v1271 v1269 ((View.wordExact_bits rfl).reshape _ _) ((View.wordExact_bits rfl).reshape _ _))
    pure ⟨⟩
  else do
    pure ⟨⟩

/-- A batch row's first tile starts from zero history. -/
noncomputable def headZero (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) :
    Prog (TpuEff nD τ sig (Elt F) Λ₀ .tc) (PUnit) := do
  let arg1 : BitVec 32 := BitVec.ofNat 32 (i 1).val
  let v18 : BitVec 1 := Scalar.cmpi .eq arg1 0#32
  let v19 : BitVec 32 := Scalar.extui v18
  let v20 : BitVec 1 := Scalar.cmpi .ne v19 0#32
  if k0_h3 : v20 = 1#1 then do
    let v1188 : Vec F S16x5632 .f32 ← Prog.lift (.load arg20 (Rect.unit (s := S16x5632) ![0, 0] S16x5632.size inb_S16x5632_S16x5632_0_0).toLoadRect (View.loadsAt_vmem h_S16x5632))
    Prog.lift (.store arg20 (Rect.unit (s := S16x5632) ![0, 0] S16x5632.size inb_S16x5632_S16x5632_0_0) (k0_pay28 (F := F)) Finset.univ (View.stores_vmem_bits_univ h_S16x5632 rfl) (.inl rfl))
    pure ⟨⟩
  else do
    pure ⟨⟩

/-- The loads the middle begins with. -/
noncomputable def startP (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) :
    Prog (TpuEff nD τ sig (Elt F) Λ₀ .tc) (Σ' (v1 : BitVec 32) (v11 : BitVec 32) (v22 : FVec F S1024x128 .f32) (v24 : FVec F S1024x128 .f32), FVec F S1024x128 .f32) := do
  let arg0 : BitVec 32 := BitVec.ofNat 32 (i 0).val
  let arg1 : BitVec 32 := BitVec.ofNat 32 (i 1).val
  let v0 : BitVec 32 := Scalar.muli arg0 4#32
  let v1 : BitVec 32 := Scalar.addi v0 arg1
  let v2 : BitVec 1 := Scalar.cmpi .eq 2#32 0#32
  let v3 : BitVec 32 := Scalar.select v2 1#32 2#32
  let v4 : BitVec 32 := Scalar.remsi v1 v3
  let v5 : BitVec 1 := Scalar.cmpi .ne v4 0#32
  let v6 : BitVec 1 := Scalar.cmpi .slt v4 0#32
  let v7 : BitVec 1 := Scalar.cmpi .slt v3 0#32
  let v8 : BitVec 1 := Scalar.xori v6 v7
  let v9 : BitVec 1 := Scalar.andi v8 v5
  let v10 : BitVec 32 := Scalar.addi v4 v3
  let v11 : BitVec 32 := Scalar.select v9 v10 v4
  let v21 : Vec F S1x1x1024x128 .f32 ← Prog.lift (.load arg2 (Rect.unit (s := S1x8x1024x128) ![0, 0, 0, 0] S1x1x1024x128.size inb_S1x8x1024x128_S1x1x1024x128_0_0_0_0).toLoadRect (View.loadsAt_vmem h_S1x1x1024x128))
  let v23 : Vec F S1x1x1024x128 .f32 ← Prog.lift (.load arg2 (Rect.unit (s := S1x8x1024x128) ![0, 1, 0, 0] S1x1x1024x128.size inb_S1x8x1024x128_S1x1x1024x128_0_1_0_0).toLoadRect (View.loadsAt_vmem h_S1x1x1024x128))
  let v25 : Vec F S1x1x1024x128 .f32 ← Prog.lift (.load arg2 (Rect.unit (s := S1x8x1024x128) ![0, 2, 0, 0] S1x1x1024x128.size inb_S1x8x1024x128_S1x1x1024x128_0_2_0_0).toLoadRect (View.loadsAt_vmem h_S1x1x1024x128))
  pure ⟨v1, v11, k0_pay29 v21, k0_pay30 v23, k0_pay31 v25⟩

/-- The middle: what the tile computes, from the loaded tile to its rows in the slot. -/
noncomputable def midP (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) :
    Prog (TpuEff nD τ sig (Elt F) Λ₀ .tc) (Σ' (v1 : BitVec 32) (v11 : BitVec 32) (c4_i32_665 : BitVec 32) (v1100 : BitVec 32) (v1105 : BitVec 32) (v1107 : BitVec 32), BitVec 1) := do
  let ⟨v1, v11, v22, v24, v26⟩ : Σ' (v1 : BitVec 32) (v11 : BitVec 32) (v22 : FVec F S1024x128 .f32) (v24 : FVec F S1024x128 .f32), FVec F S1024x128 .f32 ← startP i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
  let ⟨v39, v41, v43, v52, v53⟩ : Σ' (v39 : FVec F S1x1024 .f32) (v41 : FVec F S1x1024 .f32) (v43 : FVec F S1x1024 .f32) (v52 : FVec F S1024x1024 .f32), Vec F S1x1024 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v22 v24 v26
  let ⟨v62, v80, v93⟩ : Σ' (v62 : FVec F S1024x1024 .bf16) (v80 : FVec F S1040x256 .f32), FVec F S1024x256 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v39 v41 v52 v53
  let ⟨v98, v116, v129, v130⟩ : Σ' (v98 : FVec F S1024x256 .f32) (v116 : FVec F S1040x256 .f32) (v129 : FVec F S1024x256 .f32), Vec F S1x256 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v80 v93
  let ⟨v159, v167, v168⟩ : Σ' (v159 : FVec F S1040x256 .f32) (v167 : FVec F S1024x256 .f32), Vec F S1x256 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v98 v116 v129 v130
  let ⟨v177, v195, v203, v207⟩ : Σ' (v177 : FVec F S1024x256 .f32) (v195 : FVec F S1040x256 .f32) (v203 : FVec F S1024x256 .f32), FVec F S1024x256 .f32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v159 v167 v168
  let ⟨v238, v244, v245⟩ : Σ' (v238 : FVec F S1040x256 .f32) (v244 : FVec F S1024x256 .f32), FVec F S1024x256 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v177 v195 v203 v207
  let ⟨v256, v274, v282⟩ : Σ' (v256 : FVec F S1024x256 .f32) (v274 : FVec F S1040x256 .f32), FVec F S1024x256 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v238 v244 v245
  let ⟨v317, v319, v320⟩ : Σ' (v317 : FVec F S1040x256 .f32) (v319 : FVec F S1x256 .f32), Vec F S1x256 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v256 v274 v282
  let ⟨v335, v353, v355, v359⟩ : Σ' (v335 : FVec F S1024x256 .f32) (v353 : FVec F S1040x256 .f32) (v355 : FVec F S1x256 .f32), FVec F S1024x256 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v317 v319 v320
  let ⟨v396, v397⟩ : Σ' (v396 : FVec F S1040x256 .f32), Vec F S1x256 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v335 v353 v355 v359
  let ⟨v414, v432, v434⟩ : Σ' (v414 : FVec F S1024x256 .f32) (v432 : FVec F S1040x256 .f32), FVec F S1x256 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v396 v397
  let ⟨v459, v466, v470⟩ : Σ' (v459 : FVec F S1024x256 .f32) (v466 : FVec F S8x256 .f32), FVec F S8x256 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v414 v432 v434
  let ⟨v493, v511⟩ : Σ' (v493 : FVec F S1024x256 .f32), FVec F S1040x256 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v459 v466 v470
  let ⟨v538, v545, v549, v550⟩ : Σ' (v538 : FVec F S1024x256 .f32) (v545 : FVec F S8x256 .f32) (v549 : FVec F S8x256 .f32), FVec F S16x256 .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v493 v511
  let ⟨v572, v574, v581, v585, v589⟩ : Σ' (v572 : FVec F S1024x256 .f32) (v574 : FVec F S1024x256 .f32) (v581 : FVec F S8x256 .f32) (v585 : FVec F S8x256 .f32), FVec F S16x256 .f32 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v538 v545 v549 v550
  let ⟨v617, v624, v627, c1_i32_336⟩ : Σ' (v617 : FVec F S1024x256 .f32) (v624 : FVec F S8x256 .f32) (v627 : Vec F S8x256 .f32), BitVec 32 ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v572 v574 v581 v585 v589
  let ⟨v651, v653, v660, v664, v665⟩ : Σ' (v651 : FVec F S1024x256 .f32) (v653 : FVec F S1024x256 .f32) (v660 : FVec F S8x256 .f32) (v664 : FVec F S8x256 .f32), FVec F S16x256 .f32 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v617 v624 v627 c1_i32_336
  let ⟨v696, v699, v703, v704⟩ : Σ' (v696 : FVec F S1024x256 .f32) (v699 : IVec S8x256 1) (v703 : FVec F S8x256 .f32), FVec F S8x256 .f32 ← k0_part42 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v651 v653 v660 v664 v665
  let ⟨v730, v732, v739, v742⟩ : Σ' (v730 : FVec F S1024x256 .f32) (v732 : FVec F S1024x256 .f32) (v739 : FVec F S8x256 .f32), Vec F S8x256 .f32 ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v696 v699 v703 v704
  let ⟨v775, v778, v781⟩ : Σ' (v775 : FVec F S1024x256 .f32) (v778 : IVec S8x256 1), Vec F S8x256 .f32 ← k0_part44 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v730 v732 v739 v742
  let ⟨v809, v811, v814, v818, v819⟩ : Σ' (v809 : FVec F S1024x256 .f32) (v811 : FVec F S1024x256 .f32) (v814 : IVec S8x256 1) (v818 : FVec F S8x256 .f32), FVec F S8x256 .f32 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v775 v778 v781
  let ⟨v854, v857, v858⟩ : Σ' (v854 : FVec F S1024x256 .f32) (v857 : IVec S8x256 1), FVec F S8x256 .f32 ← k0_part46 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v809 v811 v814 v818 v819
  let ⟨v888, v890, v893, v894, v895⟩ : Σ' (v888 : FVec F S1024x256 .f32) (v890 : FVec F S1024x256 .f32) (v893 : IVec S8x256 1) (v894 : FVec F S8x256 .f32), Vec F S8x256 .f32 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v854 v857 v858
  let ⟨v932, v933⟩ : Σ' (v932 : Vec F S256x2816 .bf16), Vec F S2816x1024 .bf16 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v888 v890 v893 v894 v895
  let ⟨v954, v957, v958⟩ : Σ' (v954 : FVec F S256x1024 .f32) (v957 : FVec F S256x1 .f32), FVec F S256x1 .f32 ← k0_part49 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v43 v932 v933
  let ⟨v976, v978, v980, v982, v984, v986⟩ : Σ' (v976 : FVec F S256x1024 .f32) (v978 : FVec F S256x128 .f32) (v980 : FVec F S256x128 .f32) (v982 : FVec F S256x128 .f32) (v984 : FVec F S256x128 .f32), FVec F S256x128 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v11 v954 v957 v958
  let v1018 : FVec F S256x1024 .f32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v11 v43 v976 v978 v980 v982 v984 v986
  let ⟨v1038, v1045⟩ : Σ' (v1038 : FVec F S256x1024 .f32), FVec F S256x1 .f32 ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v43 v1018
  let ⟨v1060, v1062, v1064, v1066, v1068, v1070⟩ : Σ' (v1060 : FVec F S256x1024 .f32) (v1062 : FVec F S256x128 .f32) (v1064 : FVec F S256x128 .f32) (v1066 : FVec F S256x128 .f32) (v1068 : FVec F S256x128 .f32), FVec F S256x128 .f32 ← k0_part53 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v11 v1038 v1045
  let ⟨c4_i32_665, v1100, v1105, v1107, v1108⟩ : Σ' (c4_i32_665 : BitVec 32) (v1100 : BitVec 32) (v1105 : BitVec 32) (v1107 : BitVec 32), BitVec 1 ← k0_part54 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v1 v11 v43 v1060 v1062 v1064 v1066 v1068 v1070
  pure ⟨v1, v11, c4_i32_665, v1100, v1105, v1107, v1108⟩

/-- The tile's rows are sent to HBM. -/
noncomputable def sendP (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) (v1 : BitVec 32) (v11 : BitVec 32) (c4_i32_665 : BitVec 32) (v1100 : BitVec 32) (v1105 : BitVec 32) (v1107 : BitVec 32) (v1108 : BitVec 1) :
    Prog (TpuEff nD τ sig (Elt F) Λ₀ .tc) (PUnit) := do
  k0_part55 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v1 c4_i32_665 v1100 v1105 v1107 v1108
  k0_part56 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
  let v1172 : DmaSems sig S1 := arg19.slice (Rect.unit (s := S2) (k0_off15 i) S1.size (k0_off15_inb i))
  let v1173 : DmaSems sig S_ := v1172.squeeze S_ squeezes_S1_S_
  let v1174 : Memref sig .tc .hbm S1x128x1024 .f32 := arg11.slice (Rect.unit (s := S8x4096x1024) (k0_off16 i 768#32) S1x128x1024.size (k0_off16_inb i 6)) (fun _ => rfl)
  let v1175 : Memref sig .tc .hbm S128x1024 .f32 := v1174.squeeze S128x1024 squeezes_S1x128x1024_S128x1024
  let v1176 : Memref sig .tc .vmem S1x128x1x1024 .f32 := arg18.slice (Rect.unit (s := S2x128x8x1024) (k0_off23 i) S1x128x1x1024.size (k0_off23_inb i)) (fun _ => rfl)
  let v1177 : Memref sig .tc .vmem S128x1024 .f32 := v1176.squeeze S128x1024 squeezes_S1x128x1x1024_S128x1024
  Prog.lift (.enqueueDma v1177 (.here v1175) (.dma v1173.sem) ((View.wordExact_bits rfl).reshape _ _) ((View.wordExact_bits rfl).reshape _ _) ⟨Or.inl rfl, trivial⟩)
  let v1178 : DmaSems sig S1 := arg19.slice (Rect.unit (s := S2) (k0_off15 i) S1.size (k0_off15_inb i))
  let v1179 : DmaSems sig S_ := v1178.squeeze S_ squeezes_S1_S_
  let v1180 : Memref sig .tc .hbm S1x128x1024 .f32 := arg11.slice (Rect.unit (s := S8x4096x1024) (k0_off16 i 896#32) S1x128x1024.size (k0_off16_inb i 7)) (fun _ => rfl)
  let v1181 : Memref sig .tc .hbm S128x1024 .f32 := v1180.squeeze S128x1024 squeezes_S1x128x1024_S128x1024
  let v1182 : Memref sig .tc .vmem S1x128x1x1024 .f32 := arg18.slice (Rect.unit (s := S2x128x8x1024) (k0_off24 i) S1x128x1x1024.size (k0_off24_inb i)) (fun _ => rfl)
  let v1183 : Memref sig .tc .vmem S128x1024 .f32 := v1182.squeeze S128x1024 squeezes_S1x128x1x1024_S128x1024
  Prog.lift (.enqueueDma v1183 (.here v1181) (.dma v1179.sem) ((View.wordExact_bits rfl).reshape _ _) ((View.wordExact_bits rfl).reshape _ _) ⟨Or.inl rfl, trivial⟩)
  pure ⟨⟩

/-- The last point waits for what is outstanding. -/
noncomputable def lastP (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) (v1 : BitVec 32) (v11 : BitVec 32) :
    Prog (TpuEff nD τ sig (Elt F) Λ₀ .tc) (PUnit) := do
  if k0_h4 : k0_cond4 i = 1#1 then do
    k0_part23 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v1 v11 k0_h4
    pure ⟨⟩
  else do
    pure ⟨⟩
  pure ⟨⟩

/-- The body is its phases in order. -/
theorem body_eq (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) :
    cc0_channel_mixer_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
      = (do
          headLoad i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
          headWait i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
          headZero i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
          let ⟨v1, v11, c4_i32_665, v1100, v1105, v1107, v1108⟩ ← midP i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
          sendP i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v1 v11 c4_i32_665 v1100 v1105 v1107 v1108
          lastP i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v1 v11) := by
  unfold cc0_channel_mixer_skel
  simp only [k0_part24_eq_skeleton]
  unfold k0_part24_skel headLoad headWait headZero midP startP sendP lastP
  dsimp only
  split <;> split <;> split <;> simp only [bind_assoc, pure_bind]

end Cert.FfnIdeal.Mlp

end
-- ==== Proof.FfnRing.lean ====
/-
The channel mixer's output ring, by hand: a tile's 1024 result rows are written into one of the two slots of
`cc0_scratch6` and sent to HBM as eight strands of 128 rows, one transfer each, all counted on the slot's own cell; the
slot's transfers are waited for two tiles later. This module names the pieces, shows how a slot and a tile of the result
split into their strands, names the contents (`slotBuf`, `outBuf`), and gives the closed forms of the body's offsets.
-/
module

public import proofs.«01_k».proof.Proof.FfnSplit
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

instance : NeZero grid0.N := ⟨by rw [N_0]; decide⟩

/-! ## The body's four conditions, in the point -/

abbrev cond1 (i : grid0.Coords) : Prop :=
  (Scalar.cmpi .ne (Scalar.extui (Scalar.cmpi .eq (Scalar.addi (Scalar.muli (BitVec.ofNat 32 (i 0).val) 4#32) (BitVec.ofNat 32 (i 1).val)) 0#32)) 0#32) = 1#1
abbrev cond2 (i : grid0.Coords) : Prop := k0_cond2 i = 1#1
abbrev cond3 (i : grid0.Coords) : Prop :=
  (Scalar.cmpi .ne (Scalar.extui (Scalar.cmpi .eq (BitVec.ofNat 32 (i 1).val) 0#32)) 0#32) = 1#1
abbrev cond4 (i : grid0.Coords) : Prop := k0_cond4 i = 1#1

/-- The weights are loaded at the first point. -/
theorem hcond1 : ∀ t : Fin cfg0.N, cond1 (grid0.coords t) ↔ t.val = 0 :=
  (by decide +kernel : ∀ t : Fin grid0.N, cond1 (grid0.coords t) ↔ t.val = 0)
/-- A slot is waited for from the third point on. -/
theorem hcond2 : ∀ t : Fin cfg0.N, cond2 (grid0.coords t) ↔ 2 ≤ t.val :=
  (by decide +kernel : ∀ t : Fin grid0.N, cond2 (grid0.coords t) ↔ 2 ≤ t.val)
/-- The history is zeroed at a batch row's first tile. -/
theorem hcond3 : ∀ t : Fin cfg0.N, cond3 (grid0.coords t) ↔ t.val % 4 = 0 :=
  (by decide +kernel : ∀ t : Fin grid0.N, cond3 (grid0.coords t) ↔ t.val % 4 = 0)
/-- What is outstanding is waited for at the last point. -/
theorem hcond4 : ∀ t : Fin cfg0.N, cond4 (grid0.coords t) ↔ t.val = 31 :=
  (by decide +kernel : ∀ t : Fin grid0.N, cond4 (grid0.coords t) ↔ t.val = 31)

/-! ## The memrefs -/

/-- The two weights in VMEM, their staging rings, the activations, the two output slots, the history. -/
abbrev scU : Memref sig .tc .vmem S1024x5632 .bf16 := Memref.whole cc0_scratch0
abbrev scD : Memref sig .tc .vmem S2816x1024 .bf16 := Memref.whole cc0_scratch1
abbrev scSU : Memref sig .tc .vmem S4x64x5632 .f32 := Memref.whole cc0_scratch2
abbrev scSD : Memref sig .tc .vmem S4x256x1024 .f32 := Memref.whole cc0_scratch3
abbrev scA : Memref sig .tc .vmem S1024x2816 .bf16 := Memref.whole cc0_scratch5
abbrev scO : Memref sig .tc .vmem S2x128x8x1024 .f32 := Memref.whole cc0_scratch6
abbrev scT : Memref sig .tc .vmem S16x5632 .f32 := Memref.whole cc0_scratch8
/-- The operands left in HBM: the weights and the result. -/
abbrev hbU : Memref sig .tc .hbm S1024x5632 .f32 := Memref.whole main_arg3
abbrev hbD : Memref sig .tc .hbm S2816x1024 .f32 := Memref.whole main_arg6
abbrev hbO : Memref sig .tc .hbm S8x4096x1024 .f32 := Memref.whole main_v12

/-- The contents of memref `M`'s buffer on core `c`, and that buffer held whole. -/
abbrev HbBuf (c : Dev nD) {sp : Space} {S : Shape} {e : EltTy} (M : Memref sig .tc sp S e) : Type :=
  Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- A slot's shape. -/
abbrev S1x128x8x1024 : Shape := ⟨4, ![1, 128, 8, 1024]⟩

theorem inb_win (s : Fin 2) (w : Fin 8) : ∀ a, (![s.val, 0, w.val, 0] : Fin 4 → Nat) a + S1x128x1x1024.size a ≤ S2x128x8x1024.size a := by
  have := s.isLt; have := w.isLt; intro a; fin_cases a <;> simp <;> omega
theorem inb_slot (s : Fin 2) : ∀ a, (![s.val, 0, 0, 0] : Fin 4 → Nat) a + S1x128x8x1024.size a ≤ S2x128x8x1024.size a := by
  have := s.isLt; intro a; fin_cases a <;> simp <;> omega
theorem inb_cell (s : Fin 2) : ∀ a, (![s.val] : Fin 1 → Nat) a + S1.size a ≤ S2.size a := by
  have := s.isLt; intro a; fin_cases a <;> simp <;> omega
theorem inb_dst (b : Fin 32) (w : Fin 8) : ∀ a, (![b.val / 4, 1024 * (b.val % 4) + 128 * w.val, 0] : Fin 3 → Nat) a + S1x128x1024.size a ≤ S8x4096x1024.size a := by
  have := b.isLt; have := w.isLt; intro a; fin_cases a <;> simp <;> omega

/-- Strand `w` of slot `s`: what one transfer sends. -/
def rwin (s : Fin 2) (w : Fin 8) : Memref sig .tc .vmem S128x1024 .f32 :=
  (scO.slice (Rect.unit (s := S2x128x8x1024) ![s.val, 0, w.val, 0] S1x128x1x1024.size (inb_win s w)) (fun _ => rfl)).squeeze S128x1024 squeezes_S1x128x1x1024_S128x1024
/-- Slot `s` whole. -/
def rslot (s : Fin 2) : Memref sig .tc .vmem S1x128x8x1024 .f32 :=
  scO.slice (Rect.unit (s := S2x128x8x1024) ![s.val, 0, 0, 0] S1x128x8x1024.size (inb_slot s)) (fun _ => rfl)
/-- Strand `w` of tile `b` of the result: rows `1024 (b % 4) + 128 w` on of batch row `b / 4`. -/
def dstB (b : Fin 32) (w : Fin 8) : Memref sig .tc .hbm S128x1024 .f32 :=
  (hbO.slice (Rect.unit (s := S8x4096x1024) ![b.val / 4, 1024 * (b.val % 4) + 128 * w.val, 0] S1x128x1024.size (inb_dst b w)) (fun _ => rfl)).squeeze S128x1024 squeezes_S1x128x1024_S128x1024
/-- Slot `s`'s semaphore cell. -/
def cellA (s : Fin 2) : DmaSems sig S_ :=
  (cc0_scratch7.slice (Rect.unit (s := S2) ![s.val] S1.size (inb_cell s))).squeeze S_ squeezes_S1_S_
abbrev cellR (s : Fin 2) : SemLoc sig := SemLoc.dma (cellA s).sem

theorem cellR_0 : cellR 0 = SemLoc.dma 14 := by decide
theorem cellR_1 : cellR 1 = SemLoc.dma 15 := by decide

/-- The body's own semaphores: none is a window's. -/
abbrev osem0 : Fin 6 → SemLoc sig := fun j => (![SemLoc.dma 10, SemLoc.dma 11, SemLoc.dma 12, SemLoc.dma 13, SemLoc.dma 14, SemLoc.dma 15] : Fin 6 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0
          ∗ semVal ((c : Thread nD τ), SemLoc.dma 14) 0 ∗ semVal ((c : Thread nD τ), SemLoc.dma 15) 0) := by
  rw [Pipeline.ownSems0_eq_of_list c osem0 [0, 1, 2, 3, 4, 5] (by decide) (by decide)]; rfl
/-- The HBM operands the body reads, and the one it writes: unscoped, no window's array. -/
def H0 : Finset (Ref sig .tc) := {main_arg3, main_arg6}
def R0 : Finset (Ref sig .tc) := {main_v12}
theorem H0_sub : H0 ⊆ Pipeline.restRefs sig spec0 := by decide
theorem R0_sub : R0 ⊆ Pipeline.restRefs sig spec0 \ H0 := by decide

/-! ## Element sets: a slot is its strands, the result is its tiles, a tile its strands -/

abbrev winSet (s : Fin 2) (w : Fin 8) : Finset S2x128x8x1024.Idx :=
  (Rect.unit (s := S2x128x8x1024) ![s.val, 0, w.val, 0] S1x128x1x1024.size (inb_win s w)).set
abbrev slotSet (s : Fin 2) : Finset S2x128x8x1024.Idx :=
  (Rect.unit (s := S2x128x8x1024) ![s.val, 0, 0, 0] S1x128x8x1024.size (inb_slot s)).set
abbrev dstSet (b : Fin 32) (w : Fin 8) : Finset S8x4096x1024.Idx :=
  (Rect.unit (s := S8x4096x1024) ![b.val / 4, 1024 * (b.val % 4) + 128 * w.val, 0] S1x128x1024.size (inb_dst b w)).set

theorem rwin_set (s : Fin 2) (w : Fin 8) : (rwin s w).view.set = winSet s w := by
  simp only [rwin, Memref.view_squeeze, View.set_reshape]; exact View.set_slice_whole _ _
theorem rslot_set (s : Fin 2) : (rslot s).view.set = slotSet s := View.set_slice_whole _ _
theorem dstB_set (b : Fin 32) (w : Fin 8) : (dstB b w).view.set = dstSet b w := by
  simp only [dstB, Memref.view_squeeze, View.set_reshape]; exact View.set_slice_whole _ _

theorem mem_winSet (s : Fin 2) (w : Fin 8) (i : S2x128x8x1024.Idx) : i ∈ winSet s w ↔ (i 0).val = s.val ∧ (i 2).val = w.val := by
  have h1 : (i 1).val < 128 := (i 1).isLt
  have h3 : (i 3).val < 1024 := (i 3).isLt
  rw [Rect.mem_set_unit]
  constructor
  · intro h
    have a := h 0; have b := h 2
    simp at a b; omega
  · rintro ⟨a, b⟩ k
    fin_cases k <;> simp <;> omega
theorem mem_slotSet (s : Fin 2) (i : S2x128x8x1024.Idx) : i ∈ slotSet s ↔ (i 0).val = s.val := by
  have h1 : (i 1).val < 128 := (i 1).isLt
  have h2 : (i 2).val < 8 := (i 2).isLt
  have h3 : (i 3).val < 1024 := (i 3).isLt
  rw [Rect.mem_set_unit]
  constructor
  · intro h
    have a := h 0
    simp at a; omega
  · rintro a k
    fin_cases k <;> simp <;> omega

theorem win_disjoint (s : Fin 2) (w w' : Fin 8) (h : w ≠ w') : Disjoint (winSet s w) (winSet s w') :=
  Finset.disjoint_left.2 fun i hi hi' => h (Fin.ext (((mem_winSet s w i).1 hi).2.symm.trans ((mem_winSet s w' i).1 hi').2))
theorem win_cover (s : Fin 2) : Finset.univ.biUnion (winSet s) = slotSet s := by
  ext i
  simp only [Finset.mem_biUnion, Finset.mem_univ, true_and, mem_winSet, mem_slotSet]
  exact ⟨fun ⟨_, h, _⟩ => h, fun h => ⟨i 2, h, rfl⟩⟩
theorem slot_disjoint (s s' : Fin 2) (h : s ≠ s') : Disjoint (slotSet s) (slotSet s') :=
  Finset.disjoint_left.2 fun i hi hi' => h (Fin.ext (((mem_slotSet s i).1 hi).symm.trans ((mem_slotSet s' i).1 hi')))
theorem slot_cover (c : Dev nD) : Finset.univ.biUnion slotSet = (Finset.univ : Finset (Idx ((c : Thread nD τ).loc cc0_scratch6))) :=
  Finset.eq_univ_iff_forall.2 fun i => Finset.mem_biUnion.2 ⟨(i : S2x128x8x1024.Idx) 0, Finset.mem_univ _, (mem_slotSet _ i).2 rfl⟩

/-- The tile an element of the result lies in. -/
def tileOf (i : S8x4096x1024.Idx) : ℕ := 4 * (i 0).val + (i 1).val / 1024
theorem tileOf_lt (i : S8x4096x1024.Idx) : tileOf i < 32 := by
  have h0 : (i 0).val < 8 := (i 0).isLt
  have h1 : (i 1).val < 4096 := (i 1).isLt
  unfold tileOf; omega
def blockSet (n : ℕ) : Finset S8x4096x1024.Idx := Finset.univ.filter fun i => tileOf i = n
def doneSet (n : ℕ) : Finset S8x4096x1024.Idx := Finset.univ.filter fun i => tileOf i < n
def restSet (n : ℕ) : Finset S8x4096x1024.Idx := Finset.univ.filter fun i => n ≤ tileOf i

theorem mem_dstSet (b : Fin 32) (w : Fin 8) (i : S8x4096x1024.Idx) : i ∈ dstSet b w ↔ tileOf i = b.val ∧ (i 1).val / 128 % 8 = w.val := by
  have h0 : (i 0).val < 8 := (i 0).isLt
  have h1 : (i 1).val < 4096 := (i 1).isLt
  have h2 : (i 2).val < 1024 := (i 2).isLt
  have := b.isLt; have := w.isLt
  unfold tileOf
  rw [Rect.mem_set_unit]
  constructor
  · intro h
    have a0 := h 0; have a1 := h 1
    simp at a0 a1
    omega
  · rintro ⟨e0, e1⟩ a
    fin_cases a <;> simp <;> omega
theorem dst_disjoint (b : Fin 32) (w w' : Fin 8) (h : w ≠ w') : Disjoint (dstSet b w) (dstSet b w') :=
  Finset.disjoint_left.2 fun i hi hi' => h (Fin.ext (((mem_dstSet b w i).1 hi).2.symm.trans ((mem_dstSet b w' i).1 hi').2))
theorem dst_cover (b : Fin 32) : Finset.univ.biUnion (dstSet b) = blockSet b.val := by
  ext i
  simp only [Finset.mem_biUnion, Finset.mem_univ, true_and, mem_dstSet, blockSet, Finset.mem_filter]
  constructor
  · rintro ⟨w, h, -⟩; exact h
  · intro h; exact ⟨⟨(i 1).val / 128 % 8, Nat.mod_lt _ (by decide)⟩, h, rfl⟩
theorem rest_zero : restSet 0 = Finset.univ := by ext i; simp [restSet]
theorem done_all : doneSet 32 = Finset.univ := by ext i; simp [doneSet, tileOf_lt]
theorem done_zero : doneSet 0 = ∅ := by ext i; simp [doneSet]
theorem rest_all : restSet 32 = ∅ := by ext i; simp [restSet, tileOf_lt]
theorem rest_sdiff (n : ℕ) : restSet n \ blockSet n = restSet (n + 1) := by
  ext i; simp only [restSet, blockSet, Finset.mem_sdiff, Finset.mem_filter, Finset.mem_univ, true_and]; omega
theorem block_sub_rest (n : ℕ) : blockSet n ⊆ restSet n := by
  intro i; simp only [restSet, blockSet, Finset.mem_filter, Finset.mem_univ, true_and]; omega
theorem done_sdiff (n : ℕ) : doneSet (n + 1) \ blockSet n = doneSet n := by
  ext i; simp only [doneSet, blockSet, Finset.mem_sdiff, Finset.mem_filter, Finset.mem_univ, true_and]; omega
theorem block_sub_done (n : ℕ) : blockSet n ⊆ doneSet (n + 1) := by
  intro i; simp only [doneSet, blockSet, Finset.mem_filter, Finset.mem_univ, true_and]; omega

/-! ## The results in place

A tile's result rows are listed by strands: row `8 i + k` of the tile is time `128 k + i` within it. -/

/-- The slot buffer when a tile's rows `o` lie in its slots. -/
def slotBuf (c : Dev nD) (o : FVec F S1024x1024 .f32) : HbBuf (F := F) c scO := fun (i : S2x128x8x1024.Idx) =>
  o (ix2 (n0 := 1024) (n1 := 1024) ⟨(i 1).val * 8 + (i 2).val, by have h1 : (i 1).val < 128 := (i 1).isLt; have h2 : (i 2).val < 8 := (i 2).isLt; omega⟩ ⟨(i 3).val, (i 3).isLt⟩)
/-- The result array when every tile `b`'s rows are `o b`. -/
def outBuf (c : Dev nD) (o : Fin 32 → FVec F S1024x1024 .f32) : HbBuf (F := F) c hbO := fun (i : S8x4096x1024.Idx) =>
  o ⟨tileOf i, tileOf_lt i⟩ (ix2 (n0 := 1024) (n1 := 1024) ⟨(i 1).val % 128 * 8 + (i 1).val / 128 % 8, by omega⟩ ⟨(i 2).val, (i 2).isLt⟩)

/-! ## What a slot holds between points -/

section Ring
variable (c : Dev nD) (W0 : HbBuf (F := F) c hbO) (o : Fin 32 → FVec F S1024x1024 .f32)

abbrev winP (s : Fin 2) (w : Fin 8) (e : HbBuf (F := F) c scO) : sProp 𝕄 := (rwin s w).view.loc (c : Thread nD τ) ↦[(rwin s w).view.set]{fullShare} e
abbrev slotP (s : Fin 2) (e : HbBuf (F := F) c scO) : sProp 𝕄 := (rslot s).view.loc (c : Thread nD τ) ↦[(rslot s).view.set]{fullShare} e
abbrev dstP (b : Fin 32) (w : Fin 8) (e : HbBuf (F := F) c hbO) : sProp 𝕄 := (dstB b w).view.loc (c : Thread nD τ) ↦[(dstB b w).view.set]{fullShare} e
abbrev outP (I : Finset S8x4096x1024.Idx) (e : HbBuf (F := F) c hbO) : sProp 𝕄 := ((c : Thread nD τ).loc main_v12) ↦[I]{fullShare} e
/-- A strand landed: the slot's rows written over the result's. -/
abbrev landed (s : Fin 2) (b : Fin 32) (w : Fin 8) : HbBuf (F := F) c hbO :=
  (dstB b w).view.writes (Elt F) (dstB b w).view.junk [⟨Rect.whole S128x1024, ReadAs.same.apply ((rwin s w).view.read (Elt F) (slotBuf c (o b)))⟩]
/-- What one transfer delivers: its strand landed, its source back. -/
abbrev winD (s : Fin 2) (b : Fin 32) : Fin 8 → sProp 𝕄 :=
  ![iprop(dstP c b 0 (landed c o s b 0) ∗ winP c s 0 (slotBuf c (o b))),
    iprop(dstP c b 1 (landed c o s b 1) ∗ winP c s 1 (slotBuf c (o b))),
    iprop(dstP c b 2 (landed c o s b 2) ∗ winP c s 2 (slotBuf c (o b))),
    iprop(dstP c b 3 (landed c o s b 3) ∗ winP c s 3 (slotBuf c (o b))),
    iprop(dstP c b 4 (landed c o s b 4) ∗ winP c s 4 (slotBuf c (o b))),
    iprop(dstP c b 5 (landed c o s b 5) ∗ winP c s 5 (slotBuf c (o b))),
    iprop(dstP c b 6 (landed c o s b 6) ∗ winP c s 6 (slotBuf c (o b))),
    iprop(dstP c b 7 (landed c o s b 7) ∗ winP c s 7 (slotBuf c (o b)))]
/-- One transfer's amount on its slot's cell. -/
abbrev NN : ℕ := (dstB 0 0).view.amount (cellR 0)
abbrev batchP (s : Fin 2) (b : Fin 32) : sProp 𝕄 :=
  Transfers.Batch countersEmb (c : Thread nD τ) (cellR s) default NN (winD c o s b) 8 0
abbrev cellP (s : Fin 2) : sProp 𝕄 := semVal ((c : Thread nD τ), cellR s) 0

/-- A slot with nothing in flight: its cell at zero, its elements at some contents. -/
def free (s : Fin 2) : sProp 𝕄 := iprop(cellP c s ∗ (∃ e, slotP c s e))

/-- A points-to is storable, at any signature and algebra (stated over variables: citing it unfolds nothing of this program). -/
theorem storable_pt {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
theorem storable_winD (s : Fin 2) (b : Fin 32) : ∀ w, Storable (upEmb : UEmb _ 𝕄) (winD (F := F) c o s b w) := by
  intro w; fin_cases w <;> exact @Storable.sep _ _ _ _ _ _ _ _ (storable_pt _ _ _ _) (storable_pt _ _ _ _)

omit [FloatOps F] in
theorem winP_eq (s : Fin 2) (w : Fin 8) (e : HbBuf (F := F) c scO) :
    winP c s w e = (((c : Thread nD τ).loc cc0_scratch6) ↦[winSet s w]{fullShare} e : sProp 𝕄) := by
  unfold winP; rw [rwin_set]; rfl
omit [FloatOps F] in
theorem slotP_eq (s : Fin 2) (e : HbBuf (F := F) c scO) :
    slotP c s e = (((c : Thread nD τ).loc cc0_scratch6) ↦[slotSet s]{fullShare} e : sProp 𝕄) := by
  unfold slotP; rw [rslot_set]; rfl
omit [FloatOps F] in
theorem dstP_eq (b : Fin 32) (w : Fin 8) (e : HbBuf (F := F) c hbO) :
    dstP c b w e = (((c : Thread nD τ).loc main_v12) ↦[dstSet b w]{fullShare} e : sProp 𝕄) := by
  unfold dstP; rw [dstB_set]; rfl

omit [FloatOps F] in
theorem bigSep_fin8 (P : Fin 8 → sProp 𝕄) : bigSep Finset.univ P = iprop(P 0 ∗ P 1 ∗ P 2 ∗ P 3 ∗ P 4 ∗ P 5 ∗ P 6 ∗ P 7) := by
  rw [BI.bigSep_eq_bigSepL_of_eq [0, 1, 2, 3, 4, 5, 6, 7] (by decide) (by decide)]; rfl

omit [FloatOps F] in
/-- A slot held at one contents is its strands at it. -/
theorem slot_split (s : Fin 2) (e : HbBuf (F := F) c scO) :
    slotP c s e = iprop(winP c s 0 e ∗ winP c s 1 e ∗ winP c s 2 e ∗ winP c s 3 e ∗ winP c s 4 e ∗ winP c s 5 e ∗ winP c s 6 e ∗ winP c s 7 e) := by
  rw [slotP_eq, Ring.pointsTo_sub_blocks (winSet s) (win_disjoint s) (slotSet s) (win_cover s) e, bigSep_fin8]
  simp only [winP_eq]
omit [FloatOps F] in
/-- A tile of the result held at one contents is its strands at it. -/
theorem block_split (b : Fin 32) (e : HbBuf (F := F) c hbO) :
    outP c (blockSet b.val) e = iprop(dstP c b 0 e ∗ dstP c b 1 e ∗ dstP c b 2 e ∗ dstP c b 3 e ∗ dstP c b 4 e ∗ dstP c b 5 e ∗ dstP c b 6 e ∗ dstP c b 7 e) := by
  unfold outP
  rw [Ring.pointsTo_sub_blocks (dstSet b) (dst_disjoint b) (blockSet b.val) (dst_cover b) e, bigSep_fin8]
  simp only [dstP_eq]
omit [FloatOps F] in
/-- What is left to write before tile `n` is that tile and the rest; -/
theorem rest_split (n : ℕ) (e : HbBuf (F := F) c hbO) : (outP c (restSet n) e : sProp 𝕄) ⊣⊢ iprop(outP c (blockSet n) e ∗ outP c (restSet (n + 1)) e) := by
  unfold outP; rw [← rest_sdiff n]; exact pointsTo_split_subset (block_sub_rest n)
omit [FloatOps F] in
/-- what has landed up to tile `n` is that tile and what had before. -/
theorem done_split (n : ℕ) (e : HbBuf (F := F) c hbO) : (outP c (doneSet (n + 1)) e : sProp 𝕄) ⊣⊢ iprop(outP c (blockSet n) e ∗ outP c (doneSet n) e) := by
  unfold outP; rw [← done_sdiff n]; exact pointsTo_split_subset (block_sub_done n)
omit [FloatOps F] in
theorem bigSep_fin2 (P : Fin 2 → sProp 𝕄) : bigSep Finset.univ P = iprop(P 0 ∗ P 1) := by
  rw [BI.bigSep_eq_bigSepL_of_eq [0, 1] (by decide) (by decide)]; rfl
omit [FloatOps F] in
/-- The slot buffer whole at some contents is its two slots; -/
theorem slots_split (e : HbBuf (F := F) c scO) : (hbPt c scO e : sProp 𝕄) = iprop(slotP c 0 e ∗ slotP c 1 e) := by
  rw [slotP_eq, slotP_eq]
  exact (Ring.pointsTo_blocks (ℓ := (c : Thread nD τ).loc cc0_scratch6) slotSet slot_disjoint (slot_cover c) e).trans (bigSep_fin2 _)
omit [FloatOps F] in
/-- and back. -/
theorem slots_join : iprop((∃ e, slotP c 0 e) ∗ (∃ e, slotP c 1 e)) ⊢ (iprop(∃ e, hbPt c scO e) : sProp 𝕄) := by
  simp only [slotP_eq]
  iintro ⟨⟨%e0, H0⟩, H1⟩
  have h : ∀ f₀ : HbBuf (F := F) c scO, bigSep Finset.univ (fun s => iprop(∃ e : HbBuf (F := F) c scO, ((c : Thread nD τ).loc cc0_scratch6) ↦[slotSet s]{fullShare} e))
      ⊢ (iprop(∃ g, hbPt c scO g) : sProp 𝕄) :=
    Ring.pointsTo_blocks_join_exists (ℓ := (c : Thread nD τ).loc cc0_scratch6) slotSet slot_disjoint (slot_cover c)
  have h := h e0
  rw [bigSep_fin2] at h
  iapply h
  isplitl [H0]
  · iexists e0; iexact H0
  iexact H1

/-- Where a strand's element lies in the result, and in the slot buffer. -/
theorem dstB_emb (b : Fin 32) (w : Fin 8) (j0 : Fin 128) (j1 : Fin 1024) :
    ((dstB b w).view.emb (ix2 j0 j1) : S8x4096x1024.Idx) = ix3 (n0 := 8) (n1 := 4096) (n2 := 1024) ⟨b.val / 4, by omega⟩ ⟨1024 * (b.val % 4) + 128 * w.val + j0.val, by omega⟩ j1 := by
  have h : Shape.reshapeEquiv (squeezes_S1x128x1024_S128x1024).numel_eq (ix2 j0 j1) = ix3 (⟨0, Nat.one_pos⟩ : Fin 1) j0 j1 := reshapeEquiv_ix2_1ab _ _ _
  show (Rect.unit (s := S8x4096x1024) ![b.val / 4, 1024 * (b.val % 4) + 128 * w.val, 0] S1x128x1024.size (inb_dst b w)).emb (Shape.reshapeEquiv (squeezes_S1x128x1024_S128x1024).numel_eq (ix2 j0 j1)) = _
  rw [h]
  funext a
  apply Fin.ext
  fin_cases a <;> simp [Rect.emb, Rect.unit]
theorem rwin_emb (s : Fin 2) (w : Fin 8) (j0 : Fin 128) (j1 : Fin 1024) :
    ((rwin s w).view.emb (ix2 j0 j1) : S2x128x8x1024.Idx) = ix4 (n0 := 2) (n1 := 128) (n2 := 8) (n3 := 1024) s j0 w j1 := by
  have h : Shape.reshapeEquiv (squeezes_S1x128x1x1024_S128x1024).numel_eq (ix2 j0 j1) = ix4 (⟨0, Nat.one_pos⟩ : Fin 1) j0 (⟨0, Nat.one_pos⟩ : Fin 1) j1 :=
    Shape.reshapeEquiv_eq_of_rowMajor _ (by
      rw [Shape.rowMajor_val_four, Shape.rowMajor_val_two]
      show (((0 * 128 + j0.val) * 1 + 0) * 1024 + j1.val) = j0.val * 1024 + j1.val
      omega)
  show (Rect.unit (s := S2x128x8x1024) ![s.val, 0, w.val, 0] S1x128x1x1024.size (inb_win s w)).emb (Shape.reshapeEquiv (squeezes_S1x128x1x1024_S128x1024).numel_eq (ix2 j0 j1)) = _
  rw [h]
  funext a
  apply Fin.ext
  fin_cases a <;> simp [Rect.emb, Rect.unit]

omit [FloatOps F] in
/-- A slot's strand, read, is the tile's rows it sends; -/
theorem slot_read (s : Fin 2) (b : Fin 32) (w : Fin 8) (x : S128x1024.Idx) :
    (rwin s w).view.read (Elt F) (slotBuf c (o b)) x = (dstB b w).view.read (Elt F) (outBuf c o) x := by
  obtain ⟨j0, j1, rfl⟩ : ∃ (j0 : Fin 128) (j1 : Fin 1024), x = ix2 j0 j1 := ⟨_, _, eq_ix2 x⟩
  have hb := b.isLt
  have hw := w.isLt
  have hj := j0.isLt
  show slotBuf c (o b) ((rwin s w).view.emb (ix2 j0 j1)) = outBuf c o ((dstB b w).view.emb (ix2 j0 j1))
  rw [rwin_emb, dstB_emb]
  have hb' : (⟨tileOf (ix3 (n0 := 8) (n1 := 4096) (n2 := 1024) ⟨b.val / 4, by omega⟩ ⟨1024 * (b.val % 4) + 128 * w.val + j0.val, by omega⟩ j1), tileOf_lt _⟩ : Fin 32) = b := by
    apply Fin.ext
    show 4 * (b.val / 4) + (1024 * (b.val % 4) + 128 * w.val + j0.val) / 1024 = b.val
    omega
  unfold slotBuf outBuf
  rw [hb']
  refine congrArg (o b) ?_
  funext a
  apply Fin.ext
  fin_cases a
  · show j0.val * 8 + w.val = (1024 * (b.val % 4) + 128 * w.val + j0.val) % 128 * 8 + (1024 * (b.val % 4) + 128 * w.val + j0.val) / 128 % 8
    omega
  · rfl
/-- Contents reading the same through a view at an index are the same there. -/
theorem eq_of_read {sg : RefSig} {κ : Kind} {sp : Space} {s : Shape} {e : EltTy} {Val : EltTy → Type} {v : View sg κ sp s e}
    {f g : v.ty.Contents Val} {x : s.Idx} (h : v.read Val f x = v.read Val g x) : f (v.emb x) = g (v.emb x) := by
  simpa only [View.read_apply, cast_inj] using h
/-- One write over the whole of a view reads as what was written. -/
theorem read_landed {sg : RefSig} {κ : Kind} {sp : Space} {s : Shape} {e : EltTy} {Val : EltTy → Type} (v : View sg κ sp s e)
    (f : v.ty.Contents Val) (G : s.Idx → Val e) (x : s.Idx) :
    v.read Val (v.writes Val f [⟨Rect.whole s, G⟩]) x = G x :=
  View.read_writes_apply_of_pieces v f G _ (by intro p hp; obtain rfl := List.mem_singleton.1 hp; intro x; exact congrArg G (by simp)) x ⟨_, List.mem_singleton_self _, by rw [Rect.set_whole]; exact Finset.mem_univ _⟩
/-- so a strand landed is the result in place. -/
theorem landed_eq (s : Fin 2) (b : Fin 32) (w : Fin 8) : dstP c b w (landed c o s b w) = dstP c b w (outBuf c o) := by
  refine pointsTo_congr fun i hi => ?_
  obtain ⟨x, -, rfl⟩ := Finset.mem_map.1 hi
  refine eq_of_read ((read_landed (Val := Elt F) _ _ _ x).trans ?_)
  exact slot_read c o s b w x
end Ring

theorem off1_eq : ∀ t : Fin grid0.N, k0_off1 (grid0.coords t) = ![(Ring.sl 2 t.val).val] := by decide +kernel
@[sl_canon] theorem canon1 (t : Fin grid0.N) (h : cond2 (grid0.coords t)) :
    (cc0_scratch7.slice (Rect.unit (s := S2) (k0_off1 (grid0.coords t)) S1.size (k0_off1_inb (grid0.coords t) h))).squeeze S_ squeezes_S1_S_ = cellA (Ring.sl 2 t.val) :=
  congrArg (fun A : DmaSems sig S1 => A.squeeze S_ squeezes_S1_S_) (SemArray.slice_unit_congr _ (off1_eq t) _ _)
@[sl_canon] theorem canon1' (t : Fin grid0.N) (h : cond2 (grid0.coords t)) :
    (cc0_scratch7.slice (Rect.unit (s := S2) (k0_off1 (grid0.coords t)) ![1] (k0_off1_inb (grid0.coords t) h))).squeeze S_ squeezes_S1_S_ = cellA (Ring.sl 2 t.val) :=
  canon1 t h
theorem off3_eq : ∀ t : Fin grid0.N, k0_off3 (grid0.coords t) = ![(Ring.sl 2 t.val).val, 0, 0, 0] := by decide +kernel
@[sl_canon] theorem canon3 (t : Fin grid0.N) (h : cond2 (grid0.coords t)) :
    (scO.slice (Rect.unit (s := S2x128x8x1024) (k0_off3 (grid0.coords t)) S1x128x1x1024.size (k0_off3_inb (grid0.coords t) h)) (fun _ => rfl)).squeeze S128x1024 squeezes_S1x128x1x1024_S128x1024 = rwin (Ring.sl 2 t.val) 0 :=
  congrArg (fun M : Memref sig .tc .vmem S1x128x1x1024 .f32 => M.squeeze S128x1024 squeezes_S1x128x1x1024_S128x1024) (Memref.slice_unit_congr _ (off3_eq t) _ _ (fun _ => rfl) (fun _ => rfl))
@[sl_canon] theorem canon3' (t : Fin grid0.N) (h : cond2 (grid0.coords t)) :
    (scO.slice (Rect.unit (s := S2x128x8x1024) (k0_off3 (grid0.coords t)) ![1, 128, 1, 1024] (k0_off3_inb (grid0.coords t) h)) (fun _ => rfl)).squeeze S128x1024 squeezes_S1x128x1x1024_S128x1024 = rwin (Ring.sl 2 t.val) 0 :=
  canon3 t h
theorem off4_eq : ∀ t : Fin grid0.N, k0_off4 (grid0.coords t) = ![(Ring.sl 2 t.val).val, 0, 1, 0] := by decide +kernel
@[sl_canon] theorem canon4 (t : Fin grid0.N) (h : cond2 (grid0.coords t)) :
    (scO.slice (Rect.unit (s := S2x128x8x1024) (k0_off4 (grid0.coords t)) S1x128x1x1024.size (k0_off4_inb (grid0.coords t) h)) (fun _ => rfl)).squeeze S128x1024 squeezes_S1x128x1x1024_S128x1024 = rwin (Ring.sl 2 t.val) 1 :=
  congrArg (fun M : Memref sig .tc .vmem S1x128x1x1024 .f32 => M.squeeze S128x1024 squeezes_S1x128x1x1024_S128x1024) (Memref.slice_unit_congr _ (off4_eq t) _ _ (fun _ => rfl) (fun _ => rfl))
@[sl_canon] theorem canon4' (t : Fin grid0.N) (h : cond2 (grid0.coords t)) :
    (scO.slice (Rect.unit (s := S2x128x8x1024) (k0_off4 (grid0.coords t)) ![1, 128, 1, 1024] (k0_off4_inb (grid0.coords t) h)) (fun _ => rfl)).squeeze S128x1024 squeezes_S1x128x1x1024_S128x1024 = rwin (Ring.sl 2 t.val) 1 :=
  canon4 t h
theorem off5_eq : ∀ t : Fin grid0.N, k0_off5 (grid0.coords t) = ![(Ring.sl 2 t.val).val, 0, 2, 0] := by decide +kernel
@[sl_canon] theorem canon5 (t : Fin grid0.N) (h : cond2 (grid0.coords t)) :
    (scO.slice (Rect.unit (s := S2x128x8x1024) (k0_off5 (grid0.coords t)) S1x128x1x1024.size (k0_off5_inb (grid0.coords t) h)) (fun _ => rfl)).squeeze S128x1024 squeezes_S1x128x1x1024_S128x1024 = rwin (Ring.sl 2 t.val) 2 :=
  congrArg (fun M : Memref sig .tc .vmem S1x128x1x1024 .f32 => M.squeeze S128x1024 squeezes_S1x128x1x1024_S128x1024) (Memref.slice_unit_congr _ (off5_eq t) _ _ (fun _ => rfl) (fun _ => rfl))
@[sl_canon] theorem canon5' (t : Fin grid0.N) (h : cond2 (grid0.coords t)) :
    (scO.slice (Rect.unit (s := S2x128x8x1024) (k0_off5 (grid0.coords t)) ![1, 128, 1, 1024] (k0_off5_inb (grid0.coords t) h)) (fun _ => rfl)).squeeze S128x1024 squeezes_S1x128x1x1024_S128x1024 = rwin (Ring.sl 2 t.val) 2 :=
  canon5 t h
theorem off6_eq : ∀ t : Fin grid0.N, k0_off6 (grid0.coords t) = ![(Ring.sl 2 t.val).val, 0, 3, 0] := by decide +kernel
@[sl_canon] theorem canon6 (t : Fin grid0.N) (h : cond2 (grid0.coords t)) :
    (scO.slice (Rect.unit (s := S2x128x8x1024) (k0_off6 (grid0.coords t)) S1x128x1x1024.size (k0_off6_inb (grid0.coords t) h)) (fun _ => rfl)).squeeze S128x1024 squeezes_S1x128x1x1024_S128x1024 = rwin (Ring.sl 2 t.val) 3 :=
  congrArg (fun M : Memref sig .tc .vmem S1x128x1x1024 .f32 => M.squeeze S128x1024 squeezes_S1x128x1x1024_S128x1024) (Memref.slice_unit_congr _ (off6_eq t) _ _ (fun _ => rfl) (fun _ => rfl))
@[sl_canon] theorem canon6' (t : Fin grid0.N) (h : cond2 (grid0.coords t)) :
    (scO.slice (Rect.unit (s := S2x128x8x1024) (k0_off6 (grid0.coords t)) ![1, 128, 1, 1024] (k0_off6_inb (grid0.coords t) h)) (fun _ => rfl)).squeeze S128x1024 squeezes_S1x128x1x1024_S128x1024 = rwin (Ring.sl 2 t.val) 3 :=
  canon6 t h
theorem off7_eq : ∀ t : Fin grid0.N, k0_off7 (grid0.coords t) = ![(Ring.sl 2 t.val).val, 0, 4, 0] := by decide +kernel
@[sl_canon] theorem canon7 (t : Fin grid0.N) (h : cond2 (grid0.coords t)) :
    (scO.slice (Rect.unit (s := S2x128x8x1024) (k0_off7 (grid0.coords t)) S1x128x1x1024.size (k0_off7_inb (grid0.coords t) h)) (fun _ => rfl)).squeeze S128x1024 squeezes_S1x128x1x1024_S128x1024 = rwin (Ring.sl 2 t.val) 4 :=
  congrArg (fun M : Memref sig .tc .vmem S1x128x1x1024 .f32 => M.squeeze S128x1024 squeezes_S1x128x1x1024_S128x1024) (Memref.slice_unit_congr _ (off7_eq t) _ _ (fun _ => rfl) (fun _ => rfl))
@[sl_canon] theorem canon7' (t : Fin grid0.N) (h : cond2 (grid0.coords t)) :
    (scO.slice (Rect.unit (s := S2x128x8x1024) (k0_off7 (grid0.coords t)) ![1, 128, 1, 1024] (k0_off7_inb (grid0.coords t) h)) (fun _ => rfl)).squeeze S128x1024 squeezes_S1x128x1x1024_S128x1024 = rwin (Ring.sl 2 t.val) 4 :=
  canon7 t h
theorem off8_eq : ∀ t : Fin grid0.N, k0_off8 (grid0.coords t) = ![(Ring.sl 2 t.val).val, 0, 5, 0] := by decide +kernel
@[sl_canon] theorem canon8 (t : Fin grid0.N) (h : cond2 (grid0.coords t)) :
    (scO.slice (Rect.unit (s := S2x128x8x1024) (k0_off8 (grid0.coords t)) S1x128x1x1024.size (k0_off8_inb (grid0.coords t) h)) (fun _ => rfl)).squeeze S128x1024 squeezes_S1x128x1x1024_S128x1024 = rwin (Ring.sl 2 t.val) 5 :=
  congrArg (fun M : Memref sig .tc .vmem S1x128x1x1024 .f32 => M.squeeze S128x1024 squeezes_S1x128x1x1024_S128x1024) (Memref.slice_unit_congr _ (off8_eq t) _ _ (fun _ => rfl) (fun _ => rfl))
@[sl_canon] theorem canon8' (t : Fin grid0.N) (h : cond2 (grid0.coords t)) :
    (scO.slice (Rect.unit (s := S2x128x8x1024) (k0_off8 (grid0.coords t)) ![1, 128, 1, 1024] (k0_off8_inb (grid0.coords t) h)) (fun _ => rfl)).squeeze S128x1024 squeezes_S1x128x1x1024_S128x1024 = rwin (Ring.sl 2 t.val) 5 :=
  canon8 t h
theorem off9_eq : ∀ t : Fin grid0.N, k0_off9 (grid0.coords t) = ![(Ring.sl 2 t.val).val, 0, 6, 0] := by decide +kernel
@[sl_canon] theorem canon9 (t : Fin grid0.N) (h : cond2 (grid0.coords t)) :
    (scO.slice (Rect.unit (s := S2x128x8x1024) (k0_off9 (grid0.coords t)) S1x128x1x1024.size (k0_off9_inb (grid0.coords t) h)) (fun _ => rfl)).squeeze S128x1024 squeezes_S1x128x1x1024_S128x1024 = rwin (Ring.sl 2 t.val) 6 :=
  congrArg (fun M : Memref sig .tc .vmem S1x128x1x1024 .f32 => M.squeeze S128x1024 squeezes_S1x128x1x1024_S128x1024) (Memref.slice_unit_congr _ (off9_eq t) _ _ (fun _ => rfl) (fun _ => rfl))
@[sl_canon] theorem canon9' (t : Fin grid0.N) (h : cond2 (grid0.coords t)) :
    (scO.slice (Rect.unit (s := S2x128x8x1024) (k0_off9 (grid0.coords t)) ![1, 128, 1, 1024] (k0_off9_inb (grid0.coords t) h)) (fun _ => rfl)).squeeze S128x1024 squeezes_S1x128x1x1024_S128x1024 = rwin (Ring.sl 2 t.val) 6 :=
  canon9 t h
theorem off10_eq : ∀ t : Fin grid0.N, k0_off10 (grid0.coords t) = ![(Ring.sl 2 t.val).val, 0, 7, 0] := by decide +kernel
@[sl_canon] theorem canon10 (t : Fin grid0.N) (h : cond2 (grid0.coords t)) :
    (scO.slice (Rect.unit (s := S2x128x8x1024) (k0_off10 (grid0.coords t)) S1x128x1x1024.size (k0_off10_inb (grid0.coords t) h)) (fun _ => rfl)).squeeze S128x1024 squeezes_S1x128x1x1024_S128x1024 = rwin (Ring.sl 2 t.val) 7 :=
  congrArg (fun M : Memref sig .tc .vmem S1x128x1x1024 .f32 => M.squeeze S128x1024 squeezes_S1x128x1x1024_S128x1024) (Memref.slice_unit_congr _ (off10_eq t) _ _ (fun _ => rfl) (fun _ => rfl))
@[sl_canon] theorem canon10' (t : Fin grid0.N) (h : cond2 (grid0.coords t)) :
    (scO.slice (Rect.unit (s := S2x128x8x1024) (k0_off10 (grid0.coords t)) ![1, 128, 1, 1024] (k0_off10_inb (grid0.coords t) h)) (fun _ => rfl)).squeeze S128x1024 squeezes_S1x128x1x1024_S128x1024 = rwin (Ring.sl 2 t.val) 7 :=
  canon10 t h
theorem off2_eq : ∀ (t : Fin grid0.N) (w : Fin 8), cond2 (grid0.coords t) → k0_off2 (grid0.coords t) (BitVec.ofNat 32 (128 * w.val)) = ![(Ring.bk 32 (t.val - 2)).val / 4, 1024 * ((Ring.bk 32 (t.val - 2)).val % 4) + 128 * w.val, 0] := by decide +kernel
@[sl_canon] theorem canon2_0 (t : Fin grid0.N) (h : cond2 (grid0.coords t)) :
    (hbO.slice (Rect.unit (s := S8x4096x1024) (k0_off2 (grid0.coords t) 0#32) S1x128x1024.size (k0_off2_inb (grid0.coords t) h 0)) (fun _ => rfl)).squeeze S128x1024 squeezes_S1x128x1024_S128x1024 = dstB (Ring.bk 32 (t.val - 2)) 0 :=
  congrArg (fun M : Memref sig .tc .hbm S1x128x1024 .f32 => M.squeeze S128x1024 squeezes_S1x128x1024_S128x1024) (Memref.slice_unit_congr _ (off2_eq t 0 h) _ _ (fun _ => rfl) (fun _ => rfl))
@[sl_canon] theorem canon2_0' (t : Fin grid0.N) (h : cond2 (grid0.coords t)) :
    (hbO.slice (Rect.unit (s := S8x4096x1024) (k0_off2 (grid0.coords t) 0#32) ![1, 128, 1024] (k0_off2_inb (grid0.coords t) h 0)) (fun _ => rfl)).squeeze S128x1024 squeezes_S1x128x1024_S128x1024 = dstB (Ring.bk 32 (t.val - 2)) 0 :=
  canon2_0 t h
@[sl_canon] theorem canon2_1 (t : Fin grid0.N) (h : cond2 (grid0.coords t)) :
    (hbO.slice (Rect.unit (s := S8x4096x1024) (k0_off2 (grid0.coords t) 128#32) S1x128x1024.size (k0_off2_inb (grid0.coords t) h 1)) (fun _ => rfl)).squeeze S128x1024 squeezes_S1x128x1024_S128x1024 = dstB (Ring.bk 32 (t.val - 2)) 1 :=
  congrArg (fun M : Memref sig .tc .hbm S1x128x1024 .f32 => M.squeeze S128x1024 squeezes_S1x128x1024_S128x1024) (Memref.slice_unit_congr _ (off2_eq t 1 h) _ _ (fun _ => rfl) (fun _ => rfl))
@[sl_canon] theorem canon2_1' (t : Fin grid0.N) (h : cond2 (grid0.coords t)) :
    (hbO.slice (Rect.unit (s := S8x4096x1024) (k0_off2 (grid0.coords t) 128#32) ![1, 128, 1024] (k0_off2_inb (grid0.coords t) h 1)) (fun _ => rfl)).squeeze S128x1024 squeezes_S1x128x1024_S128x1024 = dstB (Ring.bk 32 (t.val - 2)) 1 :=
  canon2_1 t h
@[sl_canon] theorem canon2_2 (t : Fin grid0.N) (h : cond2 (grid0.coords t)) :
    (hbO.slice (Rect.unit (s := S8x4096x1024) (k0_off2 (grid0.coords t) 256#32) S1x128x1024.size (k0_off2_inb (grid0.coords t) h 2)) (fun _ => rfl)).squeeze S128x1024 squeezes_S1x128x1024_S128x1024 = dstB (Ring.bk 32 (t.val - 2)) 2 :=
  congrArg (fun M : Memref sig .tc .hbm S1x128x1024 .f32 => M.squeeze S128x1024 squeezes_S1x128x1024_S128x1024) (Memref.slice_unit_congr _ (off2_eq t 2 h) _ _ (fun _ => rfl) (fun _ => rfl))
@[sl_canon] theorem canon2_2' (t : Fin grid0.N) (h : cond2 (grid0.coords t)) :
    (hbO.slice (Rect.unit (s := S8x4096x1024) (k0_off2 (grid0.coords t) 256#32) ![1, 128, 1024] (k0_off2_inb (grid0.coords t) h 2)) (fun _ => rfl)).squeeze S128x1024 squeezes_S1x128x1024_S128x1024 = dstB (Ring.bk 32 (t.val - 2)) 2 :=
  canon2_2 t h
@[sl_canon] theorem canon2_3 (t : Fin grid0.N) (h : cond2 (grid0.coords t)) :
    (hbO.slice (Rect.unit (s := S8x4096x1024) (k0_off2 (grid0.coords t) 384#32) S1x128x1024.size (k0_off2_inb (grid0.coords t) h 3)) (fun _ => rfl)).squeeze S128x1024 squeezes_S1x128x1024_S128x1024 = dstB (Ring.bk 32 (t.val - 2)) 3 :=
  congrArg (fun M : Memref sig .tc .hbm S1x128x1024 .f32 => M.squeeze S128x1024 squeezes_S1x128x1024_S128x1024) (Memref.slice_unit_congr _ (off2_eq t 3 h) _ _ (fun _ => rfl) (fun _ => rfl))
@[sl_canon] theorem canon2_3' (t : Fin grid0.N) (h : cond2 (grid0.coords t)) :
    (hbO.slice (Rect.unit (s := S8x4096x1024) (k0_off2 (grid0.coords t) 384#32) ![1, 128, 1024] (k0_off2_inb (grid0.coords t) h 3)) (fun _ => rfl)).squeeze S128x1024 squeezes_S1x128x1024_S128x1024 = dstB (Ring.bk 32 (t.val - 2)) 3 :=
  canon2_3 t h
@[sl_canon] theorem canon2_4 (t : Fin grid0.N) (h : cond2 (grid0.coords t)) :
    (hbO.slice (Rect.unit (s := S8x4096x1024) (k0_off2 (grid0.coords t) 512#32) S1x128x1024.size (k0_off2_inb (grid0.coords t) h 4)) (fun _ => rfl)).squeeze S128x1024 squeezes_S1x128x1024_S128x1024 = dstB (Ring.bk 32 (t.val - 2)) 4 :=
  congrArg (fun M : Memref sig .tc .hbm S1x128x1024 .f32 => M.squeeze S128x1024 squeezes_S1x128x1024_S128x1024) (Memref.slice_unit_congr _ (off2_eq t 4 h) _ _ (fun _ => rfl) (fun _ => rfl))
@[sl_canon] theorem canon2_4' (t : Fin grid0.N) (h : cond2 (grid0.coords t)) :
    (hbO.slice (Rect.unit (s := S8x4096x1024) (k0_off2 (grid0.coords t) 512#32) ![1, 128, 1024] (k0_off2_inb (grid0.coords t) h 4)) (fun _ => rfl)).squeeze S128x1024 squeezes_S1x128x1024_S128x1024 = dstB (Ring.bk 32 (t.val - 2)) 4 :=
  canon2_4 t h
@[sl_canon] theorem canon2_5 (t : Fin grid0.N) (h : cond2 (grid0.coords t)) :
    (hbO.slice (Rect.unit (s := S8x4096x1024) (k0_off2 (grid0.coords t) 640#32) S1x128x1024.size (k0_off2_inb (grid0.coords t) h 5)) (fun _ => rfl)).squeeze S128x1024 squeezes_S1x128x1024_S128x1024 = dstB (Ring.bk 32 (t.val - 2)) 5 :=
  congrArg (fun M : Memref sig .tc .hbm S1x128x1024 .f32 => M.squeeze S128x1024 squeezes_S1x128x1024_S128x1024) (Memref.slice_unit_congr _ (off2_eq t 5 h) _ _ (fun _ => rfl) (fun _ => rfl))
@[sl_canon] theorem canon2_5' (t : Fin grid0.N) (h : cond2 (grid0.coords t)) :
    (hbO.slice (Rect.unit (s := S8x4096x1024) (k0_off2 (grid0.coords t) 640#32) ![1, 128, 1024] (k0_off2_inb (grid0.coords t) h 5)) (fun _ => rfl)).squeeze S128x1024 squeezes_S1x128x1024_S128x1024 = dstB (Ring.bk 32 (t.val - 2)) 5 :=
  canon2_5 t h
@[sl_canon] theorem canon2_6 (t : Fin grid0.N) (h : cond2 (grid0.coords t)) :
    (hbO.slice (Rect.unit (s := S8x4096x1024) (k0_off2 (grid0.coords t) 768#32) S1x128x1024.size (k0_off2_inb (grid0.coords t) h 6)) (fun _ => rfl)).squeeze S128x1024 squeezes_S1x128x1024_S128x1024 = dstB (Ring.bk 32 (t.val - 2)) 6 :=
  congrArg (fun M : Memref sig .tc .hbm S1x128x1024 .f32 => M.squeeze S128x1024 squeezes_S1x128x1024_S128x1024) (Memref.slice_unit_congr _ (off2_eq t 6 h) _ _ (fun _ => rfl) (fun _ => rfl))
@[sl_canon] theorem canon2_6' (t : Fin grid0.N) (h : cond2 (grid0.coords t)) :
    (hbO.slice (Rect.unit (s := S8x4096x1024) (k0_off2 (grid0.coords t) 768#32) ![1, 128, 1024] (k0_off2_inb (grid0.coords t) h 6)) (fun _ => rfl)).squeeze S128x1024 squeezes_S1x128x1024_S128x1024 = dstB (Ring.bk 32 (t.val - 2)) 6 :=
  canon2_6 t h
@[sl_canon] theorem canon2_7 (t : Fin grid0.N) (h : cond2 (grid0.coords t)) :
    (hbO.slice (Rect.unit (s := S8x4096x1024) (k0_off2 (grid0.coords t) 896#32) S1x128x1024.size (k0_off2_inb (grid0.coords t) h 7)) (fun _ => rfl)).squeeze S128x1024 squeezes_S1x128x1024_S128x1024 = dstB (Ring.bk 32 (t.val - 2)) 7 :=
  congrArg (fun M : Memref sig .tc .hbm S1x128x1024 .f32 => M.squeeze S128x1024 squeezes_S1x128x1024_S128x1024) (Memref.slice_unit_congr _ (off2_eq t 7 h) _ _ (fun _ => rfl) (fun _ => rfl))
@[sl_canon] theorem canon2_7' (t : Fin grid0.N) (h : cond2 (grid0.coords t)) :
    (hbO.slice (Rect.unit (s := S8x4096x1024) (k0_off2 (grid0.coords t) 896#32) ![1, 128, 1024] (k0_off2_inb (grid0.coords t) h 7)) (fun _ => rfl)).squeeze S128x1024 squeezes_S1x128x1024_S128x1024 = dstB (Ring.bk 32 (t.val - 2)) 7 :=
  canon2_7 t h
theorem off15_eq : ∀ t : Fin grid0.N, k0_off15 (grid0.coords t) = ![(Ring.sl 2 t.val).val] := by decide +kernel
@[sl_canon] theorem canon15 (t : Fin grid0.N) :
    (cc0_scratch7.slice (Rect.unit (s := S2) (k0_off15 (grid0.coords t)) S1.size (k0_off15_inb (grid0.coords t)))).squeeze S_ squeezes_S1_S_ = cellA (Ring.sl 2 t.val) :=
  congrArg (fun A : DmaSems sig S1 => A.squeeze S_ squeezes_S1_S_) (SemArray.slice_unit_congr _ (off15_eq t) _ _)
@[sl_canon] theorem canon15' (t : Fin grid0.N) :
    (cc0_scratch7.slice (Rect.unit (s := S2) (k0_off15 (grid0.coords t)) ![1] (k0_off15_inb (grid0.coords t)))).squeeze S_ squeezes_S1_S_ = cellA (Ring.sl 2 t.val) :=
  canon15 t
theorem off17_eq : ∀ t : Fin grid0.N, k0_off17 (grid0.coords t) = ![(Ring.sl 2 t.val).val, 0, 0, 0] := by decide +kernel
@[sl_canon] theorem canon17 (t : Fin grid0.N) :
    (scO.slice (Rect.unit (s := S2x128x8x1024) (k0_off17 (grid0.coords t)) S1x128x1x1024.size (k0_off17_inb (grid0.coords t))) (fun _ => rfl)).squeeze S128x1024 squeezes_S1x128x1x1024_S128x1024 = rwin (Ring.sl 2 t.val) 0 :=
  congrArg (fun M : Memref sig .tc .vmem S1x128x1x1024 .f32 => M.squeeze S128x1024 squeezes_S1x128x1x1024_S128x1024) (Memref.slice_unit_congr _ (off17_eq t) _ _ (fun _ => rfl) (fun _ => rfl))
@[sl_canon] theorem canon17' (t : Fin grid0.N) :
    (scO.slice (Rect.unit (s := S2x128x8x1024) (k0_off17 (grid0.coords t)) ![1, 128, 1, 1024] (k0_off17_inb (grid0.coords t))) (fun _ => rfl)).squeeze S128x1024 squeezes_S1x128x1x1024_S128x1024 = rwin (Ring.sl 2 t.val) 0 :=
  canon17 t
theorem off18_eq : ∀ t : Fin grid0.N, k0_off18 (grid0.coords t) = ![(Ring.sl 2 t.val).val, 0, 1, 0] := by decide +kernel
@[sl_canon] theorem canon18 (t : Fin grid0.N) :
    (scO.slice (Rect.unit (s := S2x128x8x1024) (k0_off18 (grid0.coords t)) S1x128x1x1024.size (k0_off18_inb (grid0.coords t))) (fun _ => rfl)).squeeze S128x1024 squeezes_S1x128x1x1024_S128x1024 = rwin (Ring.sl 2 t.val) 1 :=
  congrArg (fun M : Memref sig .tc .vmem S1x128x1x1024 .f32 => M.squeeze S128x1024 squeezes_S1x128x1x1024_S128x1024) (Memref.slice_unit_congr _ (off18_eq t) _ _ (fun _ => rfl) (fun _ => rfl))
@[sl_canon] theorem canon18' (t : Fin grid0.N) :
    (scO.slice (Rect.unit (s := S2x128x8x1024) (k0_off18 (grid0.coords t)) ![1, 128, 1, 1024] (k0_off18_inb (grid0.coords t))) (fun _ => rfl)).squeeze S128x1024 squeezes_S1x128x1x1024_S128x1024 = rwin (Ring.sl 2 t.val) 1 :=
  canon18 t
theorem off19_eq : ∀ t : Fin grid0.N, k0_off19 (grid0.coords t) = ![(Ring.sl 2 t.val).val, 0, 2, 0] := by decide +kernel
@[sl_canon] theorem canon19 (t : Fin grid0.N) :
    (scO.slice (Rect.unit (s := S2x128x8x1024) (k0_off19 (grid0.coords t)) S1x128x1x1024.size (k0_off19_inb (grid0.coords t))) (fun _ => rfl)).squeeze S128x1024 squeezes_S1x128x1x1024_S128x1024 = rwin (Ring.sl 2 t.val) 2 :=
  congrArg (fun M : Memref sig .tc .vmem S1x128x1x1024 .f32 => M.squeeze S128x1024 squeezes_S1x128x1x1024_S128x1024) (Memref.slice_unit_congr _ (off19_eq t) _ _ (fun _ => rfl) (fun _ => rfl))
@[sl_canon] theorem canon19' (t : Fin grid0.N) :
    (scO.slice (Rect.unit (s := S2x128x8x1024) (k0_off19 (grid0.coords t)) ![1, 128, 1, 1024] (k0_off19_inb (grid0.coords t))) (fun _ => rfl)).squeeze S128x1024 squeezes_S1x128x1x1024_S128x1024 = rwin (Ring.sl 2 t.val) 2 :=
  canon19 t
theorem off20_eq : ∀ t : Fin grid0.N, k0_off20 (grid0.coords t) = ![(Ring.sl 2 t.val).val, 0, 3, 0] := by decide +kernel
@[sl_canon] theorem canon20 (t : Fin grid0.N) :
    (scO.slice (Rect.unit (s := S2x128x8x1024) (k0_off20 (grid0.coords t)) S1x128x1x1024.size (k0_off20_inb (grid0.coords t))) (fun _ => rfl)).squeeze S128x1024 squeezes_S1x128x1x1024_S128x1024 = rwin (Ring.sl 2 t.val) 3 :=
  congrArg (fun M : Memref sig .tc .vmem S1x128x1x1024 .f32 => M.squeeze S128x1024 squeezes_S1x128x1x1024_S128x1024) (Memref.slice_unit_congr _ (off20_eq t) _ _ (fun _ => rfl) (fun _ => rfl))
@[sl_canon] theorem canon20' (t : Fin grid0.N) :
    (scO.slice (Rect.unit (s := S2x128x8x1024) (k0_off20 (grid0.coords t)) ![1, 128, 1, 1024] (k0_off20_inb (grid0.coords t))) (fun _ => rfl)).squeeze S128x1024 squeezes_S1x128x1x1024_S128x1024 = rwin (Ring.sl 2 t.val) 3 :=
  canon20 t
theorem off21_eq : ∀ t : Fin grid0.N, k0_off21 (grid0.coords t) = ![(Ring.sl 2 t.val).val, 0, 4, 0] := by decide +kernel
@[sl_canon] theorem canon21 (t : Fin grid0.N) :
    (scO.slice (Rect.unit (s := S2x128x8x1024) (k0_off21 (grid0.coords t)) S1x128x1x1024.size (k0_off21_inb (grid0.coords t))) (fun _ => rfl)).squeeze S128x1024 squeezes_S1x128x1x1024_S128x1024 = rwin (Ring.sl 2 t.val) 4 :=
  congrArg (fun M : Memref sig .tc .vmem S1x128x1x1024 .f32 => M.squeeze S128x1024 squeezes_S1x128x1x1024_S128x1024) (Memref.slice_unit_congr _ (off21_eq t) _ _ (fun _ => rfl) (fun _ => rfl))
@[sl_canon] theorem canon21' (t : Fin grid0.N) :
    (scO.slice (Rect.unit (s := S2x128x8x1024) (k0_off21 (grid0.coords t)) ![1, 128, 1, 1024] (k0_off21_inb (grid0.coords t))) (fun _ => rfl)).squeeze S128x1024 squeezes_S1x128x1x1024_S128x1024 = rwin (Ring.sl 2 t.val) 4 :=
  canon21 t
theorem off22_eq : ∀ t : Fin grid0.N, k0_off22 (grid0.coords t) = ![(Ring.sl 2 t.val).val, 0, 5, 0] := by decide +kernel
@[sl_canon] theorem canon22 (t : Fin grid0.N) :
    (scO.slice (Rect.unit (s := S2x128x8x1024) (k0_off22 (grid0.coords t)) S1x128x1x1024.size (k0_off22_inb (grid0.coords t))) (fun _ => rfl)).squeeze S128x1024 squeezes_S1x128x1x1024_S128x1024 = rwin (Ring.sl 2 t.val) 5 :=
  congrArg (fun M : Memref sig .tc .vmem S1x128x1x1024 .f32 => M.squeeze S128x1024 squeezes_S1x128x1x1024_S128x1024) (Memref.slice_unit_congr _ (off22_eq t) _ _ (fun _ => rfl) (fun _ => rfl))
@[sl_canon] theorem canon22' (t : Fin grid0.N) :
    (scO.slice (Rect.unit (s := S2x128x8x1024) (k0_off22 (grid0.coords t)) ![1, 128, 1, 1024] (k0_off22_inb (grid0.coords t))) (fun _ => rfl)).squeeze S128x1024 squeezes_S1x128x1x1024_S128x1024 = rwin (Ring.sl 2 t.val) 5 :=
  canon22 t
theorem off23_eq : ∀ t : Fin grid0.N, k0_off23 (grid0.coords t) = ![(Ring.sl 2 t.val).val, 0, 6, 0] := by decide +kernel
@[sl_canon] theorem canon23 (t : Fin grid0.N) :
    (scO.slice (Rect.unit (s := S2x128x8x1024) (k0_off23 (grid0.coords t)) S1x128x1x1024.size (k0_off23_inb (grid0.coords t))) (fun _ => rfl)).squeeze S128x1024 squeezes_S1x128x1x1024_S128x1024 = rwin (Ring.sl 2 t.val) 6 :=
  congrArg (fun M : Memref sig .tc .vmem S1x128x1x1024 .f32 => M.squeeze S128x1024 squeezes_S1x128x1x1024_S128x1024) (Memref.slice_unit_congr _ (off23_eq t) _ _ (fun _ => rfl) (fun _ => rfl))
@[sl_canon] theorem canon23' (t : Fin grid0.N) :
    (scO.slice (Rect.unit (s := S2x128x8x1024) (k0_off23 (grid0.coords t)) ![1, 128, 1, 1024] (k0_off23_inb (grid0.coords t))) (fun _ => rfl)).squeeze S128x1024 squeezes_S1x128x1x1024_S128x1024 = rwin (Ring.sl 2 t.val) 6 :=
  canon23 t
theorem off24_eq : ∀ t : Fin grid0.N, k0_off24 (grid0.coords t) = ![(Ring.sl 2 t.val).val, 0, 7, 0] := by decide +kernel
@[sl_canon] theorem canon24 (t : Fin grid0.N) :
    (scO.slice (Rect.unit (s := S2x128x8x1024) (k0_off24 (grid0.coords t)) S1x128x1x1024.size (k0_off24_inb (grid0.coords t))) (fun _ => rfl)).squeeze S128x1024 squeezes_S1x128x1x1024_S128x1024 = rwin (Ring.sl 2 t.val) 7 :=
  congrArg (fun M : Memref sig .tc .vmem S1x128x1x1024 .f32 => M.squeeze S128x1024 squeezes_S1x128x1x1024_S128x1024) (Memref.slice_unit_congr _ (off24_eq t) _ _ (fun _ => rfl) (fun _ => rfl))
@[sl_canon] theorem canon24' (t : Fin grid0.N) :
    (scO.slice (Rect.unit (s := S2x128x8x1024) (k0_off24 (grid0.coords t)) ![1, 128, 1, 1024] (k0_off24_inb (grid0.coords t))) (fun _ => rfl)).squeeze S128x1024 squeezes_S1x128x1x1024_S128x1024 = rwin (Ring.sl 2 t.val) 7 :=
  canon24 t
theorem off16_eq : ∀ (t : Fin grid0.N) (w : Fin 8), k0_off16 (grid0.coords t) (BitVec.ofNat 32 (128 * w.val)) = ![(Ring.bk 32 t.val).val / 4, 1024 * ((Ring.bk 32 t.val).val % 4) + 128 * w.val, 0] := by decide +kernel
@[sl_canon] theorem canon16_0 (t : Fin grid0.N) :
    (hbO.slice (Rect.unit (s := S8x4096x1024) (k0_off16 (grid0.coords t) 0#32) S1x128x1024.size (k0_off16_inb (grid0.coords t) 0)) (fun _ => rfl)).squeeze S128x1024 squeezes_S1x128x1024_S128x1024 = dstB (Ring.bk 32 t.val) 0 :=
  congrArg (fun M : Memref sig .tc .hbm S1x128x1024 .f32 => M.squeeze S128x1024 squeezes_S1x128x1024_S128x1024) (Memref.slice_unit_congr _ (off16_eq t 0) _ _ (fun _ => rfl) (fun _ => rfl))
@[sl_canon] theorem canon16_0' (t : Fin grid0.N) :
    (hbO.slice (Rect.unit (s := S8x4096x1024) (k0_off16 (grid0.coords t) 0#32) ![1, 128, 1024] (k0_off16_inb (grid0.coords t) 0)) (fun _ => rfl)).squeeze S128x1024 squeezes_S1x128x1024_S128x1024 = dstB (Ring.bk 32 t.val) 0 :=
  canon16_0 t
@[sl_canon] theorem canon16_1 (t : Fin grid0.N) :
    (hbO.slice (Rect.unit (s := S8x4096x1024) (k0_off16 (grid0.coords t) 128#32) S1x128x1024.size (k0_off16_inb (grid0.coords t) 1)) (fun _ => rfl)).squeeze S128x1024 squeezes_S1x128x1024_S128x1024 = dstB (Ring.bk 32 t.val) 1 :=
  congrArg (fun M : Memref sig .tc .hbm S1x128x1024 .f32 => M.squeeze S128x1024 squeezes_S1x128x1024_S128x1024) (Memref.slice_unit_congr _ (off16_eq t 1) _ _ (fun _ => rfl) (fun _ => rfl))
@[sl_canon] theorem canon16_1' (t : Fin grid0.N) :
    (hbO.slice (Rect.unit (s := S8x4096x1024) (k0_off16 (grid0.coords t) 128#32) ![1, 128, 1024] (k0_off16_inb (grid0.coords t) 1)) (fun _ => rfl)).squeeze S128x1024 squeezes_S1x128x1024_S128x1024 = dstB (Ring.bk 32 t.val) 1 :=
  canon16_1 t
@[sl_canon] theorem canon16_2 (t : Fin grid0.N) :
    (hbO.slice (Rect.unit (s := S8x4096x1024) (k0_off16 (grid0.coords t) 256#32) S1x128x1024.size (k0_off16_inb (grid0.coords t) 2)) (fun _ => rfl)).squeeze S128x1024 squeezes_S1x128x1024_S128x1024 = dstB (Ring.bk 32 t.val) 2 :=
  congrArg (fun M : Memref sig .tc .hbm S1x128x1024 .f32 => M.squeeze S128x1024 squeezes_S1x128x1024_S128x1024) (Memref.slice_unit_congr _ (off16_eq t 2) _ _ (fun _ => rfl) (fun _ => rfl))
@[sl_canon] theorem canon16_2' (t : Fin grid0.N) :
    (hbO.slice (Rect.unit (s := S8x4096x1024) (k0_off16 (grid0.coords t) 256#32) ![1, 128, 1024] (k0_off16_inb (grid0.coords t) 2)) (fun _ => rfl)).squeeze S128x1024 squeezes_S1x128x1024_S128x1024 = dstB (Ring.bk 32 t.val) 2 :=
  canon16_2 t
@[sl_canon] theorem canon16_3 (t : Fin grid0.N) :
    (hbO.slice (Rect.unit (s := S8x4096x1024) (k0_off16 (grid0.coords t) 384#32) S1x128x1024.size (k0_off16_inb (grid0.coords t) 3)) (fun _ => rfl)).squeeze S128x1024 squeezes_S1x128x1024_S128x1024 = dstB (Ring.bk 32 t.val) 3 :=
  congrArg (fun M : Memref sig .tc .hbm S1x128x1024 .f32 => M.squeeze S128x1024 squeezes_S1x128x1024_S128x1024) (Memref.slice_unit_congr _ (off16_eq t 3) _ _ (fun _ => rfl) (fun _ => rfl))
@[sl_canon] theorem canon16_3' (t : Fin grid0.N) :
    (hbO.slice (Rect.unit (s := S8x4096x1024) (k0_off16 (grid0.coords t) 384#32) ![1, 128, 1024] (k0_off16_inb (grid0.coords t) 3)) (fun _ => rfl)).squeeze S128x1024 squeezes_S1x128x1024_S128x1024 = dstB (Ring.bk 32 t.val) 3 :=
  canon16_3 t
@[sl_canon] theorem canon16_4 (t : Fin grid0.N) :
    (hbO.slice (Rect.unit (s := S8x4096x1024) (k0_off16 (grid0.coords t) 512#32) S1x128x1024.size (k0_off16_inb (grid0.coords t) 4)) (fun _ => rfl)).squeeze S128x1024 squeezes_S1x128x1024_S128x1024 = dstB (Ring.bk 32 t.val) 4 :=
  congrArg (fun M : Memref sig .tc .hbm S1x128x1024 .f32 => M.squeeze S128x1024 squeezes_S1x128x1024_S128x1024) (Memref.slice_unit_congr _ (off16_eq t 4) _ _ (fun _ => rfl) (fun _ => rfl))
@[sl_canon] theorem canon16_4' (t : Fin grid0.N) :
    (hbO.slice (Rect.unit (s := S8x4096x1024) (k0_off16 (grid0.coords t) 512#32) ![1, 128, 1024] (k0_off16_inb (grid0.coords t) 4)) (fun _ => rfl)).squeeze S128x1024 squeezes_S1x128x1024_S128x1024 = dstB (Ring.bk 32 t.val) 4 :=
  canon16_4 t
@[sl_canon] theorem canon16_5 (t : Fin grid0.N) :
    (hbO.slice (Rect.unit (s := S8x4096x1024) (k0_off16 (grid0.coords t) 640#32) S1x128x1024.size (k0_off16_inb (grid0.coords t) 5)) (fun _ => rfl)).squeeze S128x1024 squeezes_S1x128x1024_S128x1024 = dstB (Ring.bk 32 t.val) 5 :=
  congrArg (fun M : Memref sig .tc .hbm S1x128x1024 .f32 => M.squeeze S128x1024 squeezes_S1x128x1024_S128x1024) (Memref.slice_unit_congr _ (off16_eq t 5) _ _ (fun _ => rfl) (fun _ => rfl))
@[sl_canon] theorem canon16_5' (t : Fin grid0.N) :
    (hbO.slice (Rect.unit (s := S8x4096x1024) (k0_off16 (grid0.coords t) 640#32) ![1, 128, 1024] (k0_off16_inb (grid0.coords t) 5)) (fun _ => rfl)).squeeze S128x1024 squeezes_S1x128x1024_S128x1024 = dstB (Ring.bk 32 t.val) 5 :=
  canon16_5 t
@[sl_canon] theorem canon16_6 (t : Fin grid0.N) :
    (hbO.slice (Rect.unit (s := S8x4096x1024) (k0_off16 (grid0.coords t) 768#32) S1x128x1024.size (k0_off16_inb (grid0.coords t) 6)) (fun _ => rfl)).squeeze S128x1024 squeezes_S1x128x1024_S128x1024 = dstB (Ring.bk 32 t.val) 6 :=
  congrArg (fun M : Memref sig .tc .hbm S1x128x1024 .f32 => M.squeeze S128x1024 squeezes_S1x128x1024_S128x1024) (Memref.slice_unit_congr _ (off16_eq t 6) _ _ (fun _ => rfl) (fun _ => rfl))
@[sl_canon] theorem canon16_6' (t : Fin grid0.N) :
    (hbO.slice (Rect.unit (s := S8x4096x1024) (k0_off16 (grid0.coords t) 768#32) ![1, 128, 1024] (k0_off16_inb (grid0.coords t) 6)) (fun _ => rfl)).squeeze S128x1024 squeezes_S1x128x1024_S128x1024 = dstB (Ring.bk 32 t.val) 6 :=
  canon16_6 t
@[sl_canon] theorem canon16_7 (t : Fin grid0.N) :
    (hbO.slice (Rect.unit (s := S8x4096x1024) (k0_off16 (grid0.coords t) 896#32) S1x128x1024.size (k0_off16_inb (grid0.coords t) 7)) (fun _ => rfl)).squeeze S128x1024 squeezes_S1x128x1024_S128x1024 = dstB (Ring.bk 32 t.val) 7 :=
  congrArg (fun M : Memref sig .tc .hbm S1x128x1024 .f32 => M.squeeze S128x1024 squeezes_S1x128x1024_S128x1024) (Memref.slice_unit_congr _ (off16_eq t 7) _ _ (fun _ => rfl) (fun _ => rfl))
@[sl_canon] theorem canon16_7' (t : Fin grid0.N) :
    (hbO.slice (Rect.unit (s := S8x4096x1024) (k0_off16 (grid0.coords t) 896#32) ![1, 128, 1024] (k0_off16_inb (grid0.coords t) 7)) (fun _ => rfl)).squeeze S128x1024 squeezes_S1x128x1024_S128x1024 = dstB (Ring.bk 32 t.val) 7 :=
  canon16_7 t
theorem off25_eq : ∀ t : Fin grid0.N, cond4 (grid0.coords t) → k0_off25 (grid0.coords t) = ![(Ring.sl 2 (t.val - 1)).val] := by decide +kernel
@[sl_canon] theorem canon25 (t : Fin grid0.N) (h : cond4 (grid0.coords t)) :
    (cc0_scratch7.slice (Rect.unit (s := S2) (k0_off25 (grid0.coords t)) S1.size (k0_off25_inb (grid0.coords t) h))).squeeze S_ squeezes_S1_S_ = cellA (Ring.sl 2 (t.val - 1)) :=
  congrArg (fun A : DmaSems sig S1 => A.squeeze S_ squeezes_S1_S_) (SemArray.slice_unit_congr _ (off25_eq t h) _ _)
@[sl_canon] theorem canon25' (t : Fin grid0.N) (h : cond4 (grid0.coords t)) :
    (cc0_scratch7.slice (Rect.unit (s := S2) (k0_off25 (grid0.coords t)) ![1] (k0_off25_inb (grid0.coords t) h))).squeeze S_ squeezes_S1_S_ = cellA (Ring.sl 2 (t.val - 1)) :=
  canon25 t h
theorem off27_eq : ∀ t : Fin grid0.N, cond4 (grid0.coords t) → k0_off27 (grid0.coords t) = ![(Ring.sl 2 (t.val - 1)).val, 0, 0, 0] := by decide +kernel
@[sl_canon] theorem canon27 (t : Fin grid0.N) (h : cond4 (grid0.coords t)) :
    (scO.slice (Rect.unit (s := S2x128x8x1024) (k0_off27 (grid0.coords t)) S1x128x1x1024.size (k0_off27_inb (grid0.coords t) h)) (fun _ => rfl)).squeeze S128x1024 squeezes_S1x128x1x1024_S128x1024 = rwin (Ring.sl 2 (t.val - 1)) 0 :=
  congrArg (fun M : Memref sig .tc .vmem S1x128x1x1024 .f32 => M.squeeze S128x1024 squeezes_S1x128x1x1024_S128x1024) (Memref.slice_unit_congr _ (off27_eq t h) _ _ (fun _ => rfl) (fun _ => rfl))
@[sl_canon] theorem canon27' (t : Fin grid0.N) (h : cond4 (grid0.coords t)) :
    (scO.slice (Rect.unit (s := S2x128x8x1024) (k0_off27 (grid0.coords t)) ![1, 128, 1, 1024] (k0_off27_inb (grid0.coords t) h)) (fun _ => rfl)).squeeze S128x1024 squeezes_S1x128x1x1024_S128x1024 = rwin (Ring.sl 2 (t.val - 1)) 0 :=
  canon27 t h
theorem off28_eq : ∀ t : Fin grid0.N, cond4 (grid0.coords t) → k0_off28 (grid0.coords t) = ![(Ring.sl 2 (t.val - 1)).val, 0, 1, 0] := by decide +kernel
@[sl_canon] theorem canon28 (t : Fin grid0.N) (h : cond4 (grid0.coords t)) :
    (scO.slice (Rect.unit (s := S2x128x8x1024) (k0_off28 (grid0.coords t)) S1x128x1x1024.size (k0_off28_inb (grid0.coords t) h)) (fun _ => rfl)).squeeze S128x1024 squeezes_S1x128x1x1024_S128x1024 = rwin (Ring.sl 2 (t.val - 1)) 1 :=
  congrArg (fun M : Memref sig .tc .vmem S1x128x1x1024 .f32 => M.squeeze S128x1024 squeezes_S1x128x1x1024_S128x1024) (Memref.slice_unit_congr _ (off28_eq t h) _ _ (fun _ => rfl) (fun _ => rfl))
@[sl_canon] theorem canon28' (t : Fin grid0.N) (h : cond4 (grid0.coords t)) :
    (scO.slice (Rect.unit (s := S2x128x8x1024) (k0_off28 (grid0.coords t)) ![1, 128, 1, 1024] (k0_off28_inb (grid0.coords t) h)) (fun _ => rfl)).squeeze S128x1024 squeezes_S1x128x1x1024_S128x1024 = rwin (Ring.sl 2 (t.val - 1)) 1 :=
  canon28 t h
theorem off29_eq : ∀ t : Fin grid0.N, cond4 (grid0.coords t) → k0_off29 (grid0.coords t) = ![(Ring.sl 2 (t.val - 1)).val, 0, 2, 0] := by decide +kernel
@[sl_canon] theorem canon29 (t : Fin grid0.N) (h : cond4 (grid0.coords t)) :
    (scO.slice (Rect.unit (s := S2x128x8x1024) (k0_off29 (grid0.coords t)) S1x128x1x1024.size (k0_off29_inb (grid0.coords t) h)) (fun _ => rfl)).squeeze S128x1024 squeezes_S1x128x1x1024_S128x1024 = rwin (Ring.sl 2 (t.val - 1)) 2 :=
  congrArg (fun M : Memref sig .tc .vmem S1x128x1x1024 .f32 => M.squeeze S128x1024 squeezes_S1x128x1x1024_S128x1024) (Memref.slice_unit_congr _ (off29_eq t h) _ _ (fun _ => rfl) (fun _ => rfl))
@[sl_canon] theorem canon29' (t : Fin grid0.N) (h : cond4 (grid0.coords t)) :
    (scO.slice (Rect.unit (s := S2x128x8x1024) (k0_off29 (grid0.coords t)) ![1, 128, 1, 1024] (k0_off29_inb (grid0.coords t) h)) (fun _ => rfl)).squeeze S128x1024 squeezes_S1x128x1x1024_S128x1024 = rwin (Ring.sl 2 (t.val - 1)) 2 :=
  canon29 t h
theorem off30_eq : ∀ t : Fin grid0.N, cond4 (grid0.coords t) → k0_off30 (grid0.coords t) = ![(Ring.sl 2 (t.val - 1)).val, 0, 3, 0] := by decide +kernel
@[sl_canon] theorem canon30 (t : Fin grid0.N) (h : cond4 (grid0.coords t)) :
    (scO.slice (Rect.unit (s := S2x128x8x1024) (k0_off30 (grid0.coords t)) S1x128x1x1024.size (k0_off30_inb (grid0.coords t) h)) (fun _ => rfl)).squeeze S128x1024 squeezes_S1x128x1x1024_S128x1024 = rwin (Ring.sl 2 (t.val - 1)) 3 :=
  congrArg (fun M : Memref sig .tc .vmem S1x128x1x1024 .f32 => M.squeeze S128x1024 squeezes_S1x128x1x1024_S128x1024) (Memref.slice_unit_congr _ (off30_eq t h) _ _ (fun _ => rfl) (fun _ => rfl))
@[sl_canon] theorem canon30' (t : Fin grid0.N) (h : cond4 (grid0.coords t)) :
    (scO.slice (Rect.unit (s := S2x128x8x1024) (k0_off30 (grid0.coords t)) ![1, 128, 1, 1024] (k0_off30_inb (grid0.coords t) h)) (fun _ => rfl)).squeeze S128x1024 squeezes_S1x128x1x1024_S128x1024 = rwin (Ring.sl 2 (t.val - 1)) 3 :=
  canon30 t h
theorem off31_eq : ∀ t : Fin grid0.N, cond4 (grid0.coords t) → k0_off31 (grid0.coords t) = ![(Ring.sl 2 (t.val - 1)).val, 0, 4, 0] := by decide +kernel
@[sl_canon] theorem canon31 (t : Fin grid0.N) (h : cond4 (grid0.coords t)) :
    (scO.slice (Rect.unit (s := S2x128x8x1024) (k0_off31 (grid0.coords t)) S1x128x1x1024.size (k0_off31_inb (grid0.coords t) h)) (fun _ => rfl)).squeeze S128x1024 squeezes_S1x128x1x1024_S128x1024 = rwin (Ring.sl 2 (t.val - 1)) 4 :=
  congrArg (fun M : Memref sig .tc .vmem S1x128x1x1024 .f32 => M.squeeze S128x1024 squeezes_S1x128x1x1024_S128x1024) (Memref.slice_unit_congr _ (off31_eq t h) _ _ (fun _ => rfl) (fun _ => rfl))
@[sl_canon] theorem canon31' (t : Fin grid0.N) (h : cond4 (grid0.coords t)) :
    (scO.slice (Rect.unit (s := S2x128x8x1024) (k0_off31 (grid0.coords t)) ![1, 128, 1, 1024] (k0_off31_inb (grid0.coords t) h)) (fun _ => rfl)).squeeze S128x1024 squeezes_S1x128x1x1024_S128x1024 = rwin (Ring.sl 2 (t.val - 1)) 4 :=
  canon31 t h
theorem off32_eq : ∀ t : Fin grid0.N, cond4 (grid0.coords t) → k0_off32 (grid0.coords t) = ![(Ring.sl 2 (t.val - 1)).val, 0, 5, 0] := by decide +kernel
@[sl_canon] theorem canon32 (t : Fin grid0.N) (h : cond4 (grid0.coords t)) :
    (scO.slice (Rect.unit (s := S2x128x8x1024) (k0_off32 (grid0.coords t)) S1x128x1x1024.size (k0_off32_inb (grid0.coords t) h)) (fun _ => rfl)).squeeze S128x1024 squeezes_S1x128x1x1024_S128x1024 = rwin (Ring.sl 2 (t.val - 1)) 5 :=
  congrArg (fun M : Memref sig .tc .vmem S1x128x1x1024 .f32 => M.squeeze S128x1024 squeezes_S1x128x1x1024_S128x1024) (Memref.slice_unit_congr _ (off32_eq t h) _ _ (fun _ => rfl) (fun _ => rfl))
@[sl_canon] theorem canon32' (t : Fin grid0.N) (h : cond4 (grid0.coords t)) :
    (scO.slice (Rect.unit (s := S2x128x8x1024) (k0_off32 (grid0.coords t)) ![1, 128, 1, 1024] (k0_off32_inb (grid0.coords t) h)) (fun _ => rfl)).squeeze S128x1024 squeezes_S1x128x1x1024_S128x1024 = rwin (Ring.sl 2 (t.val - 1)) 5 :=
  canon32 t h
theorem off33_eq : ∀ t : Fin grid0.N, cond4 (grid0.coords t) → k0_off33 (grid0.coords t) = ![(Ring.sl 2 (t.val - 1)).val, 0, 6, 0] := by decide +kernel
@[sl_canon] theorem canon33 (t : Fin grid0.N) (h : cond4 (grid0.coords t)) :
    (scO.slice (Rect.unit (s := S2x128x8x1024) (k0_off33 (grid0.coords t)) S1x128x1x1024.size (k0_off33_inb (grid0.coords t) h)) (fun _ => rfl)).squeeze S128x1024 squeezes_S1x128x1x1024_S128x1024 = rwin (Ring.sl 2 (t.val - 1)) 6 :=
  congrArg (fun M : Memref sig .tc .vmem S1x128x1x1024 .f32 => M.squeeze S128x1024 squeezes_S1x128x1x1024_S128x1024) (Memref.slice_unit_congr _ (off33_eq t h) _ _ (fun _ => rfl) (fun _ => rfl))
@[sl_canon] theorem canon33' (t : Fin grid0.N) (h : cond4 (grid0.coords t)) :
    (scO.slice (Rect.unit (s := S2x128x8x1024) (k0_off33 (grid0.coords t)) ![1, 128, 1, 1024] (k0_off33_inb (grid0.coords t) h)) (fun _ => rfl)).squeeze S128x1024 squeezes_S1x128x1x1024_S128x1024 = rwin (Ring.sl 2 (t.val - 1)) 6 :=
  canon33 t h
theorem off34_eq : ∀ t : Fin grid0.N, cond4 (grid0.coords t) → k0_off34 (grid0.coords t) = ![(Ring.sl 2 (t.val - 1)).val, 0, 7, 0] := by decide +kernel
@[sl_canon] theorem canon34 (t : Fin grid0.N) (h : cond4 (grid0.coords t)) :
    (scO.slice (Rect.unit (s := S2x128x8x1024) (k0_off34 (grid0.coords t)) S1x128x1x1024.size (k0_off34_inb (grid0.coords t) h)) (fun _ => rfl)).squeeze S128x1024 squeezes_S1x128x1x1024_S128x1024 = rwin (Ring.sl 2 (t.val - 1)) 7 :=
  congrArg (fun M : Memref sig .tc .vmem S1x128x1x1024 .f32 => M.squeeze S128x1024 squeezes_S1x128x1x1024_S128x1024) (Memref.slice_unit_congr _ (off34_eq t h) _ _ (fun _ => rfl) (fun _ => rfl))
@[sl_canon] theorem canon34' (t : Fin grid0.N) (h : cond4 (grid0.coords t)) :
    (scO.slice (Rect.unit (s := S2x128x8x1024) (k0_off34 (grid0.coords t)) ![1, 128, 1, 1024] (k0_off34_inb (grid0.coords t) h)) (fun _ => rfl)).squeeze S128x1024 squeezes_S1x128x1x1024_S128x1024 = rwin (Ring.sl 2 (t.val - 1)) 7 :=
  canon34 t h
theorem off26_eq : ∀ (t : Fin grid0.N) (w : Fin 8), cond4 (grid0.coords t) → k0_off26 (grid0.coords t) (BitVec.ofNat 32 (128 * w.val)) = ![(Ring.bk 32 (t.val - 1)).val / 4, 1024 * ((Ring.bk 32 (t.val - 1)).val % 4) + 128 * w.val, 0] := by decide +kernel
@[sl_canon] theorem canon26_0 (t : Fin grid0.N) (h : cond4 (grid0.coords t)) :
    (hbO.slice (Rect.unit (s := S8x4096x1024) (k0_off26 (grid0.coords t) 0#32) S1x128x1024.size (k0_off26_inb (grid0.coords t) h 0)) (fun _ => rfl)).squeeze S128x1024 squeezes_S1x128x1024_S128x1024 = dstB (Ring.bk 32 (t.val - 1)) 0 :=
  congrArg (fun M : Memref sig .tc .hbm S1x128x1024 .f32 => M.squeeze S128x1024 squeezes_S1x128x1024_S128x1024) (Memref.slice_unit_congr _ (off26_eq t 0 h) _ _ (fun _ => rfl) (fun _ => rfl))
@[sl_canon] theorem canon26_0' (t : Fin grid0.N) (h : cond4 (grid0.coords t)) :
    (hbO.slice (Rect.unit (s := S8x4096x1024) (k0_off26 (grid0.coords t) 0#32) ![1, 128, 1024] (k0_off26_inb (grid0.coords t) h 0)) (fun _ => rfl)).squeeze S128x1024 squeezes_S1x128x1024_S128x1024 = dstB (Ring.bk 32 (t.val - 1)) 0 :=
  canon26_0 t h
@[sl_canon] theorem canon26_1 (t : Fin grid0.N) (h : cond4 (grid0.coords t)) :
    (hbO.slice (Rect.unit (s := S8x4096x1024) (k0_off26 (grid0.coords t) 128#32) S1x128x1024.size (k0_off26_inb (grid0.coords t) h 1)) (fun _ => rfl)).squeeze S128x1024 squeezes_S1x128x1024_S128x1024 = dstB (Ring.bk 32 (t.val - 1)) 1 :=
  congrArg (fun M : Memref sig .tc .hbm S1x128x1024 .f32 => M.squeeze S128x1024 squeezes_S1x128x1024_S128x1024) (Memref.slice_unit_congr _ (off26_eq t 1 h) _ _ (fun _ => rfl) (fun _ => rfl))
@[sl_canon] theorem canon26_1' (t : Fin grid0.N) (h : cond4 (grid0.coords t)) :
    (hbO.slice (Rect.unit (s := S8x4096x1024) (k0_off26 (grid0.coords t) 128#32) ![1, 128, 1024] (k0_off26_inb (grid0.coords t) h 1)) (fun _ => rfl)).squeeze S128x1024 squeezes_S1x128x1024_S128x1024 = dstB (Ring.bk 32 (t.val - 1)) 1 :=
  canon26_1 t h
@[sl_canon] theorem canon26_2 (t : Fin grid0.N) (h : cond4 (grid0.coords t)) :
    (hbO.slice (Rect.unit (s := S8x4096x1024) (k0_off26 (grid0.coords t) 256#32) S1x128x1024.size (k0_off26_inb (grid0.coords t) h 2)) (fun _ => rfl)).squeeze S128x1024 squeezes_S1x128x1024_S128x1024 = dstB (Ring.bk 32 (t.val - 1)) 2 :=
  congrArg (fun M : Memref sig .tc .hbm S1x128x1024 .f32 => M.squeeze S128x1024 squeezes_S1x128x1024_S128x1024) (Memref.slice_unit_congr _ (off26_eq t 2 h) _ _ (fun _ => rfl) (fun _ => rfl))
@[sl_canon] theorem canon26_2' (t : Fin grid0.N) (h : cond4 (grid0.coords t)) :
    (hbO.slice (Rect.unit (s := S8x4096x1024) (k0_off26 (grid0.coords t) 256#32) ![1, 128, 1024] (k0_off26_inb (grid0.coords t) h 2)) (fun _ => rfl)).squeeze S128x1024 squeezes_S1x128x1024_S128x1024 = dstB (Ring.bk 32 (t.val - 1)) 2 :=
  canon26_2 t h
@[sl_canon] theorem canon26_3 (t : Fin grid0.N) (h : cond4 (grid0.coords t)) :
    (hbO.slice (Rect.unit (s := S8x4096x1024) (k0_off26 (grid0.coords t) 384#32) S1x128x1024.size (k0_off26_inb (grid0.coords t) h 3)) (fun _ => rfl)).squeeze S128x1024 squeezes_S1x128x1024_S128x1024 = dstB (Ring.bk 32 (t.val - 1)) 3 :=
  congrArg (fun M : Memref sig .tc .hbm S1x128x1024 .f32 => M.squeeze S128x1024 squeezes_S1x128x1024_S128x1024) (Memref.slice_unit_congr _ (off26_eq t 3 h) _ _ (fun _ => rfl) (fun _ => rfl))
@[sl_canon] theorem canon26_3' (t : Fin grid0.N) (h : cond4 (grid0.coords t)) :
    (hbO.slice (Rect.unit (s := S8x4096x1024) (k0_off26 (grid0.coords t) 384#32) ![1, 128, 1024] (k0_off26_inb (grid0.coords t) h 3)) (fun _ => rfl)).squeeze S128x1024 squeezes_S1x128x1024_S128x1024 = dstB (Ring.bk 32 (t.val - 1)) 3 :=
  canon26_3 t h
@[sl_canon] theorem canon26_4 (t : Fin grid0.N) (h : cond4 (grid0.coords t)) :
    (hbO.slice (Rect.unit (s := S8x4096x1024) (k0_off26 (grid0.coords t) 512#32) S1x128x1024.size (k0_off26_inb (grid0.coords t) h 4)) (fun _ => rfl)).squeeze S128x1024 squeezes_S1x128x1024_S128x1024 = dstB (Ring.bk 32 (t.val - 1)) 4 :=
  congrArg (fun M : Memref sig .tc .hbm S1x128x1024 .f32 => M.squeeze S128x1024 squeezes_S1x128x1024_S128x1024) (Memref.slice_unit_congr _ (off26_eq t 4 h) _ _ (fun _ => rfl) (fun _ => rfl))
@[sl_canon] theorem canon26_4' (t : Fin grid0.N) (h : cond4 (grid0.coords t)) :
    (hbO.slice (Rect.unit (s := S8x4096x1024) (k0_off26 (grid0.coords t) 512#32) ![1, 128, 1024] (k0_off26_inb (grid0.coords t) h 4)) (fun _ => rfl)).squeeze S128x1024 squeezes_S1x128x1024_S128x1024 = dstB (Ring.bk 32 (t.val - 1)) 4 :=
  canon26_4 t h
@[sl_canon] theorem canon26_5 (t : Fin grid0.N) (h : cond4 (grid0.coords t)) :
    (hbO.slice (Rect.unit (s := S8x4096x1024) (k0_off26 (grid0.coords t) 640#32) S1x128x1024.size (k0_off26_inb (grid0.coords t) h 5)) (fun _ => rfl)).squeeze S128x1024 squeezes_S1x128x1024_S128x1024 = dstB (Ring.bk 32 (t.val - 1)) 5 :=
  congrArg (fun M : Memref sig .tc .hbm S1x128x1024 .f32 => M.squeeze S128x1024 squeezes_S1x128x1024_S128x1024) (Memref.slice_unit_congr _ (off26_eq t 5 h) _ _ (fun _ => rfl) (fun _ => rfl))
@[sl_canon] theorem canon26_5' (t : Fin grid0.N) (h : cond4 (grid0.coords t)) :
    (hbO.slice (Rect.unit (s := S8x4096x1024) (k0_off26 (grid0.coords t) 640#32) ![1, 128, 1024] (k0_off26_inb (grid0.coords t) h 5)) (fun _ => rfl)).squeeze S128x1024 squeezes_S1x128x1024_S128x1024 = dstB (Ring.bk 32 (t.val - 1)) 5 :=
  canon26_5 t h
@[sl_canon] theorem canon26_6 (t : Fin grid0.N) (h : cond4 (grid0.coords t)) :
    (hbO.slice (Rect.unit (s := S8x4096x1024) (k0_off26 (grid0.coords t) 768#32) S1x128x1024.size (k0_off26_inb (grid0.coords t) h 6)) (fun _ => rfl)).squeeze S128x1024 squeezes_S1x128x1024_S128x1024 = dstB (Ring.bk 32 (t.val - 1)) 6 :=
  congrArg (fun M : Memref sig .tc .hbm S1x128x1024 .f32 => M.squeeze S128x1024 squeezes_S1x128x1024_S128x1024) (Memref.slice_unit_congr _ (off26_eq t 6 h) _ _ (fun _ => rfl) (fun _ => rfl))
@[sl_canon] theorem canon26_6' (t : Fin grid0.N) (h : cond4 (grid0.coords t)) :
    (hbO.slice (Rect.unit (s := S8x4096x1024) (k0_off26 (grid0.coords t) 768#32) ![1, 128, 1024] (k0_off26_inb (grid0.coords t) h 6)) (fun _ => rfl)).squeeze S128x1024 squeezes_S1x128x1024_S128x1024 = dstB (Ring.bk 32 (t.val - 1)) 6 :=
  canon26_6 t h
@[sl_canon] theorem canon26_7 (t : Fin grid0.N) (h : cond4 (grid0.coords t)) :
    (hbO.slice (Rect.unit (s := S8x4096x1024) (k0_off26 (grid0.coords t) 896#32) S1x128x1024.size (k0_off26_inb (grid0.coords t) h 7)) (fun _ => rfl)).squeeze S128x1024 squeezes_S1x128x1024_S128x1024 = dstB (Ring.bk 32 (t.val - 1)) 7 :=
  congrArg (fun M : Memref sig .tc .hbm S1x128x1024 .f32 => M.squeeze S128x1024 squeezes_S1x128x1024_S128x1024) (Memref.slice_unit_congr _ (off26_eq t 7 h) _ _ (fun _ => rfl) (fun _ => rfl))
@[sl_canon] theorem canon26_7' (t : Fin grid0.N) (h : cond4 (grid0.coords t)) :
    (hbO.slice (Rect.unit (s := S8x4096x1024) (k0_off26 (grid0.coords t) 896#32) ![1, 128, 1024] (k0_off26_inb (grid0.coords t) h 7)) (fun _ => rfl)).squeeze S128x1024 squeezes_S1x128x1024_S128x1024 = dstB (Ring.bk 32 (t.val - 1)) 7 :=
  canon26_7 t h
theorem off35_eq : ∀ t : Fin grid0.N, k0_off35 (grid0.coords t) = ![(Ring.sl 2 t.val).val] := by decide +kernel
@[sl_canon] theorem canon35 (t : Fin grid0.N) (h : cond4 (grid0.coords t)) :
    (cc0_scratch7.slice (Rect.unit (s := S2) (k0_off35 (grid0.coords t)) S1.size (k0_off35_inb (grid0.coords t) h))).squeeze S_ squeezes_S1_S_ = cellA (Ring.sl 2 t.val) :=
  congrArg (fun A : DmaSems sig S1 => A.squeeze S_ squeezes_S1_S_) (SemArray.slice_unit_congr _ (off35_eq t) _ _)
@[sl_canon] theorem canon35' (t : Fin grid0.N) (h : cond4 (grid0.coords t)) :
    (cc0_scratch7.slice (Rect.unit (s := S2) (k0_off35 (grid0.coords t)) ![1] (k0_off35_inb (grid0.coords t) h))).squeeze S_ squeezes_S1_S_ = cellA (Ring.sl 2 t.val) :=
  canon35 t h
theorem off37_eq : ∀ t : Fin grid0.N, k0_off37 (grid0.coords t) = ![(Ring.sl 2 t.val).val, 0, 0, 0] := by decide +kernel
@[sl_canon] theorem canon37 (t : Fin grid0.N) (h : cond4 (grid0.coords t)) :
    (scO.slice (Rect.unit (s := S2x128x8x1024) (k0_off37 (grid0.coords t)) S1x128x1x1024.size (k0_off37_inb (grid0.coords t) h)) (fun _ => rfl)).squeeze S128x1024 squeezes_S1x128x1x1024_S128x1024 = rwin (Ring.sl 2 t.val) 0 :=
  congrArg (fun M : Memref sig .tc .vmem S1x128x1x1024 .f32 => M.squeeze S128x1024 squeezes_S1x128x1x1024_S128x1024) (Memref.slice_unit_congr _ (off37_eq t) _ _ (fun _ => rfl) (fun _ => rfl))
@[sl_canon] theorem canon37' (t : Fin grid0.N) (h : cond4 (grid0.coords t)) :
    (scO.slice (Rect.unit (s := S2x128x8x1024) (k0_off37 (grid0.coords t)) ![1, 128, 1, 1024] (k0_off37_inb (grid0.coords t) h)) (fun _ => rfl)).squeeze S128x1024 squeezes_S1x128x1x1024_S128x1024 = rwin (Ring.sl 2 t.val) 0 :=
  canon37 t h
theorem off38_eq : ∀ t : Fin grid0.N, k0_off38 (grid0.coords t) = ![(Ring.sl 2 t.val).val, 0, 1, 0] := by decide +kernel
@[sl_canon] theorem canon38 (t : Fin grid0.N) (h : cond4 (grid0.coords t)) :
    (scO.slice (Rect.unit (s := S2x128x8x1024) (k0_off38 (grid0.coords t)) S1x128x1x1024.size (k0_off38_inb (grid0.coords t) h)) (fun _ => rfl)).squeeze S128x1024 squeezes_S1x128x1x1024_S128x1024 = rwin (Ring.sl 2 t.val) 1 :=
  congrArg (fun M : Memref sig .tc .vmem S1x128x1x1024 .f32 => M.squeeze S128x1024 squeezes_S1x128x1x1024_S128x1024) (Memref.slice_unit_congr _ (off38_eq t) _ _ (fun _ => rfl) (fun _ => rfl))
@[sl_canon] theorem canon38' (t : Fin grid0.N) (h : cond4 (grid0.coords t)) :
    (scO.slice (Rect.unit (s := S2x128x8x1024) (k0_off38 (grid0.coords t)) ![1, 128, 1, 1024] (k0_off38_inb (grid0.coords t) h)) (fun _ => rfl)).squeeze S128x1024 squeezes_S1x128x1x1024_S128x1024 = rwin (Ring.sl 2 t.val) 1 :=
  canon38 t h
theorem off39_eq : ∀ t : Fin grid0.N, k0_off39 (grid0.coords t) = ![(Ring.sl 2 t.val).val, 0, 2, 0] := by decide +kernel
@[sl_canon] theorem canon39 (t : Fin grid0.N) (h : cond4 (grid0.coords t)) :
    (scO.slice (Rect.unit (s := S2x128x8x1024) (k0_off39 (grid0.coords t)) S1x128x1x1024.size (k0_off39_inb (grid0.coords t) h)) (fun _ => rfl)).squeeze S128x1024 squeezes_S1x128x1x1024_S128x1024 = rwin (Ring.sl 2 t.val) 2 :=
  congrArg (fun M : Memref sig .tc .vmem S1x128x1x1024 .f32 => M.squeeze S128x1024 squeezes_S1x128x1x1024_S128x1024) (Memref.slice_unit_congr _ (off39_eq t) _ _ (fun _ => rfl) (fun _ => rfl))
@[sl_canon] theorem canon39' (t : Fin grid0.N) (h : cond4 (grid0.coords t)) :
    (scO.slice (Rect.unit (s := S2x128x8x1024) (k0_off39 (grid0.coords t)) ![1, 128, 1, 1024] (k0_off39_inb (grid0.coords t) h)) (fun _ => rfl)).squeeze S128x1024 squeezes_S1x128x1x1024_S128x1024 = rwin (Ring.sl 2 t.val) 2 :=
  canon39 t h
theorem off40_eq : ∀ t : Fin grid0.N, k0_off40 (grid0.coords t) = ![(Ring.sl 2 t.val).val, 0, 3, 0] := by decide +kernel
@[sl_canon] theorem canon40 (t : Fin grid0.N) (h : cond4 (grid0.coords t)) :
    (scO.slice (Rect.unit (s := S2x128x8x1024) (k0_off40 (grid0.coords t)) S1x128x1x1024.size (k0_off40_inb (grid0.coords t) h)) (fun _ => rfl)).squeeze S128x1024 squeezes_S1x128x1x1024_S128x1024 = rwin (Ring.sl 2 t.val) 3 :=
  congrArg (fun M : Memref sig .tc .vmem S1x128x1x1024 .f32 => M.squeeze S128x1024 squeezes_S1x128x1x1024_S128x1024) (Memref.slice_unit_congr _ (off40_eq t) _ _ (fun _ => rfl) (fun _ => rfl))
@[sl_canon] theorem canon40' (t : Fin grid0.N) (h : cond4 (grid0.coords t)) :
    (scO.slice (Rect.unit (s := S2x128x8x1024) (k0_off40 (grid0.coords t)) ![1, 128, 1, 1024] (k0_off40_inb (grid0.coords t) h)) (fun _ => rfl)).squeeze S128x1024 squeezes_S1x128x1x1024_S128x1024 = rwin (Ring.sl 2 t.val) 3 :=
  canon40 t h
theorem off41_eq : ∀ t : Fin grid0.N, k0_off41 (grid0.coords t) = ![(Ring.sl 2 t.val).val, 0, 4, 0] := by decide +kernel
@[sl_canon] theorem canon41 (t : Fin grid0.N) (h : cond4 (grid0.coords t)) :
    (scO.slice (Rect.unit (s := S2x128x8x1024) (k0_off41 (grid0.coords t)) S1x128x1x1024.size (k0_off41_inb (grid0.coords t) h)) (fun _ => rfl)).squeeze S128x1024 squeezes_S1x128x1x1024_S128x1024 = rwin (Ring.sl 2 t.val) 4 :=
  congrArg (fun M : Memref sig .tc .vmem S1x128x1x1024 .f32 => M.squeeze S128x1024 squeezes_S1x128x1x1024_S128x1024) (Memref.slice_unit_congr _ (off41_eq t) _ _ (fun _ => rfl) (fun _ => rfl))
@[sl_canon] theorem canon41' (t : Fin grid0.N) (h : cond4 (grid0.coords t)) :
    (scO.slice (Rect.unit (s := S2x128x8x1024) (k0_off41 (grid0.coords t)) ![1, 128, 1, 1024] (k0_off41_inb (grid0.coords t) h)) (fun _ => rfl)).squeeze S128x1024 squeezes_S1x128x1x1024_S128x1024 = rwin (Ring.sl 2 t.val) 4 :=
  canon41 t h
theorem off42_eq : ∀ t : Fin grid0.N, k0_off42 (grid0.coords t) = ![(Ring.sl 2 t.val).val, 0, 5, 0] := by decide +kernel
@[sl_canon] theorem canon42 (t : Fin grid0.N) (h : cond4 (grid0.coords t)) :
    (scO.slice (Rect.unit (s := S2x128x8x1024) (k0_off42 (grid0.coords t)) S1x128x1x1024.size (k0_off42_inb (grid0.coords t) h)) (fun _ => rfl)).squeeze S128x1024 squeezes_S1x128x1x1024_S128x1024 = rwin (Ring.sl 2 t.val) 5 :=
  congrArg (fun M : Memref sig .tc .vmem S1x128x1x1024 .f32 => M.squeeze S128x1024 squeezes_S1x128x1x1024_S128x1024) (Memref.slice_unit_congr _ (off42_eq t) _ _ (fun _ => rfl) (fun _ => rfl))
@[sl_canon] theorem canon42' (t : Fin grid0.N) (h : cond4 (grid0.coords t)) :
    (scO.slice (Rect.unit (s := S2x128x8x1024) (k0_off42 (grid0.coords t)) ![1, 128, 1, 1024] (k0_off42_inb (grid0.coords t) h)) (fun _ => rfl)).squeeze S128x1024 squeezes_S1x128x1x1024_S128x1024 = rwin (Ring.sl 2 t.val) 5 :=
  canon42 t h
theorem off43_eq : ∀ t : Fin grid0.N, k0_off43 (grid0.coords t) = ![(Ring.sl 2 t.val).val, 0, 6, 0] := by decide +kernel
@[sl_canon] theorem canon43 (t : Fin grid0.N) (h : cond4 (grid0.coords t)) :
    (scO.slice (Rect.unit (s := S2x128x8x1024) (k0_off43 (grid0.coords t)) S1x128x1x1024.size (k0_off43_inb (grid0.coords t) h)) (fun _ => rfl)).squeeze S128x1024 squeezes_S1x128x1x1024_S128x1024 = rwin (Ring.sl 2 t.val) 6 :=
  congrArg (fun M : Memref sig .tc .vmem S1x128x1x1024 .f32 => M.squeeze S128x1024 squeezes_S1x128x1x1024_S128x1024) (Memref.slice_unit_congr _ (off43_eq t) _ _ (fun _ => rfl) (fun _ => rfl))
@[sl_canon] theorem canon43' (t : Fin grid0.N) (h : cond4 (grid0.coords t)) :
    (scO.slice (Rect.unit (s := S2x128x8x1024) (k0_off43 (grid0.coords t)) ![1, 128, 1, 1024] (k0_off43_inb (grid0.coords t) h)) (fun _ => rfl)).squeeze S128x1024 squeezes_S1x128x1x1024_S128x1024 = rwin (Ring.sl 2 t.val) 6 :=
  canon43 t h
theorem off44_eq : ∀ t : Fin grid0.N, k0_off44 (grid0.coords t) = ![(Ring.sl 2 t.val).val, 0, 7, 0] := by decide +kernel
@[sl_canon] theorem canon44 (t : Fin grid0.N) (h : cond4 (grid0.coords t)) :
    (scO.slice (Rect.unit (s := S2x128x8x1024) (k0_off44 (grid0.coords t)) S1x128x1x1024.size (k0_off44_inb (grid0.coords t) h)) (fun _ => rfl)).squeeze S128x1024 squeezes_S1x128x1x1024_S128x1024 = rwin (Ring.sl 2 t.val) 7 :=
  congrArg (fun M : Memref sig .tc .vmem S1x128x1x1024 .f32 => M.squeeze S128x1024 squeezes_S1x128x1x1024_S128x1024) (Memref.slice_unit_congr _ (off44_eq t) _ _ (fun _ => rfl) (fun _ => rfl))
@[sl_canon] theorem canon44' (t : Fin grid0.N) (h : cond4 (grid0.coords t)) :
    (scO.slice (Rect.unit (s := S2x128x8x1024) (k0_off44 (grid0.coords t)) ![1, 128, 1, 1024] (k0_off44_inb (grid0.coords t) h)) (fun _ => rfl)).squeeze S128x1024 squeezes_S1x128x1x1024_S128x1024 = rwin (Ring.sl 2 t.val) 7 :=
  canon44 t h
theorem off36_eq : ∀ (t : Fin grid0.N) (w : Fin 8), cond4 (grid0.coords t) → k0_off36 (grid0.coords t) (BitVec.ofNat 32 (128 * w.val)) = ![(Ring.bk 32 t.val).val / 4, 1024 * ((Ring.bk 32 t.val).val % 4) + 128 * w.val, 0] := by decide +kernel
@[sl_canon] theorem canon36_0 (t : Fin grid0.N) (h : cond4 (grid0.coords t)) :
    (hbO.slice (Rect.unit (s := S8x4096x1024) (k0_off36 (grid0.coords t) 0#32) S1x128x1024.size (k0_off36_inb (grid0.coords t) h 0)) (fun _ => rfl)).squeeze S128x1024 squeezes_S1x128x1024_S128x1024 = dstB (Ring.bk 32 t.val) 0 :=
  congrArg (fun M : Memref sig .tc .hbm S1x128x1024 .f32 => M.squeeze S128x1024 squeezes_S1x128x1024_S128x1024) (Memref.slice_unit_congr _ (off36_eq t 0 h) _ _ (fun _ => rfl) (fun _ => rfl))
@[sl_canon] theorem canon36_0' (t : Fin grid0.N) (h : cond4 (grid0.coords t)) :
    (hbO.slice (Rect.unit (s := S8x4096x1024) (k0_off36 (grid0.coords t) 0#32) ![1, 128, 1024] (k0_off36_inb (grid0.coords t) h 0)) (fun _ => rfl)).squeeze S128x1024 squeezes_S1x128x1024_S128x1024 = dstB (Ring.bk 32 t.val) 0 :=
  canon36_0 t h
@[sl_canon] theorem canon36_1 (t : Fin grid0.N) (h : cond4 (grid0.coords t)) :
    (hbO.slice (Rect.unit (s := S8x4096x1024) (k0_off36 (grid0.coords t) 128#32) S1x128x1024.size (k0_off36_inb (grid0.coords t) h 1)) (fun _ => rfl)).squeeze S128x1024 squeezes_S1x128x1024_S128x1024 = dstB (Ring.bk 32 t.val) 1 :=
  congrArg (fun M : Memref sig .tc .hbm S1x128x1024 .f32 => M.squeeze S128x1024 squeezes_S1x128x1024_S128x1024) (Memref.slice_unit_congr _ (off36_eq t 1 h) _ _ (fun _ => rfl) (fun _ => rfl))
@[sl_canon] theorem canon36_1' (t : Fin grid0.N) (h : cond4 (grid0.coords t)) :
    (hbO.slice (Rect.unit (s := S8x4096x1024) (k0_off36 (grid0.coords t) 128#32) ![1, 128, 1024] (k0_off36_inb (grid0.coords t) h 1)) (fun _ => rfl)).squeeze S128x1024 squeezes_S1x128x1024_S128x1024 = dstB (Ring.bk 32 t.val) 1 :=
  canon36_1 t h
@[sl_canon] theorem canon36_2 (t : Fin grid0.N) (h : cond4 (grid0.coords t)) :
    (hbO.slice (Rect.unit (s := S8x4096x1024) (k0_off36 (grid0.coords t) 256#32) S1x128x1024.size (k0_off36_inb (grid0.coords t) h 2)) (fun _ => rfl)).squeeze S128x1024 squeezes_S1x128x1024_S128x1024 = dstB (Ring.bk 32 t.val) 2 :=
  congrArg (fun M : Memref sig .tc .hbm S1x128x1024 .f32 => M.squeeze S128x1024 squeezes_S1x128x1024_S128x1024) (Memref.slice_unit_congr _ (off36_eq t 2 h) _ _ (fun _ => rfl) (fun _ => rfl))
@[sl_canon] theorem canon36_2' (t : Fin grid0.N) (h : cond4 (grid0.coords t)) :
    (hbO.slice (Rect.unit (s := S8x4096x1024) (k0_off36 (grid0.coords t) 256#32) ![1, 128, 1024] (k0_off36_inb (grid0.coords t) h 2)) (fun _ => rfl)).squeeze S128x1024 squeezes_S1x128x1024_S128x1024 = dstB (Ring.bk 32 t.val) 2 :=
  canon36_2 t h
@[sl_canon] theorem canon36_3 (t : Fin grid0.N) (h : cond4 (grid0.coords t)) :
    (hbO.slice (Rect.unit (s := S8x4096x1024) (k0_off36 (grid0.coords t) 384#32) S1x128x1024.size (k0_off36_inb (grid0.coords t) h 3)) (fun _ => rfl)).squeeze S128x1024 squeezes_S1x128x1024_S128x1024 = dstB (Ring.bk 32 t.val) 3 :=
  congrArg (fun M : Memref sig .tc .hbm S1x128x1024 .f32 => M.squeeze S128x1024 squeezes_S1x128x1024_S128x1024) (Memref.slice_unit_congr _ (off36_eq t 3 h) _ _ (fun _ => rfl) (fun _ => rfl))
@[sl_canon] theorem canon36_3' (t : Fin grid0.N) (h : cond4 (grid0.coords t)) :
    (hbO.slice (Rect.unit (s := S8x4096x1024) (k0_off36 (grid0.coords t) 384#32) ![1, 128, 1024] (k0_off36_inb (grid0.coords t) h 3)) (fun _ => rfl)).squeeze S128x1024 squeezes_S1x128x1024_S128x1024 = dstB (Ring.bk 32 t.val) 3 :=
  canon36_3 t h
@[sl_canon] theorem canon36_4 (t : Fin grid0.N) (h : cond4 (grid0.coords t)) :
    (hbO.slice (Rect.unit (s := S8x4096x1024) (k0_off36 (grid0.coords t) 512#32) S1x128x1024.size (k0_off36_inb (grid0.coords t) h 4)) (fun _ => rfl)).squeeze S128x1024 squeezes_S1x128x1024_S128x1024 = dstB (Ring.bk 32 t.val) 4 :=
  congrArg (fun M : Memref sig .tc .hbm S1x128x1024 .f32 => M.squeeze S128x1024 squeezes_S1x128x1024_S128x1024) (Memref.slice_unit_congr _ (off36_eq t 4 h) _ _ (fun _ => rfl) (fun _ => rfl))
@[sl_canon] theorem canon36_4' (t : Fin grid0.N) (h : cond4 (grid0.coords t)) :
    (hbO.slice (Rect.unit (s := S8x4096x1024) (k0_off36 (grid0.coords t) 512#32) ![1, 128, 1024] (k0_off36_inb (grid0.coords t) h 4)) (fun _ => rfl)).squeeze S128x1024 squeezes_S1x128x1024_S128x1024 = dstB (Ring.bk 32 t.val) 4 :=
  canon36_4 t h
@[sl_canon] theorem canon36_5 (t : Fin grid0.N) (h : cond4 (grid0.coords t)) :
    (hbO.slice (Rect.unit (s := S8x4096x1024) (k0_off36 (grid0.coords t) 640#32) S1x128x1024.size (k0_off36_inb (grid0.coords t) h 5)) (fun _ => rfl)).squeeze S128x1024 squeezes_S1x128x1024_S128x1024 = dstB (Ring.bk 32 t.val) 5 :=
  congrArg (fun M : Memref sig .tc .hbm S1x128x1024 .f32 => M.squeeze S128x1024 squeezes_S1x128x1024_S128x1024) (Memref.slice_unit_congr _ (off36_eq t 5 h) _ _ (fun _ => rfl) (fun _ => rfl))
@[sl_canon] theorem canon36_5' (t : Fin grid0.N) (h : cond4 (grid0.coords t)) :
    (hbO.slice (Rect.unit (s := S8x4096x1024) (k0_off36 (grid0.coords t) 640#32) ![1, 128, 1024] (k0_off36_inb (grid0.coords t) h 5)) (fun _ => rfl)).squeeze S128x1024 squeezes_S1x128x1024_S128x1024 = dstB (Ring.bk 32 t.val) 5 :=
  canon36_5 t h
@[sl_canon] theorem canon36_6 (t : Fin grid0.N) (h : cond4 (grid0.coords t)) :
    (hbO.slice (Rect.unit (s := S8x4096x1024) (k0_off36 (grid0.coords t) 768#32) S1x128x1024.size (k0_off36_inb (grid0.coords t) h 6)) (fun _ => rfl)).squeeze S128x1024 squeezes_S1x128x1024_S128x1024 = dstB (Ring.bk 32 t.val) 6 :=
  congrArg (fun M : Memref sig .tc .hbm S1x128x1024 .f32 => M.squeeze S128x1024 squeezes_S1x128x1024_S128x1024) (Memref.slice_unit_congr _ (off36_eq t 6 h) _ _ (fun _ => rfl) (fun _ => rfl))
@[sl_canon] theorem canon36_6' (t : Fin grid0.N) (h : cond4 (grid0.coords t)) :
    (hbO.slice (Rect.unit (s := S8x4096x1024) (k0_off36 (grid0.coords t) 768#32) ![1, 128, 1024] (k0_off36_inb (grid0.coords t) h 6)) (fun _ => rfl)).squeeze S128x1024 squeezes_S1x128x1024_S128x1024 = dstB (Ring.bk 32 t.val) 6 :=
  canon36_6 t h
@[sl_canon] theorem canon36_7 (t : Fin grid0.N) (h : cond4 (grid0.coords t)) :
    (hbO.slice (Rect.unit (s := S8x4096x1024) (k0_off36 (grid0.coords t) 896#32) S1x128x1024.size (k0_off36_inb (grid0.coords t) h 7)) (fun _ => rfl)).squeeze S128x1024 squeezes_S1x128x1024_S128x1024 = dstB (Ring.bk 32 t.val) 7 :=
  congrArg (fun M : Memref sig .tc .hbm S1x128x1024 .f32 => M.squeeze S128x1024 squeezes_S1x128x1024_S128x1024) (Memref.slice_unit_congr _ (off36_eq t 7 h) _ _ (fun _ => rfl) (fun _ => rfl))
@[sl_canon] theorem canon36_7' (t : Fin grid0.N) (h : cond4 (grid0.coords t)) :
    (hbO.slice (Rect.unit (s := S8x4096x1024) (k0_off36 (grid0.coords t) 896#32) ![1, 128, 1024] (k0_off36_inb (grid0.coords t) h 7)) (fun _ => rfl)).squeeze S128x1024 squeezes_S1x128x1024_S128x1024 = dstB (Ring.bk 32 t.val) 7 :=
  canon36_7 t h
theorem off11_eq : ∀ t : Fin grid0.N, k0_off11 (grid0.coords t) = ![(Ring.sl 2 t.val).val, 0, 0, 0] := by decide +kernel
instance (priority := high) closedOff11 (t : Fin grid0.N) : ClosedOff (k0_off11 (grid0.coords t)) := ⟨![(Ring.sl 2 t.val).val, 0, 0, 0], off11_eq t⟩
theorem off12_eq : ∀ t : Fin grid0.N, k0_off12 (grid0.coords t) = ![(Ring.sl 2 t.val).val, 32, 0, 0] := by decide +kernel
instance (priority := high) closedOff12 (t : Fin grid0.N) : ClosedOff (k0_off12 (grid0.coords t)) := ⟨![(Ring.sl 2 t.val).val, 32, 0, 0], off12_eq t⟩
theorem off13_eq : ∀ t : Fin grid0.N, k0_off13 (grid0.coords t) = ![(Ring.sl 2 t.val).val, 64, 0, 0] := by decide +kernel
instance (priority := high) closedOff13 (t : Fin grid0.N) : ClosedOff (k0_off13 (grid0.coords t)) := ⟨![(Ring.sl 2 t.val).val, 64, 0, 0], off13_eq t⟩
theorem off14_eq : ∀ t : Fin grid0.N, k0_off14 (grid0.coords t) = ![(Ring.sl 2 t.val).val, 96, 0, 0] := by decide +kernel
instance (priority := high) closedOff14 (t : Fin grid0.N) : ClosedOff (k0_off14 (grid0.coords t)) := ⟨![(Ring.sl 2 t.val).val, 96, 0, 0], off14_eq t⟩

end Cert.FfnIdeal.Mlp

end
-- ==== Proof.FfnCut.lean ====
/- The middle in three: the norm, the activations, the result. -/
module

public import proofs.«01_k».proof.Proof.FfnSplit

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The loads and the norm. -/
noncomputable def normP (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) :
    Prog (TpuEff nD τ sig (Elt F) Λ₀ .tc) (Σ' (v1 : BitVec 32) (v11 : BitVec 32) (v39 : FVec F S1x1024 .f32) (v41 : FVec F S1x1024 .f32) (v43 : FVec F S1x1024 .f32) (v52 : FVec F S1024x1024 .f32), Vec F S1x1024 .f32) := do
  let ⟨v1, v11, v22, v24, v26⟩ : Σ' (v1 : BitVec 32) (v11 : BitVec 32) (v22 : FVec F S1024x128 .f32) (v24 : FVec F S1024x128 .f32), FVec F S1024x128 .f32 ← startP i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
  let ⟨v39, v41, v43, v52, v53⟩ : Σ' (v39 : FVec F S1x1024 .f32) (v41 : FVec F S1x1024 .f32) (v43 : FVec F S1x1024 .f32) (v52 : FVec F S1024x1024 .f32), Vec F S1x1024 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v22 v24 v26
  pure ⟨v1, v11, v39, v41, v43, v52, v53⟩

/-- The up-projection, convolved and gated. -/
noncomputable def upP (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) (v39 : FVec F S1x1024 .f32) (v41 : FVec F S1x1024 .f32) (v52 : FVec F S1024x1024 .f32) (v53 : Vec F S1x1024 .f32) :
    Prog (TpuEff nD τ sig (Elt F) Λ₀ .tc) (Σ' (v932 : Vec F S256x2816 .bf16), Vec F S2816x1024 .bf16) := do
  let ⟨v62, v80, v93⟩ : Σ' (v62 : FVec F S1024x1024 .bf16) (v80 : FVec F S1040x256 .f32), FVec F S1024x256 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v39 v41 v52 v53
  let ⟨v98, v116, v129, v130⟩ : Σ' (v98 : FVec F S1024x256 .f32) (v116 : FVec F S1040x256 .f32) (v129 : FVec F S1024x256 .f32), Vec F S1x256 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v80 v93
  let ⟨v159, v167, v168⟩ : Σ' (v159 : FVec F S1040x256 .f32) (v167 : FVec F S1024x256 .f32), Vec F S1x256 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v98 v116 v129 v130
  let ⟨v177, v195, v203, v207⟩ : Σ' (v177 : FVec F S1024x256 .f32) (v195 : FVec F S1040x256 .f32) (v203 : FVec F S1024x256 .f32), FVec F S1024x256 .f32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v159 v167 v168
  let ⟨v238, v244, v245⟩ : Σ' (v238 : FVec F S1040x256 .f32) (v244 : FVec F S1024x256 .f32), FVec F S1024x256 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v177 v195 v203 v207
  let ⟨v256, v274, v282⟩ : Σ' (v256 : FVec F S1024x256 .f32) (v274 : FVec F S1040x256 .f32), FVec F S1024x256 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v238 v244 v245
  let ⟨v317, v319, v320⟩ : Σ' (v317 : FVec F S1040x256 .f32) (v319 : FVec F S1x256 .f32), Vec F S1x256 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v256 v274 v282
  let ⟨v335, v353, v355, v359⟩ : Σ' (v335 : FVec F S1024x256 .f32) (v353 : FVec F S1040x256 .f32) (v355 : FVec F S1x256 .f32), FVec F S1024x256 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v317 v319 v320
  let ⟨v396, v397⟩ : Σ' (v396 : FVec F S1040x256 .f32), Vec F S1x256 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v335 v353 v355 v359
  let ⟨v414, v432, v434⟩ : Σ' (v414 : FVec F S1024x256 .f32) (v432 : FVec F S1040x256 .f32), FVec F S1x256 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v396 v397
  let ⟨v459, v466, v470⟩ : Σ' (v459 : FVec F S1024x256 .f32) (v466 : FVec F S8x256 .f32), FVec F S8x256 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v414 v432 v434
  let ⟨v493, v511⟩ : Σ' (v493 : FVec F S1024x256 .f32), FVec F S1040x256 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v459 v466 v470
  let ⟨v538, v545, v549, v550⟩ : Σ' (v538 : FVec F S1024x256 .f32) (v545 : FVec F S8x256 .f32) (v549 : FVec F S8x256 .f32), FVec F S16x256 .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v493 v511
  let ⟨v572, v574, v581, v585, v589⟩ : Σ' (v572 : FVec F S1024x256 .f32) (v574 : FVec F S1024x256 .f32) (v581 : FVec F S8x256 .f32) (v585 : FVec F S8x256 .f32), FVec F S16x256 .f32 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v538 v545 v549 v550
  let ⟨v617, v624, v627, c1_i32_336⟩ : Σ' (v617 : FVec F S1024x256 .f32) (v624 : FVec F S8x256 .f32) (v627 : Vec F S8x256 .f32), BitVec 32 ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v572 v574 v581 v585 v589
  let ⟨v651, v653, v660, v664, v665⟩ : Σ' (v651 : FVec F S1024x256 .f32) (v653 : FVec F S1024x256 .f32) (v660 : FVec F S8x256 .f32) (v664 : FVec F S8x256 .f32), FVec F S16x256 .f32 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v617 v624 v627 c1_i32_336
  let ⟨v696, v699, v703, v704⟩ : Σ' (v696 : FVec F S1024x256 .f32) (v699 : IVec S8x256 1) (v703 : FVec F S8x256 .f32), FVec F S8x256 .f32 ← k0_part42 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v651 v653 v660 v664 v665
  let ⟨v730, v732, v739, v742⟩ : Σ' (v730 : FVec F S1024x256 .f32) (v732 : FVec F S1024x256 .f32) (v739 : FVec F S8x256 .f32), Vec F S8x256 .f32 ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v696 v699 v703 v704
  let ⟨v775, v778, v781⟩ : Σ' (v775 : FVec F S1024x256 .f32) (v778 : IVec S8x256 1), Vec F S8x256 .f32 ← k0_part44 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v730 v732 v739 v742
  let ⟨v809, v811, v814, v818, v819⟩ : Σ' (v809 : FVec F S1024x256 .f32) (v811 : FVec F S1024x256 .f32) (v814 : IVec S8x256 1) (v818 : FVec F S8x256 .f32), FVec F S8x256 .f32 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v775 v778 v781
  let ⟨v854, v857, v858⟩ : Σ' (v854 : FVec F S1024x256 .f32) (v857 : IVec S8x256 1), FVec F S8x256 .f32 ← k0_part46 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v809 v811 v814 v818 v819
  let ⟨v888, v890, v893, v894, v895⟩ : Σ' (v888 : FVec F S1024x256 .f32) (v890 : FVec F S1024x256 .f32) (v893 : IVec S8x256 1) (v894 : FVec F S8x256 .f32), Vec F S8x256 .f32 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v62 v854 v857 v858
  let ⟨v932, v933⟩ : Σ' (v932 : Vec F S256x2816 .bf16), Vec F S2816x1024 .bf16 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v888 v890 v893 v894 v895
  pure ⟨v932, v933⟩

/-- The down-projection, the residual and the last norm. -/
noncomputable def downP (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) (v1 : BitVec 32) (v11 : BitVec 32) (v43 : FVec F S1x1024 .f32) (v932 : Vec F S256x2816 .bf16) (v933 : Vec F S2816x1024 .bf16) :
    Prog (TpuEff nD τ sig (Elt F) Λ₀ .tc) (Σ' (v1 : BitVec 32) (v11 : BitVec 32) (c4_i32_665 : BitVec 32) (v1100 : BitVec 32) (v1105 : BitVec 32) (v1107 : BitVec 32), BitVec 1) := do
  let ⟨v954, v957, v958⟩ : Σ' (v954 : FVec F S256x1024 .f32) (v957 : FVec F S256x1 .f32), FVec F S256x1 .f32 ← k0_part49 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v43 v932 v933
  let ⟨v976, v978, v980, v982, v984, v986⟩ : Σ' (v976 : FVec F S256x1024 .f32) (v978 : FVec F S256x128 .f32) (v980 : FVec F S256x128 .f32) (v982 : FVec F S256x128 .f32) (v984 : FVec F S256x128 .f32), FVec F S256x128 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v11 v954 v957 v958
  let v1018 : FVec F S256x1024 .f32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v11 v43 v976 v978 v980 v982 v984 v986
  let ⟨v1038, v1045⟩ : Σ' (v1038 : FVec F S256x1024 .f32), FVec F S256x1 .f32 ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v43 v1018
  let ⟨v1060, v1062, v1064, v1066, v1068, v1070⟩ : Σ' (v1060 : FVec F S256x1024 .f32) (v1062 : FVec F S256x128 .f32) (v1064 : FVec F S256x128 .f32) (v1066 : FVec F S256x128 .f32) (v1068 : FVec F S256x128 .f32), FVec F S256x128 .f32 ← k0_part53 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v11 v1038 v1045
  let ⟨c4_i32_665, v1100, v1105, v1107, v1108⟩ : Σ' (c4_i32_665 : BitVec 32) (v1100 : BitVec 32) (v1105 : BitVec 32) (v1107 : BitVec 32), BitVec 1 ← k0_part54 i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v1 v11 v43 v1060 v1062 v1064 v1066 v1068 v1070
  pure ⟨v1, v11, c4_i32_665, v1100, v1105, v1107, v1108⟩

theorem midP_eq (i : grid0.Coords) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .hbm S1024x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .hbm S2816x1024 .f32) (harg9 : arg9.IsWhole) (arg10 : Memref sig .tc .vmem S1x1024 .f32) (harg10 : arg10.IsWhole) (arg11 : Memref sig .tc .hbm S8x4096x1024 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg16 : DmaSems sig S4) (arg17 : Memref sig .tc .vmem S1024x2816 .bf16) (harg17 : arg17.IsWhole) (arg18 : Memref sig .tc .vmem S2x128x8x1024 .f32) (harg18 : arg18.IsWhole) (arg19 : DmaSems sig S2) (arg20 : Memref sig .tc .vmem S16x5632 .f32) (harg20 : arg20.IsWhole) :
    midP (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
      = (do
          let ⟨v1, v11, v39, v41, v43, v52, v53⟩ ← normP i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20
          let ⟨v932, v933⟩ ← upP i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v39 v41 v52 v53
          downP i arg2 harg2 arg3 harg3 arg4 harg4 arg5 harg5 arg6 harg6 arg7 harg7 arg8 harg8 arg9 harg9 arg10 harg10 arg11 harg11 arg12 harg12 arg13 harg13 arg14 harg14 arg15 harg15 arg16 arg17 harg17 arg18 harg18 arg19 arg20 harg20 v1 v11 v43 v932 v933) := by
  unfold midP normP upP downP
  simp only [bind_assoc, pure_bind]

end Cert.FfnIdeal.Mlp

end
-- ==== Proof.FfnSpec.lean ====
/-
What one tile of the channel mixer computes, in the kernel's own operations and over any float type: the normed and
modulated rows (`hE`), one block of 256 columns of the convolved up-projection (`convE`), the gated activations (`ACT`), the
history the tile leaves (`TAIL`), and the result rows (`OUT`).
-/
module

public import proofs.«01_k».proof.Proof.FfnRing
public import proofs.«01_k».proof.Proof.FfnCut
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

theorem inb_cols {m n w : ℕ} (k : ℕ) (hk : k < w) (hn : n = 256 * w) : ∀ a, (![0, 256 * k] : Fin 2 → ℕ) a + (![m, 256] : Fin 2 → ℕ) a ≤ (![m, n] : Fin 2 → ℕ) a := by
  intro a; fin_cases a <;> simp <;> omega
theorem inb_row {m n w d : ℕ} (r k : ℕ) (hr : r + d ≤ m) (hk : k < w) (hn : n = 256 * w) : ∀ a, (![r, 256 * k] : Fin 2 → ℕ) a + (![d, 256] : Fin 2 → ℕ) a ≤ (![m, n] : Fin 2 → ℕ) a := by
  intro a; fin_cases a <;> simp <;> omega
theorem inb_rows (p : ℕ) (hp : p < 4) : ∀ a, (![256 * p, 0] : Fin 2 → ℕ) a + S256x2816.size a ≤ S1024x2816.size a := by
  intro a; fin_cases a <;> simp; omega
theorem inb_slab (j p : ℕ) (hj : j < 8) (hp : p < 4) : ∀ a, (![0, j, 256 * p, 0] : Fin 4 → ℕ) a + S1x1x256x128.size a ≤ S1x8x1024x128.size a := by
  intro a; fin_cases a <;> simp <;> omega

/-- The tile's rows normed and modulated, in bf16. -/
def hE (x2 : Vec F S1x8x1024x128 .f32) (x3 : Vec F S1x1024x1 .f32) (x4 : Vec F S1x6x1024 .f32) (x5 : Vec F S1x1024 .f32) : FVec F S1024x1024 .bf16 :=
  k0_pay36 (k0_pay32 (View.ld x4 (Rect.unit (s := S1x6x1024) ![0, 3, 0] S1x1x1024.size inb_S1x6x1024_S1x1x1024_0_3_0))) (k0_pay33 (View.ld x4 (Rect.unit (s := S1x6x1024) ![0, 4, 0] S1x1x1024.size inb_S1x6x1024_S1x1x1024_0_4_0)))
    (k0_pay35 (k0_pay29 (View.ld x2 (Rect.unit (s := S1x8x1024x128) ![0, 0, 0, 0] S1x1x1024x128.size inb_S1x8x1024x128_S1x1x1024x128_0_0_0_0))) (k0_pay30 (View.ld x2 (Rect.unit (s := S1x8x1024x128) ![0, 1, 0, 0] S1x1x1024x128.size inb_S1x8x1024x128_S1x1x1024x128_0_1_0_0))) (k0_pay31 (View.ld x2 (Rect.unit (s := S1x8x1024x128) ![0, 2, 0, 0] S1x1x1024x128.size inb_S1x8x1024x128_S1x1x1024x128_0_2_0_0))) (View.ld x2 (Rect.unit (s := S1x8x1024x128) ![0, 3, 0, 0] S1x1x1024x128.size inb_S1x8x1024x128_S1x1x1024x128_0_3_0_0)) (View.ld x2 (Rect.unit (s := S1x8x1024x128) ![0, 4, 0, 0] S1x1x1024x128.size inb_S1x8x1024x128_S1x1x1024x128_0_4_0_0)) (View.ld x2 (Rect.unit (s := S1x8x1024x128) ![0, 5, 0, 0] S1x1x1024x128.size inb_S1x8x1024x128_S1x1x1024x128_0_5_0_0)) (View.ld x2 (Rect.unit (s := S1x8x1024x128) ![0, 6, 0, 0] S1x1x1024x128.size inb_S1x8x1024x128_S1x1x1024x128_0_6_0_0)) (View.ld x2 (Rect.unit (s := S1x8x1024x128) ![0, 7, 0, 0] S1x1x1024x128.size inb_S1x8x1024x128_S1x1x1024x128_0_7_0_0))
      (View.ld x3 (Rect.unit (s := S1x1024x1) ![0, 0, 0] S1x1024x1.size inb_S1x1024x1_S1x1024x1_0_0_0)))
    (View.ld x5 (Rect.unit (s := S1x1024) ![0, 0] S1x1024.size inb_S1x1024_S1x1024_0_0))

/-- Columns `256 k` on of the up-projection weight, of the convolution's taps and bias, and of the history. -/
def wcol (x12 : Vec F S1024x5632 .bf16) (k : ℕ) (hk : k < 22) : Vec F S1024x256 .bf16 :=
  View.ld x12 (Rect.unit (s := S1024x5632) ![0, 256 * k] S1024x256.size (inb_cols k hk rfl))
def tap (x7 : Vec F S3x5632 .f32) (r : ℕ) (hr : r + 1 ≤ 3) (k : ℕ) (hk : k < 22) : Vec F S1x256 .f32 :=
  View.ld x7 (Rect.unit (s := S3x5632) ![r, 256 * k] S1x256.size (inb_row r k hr hk rfl))
def bias (x8 : Vec F S1x5632 .f32) (k : ℕ) (hk : k < 22) : Vec F S1x256 .f32 :=
  View.ld x8 (Rect.unit (s := S1x5632) ![0, 256 * k] S1x256.size (inb_row 0 k (Nat.le_refl _) hk rfl))
def past (x20 : Vec F S16x5632 .f32) (r : ℕ) (hr : r + 8 ≤ 16) (k : ℕ) (hk : k < 22) : Vec F S8x256 .f32 :=
  View.ld x20 (Rect.unit (s := S16x5632) ![r, 256 * k] S8x256.size (inb_row r k hr hk rfl))

/-- The up-projection's columns `256 k` on, with their history before them. -/
def histE (h : FVec F S1024x1024 .bf16) (x12 : Vec F S1024x5632 .bf16) (x20 : Vec F S16x5632 .f32) (k : ℕ) (hk : k < 22) : FVec F S1040x256 .f32 :=
  k0_pay44 h (wcol x12 k hk) (past x20 0 (by decide) k hk) (past x20 8 (by decide) k hk)
/-- The first two taps of the convolution; -/
def convE0 (h : FVec F S1024x1024 .bf16) (x7 : Vec F S3x5632 .f32) (x8 : Vec F S1x5632 .f32) (x12 : Vec F S1024x5632 .bf16) (x20 : Vec F S16x5632 .f32) (k : ℕ) (hk : k < 22) : FVec F S1024x256 .f32 :=
  k0_pay45 h (wcol x12 k hk) (past x20 0 (by decide) k hk) (past x20 8 (by decide) k hk) (bias x8 k hk) (tap x7 0 (by decide) k hk) (tap x7 1 (by decide) k hk)
/-- and the third. -/
def convE (h : FVec F S1024x1024 .bf16) (x7 : Vec F S3x5632 .f32) (x8 : Vec F S1x5632 .f32) (x12 : Vec F S1024x5632 .bf16) (x20 : Vec F S16x5632 .f32) (k : ℕ) (hk : k < 22) : FVec F S1024x256 .f32 :=
  k0_pay41 (histE h x12 x20 k hk) (convE0 h x7 x8 x12 x20 k hk) (tap x7 2 (by decide) k hk)
/-- Columns `256 k` on of the activations: the gate's block `k` and the value's block `k + 11`. -/
def actB (h : FVec F S1024x1024 .bf16) (x7 : Vec F S3x5632 .f32) (x8 : Vec F S1x5632 .f32) (x12 : Vec F S1024x5632 .bf16) (x20 : Vec F S16x5632 .f32) (k : ℕ) (hk : k < 11) : FVec F S1024x256 .bf16 :=
  k0_pay46 (convE h x7 x8 x12 x20 k (by omega)) (histE h x12 x20 (k + 11) (by omega)) (convE0 h x7 x8 x12 x20 (k + 11) (by omega)) (tap x7 2 (by decide) (k + 11) (by omega))
/-- The activations whole. -/
def ACT (h : FVec F S1024x1024 .bf16) (x7 : Vec F S3x5632 .f32) (x8 : Vec F S1x5632 .f32) (x12 : Vec F S1024x5632 .bf16) (x20 : Vec F S16x5632 .f32) : FVec F S1024x2816 .bf16 := fun i =>
  actB h x7 x8 x12 x20 ((i 1).val / 256) (by have h1 : (i 1).val < 2816 := (i 1).isLt; omega) (ix2 (n0 := 1024) (n1 := 256) (i 0) ⟨(i 1).val % 256, Nat.mod_lt _ (by decide)⟩)
/-- The last sixteen rows of one block of the up-projection; -/
def tailB (h : FVec F S1024x1024 .bf16) (x12 : Vec F S1024x5632 .bf16) (k : ℕ) (hk : k < 22) : FVec F S16x256 .f32 := k0_pay43 h (wcol x12 k hk)
/-- the history a tile leaves. -/
def TAIL (h : FVec F S1024x1024 .bf16) (x12 : Vec F S1024x5632 .bf16) : FVec F S16x5632 .f32 := fun i =>
  tailB h x12 ((i 1).val / 256) (by have h1 : (i 1).val < 5632 := (i 1).isLt; omega) (ix2 (n0 := 16) (n1 := 256) (i 0) ⟨(i 1).val % 256, Nat.mod_lt _ (by decide)⟩)

/-- Rows `256 p` on of the result, as the slot holds them. -/
def outB (g2 : FVec F S1x1024 .f32) (A : FVec F S1024x2816 .bf16) (x2 : Vec F S1x8x1024x128 .f32) (x10 : Vec F S1x1024 .f32) (x13 : Vec F S2816x1024 .bf16) (p : ℕ) (hp : p < 4) : FVec F S1x32x8x1024 .f32 :=
  k0_pay172 (k0_pay170 g2 (k0_pay169 (View.ld A (Rect.unit (s := S1024x2816) ![256 * p, 0] S256x2816.size (inb_rows p hp))) (View.ld x13 (Rect.unit (s := S2816x1024) ![0, 0] S2816x1024.size inb_S2816x1024_S2816x1024_0_0)))
      (View.ld x2 (Rect.unit (s := S1x8x1024x128) ![0, 0, 256 * p, 0] S1x1x256x128.size (inb_slab 0 p (by decide) hp))) (View.ld x2 (Rect.unit (s := S1x8x1024x128) ![0, 1, 256 * p, 0] S1x1x256x128.size (inb_slab 1 p (by decide) hp))) (View.ld x2 (Rect.unit (s := S1x8x1024x128) ![0, 2, 256 * p, 0] S1x1x256x128.size (inb_slab 2 p (by decide) hp))) (View.ld x2 (Rect.unit (s := S1x8x1024x128) ![0, 3, 256 * p, 0] S1x1x256x128.size (inb_slab 3 p (by decide) hp))) (View.ld x2 (Rect.unit (s := S1x8x1024x128) ![0, 4, 256 * p, 0] S1x1x256x128.size (inb_slab 4 p (by decide) hp))) (View.ld x2 (Rect.unit (s := S1x8x1024x128) ![0, 5, 256 * p, 0] S1x1x256x128.size (inb_slab 5 p (by decide) hp))) (View.ld x2 (Rect.unit (s := S1x8x1024x128) ![0, 6, 256 * p, 0] S1x1x256x128.size (inb_slab 6 p (by decide) hp))) (View.ld x2 (Rect.unit (s := S1x8x1024x128) ![0, 7, 256 * p, 0] S1x1x256x128.size (inb_slab 7 p (by decide) hp))))
    (k0_pay171 g2 (k0_pay169 (View.ld A (Rect.unit (s := S1024x2816) ![256 * p, 0] S256x2816.size (inb_rows p hp))) (View.ld x13 (Rect.unit (s := S2816x1024) ![0, 0] S2816x1024.size inb_S2816x1024_S2816x1024_0_0)))
      (View.ld x2 (Rect.unit (s := S1x8x1024x128) ![0, 0, 256 * p, 0] S1x1x256x128.size (inb_slab 0 p (by decide) hp))) (View.ld x2 (Rect.unit (s := S1x8x1024x128) ![0, 1, 256 * p, 0] S1x1x256x128.size (inb_slab 1 p (by decide) hp))) (View.ld x2 (Rect.unit (s := S1x8x1024x128) ![0, 2, 256 * p, 0] S1x1x256x128.size (inb_slab 2 p (by decide) hp))) (View.ld x2 (Rect.unit (s := S1x8x1024x128) ![0, 3, 256 * p, 0] S1x1x256x128.size (inb_slab 3 p (by decide) hp))) (View.ld x2 (Rect.unit (s := S1x8x1024x128) ![0, 4, 256 * p, 0] S1x1x256x128.size (inb_slab 4 p (by decide) hp))) (View.ld x2 (Rect.unit (s := S1x8x1024x128) ![0, 5, 256 * p, 0] S1x1x256x128.size (inb_slab 5 p (by decide) hp))) (View.ld x2 (Rect.unit (s := S1x8x1024x128) ![0, 6, 256 * p, 0] S1x1x256x128.size (inb_slab 6 p (by decide) hp))) (View.ld x2 (Rect.unit (s := S1x8x1024x128) ![0, 7, 256 * p, 0] S1x1x256x128.size (inb_slab 7 p (by decide) hp))))
    (View.ld x10 (Rect.unit (s := S1x1024) ![0, 0] S1x1024.size inb_S1x1024_S1x1024_0_0))
/-- The tile's result rows. -/
def OUTg (g2 : FVec F S1x1024 .f32) (A : FVec F S1024x2816 .bf16) (x2 : Vec F S1x8x1024x128 .f32) (x10 : Vec F S1x1024 .f32) (x13 : Vec F S2816x1024 .bf16) : FVec F S1024x1024 .f32 := fun i =>
  outB g2 A x2 x10 x13 ((i 0).val / 256) (by have h0 : (i 0).val < 1024 := (i 0).isLt; omega)
    (ix4 (n0 := 1) (n1 := 32) (n2 := 8) (n3 := 1024) 0 ⟨(i 0).val / 8 % 32, Nat.mod_lt _ (by decide)⟩ ⟨(i 0).val % 8, Nat.mod_lt _ (by decide)⟩ (i 1))
def gateE (x4 : Vec F S1x6x1024 .f32) : FVec F S1x1024 .f32 := k0_pay34 (View.ld x4 (Rect.unit (s := S1x6x1024) ![0, 5, 0] S1x1x1024.size inb_S1x6x1024_S1x1x1024_0_5_0))
def OUT (x2 : Vec F S1x8x1024x128 .f32) (x3 : Vec F S1x1024x1 .f32) (x4 : Vec F S1x6x1024 .f32) (x5 : Vec F S1x1024 .f32) (x7 : Vec F S3x5632 .f32) (x8 : Vec F S1x5632 .f32) (x10 : Vec F S1x1024 .f32) (x12 : Vec F S1024x5632 .bf16) (x13 : Vec F S2816x1024 .bf16) (x20 : Vec F S16x5632 .f32) : FVec F S1024x1024 .f32 :=
  OUTg (gateE x4) (ACT (hE x2 x3 x4 x5) x7 x8 x12 x20) x2 x10 x13

theorem emb_cols {m n w : ℕ} (k : ℕ) (hk : k < w) (inb : ∀ a, (![0, 256 * k] : Fin 2 → ℕ) a + (![m, 256] : Fin 2 → ℕ) a ≤ (![m, n] : Fin 2 → ℕ) a)
    (x : (⟨2, ![m, 256]⟩ : Shape).Idx) :
    (((Rect.unit (s := (⟨2, ![m, n]⟩ : Shape)) ![0, 256 * k] ![m, 256] inb).emb x 0).val = (x 0).val)
      ∧ (((Rect.unit (s := (⟨2, ![m, n]⟩ : Shape)) ![0, 256 * k] ![m, 256] inb).emb x 1).val = 256 * k + (x 1).val) := by
  constructor <;> simp [Rect.emb, Rect.unit]
theorem ACT_piece (h : FVec F S1024x1024 .bf16) (x7 : Vec F S3x5632 .f32) (x8 : Vec F S1x5632 .f32) (x12 : Vec F S1024x5632 .bf16) (x20 : Vec F S16x5632 .f32) (k : ℕ) (hk : k < 11)
    (inb : ∀ a, (![0, 256 * k] : Fin 2 → ℕ) a + S1024x256.size a ≤ S1024x2816.size a) (x : S1024x256.Idx) :
    actB h x7 x8 x12 x20 k hk x = ACT h x7 x8 x12 x20 ((Rect.unit (s := S1024x2816) ![0, 256 * k] S1024x256.size inb).emb x) := by
  obtain ⟨e0, e1⟩ := emb_cols (w := 11) k hk inb x
  have hx : (x 1).val < 256 := (x 1).isLt
  unfold ACT
  have hk' : ((Rect.unit (s := S1024x2816) ![0, 256 * k] S1024x256.size inb).emb x 1).val / 256 = k := by
    rw [show ((Rect.unit (s := S1024x2816) ![0, 256 * k] S1024x256.size inb).emb x 1).val = 256 * k + (x 1).val from e1]; omega
  have hx' : ix2 (n0 := 1024) (n1 := 256) ((Rect.unit (s := S1024x2816) ![0, 256 * k] S1024x256.size inb).emb x 0)
      ⟨((Rect.unit (s := S1024x2816) ![0, 256 * k] S1024x256.size inb).emb x 1).val % 256, Nat.mod_lt _ (by decide)⟩ = x := by
    funext a; apply Fin.ext
    fin_cases a
    · exact e0
    · show ((Rect.unit (s := S1024x2816) ![0, 256 * k] S1024x256.size inb).emb x 1).val % 256 = (x 1).val
      rw [show ((Rect.unit (s := S1024x2816) ![0, 256 * k] S1024x256.size inb).emb x 1).val = 256 * k + (x 1).val from e1]; omega
  rw [hx']
  congr 1; · exact hk'.symm
theorem TAIL_piece (h : FVec F S1024x1024 .bf16) (x12 : Vec F S1024x5632 .bf16) (k : ℕ) (hk : k < 22)
    (inb : ∀ a, (![0, 256 * k] : Fin 2 → ℕ) a + S16x256.size a ≤ S16x5632.size a) (x : S16x256.Idx) :
    tailB h x12 k hk x = TAIL h x12 ((Rect.unit (s := S16x5632) ![0, 256 * k] S16x256.size inb).emb x) := by
  obtain ⟨e0, e1⟩ := emb_cols (w := 22) k hk inb x
  have hx : (x 1).val < 256 := (x 1).isLt
  unfold TAIL
  have hk' : ((Rect.unit (s := S16x5632) ![0, 256 * k] S16x256.size inb).emb x 1).val / 256 = k := by
    rw [show ((Rect.unit (s := S16x5632) ![0, 256 * k] S16x256.size inb).emb x 1).val = 256 * k + (x 1).val from e1]; omega
  have hx' : ix2 (n0 := 16) (n1 := 256) ((Rect.unit (s := S16x5632) ![0, 256 * k] S16x256.size inb).emb x 0)
      ⟨((Rect.unit (s := S16x5632) ![0, 256 * k] S16x256.size inb).emb x 1).val % 256, Nat.mod_lt _ (by decide)⟩ = x := by
    funext a; apply Fin.ext
    fin_cases a
    · exact e0
    · show ((Rect.unit (s := S16x5632) ![0, 256 * k] S16x256.size inb).emb x 1).val % 256 = (x 1).val
      rw [show ((Rect.unit (s := S16x5632) ![0, 256 * k] S16x256.size inb).emb x 1).val = 256 * k + (x 1).val from e1]; omega
  rw [hx']
  congr 1; · exact hk'.symm

theorem inb_piece (s : Fin 2) (p : ℕ) (hp : p < 4) : ∀ a, (![s.val, 32 * p, 0, 0] : Fin 4 → ℕ) a + S1x32x8x1024.size a ≤ S2x128x8x1024.size a := by
  have := s.isLt; intro a; fin_cases a <;> simp <;> omega
/-- A piece of the result, as the slot buffer holds it. -/
theorem OUT_piece (c : Dev nD) (g2 : FVec F S1x1024 .f32) (A : FVec F S1024x2816 .bf16) (x2 : Vec F S1x8x1024x128 .f32) (x10 : Vec F S1x1024 .f32) (x13 : Vec F S2816x1024 .bf16) (s : Fin 2) (p : ℕ) (hp : p < 4) (off : Fin 4 → ℕ) (hoff : off = ![s.val, 32 * p, 0, 0])
    (inb : ∀ a, off a + S1x32x8x1024.size a ≤ S2x128x8x1024.size a) (x : S1x32x8x1024.Idx) :
    outB g2 A x2 x10 x13 p hp x
      = slotBuf c (OUTg g2 A x2 x10 x13) ((Rect.unit (s := S2x128x8x1024) off S1x32x8x1024.size inb).emb x) := by
  subst hoff
  have e0 : ((Rect.unit (s := S2x128x8x1024) ![s.val, 32 * p, 0, 0] S1x32x8x1024.size inb).emb x 1).val = 32 * p + (x 1).val := by simp [Rect.emb, Rect.unit]
  have e1 : ((Rect.unit (s := S2x128x8x1024) ![s.val, 32 * p, 0, 0] S1x32x8x1024.size inb).emb x 2).val = (x 2).val := by simp [Rect.emb, Rect.unit]
  have e2 : ((Rect.unit (s := S2x128x8x1024) ![s.val, 32 * p, 0, 0] S1x32x8x1024.size inb).emb x 3).val = (x 3).val := by simp [Rect.emb, Rect.unit]
  have h1 : (x 1).val < 32 := (x 1).isLt
  have h2 : (x 2).val < 8 := (x 2).isLt
  have h0 : (x 0).val = 0 := by have : (x 0).val < 1 := (x 0).isLt; omega
  have er : ((Rect.unit (s := S2x128x8x1024) ![s.val, 32 * p, 0, 0] S1x32x8x1024.size inb).emb x 1).val * 8
      + ((Rect.unit (s := S2x128x8x1024) ![s.val, 32 * p, 0, 0] S1x32x8x1024.size inb).emb x 2).val = 256 * p + (x 1).val * 8 + (x 2).val := by rw [e0, e1]; omega
  unfold slotBuf OUTg
  dsimp only
  have hx' : ∀ (r : ℕ) (hr : r < 1024) (w : Fin 1024), r = 256 * p + (x 1).val * 8 + (x 2).val → w.val = (x 3).val →
      ix4 (n0 := 1) (n1 := 32) (n2 := 8) (n3 := 1024) 0 ⟨r / 8 % 32, Nat.mod_lt _ (by decide)⟩ ⟨r % 8, Nat.mod_lt _ (by decide)⟩ w = x := by
    intro r hr w e ew
    subst e
    funext a; apply Fin.ext
    fin_cases a
    · exact h0.symm
    · show (256 * p + (x 1).val * 8 + (x 2).val) / 8 % 32 = (x 1).val; omega
    · show (256 * p + (x 1).val * 8 + (x 2).val) % 8 = (x 2).val; omega
    · exact ew
  have hp' : 256 * p + (x 1).val * 8 + (x 2).val < 1024 := by omega
  refine (congr (?_ : outB _ _ _ _ _ p hp = outB _ _ _ _ _ _ _) (hx' _ (by rw [er]; exact hp') _ er e2).symm)
  congr 1
  show p = (_ * 8 + _) / 256
  rw [er]; omega

end Cert.FfnIdeal.Mlp

end
-- ==== Proof.FfnNest.lean ====
module

public import proofs.«01_k».proof.Proof.FfnSpec
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A load through a view of what covering pieces left is the target's. -/
theorem readCov_eq_ld {sg : RefSig} {κ : Kind} {sp : Space} {s : Shape} {e : EltTy} {Val : EltTy → Type} [∀ e, Nonempty (Val e)] (v : View sg κ sp s e) (L : List (View.Piece Val s e))
    (G : s.Idx → Val e) (r : Rect s) (hp : ∀ p ∈ L, ∀ x : p.1.shape.Idx, p.2 x = G (p.1.emb x)) (hc : ∀ y, ∃ p ∈ L, y ∈ p.1.set) :
    v.readCov L r = View.ld G r := by
  show View.ld (v.read Val (v.writes Val v.junk L)) r = _
  congr 1
  funext y
  exact View.read_writes_apply_of_pieces v _ G L hp y (hc y)
/-- What covering pieces left reads as the target. -/
theorem read_writes_of_pieces {sg : RefSig} {κ : Kind} {sp : Space} {s : Shape} {e : EltTy} {Val : EltTy → Type} (v : View sg κ sp s e) (f : v.ty.Contents Val) (L : List (View.Piece Val s e))
    (G : s.Idx → Val e) (hp : ∀ p ∈ L, ∀ x : p.1.shape.Idx, p.2 x = G (p.1.emb x)) (hc : ∀ y, ∃ p ∈ L, y ∈ p.1.set) :
    v.read Val (v.writes Val f L) = G :=
  funext fun y => View.read_writes_apply_of_pieces v f G L hp y (hc y)
/-- Writes through a whole buffer whose pieces each hold a target's own part leave the target where a piece reaches. -/
theorem whole_writes_of_pieces {sg : RefSig} {κ : Kind} {Val : EltTy → Type} (b : Ref sg κ) (G f : b.ty.Contents Val)
    (L : List (View.Piece Val b.ty.shape b.ty.elt)) (hp : ∀ p ∈ L, ∀ x : p.1.shape.Idx, p.2 x = G (p.1.emb x)) (y : b.ty.shape.Idx) (hy : ∃ p ∈ L, y ∈ p.1.set) :
    (View.whole b).writes Val f L y = G y :=
  View.read_writes_apply_of_pieces (View.whole b) f G L hp y hy
/-- The nest of four stores into the slot holds, on the slot, what each piece holds. -/
theorem slot_nest (c : Dev nD) (s : Fin 2) (G e : HbBuf (F := F) c scO) (o0 o1 o2 o3 : Fin 4 → ℕ)
    (h0 : o0 = ![s.val, 0, 0, 0]) (h1 : o1 = ![s.val, 32, 0, 0]) (h2 : o2 = ![s.val, 64, 0, 0]) (h3 : o3 = ![s.val, 96, 0, 0])
    (i0 : ∀ a, o0 a + S1x32x8x1024.size a ≤ S2x128x8x1024.size a) (i1 : ∀ a, o1 a + S1x32x8x1024.size a ≤ S2x128x8x1024.size a)
    (i2 : ∀ a, o2 a + S1x32x8x1024.size a ≤ S2x128x8x1024.size a) (i3 : ∀ a, o3 a + S1x32x8x1024.size a ≤ S2x128x8x1024.size a)
    (p0 p1 p2 p3 : FVec F S1x32x8x1024 .f32)
    (e0 : ∀ x, p0 x = G ((Rect.unit (s := S2x128x8x1024) o0 S1x32x8x1024.size i0).emb x))
    (e1 : ∀ x, p1 x = G ((Rect.unit (s := S2x128x8x1024) o1 S1x32x8x1024.size i1).emb x))
    (e2 : ∀ x, p2 x = G ((Rect.unit (s := S2x128x8x1024) o2 S1x32x8x1024.size i2).emb x))
    (e3 : ∀ x, p3 x = G ((Rect.unit (s := S2x128x8x1024) o3 S1x32x8x1024.size i3).emb x)) :
    slotP c s (View.writes scO.view (Elt F) e
      [⟨Rect.unit (s := S2x128x8x1024) o3 S1x32x8x1024.size i3, p3⟩, ⟨Rect.unit (s := S2x128x8x1024) o2 S1x32x8x1024.size i2, p2⟩,
       ⟨Rect.unit (s := S2x128x8x1024) o1 S1x32x8x1024.size i1, p1⟩, ⟨Rect.unit (s := S2x128x8x1024) o0 S1x32x8x1024.size i0, p0⟩]) = slotP c s G := by
  rw [slotP_eq, slotP_eq]
  refine pointsTo_congr fun i hi => ?_
  have hi' : ((i : S2x128x8x1024.Idx) 0).val = s.val := (mem_slotSet s i).1 hi
  refine whole_writes_of_pieces (Val := Elt F) cc0_scratch6 G e _ ?_ i ?_
  · refine List.forall_mem_cons.2 ⟨e3, List.forall_mem_cons.2 ⟨e2, List.forall_mem_cons.2 ⟨e1, List.forall_mem_cons.2 ⟨e0, fun p hp => absurd hp (List.not_mem_nil)⟩⟩⟩⟩
  · have b1 : ((i : S2x128x8x1024.Idx) 1).val < 128 := ((i : S2x128x8x1024.Idx) 1).isLt
    have b2 : ((i : S2x128x8x1024.Idx) 2).val < 8 := ((i : S2x128x8x1024.Idx) 2).isLt
    have b3 : ((i : S2x128x8x1024.Idx) 3).val < 1024 := ((i : S2x128x8x1024.Idx) 3).isLt
    subst h0 h1 h2 h3
    have key : ∀ (q : ℕ) (iq : ∀ a, (![s.val, q, 0, 0] : Fin 4 → ℕ) a + S1x32x8x1024.size a ≤ S2x128x8x1024.size a), q ≤ ((i : S2x128x8x1024.Idx) 1).val → ((i : S2x128x8x1024.Idx) 1).val < q + 32 →
        (i : S2x128x8x1024.Idx) ∈ (Rect.unit (s := S2x128x8x1024) ![s.val, q, 0, 0] S1x32x8x1024.size iq).set := by
      intro q iq hq1 hq2
      rw [Rect.mem_set_unit]
      intro a
      fin_cases a
      · exact ⟨le_of_eq hi'.symm, by show ((i : S2x128x8x1024.Idx) 0).val < s.val + 1; omega⟩
      · exact ⟨hq1, hq2⟩
      · exact ⟨Nat.zero_le _, by show ((i : S2x128x8x1024.Idx) 2).val < 0 + 8; omega⟩
      · exact ⟨Nat.zero_le _, by show ((i : S2x128x8x1024.Idx) 3).val < 0 + 1024; omega⟩
    by_cases c3 : 96 ≤ ((i : S2x128x8x1024.Idx) 1).val
    · exact ⟨_, List.mem_cons_self, key 96 i3 c3 (by omega)⟩
    by_cases c2 : 64 ≤ ((i : S2x128x8x1024.Idx) 1).val
    · exact ⟨_, List.mem_cons_of_mem _ List.mem_cons_self, key 64 i2 c2 (by omega)⟩
    by_cases c1 : 32 ≤ ((i : S2x128x8x1024.Idx) 1).val
    · exact ⟨_, List.mem_cons_of_mem _ (List.mem_cons_of_mem _ List.mem_cons_self), key 32 i1 c1 (by omega)⟩
    · exact ⟨_, List.mem_cons_of_mem _ (List.mem_cons_of_mem _ (List.mem_cons_of_mem _ List.mem_cons_self)), key 0 i0 (Nat.zero_le _) (by omega)⟩

end Cert.FfnIdeal.Mlp

end
-- ==== Proof.FfnMidA.lean ====
module

public import proofs.«01_k».proof.Proof.FfnNest
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The tile's rows are loaded and normed, and its row of the modulation is loaded. -/
theorem run_norm (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg17 : Memref sig .tc .vmem S1024x2816 .bf16) (harg17 : arg17.IsWhole) (arg20 : Memref sig .tc .vmem S16x5632 .f32) (harg20 : arg20.IsWhole)
    (x2 : Vec F S1x8x1024x128 .f32) (x3 : Vec F S1x1024x1 .f32) (x4 : Vec F S1x6x1024 .f32) (x5 : Vec F S1x1024 .f32) :
      ∀ (W : Waits sig Unit) (K : _ → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owes c 0 W
            ∗ (∀ v1 v11, (owns (c : Thread nD τ) arg2 fullShare x2 ∗ owns (c : Thread nD τ) arg3 fullShare x3 ∗ owns (c : Thread nD τ) arg4 fullShare x4 ∗ owns (c : Thread nD τ) arg5 fullShare x5 ∗ owes c 0 W) -∗ K ⟨v1, v11, k0_pay32 (View.ld x4 (Rect.unit (s := S1x6x1024) ![0, 3, 0] S1x1x1024.size inb_S1x6x1024_S1x1x1024_0_3_0)), k0_pay33 (View.ld x4 (Rect.unit (s := S1x6x1024) ![0, 4, 0] S1x1x1024.size inb_S1x6x1024_S1x1x1024_0_4_0)), gateE x4, (k0_pay35 (k0_pay29 (View.ld x2 (Rect.unit (s := S1x8x1024x128) ![0, 0, 0, 0] S1x1x1024x128.size inb_S1x8x1024x128_S1x1x1024x128_0_0_0_0))) (k0_pay30 (View.ld x2 (Rect.unit (s := S1x8x1024x128) ![0, 1, 0, 0] S1x1x1024x128.size inb_S1x8x1024x128_S1x1x1024x128_0_1_0_0))) (k0_pay31 (View.ld x2 (Rect.unit (s := S1x8x1024x128) ![0, 2, 0, 0] S1x1x1024x128.size inb_S1x8x1024x128_S1x1x1024x128_0_2_0_0))) (View.ld x2 (Rect.unit (s := S1x8x1024x128) ![0, 3, 0, 0] S1x1x1024x128.size inb_S1x8x1024x128_S1x1x1024x128_0_3_0_0)) (View.ld x2 (Rect.unit (s := S1x8x1024x128) ![0, 4, 0, 0] S1x1x1024x128.size inb_S1x8x1024x128_S1x1x1024x128_0_4_0_0)) (View.ld x2 (Rect.unit (s := S1x8x1024x128) ![0, 5, 0, 0] S1x1x1024x128.size inb_S1x8x1024x128_S1x1x1024x128_0_5_0_0)) (View.ld x2 (Rect.unit (s := S1x8x1024x128) ![0, 6, 0, 0] S1x1x1024x128.size inb_S1x8x1024x128_S1x1x1024x128_0_6_0_0)) (View.ld x2 (Rect.unit (s := S1x8x1024x128) ![0, 7, 0, 0] S1x1x1024x128.size inb_S1x8x1024x128_S1x1x1024x128_0_7_0_0))
      (View.ld x3 (Rect.unit (s := S1x1024x1) ![0, 0, 0] S1x1024x1.size inb_S1x1024x1_S1x1024x1_0_0_0))), (View.ld x5 (Rect.unit (s := S1x1024) ![0, 0] S1x1024.size inb_S1x1024_S1x1024_0_0))⟩))
          ⊢ wp frame (wpE (defs₀ (F := F)) Variants.none c none) Set.univ (normP (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 arg14 harg14 arg15 harg15 cc0_scratch4 arg17 harg17 scO (Memref.isWhole_whole _) cc0_scratch7 arg20 harg20) K := by
    intro W K
    unfold normP startP gateE
    simp only [k0_part25_eq_skeleton]
    unfold k0_part25_skel
    unfold owns
    iintro ⟨⟨%f2, %hf2, H2⟩, ⟨%f3, %hf3, H3⟩, ⟨%f4, %hf4, H4⟩, ⟨%f5, %hf5, H5⟩, HW, Hk⟩
    obtain rfl := harg2.eq_unread hf2
    obtain rfl := harg3.eq_unread hf3
    obtain rfl := harg4.eq_unread hf4
    obtain rfl := harg5.eq_unread hf5
    sl_exec
    sl_unfold_run_names
    dsimp only
    simp only [View.readAt_eq_ld, Memref.IsWhole.read_unread]
    rw [wp_ret]
    imodintro
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexact HW

end Cert.FfnIdeal.Mlp

end
-- ==== Proof.FfnPay.lean ====
/-
The body spells each block's activations and history with a different split into named values; here each spelling is the one of
`actB` and `tailB`.
-/
module

public import proofs.«01_k».proof.Proof.FfnSpec
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem act_0 (v39 v41 : FVec F S1x1024 .f32) (v52 : FVec F S1024x1024 .f32) (v53 : Vec F S1x1024 .f32) (wg wv : Vec F S1024x256 .bf16) (t0g t8g t0v t8v : Vec F S8x256 .f32) (bg bv c0g c1g c2g c0v c1v c2v : Vec F S1x256 .f32) :
    k0_pay46 (k0_pay41 (k0_pay39 v39 v41 v52 v53 wg t0g t8g) (k0_pay40 v39 v41 v52 v53 wg t0g t8g bg c0g c1g) c2g) (k0_pay44 (k0_pay36 v39 v41 v52 v53) wv t0v t8v) (k0_pay45 (k0_pay36 v39 v41 v52 v53) wv t0v t8v bv c0v c1v) c2v = k0_pay46 (k0_pay41 (k0_pay44 (k0_pay36 v39 v41 v52 v53) wg t0g t8g) (k0_pay45 (k0_pay36 v39 v41 v52 v53) wg t0g t8g bg c0g c1g) c2g) (k0_pay44 (k0_pay36 v39 v41 v52 v53) wv t0v t8v) (k0_pay45 (k0_pay36 v39 v41 v52 v53) wv t0v t8v bv c0v c1v) c2v := rfl
theorem act_1 (h : FVec F S1024x1024 .bf16) (wg wv : Vec F S1024x256 .bf16) (t0g t8g t0v t8v : Vec F S8x256 .f32) (bg bv c0g c1g c2g c0v c1v c2v : Vec F S1x256 .f32) :
    k0_pay57 (k0_pay51 (k0_pay49 h wg t0g t8g) (k0_pay50 h wg t0g t8g bg c0g) c1g c2g) (k0_pay54 h wv t0v t8v) (k0_pay55 h wv t0v t8v bv c0v) (k0_pay56 h wv t0v t8v c1v) c2v = k0_pay46 (k0_pay41 (k0_pay44 h wg t0g t8g) (k0_pay45 h wg t0g t8g bg c0g c1g) c2g) (k0_pay44 h wv t0v t8v) (k0_pay45 h wv t0v t8v bv c0v c1v) c2v := rfl
theorem act_2 (h : FVec F S1024x1024 .bf16) (wg wv : Vec F S1024x256 .bf16) (t0g t8g t0v t8v : Vec F S8x256 .f32) (bg bv c0g c1g c2g c0v c1v c2v : Vec F S1x256 .f32) :
    k0_pay68 (k0_pay63 (k0_pay60 h wg t0g t8g) (k0_pay61 h wg t0g t8g c0g) (k0_pay62 bg) c1g c2g) (k0_pay66 h wv t0v t8v) (k0_pay67 h wv t0v t8v bv c0v) c1v c2v = k0_pay46 (k0_pay41 (k0_pay44 h wg t0g t8g) (k0_pay45 h wg t0g t8g bg c0g c1g) c2g) (k0_pay44 h wv t0v t8v) (k0_pay45 h wv t0v t8v bv c0v c1v) c2v := rfl
theorem act_3 (h : FVec F S1024x1024 .bf16) (wg wv : Vec F S1024x256 .bf16) (t0g t8g t0v t8v : Vec F S8x256 .f32) (bg bv c0g c1g c2g c0v c1v c2v : Vec F S1x256 .f32) :
    k0_pay79 (k0_pay73 (k0_pay71 h wg t0g t8g) (k0_pay72 bg) c0g c1g c2g) (k0_pay76 h wv t0v t8v) (k0_pay77 bv) (k0_pay78 h wv t0v t8v c0v) c1v c2v = k0_pay46 (k0_pay41 (k0_pay44 h wg t0g t8g) (k0_pay45 h wg t0g t8g bg c0g c1g) c2g) (k0_pay44 h wv t0v t8v) (k0_pay45 h wv t0v t8v bv c0v c1v) c2v := rfl
theorem act_4 (h : FVec F S1024x1024 .bf16) (wg wv : Vec F S1024x256 .bf16) (t0g t8g t0v t8v : Vec F S8x256 .f32) (bg bv c0g c1g c2g c0v c1v c2v : Vec F S1x256 .f32) :
    k0_pay88 (k0_pay83 (k0_pay82 h wg t0g t8g) bg c0g c1g c2g) (k0_pay86 h wv t0v t8v) (k0_pay87 bv) c0v c1v c2v = k0_pay46 (k0_pay41 (k0_pay44 h wg t0g t8g) (k0_pay45 h wg t0g t8g bg c0g c1g) c2g) (k0_pay44 h wv t0v t8v) (k0_pay45 h wv t0v t8v bv c0v c1v) c2v := rfl
theorem act_5 (h : FVec F S1024x1024 .bf16) (wg wv : Vec F S1024x256 .bf16) (t0g t8g t0v t8v : Vec F S8x256 .f32) (bg bv c0g c1g c2g c0v c1v c2v : Vec F S1x256 .f32) :
    k0_pay98 (k0_pay94 (k0_pay89 h wg) (k0_pay91 h wg t0g) (k0_pay92 h wg t8g) bg c0g c1g c2g) (k0_pay97 h wv t0v t8v) bv c0v c1v c2v = k0_pay46 (k0_pay41 (k0_pay44 h wg t0g t8g) (k0_pay45 h wg t0g t8g bg c0g c1g) c2g) (k0_pay44 h wv t0v t8v) (k0_pay45 h wv t0v t8v bv c0v c1v) c2v := rfl
theorem act_6 (h : FVec F S1024x1024 .bf16) (wg wv : Vec F S1024x256 .bf16) (t0g t8g t0v t8v : Vec F S8x256 .f32) (bg bv c0g c1g c2g c0v c1v c2v : Vec F S1x256 .f32) :
    k0_pay111 (k0_pay105 (k0_pay99 h wg) (k0_pay101 h wg t0g) (k0_pay102 h wg t8g) bg c0g c1g c2g) (k0_pay106 h wv) (k0_pay108 h wv t0v) (k0_pay109 h wv t8v) bv c0v c1v c2v = k0_pay46 (k0_pay41 (k0_pay44 h wg t0g t8g) (k0_pay45 h wg t0g t8g bg c0g c1g) c2g) (k0_pay44 h wv t0v t8v) (k0_pay45 h wv t0v t8v bv c0v c1v) c2v := rfl
theorem act_7 (h : FVec F S1024x1024 .bf16) (wg wv : Vec F S1024x256 .bf16) (t0g t8g t0v t8v : Vec F S8x256 .f32) (bg bv c0g c1g c2g c0v c1v c2v : Vec F S1x256 .f32) :
    k0_pay124 (k0_pay117 (k0_pay112 h wg) (k0_pay114 h wg t0g) (k0_pay115 h wg t8g) (1#32) bg c0g c1g c2g) (k0_pay118 h wv) (k0_pay120 h wv t0v) (k0_pay121 h wv t8v) bv c0v c1v c2v = k0_pay46 (k0_pay41 (k0_pay44 h wg t0g t8g) (k0_pay45 h wg t0g t8g bg c0g c1g) c2g) (k0_pay44 h wv t0v t8v) (k0_pay45 h wv t0v t8v bv c0v c1v) c2v := rfl
theorem act_8 (h : FVec F S1024x1024 .bf16) (wg wv : Vec F S1024x256 .bf16) (t0g t8g t0v t8v : Vec F S8x256 .f32) (bg bv c0g c1g c2g c0v c1v c2v : Vec F S1x256 .f32) :
    k0_pay136 (k0_pay130 (k0_pay125 h wg) k0_pay126 (k0_pay127 h wg t0g) (k0_pay128 h wg) t8g bg c0g c1g c2g) (k0_pay131 h wv) (k0_pay133 h wv t0v) (k0_pay134 h wv t8v) bv c0v c1v c2v = k0_pay46 (k0_pay41 (k0_pay44 h wg t0g t8g) (k0_pay45 h wg t0g t8g bg c0g c1g) c2g) (k0_pay44 h wv t0v t8v) (k0_pay45 h wv t0v t8v bv c0v c1v) c2v := rfl
theorem act_9 (h : FVec F S1024x1024 .bf16) (wg wv : Vec F S1024x256 .bf16) (t0g t8g t0v t8v : Vec F S8x256 .f32) (bg bv c0g c1g c2g c0v c1v c2v : Vec F S1x256 .f32) :
    k0_pay147 (k0_pay141 (k0_pay137 h wg) k0_pay138 (k0_pay139 h wg t0g) t8g bg c0g c1g c2g) (k0_pay142 h wv) k0_pay143 (k0_pay144 h wv t0v) (k0_pay145 h wv) t8v bv c0v c1v c2v = k0_pay46 (k0_pay41 (k0_pay44 h wg t0g t8g) (k0_pay45 h wg t0g t8g bg c0g c1g) c2g) (k0_pay44 h wv t0v t8v) (k0_pay45 h wv t0v t8v bv c0v c1v) c2v := rfl
theorem act_10 (h : FVec F S1024x1024 .bf16) (wg wv : Vec F S1024x256 .bf16) (t0g t8g t0v t8v : Vec F S8x256 .f32) (bg bv c0g c1g c2g c0v c1v c2v : Vec F S1x256 .f32) :
    k0_pay157 (k0_pay152 (k0_pay148 h wg) k0_pay149 (k0_pay150 h wg) t0g t8g bg c0g c1g c2g) (k0_pay153 h wv) k0_pay154 (k0_pay155 h wv) t0v t8v bv c0v c1v c2v = k0_pay46 (k0_pay41 (k0_pay44 h wg t0g t8g) (k0_pay45 h wg t0g t8g bg c0g c1g) c2g) (k0_pay44 h wv t0v t8v) (k0_pay45 h wv t0v t8v bv c0v c1v) c2v := rfl
theorem tail_0 (v39 v41 : FVec F S1x1024 .f32) (v52 : FVec F S1024x1024 .f32) (v53 : Vec F S1x1024 .f32) (wg : Vec F S1024x256 .bf16) :
    k0_pay38 v39 v41 v52 v53 wg = k0_pay43 (k0_pay36 v39 v41 v52 v53) wg := rfl
theorem tail_1 (h : FVec F S1024x1024 .bf16) (wg : Vec F S1024x256 .bf16) :
    k0_pay48 h wg = k0_pay43 h wg := rfl
theorem tail_2 (h : FVec F S1024x1024 .bf16) (wg : Vec F S1024x256 .bf16) :
    k0_pay59 h wg = k0_pay43 h wg := rfl
theorem tail_3 (h : FVec F S1024x1024 .bf16) (wg : Vec F S1024x256 .bf16) :
    k0_pay70 h wg = k0_pay43 h wg := rfl
theorem tail_4 (h : FVec F S1024x1024 .bf16) (wg : Vec F S1024x256 .bf16) :
    k0_pay81 h wg = k0_pay43 h wg := rfl
theorem tail_5 (h : FVec F S1024x1024 .bf16) (wg : Vec F S1024x256 .bf16) :
    k0_pay93 h wg = k0_pay43 h wg := rfl
theorem tail_6 (h : FVec F S1024x1024 .bf16) (wg : Vec F S1024x256 .bf16) :
    k0_pay104 (k0_pay103 h wg) = k0_pay43 h wg := rfl
theorem tail_7 (h : FVec F S1024x1024 .bf16) (wg : Vec F S1024x256 .bf16) :
    k0_pay116 (k0_pay112 h wg) = k0_pay43 h wg := rfl
theorem tail_8 (h : FVec F S1024x1024 .bf16) (wg : Vec F S1024x256 .bf16) :
    k0_pay129 (k0_pay125 h wg) = k0_pay43 h wg := rfl
theorem tail_9 (h : FVec F S1024x1024 .bf16) (wg : Vec F S1024x256 .bf16) :
    k0_pay140 (k0_pay137 h wg) = k0_pay43 h wg := rfl
theorem tail_10 (h : FVec F S1024x1024 .bf16) (wg : Vec F S1024x256 .bf16) :
    k0_pay151 (k0_pay148 h wg) = k0_pay43 h wg := rfl
theorem tail_11 (h : FVec F S1024x1024 .bf16) (wv : Vec F S1024x256 .bf16) :
    k0_pay43 h wv = k0_pay43 h wv := rfl
theorem tail_12 (h : FVec F S1024x1024 .bf16) (wv : Vec F S1024x256 .bf16) :
    k0_pay53 h wv = k0_pay43 h wv := rfl
theorem tail_13 (h : FVec F S1024x1024 .bf16) (wv : Vec F S1024x256 .bf16) :
    k0_pay65 h wv = k0_pay43 h wv := rfl
theorem tail_14 (h : FVec F S1024x1024 .bf16) (wv : Vec F S1024x256 .bf16) :
    k0_pay75 h wv = k0_pay43 h wv := rfl
theorem tail_15 (h : FVec F S1024x1024 .bf16) (wv : Vec F S1024x256 .bf16) :
    k0_pay85 h wv = k0_pay43 h wv := rfl
theorem tail_16 (h : FVec F S1024x1024 .bf16) (wv : Vec F S1024x256 .bf16) :
    k0_pay96 h wv = k0_pay43 h wv := rfl
theorem tail_17 (h : FVec F S1024x1024 .bf16) (wv : Vec F S1024x256 .bf16) :
    k0_pay110 h wv = k0_pay43 h wv := rfl
theorem tail_18 (h : FVec F S1024x1024 .bf16) (wv : Vec F S1024x256 .bf16) :
    k0_pay123 (k0_pay122 h wv) = k0_pay43 h wv := rfl
theorem tail_19 (h : FVec F S1024x1024 .bf16) (wv : Vec F S1024x256 .bf16) :
    k0_pay135 (k0_pay131 h wv) = k0_pay43 h wv := rfl
theorem tail_20 (h : FVec F S1024x1024 .bf16) (wv : Vec F S1024x256 .bf16) :
    k0_pay146 (k0_pay142 h wv) = k0_pay43 h wv := rfl
theorem tail_21 (h : FVec F S1024x1024 .bf16) (wv : Vec F S1024x256 .bf16) :
    k0_pay156 (k0_pay153 h wv) = k0_pay43 h wv := rfl

end Cert.FfnIdeal.Mlp

end
-- ==== Proof.FfnMidB.lean ====
module

public import proofs.«01_k».proof.Proof.FfnNest
public import proofs.«01_k».proof.Proof.FfnPay
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The up-projection by blocks of columns, each convolved over its history and gated; the history is left behind. -/
theorem run_up (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg17 : Memref sig .tc .vmem S1024x2816 .bf16) (harg17 : arg17.IsWhole) (arg20 : Memref sig .tc .vmem S16x5632 .f32) (harg20 : arg20.IsWhole)
    (v39 v41 : FVec F S1x1024 .f32) (v52 : FVec F S1024x1024 .f32) (v53 : Vec F S1x1024 .f32)
    (x7 : Vec F S3x5632 .f32) (x8 : Vec F S1x5632 .f32) (x12 : Vec F S1024x5632 .bf16) (x13 : Vec F S2816x1024 .bf16) (x20 : Vec F S16x5632 .f32) :
      ∀ (W : Waits sig Unit) (K : _ → sProp 𝕄),
        iprop(owns (c : Thread nD τ) arg7 fullShare x7 ∗ owns (c : Thread nD τ) arg8 fullShare x8 ∗ owns (c : Thread nD τ) arg12 fullShare x12 ∗ owns (c : Thread nD τ) arg13 fullShare x13 ∗ (∃ d, owns (c : Thread nD τ) arg17 fullShare d) ∗ owns (c : Thread nD τ) arg20 fullShare x20 ∗ owes c 0 W
            ∗ ((owns (c : Thread nD τ) arg7 fullShare x7 ∗ owns (c : Thread nD τ) arg8 fullShare x8 ∗ owns (c : Thread nD τ) arg12 fullShare x12 ∗ owns (c : Thread nD τ) arg13 fullShare x13 ∗ owns (c : Thread nD τ) arg17 fullShare (ACT (k0_pay36 v39 v41 v52 v53) x7 x8 x12 x20)
                ∗ owns (c : Thread nD τ) arg20 fullShare (TAIL (k0_pay36 v39 v41 v52 v53) x12) ∗ owes c 0 W) -∗ K ⟨(View.ld (ACT (k0_pay36 v39 v41 v52 v53) x7 x8 x12 x20) (Rect.unit (s := S1024x2816) ![256 * 0, 0] S256x2816.size (inb_rows 0 (by decide)))), (View.ld x13 (Rect.unit (s := S2816x1024) ![0, 0] S2816x1024.size inb_S2816x1024_S2816x1024_0_0))⟩))
          ⊢ wp frame (wpE (defs₀ (F := F)) Variants.none c none) Set.univ (upP (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 arg14 harg14 arg15 harg15 cc0_scratch4 arg17 harg17 scO (Memref.isWhole_whole _) cc0_scratch7 arg20 harg20 v39 v41 v52 v53) K := by
    intro W K
    unfold upP
    simp only [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel
    unfold owns
    iintro ⟨⟨%f7, %hf7, H7⟩, ⟨%f8, %hf8, H8⟩, ⟨%f12, %hf12, H12⟩, ⟨%f13, %hf13, H13⟩, ⟨%d17, %f17, -, H17⟩, ⟨%f20, %hf20, H20⟩, HW, Hk⟩
    obtain rfl := harg7.eq_unread hf7
    obtain rfl := harg8.eq_unread hf8
    obtain rfl := harg12.eq_unread hf12
    obtain rfl := harg13.eq_unread hf13
    obtain rfl := harg20.eq_unread hf20
    sl_exec
    sl_unfold_run_names
    dsimp only
    simp only [View.readAt_eq_ld, Memref.IsWhole.read_unread]
    rw [wp_ret, readCov_eq_ld (Val := Elt F) (e := .bf16) arg17.view _ (ACT (k0_pay36 v39 v41 v52 v53) x7 x8 x12 x20) _ ?hp ?hc]
    case hc => exact fun y => View.cover_of_tiled (s := S1024x2816) _ S1024x256.size (by rfl) y
    case hp =>
      exact List.forall_mem_cons.2 ⟨fun x => (congrFun (act_10 (k0_pay36 v39 v41 v52 v53) (wcol x12 10 (by decide)) (wcol x12 21 (by decide)) (past x20 0 (by decide) 10 (by decide)) (past x20 8 (by decide) 10 (by decide)) (past x20 0 (by decide) 21 (by decide)) (past x20 8 (by decide) 21 (by decide)) (bias x8 10 (by decide)) (bias x8 21 (by decide)) (tap x7 0 (by decide) 10 (by decide)) (tap x7 1 (by decide) 10 (by decide)) (tap x7 2 (by decide) 10 (by decide)) (tap x7 0 (by decide) 21 (by decide)) (tap x7 1 (by decide) 21 (by decide)) (tap x7 2 (by decide) 21 (by decide))) x).trans (ACT_piece (k0_pay36 v39 v41 v52 v53) x7 x8 x12 x20 10 (by decide) (inb_cols (w := 11) 10 (by decide) rfl) x),
          List.forall_mem_cons.2 ⟨fun x => (congrFun (act_9 (k0_pay36 v39 v41 v52 v53) (wcol x12 9 (by decide)) (wcol x12 20 (by decide)) (past x20 0 (by decide) 9 (by decide)) (past x20 8 (by decide) 9 (by decide)) (past x20 0 (by decide) 20 (by decide)) (past x20 8 (by decide) 20 (by decide)) (bias x8 9 (by decide)) (bias x8 20 (by decide)) (tap x7 0 (by decide) 9 (by decide)) (tap x7 1 (by decide) 9 (by decide)) (tap x7 2 (by decide) 9 (by decide)) (tap x7 0 (by decide) 20 (by decide)) (tap x7 1 (by decide) 20 (by decide)) (tap x7 2 (by decide) 20 (by decide))) x).trans (ACT_piece (k0_pay36 v39 v41 v52 v53) x7 x8 x12 x20 9 (by decide) (inb_cols (w := 11) 9 (by decide) rfl) x),
          List.forall_mem_cons.2 ⟨fun x => (congrFun (act_8 (k0_pay36 v39 v41 v52 v53) (wcol x12 8 (by decide)) (wcol x12 19 (by decide)) (past x20 0 (by decide) 8 (by decide)) (past x20 8 (by decide) 8 (by decide)) (past x20 0 (by decide) 19 (by decide)) (past x20 8 (by decide) 19 (by decide)) (bias x8 8 (by decide)) (bias x8 19 (by decide)) (tap x7 0 (by decide) 8 (by decide)) (tap x7 1 (by decide) 8 (by decide)) (tap x7 2 (by decide) 8 (by decide)) (tap x7 0 (by decide) 19 (by decide)) (tap x7 1 (by decide) 19 (by decide)) (tap x7 2 (by decide) 19 (by decide))) x).trans (ACT_piece (k0_pay36 v39 v41 v52 v53) x7 x8 x12 x20 8 (by decide) (inb_cols (w := 11) 8 (by decide) rfl) x),
          List.forall_mem_cons.2 ⟨fun x => (congrFun (act_7 (k0_pay36 v39 v41 v52 v53) (wcol x12 7 (by decide)) (wcol x12 18 (by decide)) (past x20 0 (by decide) 7 (by decide)) (past x20 8 (by decide) 7 (by decide)) (past x20 0 (by decide) 18 (by decide)) (past x20 8 (by decide) 18 (by decide)) (bias x8 7 (by decide)) (bias x8 18 (by decide)) (tap x7 0 (by decide) 7 (by decide)) (tap x7 1 (by decide) 7 (by decide)) (tap x7 2 (by decide) 7 (by decide)) (tap x7 0 (by decide) 18 (by decide)) (tap x7 1 (by decide) 18 (by decide)) (tap x7 2 (by decide) 18 (by decide))) x).trans (ACT_piece (k0_pay36 v39 v41 v52 v53) x7 x8 x12 x20 7 (by decide) (inb_cols (w := 11) 7 (by decide) rfl) x),
          List.forall_mem_cons.2 ⟨fun x => (congrFun (act_6 (k0_pay36 v39 v41 v52 v53) (wcol x12 6 (by decide)) (wcol x12 17 (by decide)) (past x20 0 (by decide) 6 (by decide)) (past x20 8 (by decide) 6 (by decide)) (past x20 0 (by decide) 17 (by decide)) (past x20 8 (by decide) 17 (by decide)) (bias x8 6 (by decide)) (bias x8 17 (by decide)) (tap x7 0 (by decide) 6 (by decide)) (tap x7 1 (by decide) 6 (by decide)) (tap x7 2 (by decide) 6 (by decide)) (tap x7 0 (by decide) 17 (by decide)) (tap x7 1 (by decide) 17 (by decide)) (tap x7 2 (by decide) 17 (by decide))) x).trans (ACT_piece (k0_pay36 v39 v41 v52 v53) x7 x8 x12 x20 6 (by decide) (inb_cols (w := 11) 6 (by decide) rfl) x),
          List.forall_mem_cons.2 ⟨fun x => (congrFun (act_5 (k0_pay36 v39 v41 v52 v53) (wcol x12 5 (by decide)) (wcol x12 16 (by decide)) (past x20 0 (by decide) 5 (by decide)) (past x20 8 (by decide) 5 (by decide)) (past x20 0 (by decide) 16 (by decide)) (past x20 8 (by decide) 16 (by decide)) (bias x8 5 (by decide)) (bias x8 16 (by decide)) (tap x7 0 (by decide) 5 (by decide)) (tap x7 1 (by decide) 5 (by decide)) (tap x7 2 (by decide) 5 (by decide)) (tap x7 0 (by decide) 16 (by decide)) (tap x7 1 (by decide) 16 (by decide)) (tap x7 2 (by decide) 16 (by decide))) x).trans (ACT_piece (k0_pay36 v39 v41 v52 v53) x7 x8 x12 x20 5 (by decide) (inb_cols (w := 11) 5 (by decide) rfl) x),
          List.forall_mem_cons.2 ⟨fun x => (congrFun (act_4 (k0_pay36 v39 v41 v52 v53) (wcol x12 4 (by decide)) (wcol x12 15 (by decide)) (past x20 0 (by decide) 4 (by decide)) (past x20 8 (by decide) 4 (by decide)) (past x20 0 (by decide) 15 (by decide)) (past x20 8 (by decide) 15 (by decide)) (bias x8 4 (by decide)) (bias x8 15 (by decide)) (tap x7 0 (by decide) 4 (by decide)) (tap x7 1 (by decide) 4 (by decide)) (tap x7 2 (by decide) 4 (by decide)) (tap x7 0 (by decide) 15 (by decide)) (tap x7 1 (by decide) 15 (by decide)) (tap x7 2 (by decide) 15 (by decide))) x).trans (ACT_piece (k0_pay36 v39 v41 v52 v53) x7 x8 x12 x20 4 (by decide) (inb_cols (w := 11) 4 (by decide) rfl) x),
          List.forall_mem_cons.2 ⟨fun x => (congrFun (act_3 (k0_pay36 v39 v41 v52 v53) (wcol x12 3 (by decide)) (wcol x12 14 (by decide)) (past x20 0 (by decide) 3 (by decide)) (past x20 8 (by decide) 3 (by decide)) (past x20 0 (by decide) 14 (by decide)) (past x20 8 (by decide) 14 (by decide)) (bias x8 3 (by decide)) (bias x8 14 (by decide)) (tap x7 0 (by decide) 3 (by decide)) (tap x7 1 (by decide) 3 (by decide)) (tap x7 2 (by decide) 3 (by decide)) (tap x7 0 (by decide) 14 (by decide)) (tap x7 1 (by decide) 14 (by decide)) (tap x7 2 (by decide) 14 (by decide))) x).trans (ACT_piece (k0_pay36 v39 v41 v52 v53) x7 x8 x12 x20 3 (by decide) (inb_cols (w := 11) 3 (by decide) rfl) x),
          List.forall_mem_cons.2 ⟨fun x => (congrFun (act_2 (k0_pay36 v39 v41 v52 v53) (wcol x12 2 (by decide)) (wcol x12 13 (by decide)) (past x20 0 (by decide) 2 (by decide)) (past x20 8 (by decide) 2 (by decide)) (past x20 0 (by decide) 13 (by decide)) (past x20 8 (by decide) 13 (by decide)) (bias x8 2 (by decide)) (bias x8 13 (by decide)) (tap x7 0 (by decide) 2 (by decide)) (tap x7 1 (by decide) 2 (by decide)) (tap x7 2 (by decide) 2 (by decide)) (tap x7 0 (by decide) 13 (by decide)) (tap x7 1 (by decide) 13 (by decide)) (tap x7 2 (by decide) 13 (by decide))) x).trans (ACT_piece (k0_pay36 v39 v41 v52 v53) x7 x8 x12 x20 2 (by decide) (inb_cols (w := 11) 2 (by decide) rfl) x),
          List.forall_mem_cons.2 ⟨fun x => (congrFun (act_1 (k0_pay36 v39 v41 v52 v53) (wcol x12 1 (by decide)) (wcol x12 12 (by decide)) (past x20 0 (by decide) 1 (by decide)) (past x20 8 (by decide) 1 (by decide)) (past x20 0 (by decide) 12 (by decide)) (past x20 8 (by decide) 12 (by decide)) (bias x8 1 (by decide)) (bias x8 12 (by decide)) (tap x7 0 (by decide) 1 (by decide)) (tap x7 1 (by decide) 1 (by decide)) (tap x7 2 (by decide) 1 (by decide)) (tap x7 0 (by decide) 12 (by decide)) (tap x7 1 (by decide) 12 (by decide)) (tap x7 2 (by decide) 12 (by decide))) x).trans (ACT_piece (k0_pay36 v39 v41 v52 v53) x7 x8 x12 x20 1 (by decide) (inb_cols (w := 11) 1 (by decide) rfl) x),
          List.forall_mem_cons.2 ⟨fun x => (congrFun (act_0 v39 v41 v52 v53 (wcol x12 0 (by decide)) (wcol x12 11 (by decide)) (past x20 0 (by decide) 0 (by decide)) (past x20 8 (by decide) 0 (by decide)) (past x20 0 (by decide) 11 (by decide)) (past x20 8 (by decide) 11 (by decide)) (bias x8 0 (by decide)) (bias x8 11 (by decide)) (tap x7 0 (by decide) 0 (by decide)) (tap x7 1 (by decide) 0 (by decide)) (tap x7 2 (by decide) 0 (by decide)) (tap x7 0 (by decide) 11 (by decide)) (tap x7 1 (by decide) 11 (by decide)) (tap x7 2 (by decide) 11 (by decide))) x).trans (ACT_piece (k0_pay36 v39 v41 v52 v53) x7 x8 x12 x20 0 (by decide) (inb_cols (w := 11) 0 (by decide) rfl) x),
          fun p hp => absurd hp (List.not_mem_nil)⟩⟩⟩⟩⟩⟩⟩⟩⟩⟩⟩
    imodintro
    iapply Hk
    isplitl [H7]
    · iexists _; isplitr; · ipureintro; exact harg7.read_unread _
      iexact H7
    isplitl [H8]
    · iexists _; isplitr; · ipureintro; exact harg8.read_unread _
      iexact H8
    isplitl [H12]
    · iexists _; isplitr; · ipureintro; exact harg12.read_unread _
      iexact H12
    isplitl [H13]
    · iexists _; isplitr; · ipureintro; exact harg13.read_unread _
      iexact H13
    isplitl [H17]
    · iexists _; isplitr; swap; · iexact H17
      ipureintro
      refine read_writes_of_pieces (Val := Elt F) (e := .bf16) arg17.view _ _ (ACT (k0_pay36 v39 v41 v52 v53) x7 x8 x12 x20) ?_ (fun y => View.cover_of_tiled (s := S1024x2816) _ S1024x256.size (by rfl) y)
      exact List.forall_mem_cons.2 ⟨fun x => (congrFun (act_10 (k0_pay36 v39 v41 v52 v53) (wcol x12 10 (by decide)) (wcol x12 21 (by decide)) (past x20 0 (by decide) 10 (by decide)) (past x20 8 (by decide) 10 (by decide)) (past x20 0 (by decide) 21 (by decide)) (past x20 8 (by decide) 21 (by decide)) (bias x8 10 (by decide)) (bias x8 21 (by decide)) (tap x7 0 (by decide) 10 (by decide)) (tap x7 1 (by decide) 10 (by decide)) (tap x7 2 (by decide) 10 (by decide)) (tap x7 0 (by decide) 21 (by decide)) (tap x7 1 (by decide) 21 (by decide)) (tap x7 2 (by decide) 21 (by decide))) x).trans (ACT_piece (k0_pay36 v39 v41 v52 v53) x7 x8 x12 x20 10 (by decide) (inb_cols (w := 11) 10 (by decide) rfl) x),
          List.forall_mem_cons.2 ⟨fun x => (congrFun (act_9 (k0_pay36 v39 v41 v52 v53) (wcol x12 9 (by decide)) (wcol x12 20 (by decide)) (past x20 0 (by decide) 9 (by decide)) (past x20 8 (by decide) 9 (by decide)) (past x20 0 (by decide) 20 (by decide)) (past x20 8 (by decide) 20 (by decide)) (bias x8 9 (by decide)) (bias x8 20 (by decide)) (tap x7 0 (by decide) 9 (by decide)) (tap x7 1 (by decide) 9 (by decide)) (tap x7 2 (by decide) 9 (by decide)) (tap x7 0 (by decide) 20 (by decide)) (tap x7 1 (by decide) 20 (by decide)) (tap x7 2 (by decide) 20 (by decide))) x).trans (ACT_piece (k0_pay36 v39 v41 v52 v53) x7 x8 x12 x20 9 (by decide) (inb_cols (w := 11) 9 (by decide) rfl) x),
          List.forall_mem_cons.2 ⟨fun x => (congrFun (act_8 (k0_pay36 v39 v41 v52 v53) (wcol x12 8 (by decide)) (wcol x12 19 (by decide)) (past x20 0 (by decide) 8 (by decide)) (past x20 8 (by decide) 8 (by decide)) (past x20 0 (by decide) 19 (by decide)) (past x20 8 (by decide) 19 (by decide)) (bias x8 8 (by decide)) (bias x8 19 (by decide)) (tap x7 0 (by decide) 8 (by decide)) (tap x7 1 (by decide) 8 (by decide)) (tap x7 2 (by decide) 8 (by decide)) (tap x7 0 (by decide) 19 (by decide)) (tap x7 1 (by decide) 19 (by decide)) (tap x7 2 (by decide) 19 (by decide))) x).trans (ACT_piece (k0_pay36 v39 v41 v52 v53) x7 x8 x12 x20 8 (by decide) (inb_cols (w := 11) 8 (by decide) rfl) x),
          List.forall_mem_cons.2 ⟨fun x => (congrFun (act_7 (k0_pay36 v39 v41 v52 v53) (wcol x12 7 (by decide)) (wcol x12 18 (by decide)) (past x20 0 (by decide) 7 (by decide)) (past x20 8 (by decide) 7 (by decide)) (past x20 0 (by decide) 18 (by decide)) (past x20 8 (by decide) 18 (by decide)) (bias x8 7 (by decide)) (bias x8 18 (by decide)) (tap x7 0 (by decide) 7 (by decide)) (tap x7 1 (by decide) 7 (by decide)) (tap x7 2 (by decide) 7 (by decide)) (tap x7 0 (by decide) 18 (by decide)) (tap x7 1 (by decide) 18 (by decide)) (tap x7 2 (by decide) 18 (by decide))) x).trans (ACT_piece (k0_pay36 v39 v41 v52 v53) x7 x8 x12 x20 7 (by decide) (inb_cols (w := 11) 7 (by decide) rfl) x),
          List.forall_mem_cons.2 ⟨fun x => (congrFun (act_6 (k0_pay36 v39 v41 v52 v53) (wcol x12 6 (by decide)) (wcol x12 17 (by decide)) (past x20 0 (by decide) 6 (by decide)) (past x20 8 (by decide) 6 (by decide)) (past x20 0 (by decide) 17 (by decide)) (past x20 8 (by decide) 17 (by decide)) (bias x8 6 (by decide)) (bias x8 17 (by decide)) (tap x7 0 (by decide) 6 (by decide)) (tap x7 1 (by decide) 6 (by decide)) (tap x7 2 (by decide) 6 (by decide)) (tap x7 0 (by decide) 17 (by decide)) (tap x7 1 (by decide) 17 (by decide)) (tap x7 2 (by decide) 17 (by decide))) x).trans (ACT_piece (k0_pay36 v39 v41 v52 v53) x7 x8 x12 x20 6 (by decide) (inb_cols (w := 11) 6 (by decide) rfl) x),
          List.forall_mem_cons.2 ⟨fun x => (congrFun (act_5 (k0_pay36 v39 v41 v52 v53) (wcol x12 5 (by decide)) (wcol x12 16 (by decide)) (past x20 0 (by decide) 5 (by decide)) (past x20 8 (by decide) 5 (by decide)) (past x20 0 (by decide) 16 (by decide)) (past x20 8 (by decide) 16 (by decide)) (bias x8 5 (by decide)) (bias x8 16 (by decide)) (tap x7 0 (by decide) 5 (by decide)) (tap x7 1 (by decide) 5 (by decide)) (tap x7 2 (by decide) 5 (by decide)) (tap x7 0 (by decide) 16 (by decide)) (tap x7 1 (by decide) 16 (by decide)) (tap x7 2 (by decide) 16 (by decide))) x).trans (ACT_piece (k0_pay36 v39 v41 v52 v53) x7 x8 x12 x20 5 (by decide) (inb_cols (w := 11) 5 (by decide) rfl) x),
          List.forall_mem_cons.2 ⟨fun x => (congrFun (act_4 (k0_pay36 v39 v41 v52 v53) (wcol x12 4 (by decide)) (wcol x12 15 (by decide)) (past x20 0 (by decide) 4 (by decide)) (past x20 8 (by decide) 4 (by decide)) (past x20 0 (by decide) 15 (by decide)) (past x20 8 (by decide) 15 (by decide)) (bias x8 4 (by decide)) (bias x8 15 (by decide)) (tap x7 0 (by decide) 4 (by decide)) (tap x7 1 (by decide) 4 (by decide)) (tap x7 2 (by decide) 4 (by decide)) (tap x7 0 (by decide) 15 (by decide)) (tap x7 1 (by decide) 15 (by decide)) (tap x7 2 (by decide) 15 (by decide))) x).trans (ACT_piece (k0_pay36 v39 v41 v52 v53) x7 x8 x12 x20 4 (by decide) (inb_cols (w := 11) 4 (by decide) rfl) x),
          List.forall_mem_cons.2 ⟨fun x => (congrFun (act_3 (k0_pay36 v39 v41 v52 v53) (wcol x12 3 (by decide)) (wcol x12 14 (by decide)) (past x20 0 (by decide) 3 (by decide)) (past x20 8 (by decide) 3 (by decide)) (past x20 0 (by decide) 14 (by decide)) (past x20 8 (by decide) 14 (by decide)) (bias x8 3 (by decide)) (bias x8 14 (by decide)) (tap x7 0 (by decide) 3 (by decide)) (tap x7 1 (by decide) 3 (by decide)) (tap x7 2 (by decide) 3 (by decide)) (tap x7 0 (by decide) 14 (by decide)) (tap x7 1 (by decide) 14 (by decide)) (tap x7 2 (by decide) 14 (by decide))) x).trans (ACT_piece (k0_pay36 v39 v41 v52 v53) x7 x8 x12 x20 3 (by decide) (inb_cols (w := 11) 3 (by decide) rfl) x),
          List.forall_mem_cons.2 ⟨fun x => (congrFun (act_2 (k0_pay36 v39 v41 v52 v53) (wcol x12 2 (by decide)) (wcol x12 13 (by decide)) (past x20 0 (by decide) 2 (by decide)) (past x20 8 (by decide) 2 (by decide)) (past x20 0 (by decide) 13 (by decide)) (past x20 8 (by decide) 13 (by decide)) (bias x8 2 (by decide)) (bias x8 13 (by decide)) (tap x7 0 (by decide) 2 (by decide)) (tap x7 1 (by decide) 2 (by decide)) (tap x7 2 (by decide) 2 (by decide)) (tap x7 0 (by decide) 13 (by decide)) (tap x7 1 (by decide) 13 (by decide)) (tap x7 2 (by decide) 13 (by decide))) x).trans (ACT_piece (k0_pay36 v39 v41 v52 v53) x7 x8 x12 x20 2 (by decide) (inb_cols (w := 11) 2 (by decide) rfl) x),
          List.forall_mem_cons.2 ⟨fun x => (congrFun (act_1 (k0_pay36 v39 v41 v52 v53) (wcol x12 1 (by decide)) (wcol x12 12 (by decide)) (past x20 0 (by decide) 1 (by decide)) (past x20 8 (by decide) 1 (by decide)) (past x20 0 (by decide) 12 (by decide)) (past x20 8 (by decide) 12 (by decide)) (bias x8 1 (by decide)) (bias x8 12 (by decide)) (tap x7 0 (by decide) 1 (by decide)) (tap x7 1 (by decide) 1 (by decide)) (tap x7 2 (by decide) 1 (by decide)) (tap x7 0 (by decide) 12 (by decide)) (tap x7 1 (by decide) 12 (by decide)) (tap x7 2 (by decide) 12 (by decide))) x).trans (ACT_piece (k0_pay36 v39 v41 v52 v53) x7 x8 x12 x20 1 (by decide) (inb_cols (w := 11) 1 (by decide) rfl) x),
          List.forall_mem_cons.2 ⟨fun x => (congrFun (act_0 v39 v41 v52 v53 (wcol x12 0 (by decide)) (wcol x12 11 (by decide)) (past x20 0 (by decide) 0 (by decide)) (past x20 8 (by decide) 0 (by decide)) (past x20 0 (by decide) 11 (by decide)) (past x20 8 (by decide) 11 (by decide)) (bias x8 0 (by decide)) (bias x8 11 (by decide)) (tap x7 0 (by decide) 0 (by decide)) (tap x7 1 (by decide) 0 (by decide)) (tap x7 2 (by decide) 0 (by decide)) (tap x7 0 (by decide) 11 (by decide)) (tap x7 1 (by decide) 11 (by decide)) (tap x7 2 (by decide) 11 (by decide))) x).trans (ACT_piece (k0_pay36 v39 v41 v52 v53) x7 x8 x12 x20 0 (by decide) (inb_cols (w := 11) 0 (by decide) rfl) x),
          fun p hp => absurd hp (List.not_mem_nil)⟩⟩⟩⟩⟩⟩⟩⟩⟩⟩⟩
    isplitl [H20]
    · iexists _; isplitr; swap; · iexact H20
      ipureintro
      refine read_writes_of_pieces (Val := Elt F) (e := .f32) arg20.view _ _ (TAIL (k0_pay36 v39 v41 v52 v53) x12) ?_ (fun y => View.cover_of_tiled (s := S16x5632) _ S16x256.size (by rfl) y)
      exact List.forall_mem_cons.2 ⟨fun x => (congrFun (tail_21 (k0_pay36 v39 v41 v52 v53) (wcol x12 21 (by decide))) x).trans (TAIL_piece (k0_pay36 v39 v41 v52 v53) x12 21 (by decide) (inb_cols (w := 22) 21 (by decide) rfl) x),
          List.forall_mem_cons.2 ⟨fun x => (congrFun (tail_10 (k0_pay36 v39 v41 v52 v53) (wcol x12 10 (by decide))) x).trans (TAIL_piece (k0_pay36 v39 v41 v52 v53) x12 10 (by decide) (inb_cols (w := 22) 10 (by decide) rfl) x),
          List.forall_mem_cons.2 ⟨fun x => (congrFun (tail_20 (k0_pay36 v39 v41 v52 v53) (wcol x12 20 (by decide))) x).trans (TAIL_piece (k0_pay36 v39 v41 v52 v53) x12 20 (by decide) (inb_cols (w := 22) 20 (by decide) rfl) x),
          List.forall_mem_cons.2 ⟨fun x => (congrFun (tail_9 (k0_pay36 v39 v41 v52 v53) (wcol x12 9 (by decide))) x).trans (TAIL_piece (k0_pay36 v39 v41 v52 v53) x12 9 (by decide) (inb_cols (w := 22) 9 (by decide) rfl) x),
          List.forall_mem_cons.2 ⟨fun x => (congrFun (tail_19 (k0_pay36 v39 v41 v52 v53) (wcol x12 19 (by decide))) x).trans (TAIL_piece (k0_pay36 v39 v41 v52 v53) x12 19 (by decide) (inb_cols (w := 22) 19 (by decide) rfl) x),
          List.forall_mem_cons.2 ⟨fun x => (congrFun (tail_8 (k0_pay36 v39 v41 v52 v53) (wcol x12 8 (by decide))) x).trans (TAIL_piece (k0_pay36 v39 v41 v52 v53) x12 8 (by decide) (inb_cols (w := 22) 8 (by decide) rfl) x),
          List.forall_mem_cons.2 ⟨fun x => (congrFun (tail_18 (k0_pay36 v39 v41 v52 v53) (wcol x12 18 (by decide))) x).trans (TAIL_piece (k0_pay36 v39 v41 v52 v53) x12 18 (by decide) (inb_cols (w := 22) 18 (by decide) rfl) x),
          List.forall_mem_cons.2 ⟨fun x => (congrFun (tail_7 (k0_pay36 v39 v41 v52 v53) (wcol x12 7 (by decide))) x).trans (TAIL_piece (k0_pay36 v39 v41 v52 v53) x12 7 (by decide) (inb_cols (w := 22) 7 (by decide) rfl) x),
          List.forall_mem_cons.2 ⟨fun x => (congrFun (tail_17 (k0_pay36 v39 v41 v52 v53) (wcol x12 17 (by decide))) x).trans (TAIL_piece (k0_pay36 v39 v41 v52 v53) x12 17 (by decide) (inb_cols (w := 22) 17 (by decide) rfl) x),
          List.forall_mem_cons.2 ⟨fun x => (congrFun (tail_6 (k0_pay36 v39 v41 v52 v53) (wcol x12 6 (by decide))) x).trans (TAIL_piece (k0_pay36 v39 v41 v52 v53) x12 6 (by decide) (inb_cols (w := 22) 6 (by decide) rfl) x),
          List.forall_mem_cons.2 ⟨fun x => (congrFun (tail_16 (k0_pay36 v39 v41 v52 v53) (wcol x12 16 (by decide))) x).trans (TAIL_piece (k0_pay36 v39 v41 v52 v53) x12 16 (by decide) (inb_cols (w := 22) 16 (by decide) rfl) x),
          List.forall_mem_cons.2 ⟨fun x => (congrFun (tail_5 (k0_pay36 v39 v41 v52 v53) (wcol x12 5 (by decide))) x).trans (TAIL_piece (k0_pay36 v39 v41 v52 v53) x12 5 (by decide) (inb_cols (w := 22) 5 (by decide) rfl) x),
          List.forall_mem_cons.2 ⟨fun x => (congrFun (tail_15 (k0_pay36 v39 v41 v52 v53) (wcol x12 15 (by decide))) x).trans (TAIL_piece (k0_pay36 v39 v41 v52 v53) x12 15 (by decide) (inb_cols (w := 22) 15 (by decide) rfl) x),
          List.forall_mem_cons.2 ⟨fun x => (congrFun (tail_4 (k0_pay36 v39 v41 v52 v53) (wcol x12 4 (by decide))) x).trans (TAIL_piece (k0_pay36 v39 v41 v52 v53) x12 4 (by decide) (inb_cols (w := 22) 4 (by decide) rfl) x),
          List.forall_mem_cons.2 ⟨fun x => (congrFun (tail_14 (k0_pay36 v39 v41 v52 v53) (wcol x12 14 (by decide))) x).trans (TAIL_piece (k0_pay36 v39 v41 v52 v53) x12 14 (by decide) (inb_cols (w := 22) 14 (by decide) rfl) x),
          List.forall_mem_cons.2 ⟨fun x => (congrFun (tail_3 (k0_pay36 v39 v41 v52 v53) (wcol x12 3 (by decide))) x).trans (TAIL_piece (k0_pay36 v39 v41 v52 v53) x12 3 (by decide) (inb_cols (w := 22) 3 (by decide) rfl) x),
          List.forall_mem_cons.2 ⟨fun x => (congrFun (tail_13 (k0_pay36 v39 v41 v52 v53) (wcol x12 13 (by decide))) x).trans (TAIL_piece (k0_pay36 v39 v41 v52 v53) x12 13 (by decide) (inb_cols (w := 22) 13 (by decide) rfl) x),
          List.forall_mem_cons.2 ⟨fun x => (congrFun (tail_2 (k0_pay36 v39 v41 v52 v53) (wcol x12 2 (by decide))) x).trans (TAIL_piece (k0_pay36 v39 v41 v52 v53) x12 2 (by decide) (inb_cols (w := 22) 2 (by decide) rfl) x),
          List.forall_mem_cons.2 ⟨fun x => (congrFun (tail_12 (k0_pay36 v39 v41 v52 v53) (wcol x12 12 (by decide))) x).trans (TAIL_piece (k0_pay36 v39 v41 v52 v53) x12 12 (by decide) (inb_cols (w := 22) 12 (by decide) rfl) x),
          List.forall_mem_cons.2 ⟨fun x => (congrFun (tail_1 (k0_pay36 v39 v41 v52 v53) (wcol x12 1 (by decide))) x).trans (TAIL_piece (k0_pay36 v39 v41 v52 v53) x12 1 (by decide) (inb_cols (w := 22) 1 (by decide) rfl) x),
          List.forall_mem_cons.2 ⟨fun x => (congrFun (tail_11 (k0_pay36 v39 v41 v52 v53) (wcol x12 11 (by decide))) x).trans (TAIL_piece (k0_pay36 v39 v41 v52 v53) x12 11 (by decide) (inb_cols (w := 22) 11 (by decide) rfl) x),
          List.forall_mem_cons.2 ⟨fun x => (congrFun (tail_0 v39 v41 v52 v53 (wcol x12 0 (by decide))) x).trans (TAIL_piece (k0_pay36 v39 v41 v52 v53) x12 0 (by decide) (inb_cols (w := 22) 0 (by decide) rfl) x),
          fun p hp => absurd hp (List.not_mem_nil)⟩⟩⟩⟩⟩⟩⟩⟩⟩⟩⟩⟩⟩⟩⟩⟩⟩⟩⟩⟩⟩⟩
    iexact HW

end Cert.FfnIdeal.Mlp

end
-- ==== Proof.FfnMidC.lean ====
module

public import proofs.«01_k».proof.Proof.FfnNest
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The down-projection by blocks of rows; each block's result rows are stored into the slot. -/
theorem run_down (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg17 : Memref sig .tc .vmem S1024x2816 .bf16) (harg17 : arg17.IsWhole) (arg20 : Memref sig .tc .vmem S16x5632 .f32) (harg20 : arg20.IsWhole) (v1 v11 : BitVec 32)
    (v43 : FVec F S1x1024 .f32) (A : FVec F S1024x2816 .bf16)
    (x2 : Vec F S1x8x1024x128 .f32) (x10 : Vec F S1x1024 .f32) (x13 : Vec F S2816x1024 .bf16) (e : HbBuf (F := F) c scO) :
      ∀ (W : Waits sig Unit) (K : _ → sProp 𝕄),
        iprop(owns (c : Thread nD τ) arg2 fullShare x2 ∗ owns (c : Thread nD τ) arg10 fullShare x10 ∗ owns (c : Thread nD τ) arg13 fullShare x13 ∗ owns (c : Thread nD τ) arg17 fullShare A ∗ slotP c (Ring.sl 2 t.val) e ∗ owes c 0 W
            ∗ (∀ r, (owns (c : Thread nD τ) arg2 fullShare x2 ∗ owns (c : Thread nD τ) arg10 fullShare x10 ∗ owns (c : Thread nD τ) arg13 fullShare x13 ∗ owns (c : Thread nD τ) arg17 fullShare A
                ∗ slotP c (Ring.sl 2 t.val) (slotBuf c (OUTg v43 A x2 x10 x13)) ∗ owes c 0 W) -∗ K r))
          ⊢ wp frame (wpE (defs₀ (F := F)) Variants.none c none) Set.univ (downP (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 arg14 harg14 arg15 harg15 cc0_scratch4 arg17 harg17 scO (Memref.isWhole_whole _) cc0_scratch7 arg20 harg20 v1 v11 v43 (View.ld A (Rect.unit (s := S1024x2816) ![256 * 0, 0] S256x2816.size (inb_rows 0 (by decide)))) (View.ld x13 (Rect.unit (s := S2816x1024) ![0, 0] S2816x1024.size inb_S2816x1024_S2816x1024_0_0))) K := by
    intro W K
    unfold downP
    simp only [k0_part49_eq_skeleton, k0_part50_eq_skeleton, k0_part51_eq_skeleton, k0_part52_eq_skeleton, k0_part53_eq_skeleton, k0_part54_eq_skeleton]
    unfold k0_part49_skel k0_part50_skel k0_part51_skel k0_part52_skel k0_part53_skel k0_part54_skel
    unfold owns
    iintro ⟨⟨%f2, %hf2, H2⟩, ⟨%f10, %hf10, H10⟩, ⟨%f13, %hf13, H13⟩, ⟨%f17, %hf17, H17⟩, HS, HW, Hk⟩
    obtain rfl := harg2.eq_unread hf2
    obtain rfl := harg10.eq_unread hf10
    obtain rfl := harg13.eq_unread hf13
    obtain rfl := harg17.eq_unread hf17
    sl_exec
    sl_unfold_run_names
    dsimp only
    simp only [View.readAt_eq_ld, Memref.IsWhole.read_unread]
    rw [wp_ret]
    imodintro
    iapply Hk
    isplitl [H2]
    · iexists _; isplitr; · ipureintro; exact harg2.read_unread _
      iexact H2
    isplitl [H10]
    · iexists _; isplitr; · ipureintro; exact harg10.read_unread _
      iexact H10
    isplitl [H13]
    · iexists _; isplitr; · ipureintro; exact harg13.read_unread _
      iexact H13
    isplitl [H17]
    · iexists _; isplitr; · ipureintro; exact harg17.read_unread _
      iexact H17
    isplitl [HS]
    · have h := slot_nest c (Ring.sl 2 t.val) (slotBuf c (OUTg v43 A x2 x10 x13)) e _ _ _ _ (off11_eq t) (off12_eq t) (off13_eq t) (off14_eq t) (k0_off11_inb (grid0.coords t)) (k0_off12_inb (grid0.coords t)) (k0_off13_inb (grid0.coords t)) (k0_off14_inb (grid0.coords t)) _ _ _ _
        (OUT_piece c v43 A x2 x10 x13 (Ring.sl 2 t.val) 0 (by decide) _ (off11_eq t) _) (OUT_piece c v43 A x2 x10 x13 (Ring.sl 2 t.val) 1 (by decide) _ (off12_eq t) _)
        (OUT_piece c v43 A x2 x10 x13 (Ring.sl 2 t.val) 2 (by decide) _ (off13_eq t) _) (OUT_piece c v43 A x2 x10 x13 (Ring.sl 2 t.val) 3 (by decide) _ (off14_eq t) _)
      rw [← h]
      iexact HS
    iexact HW

end Cert.FfnIdeal.Mlp

end
-- ==== Proof.FfnMid.lean ====
module

public import proofs.«01_k».proof.Proof.FfnMidA
public import proofs.«01_k».proof.Proof.FfnMidB
public import proofs.«01_k».proof.Proof.FfnMidC
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The tile's rows made: the normalised rows, the hidden layer, the rows that leave in the slot; the history for the next tile. -/
theorem run_mid (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg17 : Memref sig .tc .vmem S1024x2816 .bf16) (harg17 : arg17.IsWhole) (arg20 : Memref sig .tc .vmem S16x5632 .f32) (harg20 : arg20.IsWhole)
    (x2 : Vec F S1x8x1024x128 .f32) (x3 : Vec F S1x1024x1 .f32) (x4 : Vec F S1x6x1024 .f32) (x5 : Vec F S1x1024 .f32) (x7 : Vec F S3x5632 .f32) (x8 : Vec F S1x5632 .f32) (x10 : Vec F S1x1024 .f32) (x12 : Vec F S1024x5632 .bf16) (x13 : Vec F S2816x1024 .bf16) (x20 : Vec F S16x5632 .f32) (e : HbBuf (F := F) c scO) :
      ∀ (W : Waits sig Unit) (K : _ → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare x7 ∗ owns (c : Thread nD τ) arg8 fullShare x8 ∗ owns (c : Thread nD τ) arg10 fullShare x10 ∗ owns (c : Thread nD τ) arg12 fullShare x12 ∗ owns (c : Thread nD τ) arg13 fullShare x13 ∗ (∃ d, owns (c : Thread nD τ) arg17 fullShare d) ∗ owns (c : Thread nD τ) arg20 fullShare x20 ∗ slotP c (Ring.sl 2 t.val) e ∗ owes c 0 W
            ∗ (∀ r, (owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare x7 ∗ owns (c : Thread nD τ) arg8 fullShare x8 ∗ owns (c : Thread nD τ) arg10 fullShare x10 ∗ owns (c : Thread nD τ) arg12 fullShare x12 ∗ owns (c : Thread nD τ) arg13 fullShare x13 ∗ (∃ d, owns (c : Thread nD τ) arg17 fullShare d) ∗ owns (c : Thread nD τ) arg20 fullShare (TAIL (hE x2 x3 x4 x5) x12) ∗ slotP c (Ring.sl 2 t.val) (slotBuf c (OUT x2 x3 x4 x5 x7 x8 x10 x12 x13 x20)) ∗ owes c 0 W) -∗ K r))
          ⊢ wp frame (wpE (defs₀ (F := F)) Variants.none c none) Set.univ (midP (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 arg14 harg14 arg15 harg15 cc0_scratch4 arg17 harg17 scO (Memref.isWhole_whole _) cc0_scratch7 arg20 harg20) K := by
    intro W K
    rw [midP_eq]
    simp only [wp_bind]
    iintro ⟨H2, H3, H4, H5, H7, H8, H10, H12, H13, H17, H20, HS, HW, Hk⟩
    iapply (run_norm c t arg2 harg2 arg3 harg3 arg4 harg4 arg5 harg5 arg7 harg7 arg8 harg8 arg10 harg10 arg12 harg12 arg13 harg13 arg14 harg14 arg15 harg15 arg17 harg17 arg20 harg20 x2 x3 x4 x5)
    isplitl [H2]; · iexact H2
    isplitl [H3]; · iexact H3
    isplitl [H4]; · iexact H4
    isplitl [H5]; · iexact H5
    isplitl [HW]; · iexact HW
    iintro %v1 %v11 ⟨H2, H3, H4, H5, HW⟩
    simp only [wp_bind]
    iapply (run_up c t arg2 harg2 arg3 harg3 arg4 harg4 arg5 harg5 arg7 harg7 arg8 harg8 arg10 harg10 arg12 harg12 arg13 harg13 arg14 harg14 arg15 harg15 arg17 harg17 arg20 harg20 _ _ _ _ x7 x8 x12 x13 x20)
    isplitl [H7]; · iexact H7
    isplitl [H8]; · iexact H8
    isplitl [H12]; · iexact H12
    isplitl [H13]; · iexact H13
    isplitl [H17]; · iexact H17
    isplitl [H20]; · iexact H20
    isplitl [HW]; · iexact HW
    iintro ⟨H7, H8, H12, H13, H17, H20, HW⟩
    iapply (run_down c t arg2 harg2 arg3 harg3 arg4 harg4 arg5 harg5 arg7 harg7 arg8 harg8 arg10 harg10 arg12 harg12 arg13 harg13 arg14 harg14 arg15 harg15 arg17 harg17 arg20 harg20 v1 v11 (gateE x4) (ACT (hE x2 x3 x4 x5) x7 x8 x12 x20) x2 x10 x13 e)
    isplitl [H2]; · iexact H2
    isplitl [H10]; · iexact H10
    isplitl [H13]; · iexact H13
    isplitl [H17]; · iexact H17
    isplitl [HS]; · iexact HS
    isplitl [HW]; · iexact HW
    iintro %r ⟨H2, H10, H13, H17, HS, HW⟩
    iapply Hk
    isplitl [H2]; · iexact H2
    isplitl [H3]; · iexact H3
    isplitl [H4]; · iexact H4
    isplitl [H5]; · iexact H5
    isplitl [H7]; · iexact H7
    isplitl [H8]; · iexact H8
    isplitl [H10]; · iexact H10
    isplitl [H12]; · iexact H12
    isplitl [H13]; · iexact H13
    isplitl [H17]; · iexists _; iexact H17
    isplitl [H20]; · iexact H20
    isplitl [HS]; · iexact HS
    iexact HW

end Cert.FfnIdeal.Mlp

end
-- ==== Proof.FfnLoad.lean ====
module

public import proofs.«01_k».proof.Proof.FfnNest
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem inb_stageU (s : Fin 4) (a : Fin 3) : ![s.val, 0, 0] a + S1x64x5632.size a ≤ S4x64x5632.size a := by
  have h := s.isLt
  fin_cases a <;> simp [S4x64x5632, S1x64x5632] <;> omega
/-- Stage `s` of the four. -/
def stageUSet (s : Fin 4) : Finset S4x64x5632.Idx := (Rect.unit (s := S4x64x5632) ![s.val, 0, 0] S1x64x5632.size (inb_stageU s)).set
theorem mem_stageUSet (s : Fin 4) (i : S4x64x5632.Idx) : i ∈ stageUSet s ↔ (i 0).val = s.val := by
  have h1 : (i 1).val < 64 := (i 1).isLt
  have h2 : (i 2).val < 5632 := (i 2).isLt
  unfold stageUSet
  rw [Rect.mem_set_unit]
  constructor
  · intro h
    have a := h 0
    simp at a; omega
  · rintro a k
    fin_cases k <;> simp <;> omega
theorem stageU_disjoint (s s' : Fin 4) (h : s ≠ s') : Disjoint (stageUSet s) (stageUSet s') :=
  Finset.disjoint_left.2 fun i hi hi' => h (Fin.ext (((mem_stageUSet s i).1 hi).symm.trans ((mem_stageUSet s' i).1 hi')))
theorem stageU_cover (c : Dev nD) : Finset.univ.biUnion stageUSet = (Finset.univ : Finset (Idx ((c : Thread nD τ).loc cc0_scratch2))) :=
  Finset.eq_univ_iff_forall.2 fun i => Finset.mem_biUnion.2 ⟨(i : S4x64x5632.Idx) 0, Finset.mem_univ _, (mem_stageUSet _ i).2 rfl⟩
omit [FloatOps F] in
/-- A stage's points-to, by its elements. -/
theorem stageU_eq (c : Dev nD) (s : Fin 4) (inb) (e : HbBuf (F := F) c scSU) :
    (((scSU.slice (Rect.unit (s := S4x64x5632) ![s.val, 0, 0] S1x64x5632.size inb) (fun _ => rfl)).squeeze S64x5632 squeezes_S1x64x5632_S64x5632).view.loc (c : Thread nD τ) ↦[((scSU.slice (Rect.unit (s := S4x64x5632) ![s.val, 0, 0] S1x64x5632.size inb) (fun _ => rfl)).squeeze S64x5632 squeezes_S1x64x5632_S64x5632).view.set]{fullShare} e : sProp 𝕄)
      = (((c : Thread nD τ).loc cc0_scratch2) ↦[stageUSet s]{fullShare} e) := by
  have h : ((scSU.slice (Rect.unit (s := S4x64x5632) ![s.val, 0, 0] S1x64x5632.size inb) (fun _ => rfl)).squeeze S64x5632 squeezes_S1x64x5632_S64x5632).view.set = stageUSet s := by
    simp only [Memref.view_squeeze, View.set_reshape]; exact View.set_slice_whole _ _
  rw [h]
omit [FloatOps F] in
theorem stageU_split (c : Dev nD) (e : HbBuf (F := F) c scSU) : (hbPt c scSU e : sProp 𝕄) =
    iprop((((scSU.slice (Rect.unit (s := S4x64x5632) ![0, 0, 0] S1x64x5632.size inb_S4x64x5632_S1x64x5632_0_0_0) (fun _ => rfl)).squeeze S64x5632 squeezes_S1x64x5632_S64x5632).view.loc (c : Thread nD τ) ↦[((scSU.slice (Rect.unit (s := S4x64x5632) ![0, 0, 0] S1x64x5632.size inb_S4x64x5632_S1x64x5632_0_0_0) (fun _ => rfl)).squeeze S64x5632 squeezes_S1x64x5632_S64x5632).view.set]{fullShare} e) ∗ (((scSU.slice (Rect.unit (s := S4x64x5632) ![1, 0, 0] S1x64x5632.size inb_S4x64x5632_S1x64x5632_1_0_0) (fun _ => rfl)).squeeze S64x5632 squeezes_S1x64x5632_S64x5632).view.loc (c : Thread nD τ) ↦[((scSU.slice (Rect.unit (s := S4x64x5632) ![1, 0, 0] S1x64x5632.size inb_S4x64x5632_S1x64x5632_1_0_0) (fun _ => rfl)).squeeze S64x5632 squeezes_S1x64x5632_S64x5632).view.set]{fullShare} e) ∗ (((scSU.slice (Rect.unit (s := S4x64x5632) ![2, 0, 0] S1x64x5632.size inb_S4x64x5632_S1x64x5632_2_0_0) (fun _ => rfl)).squeeze S64x5632 squeezes_S1x64x5632_S64x5632).view.loc (c : Thread nD τ) ↦[((scSU.slice (Rect.unit (s := S4x64x5632) ![2, 0, 0] S1x64x5632.size inb_S4x64x5632_S1x64x5632_2_0_0) (fun _ => rfl)).squeeze S64x5632 squeezes_S1x64x5632_S64x5632).view.set]{fullShare} e) ∗ (((scSU.slice (Rect.unit (s := S4x64x5632) ![3, 0, 0] S1x64x5632.size inb_S4x64x5632_S1x64x5632_3_0_0) (fun _ => rfl)).squeeze S64x5632 squeezes_S1x64x5632_S64x5632).view.loc (c : Thread nD τ) ↦[((scSU.slice (Rect.unit (s := S4x64x5632) ![3, 0, 0] S1x64x5632.size inb_S4x64x5632_S1x64x5632_3_0_0) (fun _ => rfl)).squeeze S64x5632 squeezes_S1x64x5632_S64x5632).view.set]{fullShare} e)) := by
  have h := (Ring.pointsTo_blocks (ℓ := (c : Thread nD τ).loc cc0_scratch2) (q := fullShare) (Val := Elt F) (Ix := Unit) (Name := ℕ) (U := Pipeline.UD sig nD τ) (Lvl := ℕ) stageUSet stageU_disjoint (stageU_cover c) e)
  rw [BI.bigSep_eq_bigSepL_of_eq [0, 1, 2, 3] (by decide) (by decide)] at h
  have E0 : (((scSU.slice (Rect.unit (s := S4x64x5632) ![0, 0, 0] S1x64x5632.size inb_S4x64x5632_S1x64x5632_0_0_0) (fun _ => rfl)).squeeze S64x5632 squeezes_S1x64x5632_S64x5632).view.loc (c : Thread nD τ) ↦[((scSU.slice (Rect.unit (s := S4x64x5632) ![0, 0, 0] S1x64x5632.size inb_S4x64x5632_S1x64x5632_0_0_0) (fun _ => rfl)).squeeze S64x5632 squeezes_S1x64x5632_S64x5632).view.set]{fullShare} e) = (((c : Thread nD τ).loc cc0_scratch2) ↦[stageUSet 0]{fullShare} e : sProp 𝕄) := stageU_eq c 0 (inb_S4x64x5632_S1x64x5632_0_0_0) e
  have E1 : (((scSU.slice (Rect.unit (s := S4x64x5632) ![1, 0, 0] S1x64x5632.size inb_S4x64x5632_S1x64x5632_1_0_0) (fun _ => rfl)).squeeze S64x5632 squeezes_S1x64x5632_S64x5632).view.loc (c : Thread nD τ) ↦[((scSU.slice (Rect.unit (s := S4x64x5632) ![1, 0, 0] S1x64x5632.size inb_S4x64x5632_S1x64x5632_1_0_0) (fun _ => rfl)).squeeze S64x5632 squeezes_S1x64x5632_S64x5632).view.set]{fullShare} e) = (((c : Thread nD τ).loc cc0_scratch2) ↦[stageUSet 1]{fullShare} e : sProp 𝕄) := stageU_eq c 1 (inb_S4x64x5632_S1x64x5632_1_0_0) e
  have E2 : (((scSU.slice (Rect.unit (s := S4x64x5632) ![2, 0, 0] S1x64x5632.size inb_S4x64x5632_S1x64x5632_2_0_0) (fun _ => rfl)).squeeze S64x5632 squeezes_S1x64x5632_S64x5632).view.loc (c : Thread nD τ) ↦[((scSU.slice (Rect.unit (s := S4x64x5632) ![2, 0, 0] S1x64x5632.size inb_S4x64x5632_S1x64x5632_2_0_0) (fun _ => rfl)).squeeze S64x5632 squeezes_S1x64x5632_S64x5632).view.set]{fullShare} e) = (((c : Thread nD τ).loc cc0_scratch2) ↦[stageUSet 2]{fullShare} e : sProp 𝕄) := stageU_eq c 2 (inb_S4x64x5632_S1x64x5632_2_0_0) e
  have E3 : (((scSU.slice (Rect.unit (s := S4x64x5632) ![3, 0, 0] S1x64x5632.size inb_S4x64x5632_S1x64x5632_3_0_0) (fun _ => rfl)).squeeze S64x5632 squeezes_S1x64x5632_S64x5632).view.loc (c : Thread nD τ) ↦[((scSU.slice (Rect.unit (s := S4x64x5632) ![3, 0, 0] S1x64x5632.size inb_S4x64x5632_S1x64x5632_3_0_0) (fun _ => rfl)).squeeze S64x5632 squeezes_S1x64x5632_S64x5632).view.set]{fullShare} e) = (((c : Thread nD τ).loc cc0_scratch2) ↦[stageUSet 3]{fullShare} e : sProp 𝕄) := stageU_eq c 3 (inb_S4x64x5632_S1x64x5632_3_0_0) e

  rw [E0, E1, E2, E3]
  exact h
omit [FloatOps F] in
theorem stageU_join (c : Dev nD) (e0 e1 e2 e3 : HbBuf (F := F) c scSU) : iprop((((scSU.slice (Rect.unit (s := S4x64x5632) ![0, 0, 0] S1x64x5632.size inb_S4x64x5632_S1x64x5632_0_0_0) (fun _ => rfl)).squeeze S64x5632 squeezes_S1x64x5632_S64x5632).view.loc (c : Thread nD τ) ↦[((scSU.slice (Rect.unit (s := S4x64x5632) ![0, 0, 0] S1x64x5632.size inb_S4x64x5632_S1x64x5632_0_0_0) (fun _ => rfl)).squeeze S64x5632 squeezes_S1x64x5632_S64x5632).view.set]{fullShare} e0) ∗ (((scSU.slice (Rect.unit (s := S4x64x5632) ![1, 0, 0] S1x64x5632.size inb_S4x64x5632_S1x64x5632_1_0_0) (fun _ => rfl)).squeeze S64x5632 squeezes_S1x64x5632_S64x5632).view.loc (c : Thread nD τ) ↦[((scSU.slice (Rect.unit (s := S4x64x5632) ![1, 0, 0] S1x64x5632.size inb_S4x64x5632_S1x64x5632_1_0_0) (fun _ => rfl)).squeeze S64x5632 squeezes_S1x64x5632_S64x5632).view.set]{fullShare} e1) ∗ (((scSU.slice (Rect.unit (s := S4x64x5632) ![2, 0, 0] S1x64x5632.size inb_S4x64x5632_S1x64x5632_2_0_0) (fun _ => rfl)).squeeze S64x5632 squeezes_S1x64x5632_S64x5632).view.loc (c : Thread nD τ) ↦[((scSU.slice (Rect.unit (s := S4x64x5632) ![2, 0, 0] S1x64x5632.size inb_S4x64x5632_S1x64x5632_2_0_0) (fun _ => rfl)).squeeze S64x5632 squeezes_S1x64x5632_S64x5632).view.set]{fullShare} e2) ∗ (((scSU.slice (Rect.unit (s := S4x64x5632) ![3, 0, 0] S1x64x5632.size inb_S4x64x5632_S1x64x5632_3_0_0) (fun _ => rfl)).squeeze S64x5632 squeezes_S1x64x5632_S64x5632).view.loc (c : Thread nD τ) ↦[((scSU.slice (Rect.unit (s := S4x64x5632) ![3, 0, 0] S1x64x5632.size inb_S4x64x5632_S1x64x5632_3_0_0) (fun _ => rfl)).squeeze S64x5632 squeezes_S1x64x5632_S64x5632).view.set]{fullShare} e3)) ⊢ (iprop(∃ e, hbPt c scSU e) : sProp 𝕄) := by
  have h : ∀ f₀ : HbBuf (F := F) c scSU, bigSep Finset.univ (fun s => iprop(∃ e : HbBuf (F := F) c scSU, ((c : Thread nD τ).loc cc0_scratch2) ↦[stageUSet s]{fullShare} e))
      ⊢ (iprop(∃ g, hbPt c scSU g) : sProp 𝕄) :=
    Ring.pointsTo_blocks_join_exists (ℓ := (c : Thread nD τ).loc cc0_scratch2) stageUSet stageU_disjoint (stageU_cover c)
  have h := h e0
  have E0 : (((scSU.slice (Rect.unit (s := S4x64x5632) ![0, 0, 0] S1x64x5632.size inb_S4x64x5632_S1x64x5632_0_0_0) (fun _ => rfl)).squeeze S64x5632 squeezes_S1x64x5632_S64x5632).view.loc (c : Thread nD τ) ↦[((scSU.slice (Rect.unit (s := S4x64x5632) ![0, 0, 0] S1x64x5632.size inb_S4x64x5632_S1x64x5632_0_0_0) (fun _ => rfl)).squeeze S64x5632 squeezes_S1x64x5632_S64x5632).view.set]{fullShare} e0) = (((c : Thread nD τ).loc cc0_scratch2) ↦[stageUSet 0]{fullShare} e0 : sProp 𝕄) := stageU_eq c 0 (inb_S4x64x5632_S1x64x5632_0_0_0) e0
  have E1 : (((scSU.slice (Rect.unit (s := S4x64x5632) ![1, 0, 0] S1x64x5632.size inb_S4x64x5632_S1x64x5632_1_0_0) (fun _ => rfl)).squeeze S64x5632 squeezes_S1x64x5632_S64x5632).view.loc (c : Thread nD τ) ↦[((scSU.slice (Rect.unit (s := S4x64x5632) ![1, 0, 0] S1x64x5632.size inb_S4x64x5632_S1x64x5632_1_0_0) (fun _ => rfl)).squeeze S64x5632 squeezes_S1x64x5632_S64x5632).view.set]{fullShare} e1) = (((c : Thread nD τ).loc cc0_scratch2) ↦[stageUSet 1]{fullShare} e1 : sProp 𝕄) := stageU_eq c 1 (inb_S4x64x5632_S1x64x5632_1_0_0) e1
  have E2 : (((scSU.slice (Rect.unit (s := S4x64x5632) ![2, 0, 0] S1x64x5632.size inb_S4x64x5632_S1x64x5632_2_0_0) (fun _ => rfl)).squeeze S64x5632 squeezes_S1x64x5632_S64x5632).view.loc (c : Thread nD τ) ↦[((scSU.slice (Rect.unit (s := S4x64x5632) ![2, 0, 0] S1x64x5632.size inb_S4x64x5632_S1x64x5632_2_0_0) (fun _ => rfl)).squeeze S64x5632 squeezes_S1x64x5632_S64x5632).view.set]{fullShare} e2) = (((c : Thread nD τ).loc cc0_scratch2) ↦[stageUSet 2]{fullShare} e2 : sProp 𝕄) := stageU_eq c 2 (inb_S4x64x5632_S1x64x5632_2_0_0) e2
  have E3 : (((scSU.slice (Rect.unit (s := S4x64x5632) ![3, 0, 0] S1x64x5632.size inb_S4x64x5632_S1x64x5632_3_0_0) (fun _ => rfl)).squeeze S64x5632 squeezes_S1x64x5632_S64x5632).view.loc (c : Thread nD τ) ↦[((scSU.slice (Rect.unit (s := S4x64x5632) ![3, 0, 0] S1x64x5632.size inb_S4x64x5632_S1x64x5632_3_0_0) (fun _ => rfl)).squeeze S64x5632 squeezes_S1x64x5632_S64x5632).view.set]{fullShare} e3) = (((c : Thread nD τ).loc cc0_scratch2) ↦[stageUSet 3]{fullShare} e3 : sProp 𝕄) := stageU_eq c 3 (inb_S4x64x5632_S1x64x5632_3_0_0) e3

  rw [BI.bigSep_eq_bigSepL_of_eq [0, 1, 2, 3] (by decide) (by decide)] at h
  iintro ⟨A, B, C, D⟩
  ihave A := (Entails.of_eq E0) $$ A
  ihave B := (Entails.of_eq E1) $$ B
  ihave C := (Entails.of_eq E2) $$ C
  ihave D := (Entails.of_eq E3) $$ D
  have h : iprop((∃ e : HbBuf (F := F) c scSU, ((c : Thread nD τ).loc cc0_scratch2) ↦[stageUSet 0]{fullShare} e) ∗ (∃ e : HbBuf (F := F) c scSU, ((c : Thread nD τ).loc cc0_scratch2) ↦[stageUSet 1]{fullShare} e) ∗ (∃ e : HbBuf (F := F) c scSU, ((c : Thread nD τ).loc cc0_scratch2) ↦[stageUSet 2]{fullShare} e) ∗ (∃ e : HbBuf (F := F) c scSU, ((c : Thread nD τ).loc cc0_scratch2) ↦[stageUSet 3]{fullShare} e)) ⊢ (iprop(∃ g, hbPt c scSU g) : sProp 𝕄) := h
  iapply h
  isplitl [A]; · iexists e0; iexact A
  isplitl [B]; · iexists e1; iexact B
  isplitl [C]; · iexists e2; iexact C
  iexists e3; iexact D

theorem inb_stageD (s : Fin 4) (a : Fin 3) : ![s.val, 0, 0] a + S1x256x1024.size a ≤ S4x256x1024.size a := by
  have h := s.isLt
  fin_cases a <;> simp [S4x256x1024, S1x256x1024] <;> omega
/-- Stage `s` of the four. -/
def stageDSet (s : Fin 4) : Finset S4x256x1024.Idx := (Rect.unit (s := S4x256x1024) ![s.val, 0, 0] S1x256x1024.size (inb_stageD s)).set
theorem mem_stageDSet (s : Fin 4) (i : S4x256x1024.Idx) : i ∈ stageDSet s ↔ (i 0).val = s.val := by
  have h1 : (i 1).val < 256 := (i 1).isLt
  have h2 : (i 2).val < 1024 := (i 2).isLt
  unfold stageDSet
  rw [Rect.mem_set_unit]
  constructor
  · intro h
    have a := h 0
    simp at a; omega
  · rintro a k
    fin_cases k <;> simp <;> omega
theorem stageD_disjoint (s s' : Fin 4) (h : s ≠ s') : Disjoint (stageDSet s) (stageDSet s') :=
  Finset.disjoint_left.2 fun i hi hi' => h (Fin.ext (((mem_stageDSet s i).1 hi).symm.trans ((mem_stageDSet s' i).1 hi')))
theorem stageD_cover (c : Dev nD) : Finset.univ.biUnion stageDSet = (Finset.univ : Finset (Idx ((c : Thread nD τ).loc cc0_scratch3))) :=
  Finset.eq_univ_iff_forall.2 fun i => Finset.mem_biUnion.2 ⟨(i : S4x256x1024.Idx) 0, Finset.mem_univ _, (mem_stageDSet _ i).2 rfl⟩
omit [FloatOps F] in
/-- A stage's points-to, by its elements. -/
theorem stageD_eq (c : Dev nD) (s : Fin 4) (inb) (e : HbBuf (F := F) c scSD) :
    (((scSD.slice (Rect.unit (s := S4x256x1024) ![s.val, 0, 0] S1x256x1024.size inb) (fun _ => rfl)).squeeze S256x1024 squeezes_S1x256x1024_S256x1024).view.loc (c : Thread nD τ) ↦[((scSD.slice (Rect.unit (s := S4x256x1024) ![s.val, 0, 0] S1x256x1024.size inb) (fun _ => rfl)).squeeze S256x1024 squeezes_S1x256x1024_S256x1024).view.set]{fullShare} e : sProp 𝕄)
      = (((c : Thread nD τ).loc cc0_scratch3) ↦[stageDSet s]{fullShare} e) := by
  have h : ((scSD.slice (Rect.unit (s := S4x256x1024) ![s.val, 0, 0] S1x256x1024.size inb) (fun _ => rfl)).squeeze S256x1024 squeezes_S1x256x1024_S256x1024).view.set = stageDSet s := by
    simp only [Memref.view_squeeze, View.set_reshape]; exact View.set_slice_whole _ _
  rw [h]
omit [FloatOps F] in
theorem stageD_split (c : Dev nD) (e : HbBuf (F := F) c scSD) : (hbPt c scSD e : sProp 𝕄) =
    iprop((((scSD.slice (Rect.unit (s := S4x256x1024) ![0, 0, 0] S1x256x1024.size inb_S4x256x1024_S1x256x1024_0_0_0) (fun _ => rfl)).squeeze S256x1024 squeezes_S1x256x1024_S256x1024).view.loc (c : Thread nD τ) ↦[((scSD.slice (Rect.unit (s := S4x256x1024) ![0, 0, 0] S1x256x1024.size inb_S4x256x1024_S1x256x1024_0_0_0) (fun _ => rfl)).squeeze S256x1024 squeezes_S1x256x1024_S256x1024).view.set]{fullShare} e) ∗ (((scSD.slice (Rect.unit (s := S4x256x1024) ![1, 0, 0] S1x256x1024.size inb_S4x256x1024_S1x256x1024_1_0_0) (fun _ => rfl)).squeeze S256x1024 squeezes_S1x256x1024_S256x1024).view.loc (c : Thread nD τ) ↦[((scSD.slice (Rect.unit (s := S4x256x1024) ![1, 0, 0] S1x256x1024.size inb_S4x256x1024_S1x256x1024_1_0_0) (fun _ => rfl)).squeeze S256x1024 squeezes_S1x256x1024_S256x1024).view.set]{fullShare} e) ∗ (((scSD.slice (Rect.unit (s := S4x256x1024) ![2, 0, 0] S1x256x1024.size inb_S4x256x1024_S1x256x1024_2_0_0) (fun _ => rfl)).squeeze S256x1024 squeezes_S1x256x1024_S256x1024).view.loc (c : Thread nD τ) ↦[((scSD.slice (Rect.unit (s := S4x256x1024) ![2, 0, 0] S1x256x1024.size inb_S4x256x1024_S1x256x1024_2_0_0) (fun _ => rfl)).squeeze S256x1024 squeezes_S1x256x1024_S256x1024).view.set]{fullShare} e) ∗ (((scSD.slice (Rect.unit (s := S4x256x1024) ![3, 0, 0] S1x256x1024.size inb_S4x256x1024_S1x256x1024_3_0_0) (fun _ => rfl)).squeeze S256x1024 squeezes_S1x256x1024_S256x1024).view.loc (c : Thread nD τ) ↦[((scSD.slice (Rect.unit (s := S4x256x1024) ![3, 0, 0] S1x256x1024.size inb_S4x256x1024_S1x256x1024_3_0_0) (fun _ => rfl)).squeeze S256x1024 squeezes_S1x256x1024_S256x1024).view.set]{fullShare} e)) := by
  have h := (Ring.pointsTo_blocks (ℓ := (c : Thread nD τ).loc cc0_scratch3) (q := fullShare) (Val := Elt F) (Ix := Unit) (Name := ℕ) (U := Pipeline.UD sig nD τ) (Lvl := ℕ) stageDSet stageD_disjoint (stageD_cover c) e)
  rw [BI.bigSep_eq_bigSepL_of_eq [0, 1, 2, 3] (by decide) (by decide)] at h
  have E0 : (((scSD.slice (Rect.unit (s := S4x256x1024) ![0, 0, 0] S1x256x1024.size inb_S4x256x1024_S1x256x1024_0_0_0) (fun _ => rfl)).squeeze S256x1024 squeezes_S1x256x1024_S256x1024).view.loc (c : Thread nD τ) ↦[((scSD.slice (Rect.unit (s := S4x256x1024) ![0, 0, 0] S1x256x1024.size inb_S4x256x1024_S1x256x1024_0_0_0) (fun _ => rfl)).squeeze S256x1024 squeezes_S1x256x1024_S256x1024).view.set]{fullShare} e) = (((c : Thread nD τ).loc cc0_scratch3) ↦[stageDSet 0]{fullShare} e : sProp 𝕄) := stageD_eq c 0 (inb_S4x256x1024_S1x256x1024_0_0_0) e
  have E1 : (((scSD.slice (Rect.unit (s := S4x256x1024) ![1, 0, 0] S1x256x1024.size inb_S4x256x1024_S1x256x1024_1_0_0) (fun _ => rfl)).squeeze S256x1024 squeezes_S1x256x1024_S256x1024).view.loc (c : Thread nD τ) ↦[((scSD.slice (Rect.unit (s := S4x256x1024) ![1, 0, 0] S1x256x1024.size inb_S4x256x1024_S1x256x1024_1_0_0) (fun _ => rfl)).squeeze S256x1024 squeezes_S1x256x1024_S256x1024).view.set]{fullShare} e) = (((c : Thread nD τ).loc cc0_scratch3) ↦[stageDSet 1]{fullShare} e : sProp 𝕄) := stageD_eq c 1 (inb_S4x256x1024_S1x256x1024_1_0_0) e
  have E2 : (((scSD.slice (Rect.unit (s := S4x256x1024) ![2, 0, 0] S1x256x1024.size inb_S4x256x1024_S1x256x1024_2_0_0) (fun _ => rfl)).squeeze S256x1024 squeezes_S1x256x1024_S256x1024).view.loc (c : Thread nD τ) ↦[((scSD.slice (Rect.unit (s := S4x256x1024) ![2, 0, 0] S1x256x1024.size inb_S4x256x1024_S1x256x1024_2_0_0) (fun _ => rfl)).squeeze S256x1024 squeezes_S1x256x1024_S256x1024).view.set]{fullShare} e) = (((c : Thread nD τ).loc cc0_scratch3) ↦[stageDSet 2]{fullShare} e : sProp 𝕄) := stageD_eq c 2 (inb_S4x256x1024_S1x256x1024_2_0_0) e
  have E3 : (((scSD.slice (Rect.unit (s := S4x256x1024) ![3, 0, 0] S1x256x1024.size inb_S4x256x1024_S1x256x1024_3_0_0) (fun _ => rfl)).squeeze S256x1024 squeezes_S1x256x1024_S256x1024).view.loc (c : Thread nD τ) ↦[((scSD.slice (Rect.unit (s := S4x256x1024) ![3, 0, 0] S1x256x1024.size inb_S4x256x1024_S1x256x1024_3_0_0) (fun _ => rfl)).squeeze S256x1024 squeezes_S1x256x1024_S256x1024).view.set]{fullShare} e) = (((c : Thread nD τ).loc cc0_scratch3) ↦[stageDSet 3]{fullShare} e : sProp 𝕄) := stageD_eq c 3 (inb_S4x256x1024_S1x256x1024_3_0_0) e

  rw [E0, E1, E2, E3]
  exact h
omit [FloatOps F] in
theorem stageD_join (c : Dev nD) (e0 e1 e2 e3 : HbBuf (F := F) c scSD) : iprop((((scSD.slice (Rect.unit (s := S4x256x1024) ![0, 0, 0] S1x256x1024.size inb_S4x256x1024_S1x256x1024_0_0_0) (fun _ => rfl)).squeeze S256x1024 squeezes_S1x256x1024_S256x1024).view.loc (c : Thread nD τ) ↦[((scSD.slice (Rect.unit (s := S4x256x1024) ![0, 0, 0] S1x256x1024.size inb_S4x256x1024_S1x256x1024_0_0_0) (fun _ => rfl)).squeeze S256x1024 squeezes_S1x256x1024_S256x1024).view.set]{fullShare} e0) ∗ (((scSD.slice (Rect.unit (s := S4x256x1024) ![1, 0, 0] S1x256x1024.size inb_S4x256x1024_S1x256x1024_1_0_0) (fun _ => rfl)).squeeze S256x1024 squeezes_S1x256x1024_S256x1024).view.loc (c : Thread nD τ) ↦[((scSD.slice (Rect.unit (s := S4x256x1024) ![1, 0, 0] S1x256x1024.size inb_S4x256x1024_S1x256x1024_1_0_0) (fun _ => rfl)).squeeze S256x1024 squeezes_S1x256x1024_S256x1024).view.set]{fullShare} e1) ∗ (((scSD.slice (Rect.unit (s := S4x256x1024) ![2, 0, 0] S1x256x1024.size inb_S4x256x1024_S1x256x1024_2_0_0) (fun _ => rfl)).squeeze S256x1024 squeezes_S1x256x1024_S256x1024).view.loc (c : Thread nD τ) ↦[((scSD.slice (Rect.unit (s := S4x256x1024) ![2, 0, 0] S1x256x1024.size inb_S4x256x1024_S1x256x1024_2_0_0) (fun _ => rfl)).squeeze S256x1024 squeezes_S1x256x1024_S256x1024).view.set]{fullShare} e2) ∗ (((scSD.slice (Rect.unit (s := S4x256x1024) ![3, 0, 0] S1x256x1024.size inb_S4x256x1024_S1x256x1024_3_0_0) (fun _ => rfl)).squeeze S256x1024 squeezes_S1x256x1024_S256x1024).view.loc (c : Thread nD τ) ↦[((scSD.slice (Rect.unit (s := S4x256x1024) ![3, 0, 0] S1x256x1024.size inb_S4x256x1024_S1x256x1024_3_0_0) (fun _ => rfl)).squeeze S256x1024 squeezes_S1x256x1024_S256x1024).view.set]{fullShare} e3)) ⊢ (iprop(∃ e, hbPt c scSD e) : sProp 𝕄) := by
  have h : ∀ f₀ : HbBuf (F := F) c scSD, bigSep Finset.univ (fun s => iprop(∃ e : HbBuf (F := F) c scSD, ((c : Thread nD τ).loc cc0_scratch3) ↦[stageDSet s]{fullShare} e))
      ⊢ (iprop(∃ g, hbPt c scSD g) : sProp 𝕄) :=
    Ring.pointsTo_blocks_join_exists (ℓ := (c : Thread nD τ).loc cc0_scratch3) stageDSet stageD_disjoint (stageD_cover c)
  have h := h e0
  have E0 : (((scSD.slice (Rect.unit (s := S4x256x1024) ![0, 0, 0] S1x256x1024.size inb_S4x256x1024_S1x256x1024_0_0_0) (fun _ => rfl)).squeeze S256x1024 squeezes_S1x256x1024_S256x1024).view.loc (c : Thread nD τ) ↦[((scSD.slice (Rect.unit (s := S4x256x1024) ![0, 0, 0] S1x256x1024.size inb_S4x256x1024_S1x256x1024_0_0_0) (fun _ => rfl)).squeeze S256x1024 squeezes_S1x256x1024_S256x1024).view.set]{fullShare} e0) = (((c : Thread nD τ).loc cc0_scratch3) ↦[stageDSet 0]{fullShare} e0 : sProp 𝕄) := stageD_eq c 0 (inb_S4x256x1024_S1x256x1024_0_0_0) e0
  have E1 : (((scSD.slice (Rect.unit (s := S4x256x1024) ![1, 0, 0] S1x256x1024.size inb_S4x256x1024_S1x256x1024_1_0_0) (fun _ => rfl)).squeeze S256x1024 squeezes_S1x256x1024_S256x1024).view.loc (c : Thread nD τ) ↦[((scSD.slice (Rect.unit (s := S4x256x1024) ![1, 0, 0] S1x256x1024.size inb_S4x256x1024_S1x256x1024_1_0_0) (fun _ => rfl)).squeeze S256x1024 squeezes_S1x256x1024_S256x1024).view.set]{fullShare} e1) = (((c : Thread nD τ).loc cc0_scratch3) ↦[stageDSet 1]{fullShare} e1 : sProp 𝕄) := stageD_eq c 1 (inb_S4x256x1024_S1x256x1024_1_0_0) e1
  have E2 : (((scSD.slice (Rect.unit (s := S4x256x1024) ![2, 0, 0] S1x256x1024.size inb_S4x256x1024_S1x256x1024_2_0_0) (fun _ => rfl)).squeeze S256x1024 squeezes_S1x256x1024_S256x1024).view.loc (c : Thread nD τ) ↦[((scSD.slice (Rect.unit (s := S4x256x1024) ![2, 0, 0] S1x256x1024.size inb_S4x256x1024_S1x256x1024_2_0_0) (fun _ => rfl)).squeeze S256x1024 squeezes_S1x256x1024_S256x1024).view.set]{fullShare} e2) = (((c : Thread nD τ).loc cc0_scratch3) ↦[stageDSet 2]{fullShare} e2 : sProp 𝕄) := stageD_eq c 2 (inb_S4x256x1024_S1x256x1024_2_0_0) e2
  have E3 : (((scSD.slice (Rect.unit (s := S4x256x1024) ![3, 0, 0] S1x256x1024.size inb_S4x256x1024_S1x256x1024_3_0_0) (fun _ => rfl)).squeeze S256x1024 squeezes_S1x256x1024_S256x1024).view.loc (c : Thread nD τ) ↦[((scSD.slice (Rect.unit (s := S4x256x1024) ![3, 0, 0] S1x256x1024.size inb_S4x256x1024_S1x256x1024_3_0_0) (fun _ => rfl)).squeeze S256x1024 squeezes_S1x256x1024_S256x1024).view.set]{fullShare} e3) = (((c : Thread nD τ).loc cc0_scratch3) ↦[stageDSet 3]{fullShare} e3 : sProp 𝕄) := stageD_eq c 3 (inb_S4x256x1024_S1x256x1024_3_0_0) e3

  rw [BI.bigSep_eq_bigSepL_of_eq [0, 1, 2, 3] (by decide) (by decide)] at h
  iintro ⟨A, B, C, D⟩
  ihave A := (Entails.of_eq E0) $$ A
  ihave B := (Entails.of_eq E1) $$ B
  ihave C := (Entails.of_eq E2) $$ C
  ihave D := (Entails.of_eq E3) $$ D
  have h : iprop((∃ e : HbBuf (F := F) c scSD, ((c : Thread nD τ).loc cc0_scratch3) ↦[stageDSet 0]{fullShare} e) ∗ (∃ e : HbBuf (F := F) c scSD, ((c : Thread nD τ).loc cc0_scratch3) ↦[stageDSet 1]{fullShare} e) ∗ (∃ e : HbBuf (F := F) c scSD, ((c : Thread nD τ).loc cc0_scratch3) ↦[stageDSet 2]{fullShare} e) ∗ (∃ e : HbBuf (F := F) c scSD, ((c : Thread nD τ).loc cc0_scratch3) ↦[stageDSet 3]{fullShare} e)) ⊢ (iprop(∃ g, hbPt c scSD g) : sProp 𝕄) := h
  iapply h
  isplitl [A]; · iexists e0; iexact A
  isplitl [B]; · iexists e1; iexact B
  isplitl [C]; · iexists e2; iexact C
  iexists e3; iexact D

/-! ## The weights in the working format -/

/-- The up-projection's weights, in the working format once for all points. -/
def UPW (c : Dev nD) (f : HbBuf (F := F) c hbU) : FVec F S1024x5632 .bf16 := truncf .bf16 (f : FVec F S1024x5632 .f32) bitsLt_bf16_f32
/-- The down-projection's. -/
def DNW (c : Dev nD) (f : HbBuf (F := F) c hbD) : FVec F S2816x1024 .bf16 := truncf .bf16 (f : FVec F S2816x1024 .f32) bitsLt_bf16_f32

theorem stagedup (M : Memref sig .tc .vmem S4x64x5632 .f32) {off : Fin 3 → ℕ} (inb : ∀ a, off a + S1x64x5632.size a ≤ S4x64x5632.size a) (hp)
    (b) (L) (g : S64x5632.Idx → Elt F .f32) :
    shapeCast S64x5632 (View.readAt (Elt F) M.view (Rect.unit (s := S4x64x5632) off S1x64x5632.size inb).toLoadRect
      (((M.slice (Rect.unit (s := S4x64x5632) off S1x64x5632.size inb) hp).squeeze S64x5632 squeezes_S1x64x5632_S64x5632).view.writes (Elt F) b (⟨Rect.whole S64x5632, g⟩ :: L)))
      shapeCasts_S1x64x5632_S64x5632 = g := by
  funext y
  have h := View.read_writes_cons_emb (Val := Elt F) ((M.slice (Rect.unit (s := S4x64x5632) off S1x64x5632.size inb) hp).squeeze S64x5632 squeezes_S1x64x5632_S64x5632).view b (Rect.whole S64x5632) g L y
  rw [Rect.emb_whole_apply] at h
  exact h
/-- A chunk as stored: the array's own rows in the working format. -/
theorem up_piece (c : Dev nD) (f : HbBuf (F := F) c hbU) {off : Fin 3 → ℕ} {offs : Fin 2 → ℕ} (inb : ∀ a, off a + S1x64x5632.size a ≤ S4x64x5632.size a) (inbs : ∀ a, offs a + S64x5632.size a ≤ S1024x5632.size a) (hp) (hq)
    (b) (L) (x : S64x5632.Idx) :
    k0_pay1 (View.readAt (Elt F) scSU.view (Rect.unit (s := S4x64x5632) off S1x64x5632.size inb).toLoadRect
      (((scSU.slice (Rect.unit (s := S4x64x5632) off S1x64x5632.size inb) hp).squeeze S64x5632 squeezes_S1x64x5632_S64x5632).view.writes (Elt F) b
        (⟨Rect.whole S64x5632, ReadAs.same.apply (View.read (Elt F) (hbU.slice (Rect.unit (s := S1024x5632) offs S64x5632.size inbs) hq).view f)⟩ :: L))) x
      = UPW c f ((Rect.unit (s := S1024x5632) offs S64x5632.size inbs).emb x) := by
  unfold k0_pay1
  dsimp only
  rw [stagedup scSU inb hp b L _, shapeCast_self]
  rfl

theorem stageddn (M : Memref sig .tc .vmem S4x256x1024 .f32) {off : Fin 3 → ℕ} (inb : ∀ a, off a + S1x256x1024.size a ≤ S4x256x1024.size a) (hp)
    (b) (L) (g : S256x1024.Idx → Elt F .f32) :
    shapeCast S256x1024 (View.readAt (Elt F) M.view (Rect.unit (s := S4x256x1024) off S1x256x1024.size inb).toLoadRect
      (((M.slice (Rect.unit (s := S4x256x1024) off S1x256x1024.size inb) hp).squeeze S256x1024 squeezes_S1x256x1024_S256x1024).view.writes (Elt F) b (⟨Rect.whole S256x1024, g⟩ :: L)))
      shapeCasts_S1x256x1024_S256x1024 = g := by
  funext y
  have h := View.read_writes_cons_emb (Val := Elt F) ((M.slice (Rect.unit (s := S4x256x1024) off S1x256x1024.size inb) hp).squeeze S256x1024 squeezes_S1x256x1024_S256x1024).view b (Rect.whole S256x1024) g L y
  rw [Rect.emb_whole_apply] at h
  exact h
/-- A chunk as stored: the array's own rows in the working format. -/
theorem dn_piece (c : Dev nD) (f : HbBuf (F := F) c hbD) {off : Fin 3 → ℕ} {offs : Fin 2 → ℕ} (inb : ∀ a, off a + S1x256x1024.size a ≤ S4x256x1024.size a) (inbs : ∀ a, offs a + S256x1024.size a ≤ S2816x1024.size a) (hp) (hq)
    (b) (L) (x : S256x1024.Idx) :
    k0_pay17 (View.readAt (Elt F) scSD.view (Rect.unit (s := S4x256x1024) off S1x256x1024.size inb).toLoadRect
      (((scSD.slice (Rect.unit (s := S4x256x1024) off S1x256x1024.size inb) hp).squeeze S256x1024 squeezes_S1x256x1024_S256x1024).view.writes (Elt F) b
        (⟨Rect.whole S256x1024, ReadAs.same.apply (View.read (Elt F) (hbD.slice (Rect.unit (s := S2816x1024) offs S256x1024.size inbs) hq).view f)⟩ :: L))) x
      = DNW c f ((Rect.unit (s := S2816x1024) offs S256x1024.size inbs).emb x) := by
  unfold k0_pay17
  dsimp only
  rw [stageddn scSD inb hp b L _, shapeCast_self]
  rfl

set_option maxHeartbeats 8000000 in
/-- The first point loads the weights: each chunk is staged, converted and stored. -/
theorem run_load (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg17 : Memref sig .tc .vmem S1024x2816 .bf16) (harg17 : arg17.IsWhole) (arg20 : Memref sig .tc .vmem S16x5632 .f32) (harg20 : arg20.IsWhole) (hc1 : cond1 (grid0.coords t)) (fU : HbBuf (F := F) c hbU) (fD : HbBuf (F := F) c hbD) :
      ∀ (W : Waits sig Unit) (K : PUnit → sProp 𝕄),
        iprop(hbPt c hbU fU ∗ hbPt c hbD fD ∗ (∃ d, owns (c : Thread nD τ) arg12 fullShare d) ∗ (∃ d, owns (c : Thread nD τ) arg13 fullShare d)
            ∗ (∃ e, hbPt c scSU e) ∗ (∃ e, hbPt c scSD e) ∗ (semVal ((c : Thread nD τ), SemLoc.dma (((cc0_scratch4.slice (Rect.unit (s := S4) ![0] S1.size inb_S4_S1_0)).squeeze S_ squeezes_S1_S_).sem)) 0 ∗ semVal ((c : Thread nD τ), SemLoc.dma (((cc0_scratch4.slice (Rect.unit (s := S4) ![1] S1.size inb_S4_S1_1)).squeeze S_ squeezes_S1_S_).sem)) 0 ∗ semVal ((c : Thread nD τ), SemLoc.dma (((cc0_scratch4.slice (Rect.unit (s := S4) ![2] S1.size inb_S4_S1_2)).squeeze S_ squeezes_S1_S_).sem)) 0 ∗ semVal ((c : Thread nD τ), SemLoc.dma (((cc0_scratch4.slice (Rect.unit (s := S4) ![3] S1.size inb_S4_S1_3)).squeeze S_ squeezes_S1_S_).sem)) 0) ∗ owes c 0 W
            ∗ ((hbPt c hbU fU ∗ hbPt c hbD fD ∗ owns (c : Thread nD τ) arg12 fullShare (UPW c fU) ∗ owns (c : Thread nD τ) arg13 fullShare (DNW c fD)
            ∗ (∃ e, hbPt c scSU e) ∗ (∃ e, hbPt c scSD e) ∗ (semVal ((c : Thread nD τ), SemLoc.dma (((cc0_scratch4.slice (Rect.unit (s := S4) ![0] S1.size inb_S4_S1_0)).squeeze S_ squeezes_S1_S_).sem)) 0 ∗ semVal ((c : Thread nD τ), SemLoc.dma (((cc0_scratch4.slice (Rect.unit (s := S4) ![1] S1.size inb_S4_S1_1)).squeeze S_ squeezes_S1_S_).sem)) 0 ∗ semVal ((c : Thread nD τ), SemLoc.dma (((cc0_scratch4.slice (Rect.unit (s := S4) ![2] S1.size inb_S4_S1_2)).squeeze S_ squeezes_S1_S_).sem)) 0 ∗ semVal ((c : Thread nD τ), SemLoc.dma (((cc0_scratch4.slice (Rect.unit (s := S4) ![3] S1.size inb_S4_S1_3)).squeeze S_ squeezes_S1_S_).sem)) 0) ∗ (∃ W, owes c 0 W)) -∗ K ⟨⟩))
          ⊢ wp frame (wpE (defs₀ (F := F)) Variants.none c none) Set.univ (headLoad (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 scSU (Memref.isWhole_whole _) scSD (Memref.isWhole_whole _) cc0_scratch4 arg17 harg17 scO (Memref.isWhole_whole _) cc0_scratch7 arg20 harg20) K := by
    intro W K
    haveI : Fact (cond1 (grid0.coords t)) := ⟨hc1⟩
    unfold headLoad owns
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
    iintro ⟨HU, HD, ⟨%d12, %f12, -, H12⟩, ⟨%d13, %f13, -, H13⟩, ⟨%f14, H14⟩, ⟨%f15, H15⟩, ⟨C0, C1, C2, C3⟩, HW, Hk⟩
    ihave G := (Entails.of_eq (stageU_split c f14)) $$ H14
    icases G with ⟨U0, U1, U2, U3⟩
    ihave G := (Entails.of_eq (stageD_split c f15)) $$ H15
    icases G with ⟨V0, V1, V2, V3⟩
    sl_exec (disch := sl_exact hc1)
    sl_unfold_run_names
    sl_step
    ihave HSU := (stageU_join c _ _ _ _) $$ [U0 U1 U2 U3]
    · isplitl [U0]; · iexact U0
      isplitl [U1]; · iexact U1
      isplitl [U2]; · iexact U2
      iexact U3
    ihave HSD := (stageD_join c _ _ _ _) $$ [V0 V1 V2 V3]
    · isplitl [V0]; · iexact V0
      isplitl [V1]; · iexact V1
      isplitl [V2]; · iexact V2
      iexact V3
    iapply Hk
    isplitl [HU]; · iexact HU
    isplitl [HD]; · iexact HD
    isplitl [H12]
    · iexists _; isplitr; swap; · iexact H12
      ipureintro
      refine read_writes_of_pieces arg12.view f12 _ (UPW c fU) (List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          List.forall_mem_cons.2 ⟨fun x => up_piece c fU _ _ _ _ _ _ x,
          fun p hp => absurd hp List.not_mem_nil⟩⟩⟩⟩⟩⟩⟩⟩⟩⟩⟩⟩⟩⟩⟩⟩) (fun y => View.cover_of_tiled (s := S1024x5632) _ S64x5632.size (by rfl) y)
    isplitl [H13]
    · iexists _; isplitr; swap; · iexact H13
      ipureintro
      refine read_writes_of_pieces arg13.view f13 _ (DNW c fD) (List.forall_mem_cons.2 ⟨fun x => dn_piece c fD _ _ _ _ _ _ x,
          List.forall_mem_cons.2 ⟨fun x => dn_piece c fD _ _ _ _ _ _ x,
          List.forall_mem_cons.2 ⟨fun x => dn_piece c fD _ _ _ _ _ _ x,
          List.forall_mem_cons.2 ⟨fun x => dn_piece c fD _ _ _ _ _ _ x,
          List.forall_mem_cons.2 ⟨fun x => dn_piece c fD _ _ _ _ _ _ x,
          List.forall_mem_cons.2 ⟨fun x => dn_piece c fD _ _ _ _ _ _ x,
          List.forall_mem_cons.2 ⟨fun x => dn_piece c fD _ _ _ _ _ _ x,
          List.forall_mem_cons.2 ⟨fun x => dn_piece c fD _ _ _ _ _ _ x,
          List.forall_mem_cons.2 ⟨fun x => dn_piece c fD _ _ _ _ _ _ x,
          List.forall_mem_cons.2 ⟨fun x => dn_piece c fD _ _ _ _ _ _ x,
          List.forall_mem_cons.2 ⟨fun x => dn_piece c fD _ _ _ _ _ _ x,
          fun p hp => absurd hp List.not_mem_nil⟩⟩⟩⟩⟩⟩⟩⟩⟩⟩⟩) (fun y => View.cover_of_tiled (s := S2816x1024) _ S256x1024.size (by rfl) y)
    isplitl [HSU]; · iexact HSU
    isplitl [HSD]; · iexact HSD
    isplitl [C0 C1 C2 C3]
    · isplitl [C0]; · iexact C0
      isplitl [C1]; · iexact C1
      isplitl [C2]; · iexact C2
      iexact C3
    iexists _; iexact HW
/-- The others find them loaded. -/
theorem run_load_no (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg17 : Memref sig .tc .vmem S1024x2816 .bf16) (harg17 : arg17.IsWhole) (arg20 : Memref sig .tc .vmem S16x5632 .f32) (harg20 : arg20.IsWhole) (hc1 : ¬cond1 (grid0.coords t)) :
      ∀ (K : PUnit → sProp 𝕄), K ⟨⟩ ⊢ wp frame (wpE (defs₀ (F := F)) Variants.none c none) Set.univ (headLoad (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 scSU (Memref.isWhole_whole _) scSD (Memref.isWhole_whole _) cc0_scratch4 arg17 harg17 scO (Memref.isWhole_whole _) cc0_scratch7 arg20 harg20) K := by
    intro K
    unfold headLoad
    dsimp only
    rw [dif_neg hc1]
    exact fupd_intro.trans (Entails.of_eq (wp_ret ..).symm)

end Cert.FfnIdeal.Mlp

end
-- ==== Proof.FfnWait.lean ====
module

public import proofs.«01_k».proof.Proof.FfnSpec
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- From the third point on the slot is waited for: the tile before the last has landed. -/
theorem run_wait (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg17 : Memref sig .tc .vmem S1024x2816 .bf16) (harg17 : arg17.IsWhole) (arg20 : Memref sig .tc .vmem S16x5632 .f32) (harg20 : arg20.IsWhole) (hc2 : cond2 (grid0.coords t)) (o : Fin 32 → FVec F S1024x1024 .f32) :
      ∀ (W : Waits sig Unit) (K : PUnit → sProp 𝕄),
        iprop(batchP c o (Ring.sl 2 t.val) (Ring.bk 32 (t.val - 2)) ∗ outP c (doneSet (t.val - 2)) (outBuf c o) ∗ owes c 0 W
            ∗ ((cellP c (Ring.sl 2 t.val) ∗ (∃ e, slotP c (Ring.sl 2 t.val) e) ∗ outP c (doneSet (t.val - 2 + 1)) (outBuf c o) ∗ (∃ W, owes c 0 W)) -∗ K ⟨⟩))
          ⊢ wp frame (wpE (defs₀ (F := F)) Variants.none c none) Set.univ (headWait (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 arg14 harg14 arg15 harg15 cc0_scratch4 arg17 harg17 scO (Memref.isWhole_whole _) cc0_scratch7 arg20 harg20) K := by
    intro W K
    haveI : Fact (cond2 (grid0.coords t)) := ⟨hc2⟩
    have ht : t.val < 32 := lt_of_lt_of_eq t.isLt N_0
    unfold headWait
    simp only [k0_part17_eq_skeleton, k0_part18_eq_skeleton]
    unfold k0_part17_skel k0_part18_skel
    iintro ⟨HB, Hd, HW, Hk⟩
    sl_exec (disch := sl_exact hc2)
    ihave G := (Entails.of_eq (slot_split c (Ring.sl 2 t.val) (slotBuf c (o (Ring.bk 32 (t.val - 2))))).symm) $$ [HB_src0 HB_src1 HB_src2 HB_src3 HB_src4 HB_src5 HB_src6 HB_src7]
    · isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      iexact HB_src7
    icases G with HBS
    ihave G := (Entails.of_eq (block_split c (Ring.bk 32 (t.val - 2)) (outBuf c o)).symm) $$ [HB_dst0 HB_dst1 HB_dst2 HB_dst3 HB_dst4 HB_dst5 HB_dst6 HB_dst7]
    · isplitl [HB_dst0]
      · iapply (Entails.of_eq (landed_eq c o (Ring.sl 2 t.val) (Ring.bk 32 (t.val - 2)) 0)); iexact HB_dst0
      isplitl [HB_dst1]
      · iapply (Entails.of_eq (landed_eq c o (Ring.sl 2 t.val) (Ring.bk 32 (t.val - 2)) 1)); iexact HB_dst1
      isplitl [HB_dst2]
      · iapply (Entails.of_eq (landed_eq c o (Ring.sl 2 t.val) (Ring.bk 32 (t.val - 2)) 2)); iexact HB_dst2
      isplitl [HB_dst3]
      · iapply (Entails.of_eq (landed_eq c o (Ring.sl 2 t.val) (Ring.bk 32 (t.val - 2)) 3)); iexact HB_dst3
      isplitl [HB_dst4]
      · iapply (Entails.of_eq (landed_eq c o (Ring.sl 2 t.val) (Ring.bk 32 (t.val - 2)) 4)); iexact HB_dst4
      isplitl [HB_dst5]
      · iapply (Entails.of_eq (landed_eq c o (Ring.sl 2 t.val) (Ring.bk 32 (t.val - 2)) 5)); iexact HB_dst5
      isplitl [HB_dst6]
      · iapply (Entails.of_eq (landed_eq c o (Ring.sl 2 t.val) (Ring.bk 32 (t.val - 2)) 6)); iexact HB_dst6
      iapply (Entails.of_eq (landed_eq c o (Ring.sl 2 t.val) (Ring.bk 32 (t.val - 2)) 7)); iexact HB_dst7
    icases G with HBD
    ihave G := (done_split c (t.val - 2) (outBuf c o)).2 $$ [HBD Hd]
    · isplitl [HBD]; · iapply (Entails.of_eq (congrArg (fun n => outP c (blockSet n) (outBuf c o)) (Nat.mod_eq_of_lt (by omega) : (Ring.bk 32 (t.val - 2)).val = t.val - 2))); iexact HBD
      iexact Hd
    icases G with Hd
    sl_step
    iapply Hk
    isplitl [HB]; · iexact HB
    isplitl [HBS]; · iexists _; iexact HBS
    isplitl [Hd]; · iexact Hd
    iexists _; iexact HW
/-- Before that nothing is waited for. -/
theorem run_wait_no (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg17 : Memref sig .tc .vmem S1024x2816 .bf16) (harg17 : arg17.IsWhole) (arg20 : Memref sig .tc .vmem S16x5632 .f32) (harg20 : arg20.IsWhole) (hc2 : ¬cond2 (grid0.coords t)) :
      ∀ (K : PUnit → sProp 𝕄), K ⟨⟩ ⊢ wp frame (wpE (defs₀ (F := F)) Variants.none c none) Set.univ (headWait (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 arg14 harg14 arg15 harg15 cc0_scratch4 arg17 harg17 scO (Memref.isWhole_whole _) cc0_scratch7 arg20 harg20) K := by
    intro K
    unfold headWait
    dsimp only
    rw [dif_neg hc2]
    exact fupd_intro.trans (Entails.of_eq (wp_ret ..).symm)

end Cert.FfnIdeal.Mlp

end
-- ==== Proof.FfnZero.lean ====
module

public import proofs.«01_k».proof.Proof.FfnSpec
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- A batch row's first tile starts from zero history. -/
theorem run_zero (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg17 : Memref sig .tc .vmem S1024x2816 .bf16) (harg17 : arg17.IsWhole) (arg20 : Memref sig .tc .vmem S16x5632 .f32) (harg20 : arg20.IsWhole) (hc3 : cond3 (grid0.coords t)) :
      ∀ (W : Waits sig Unit) (K : PUnit → sProp 𝕄),
        iprop((∃ d, owns (c : Thread nD τ) arg20 fullShare d) ∗ owes c 0 W
            ∗ ((owns (c : Thread nD τ) arg20 fullShare (k0_pay28 (F := F)) ∗ owes c 0 W) -∗ K ⟨⟩))
          ⊢ wp frame (wpE (defs₀ (F := F)) Variants.none c none) Set.univ (headZero (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 arg14 harg14 arg15 harg15 cc0_scratch4 arg17 harg17 scO (Memref.isWhole_whole _) cc0_scratch7 arg20 harg20) K := by
    intro W K
    haveI : Fact (cond3 (grid0.coords t)) := ⟨hc3⟩
    unfold headZero owns
    iintro ⟨⟨%d20, %f20, -, H20⟩, HW, Hk⟩
    sl_exec (disch := sl_exact hc3)
    sl_step
    iapply Hk
    isplitl [H20]
    · iexists _; isplitr; swap; · iexact H20
      ipureintro
      refine (funext fun y => ?_)
      refine View.read_writes_apply_of_pieces (Val := Elt F) (e := .f32) arg20.view f20 (k0_pay28 (F := F)) _ (List.forall_mem_cons.2 ⟨fun x => ?_, fun p hp => absurd hp List.not_mem_nil⟩) y (View.cover_of_tiled (s := S16x5632) _ S16x5632.size (by rfl) y)
      rfl
    iexact HW
/-- The others carry it over. -/
theorem run_zero_no (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg17 : Memref sig .tc .vmem S1024x2816 .bf16) (harg17 : arg17.IsWhole) (arg20 : Memref sig .tc .vmem S16x5632 .f32) (harg20 : arg20.IsWhole) (hc3 : ¬cond3 (grid0.coords t)) :
      ∀ (K : PUnit → sProp 𝕄), K ⟨⟩ ⊢ wp frame (wpE (defs₀ (F := F)) Variants.none c none) Set.univ (headZero (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 arg14 harg14 arg15 harg15 cc0_scratch4 arg17 harg17 scO (Memref.isWhole_whole _) cc0_scratch7 arg20 harg20) K := by
    intro K
    unfold headZero
    dsimp only
    rw [dif_neg hc3]
    exact fupd_intro.trans (Entails.of_eq (wp_ret ..).symm)

end Cert.FfnIdeal.Mlp

end
-- ==== Proof.FfnSend.lean ====
module

public import proofs.«01_k».proof.Proof.FfnSpec
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The tile's rows leave: the slot's eight strands fly to the result's. -/
theorem run_send (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg17 : Memref sig .tc .vmem S1024x2816 .bf16) (harg17 : arg17.IsWhole) (arg20 : Memref sig .tc .vmem S16x5632 .f32) (harg20 : arg20.IsWhole) (v1 v11 c4_i32_665 v1100 v1105 v1107 : BitVec 32) (v1108 : BitVec 1)
    (W0 : HbBuf (F := F) c hbO) (o : Fin 32 → FVec F S1024x1024 .f32) :
      ∀ (W : Waits sig Unit) (K : PUnit → sProp 𝕄),
        iprop(slotP c (Ring.sl 2 t.val) (slotBuf c (o (Ring.bk 32 t.val))) ∗ cellP c (Ring.sl 2 t.val) ∗ outP c (restSet t.val) W0 ∗ owes c 0 W
            ∗ ((batchP c o (Ring.sl 2 t.val) (Ring.bk 32 t.val) ∗ outP c (restSet (t.val + 1)) W0 ∗ owes c 0 W) -∗ K ⟨⟩))
          ⊢ wp frame (wpE (defs₀ (F := F)) Variants.none c none) Set.univ (sendP (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 arg14 harg14 arg15 harg15 cc0_scratch4 arg17 harg17 scO (Memref.isWhole_whole _) cc0_scratch7 arg20 harg20 v1 v11 c4_i32_665 v1100 v1105 v1107 v1108) K := by
    intro W K
    have hb : (blockSet t.val) = blockSet (Ring.bk 32 t.val).val := congrArg blockSet (Nat.mod_eq_of_lt (lt_of_lt_of_eq t.isLt N_0)).symm
    unfold sendP
    simp only [k0_part55_eq_skeleton, k0_part56_eq_skeleton]
    unfold k0_part55_skel k0_part56_skel
    iintro ⟨HS, Hc, Hr, HW, Hk⟩
    ihave G := (rest_split c t.val W0).1 $$ Hr
    icases G with ⟨Hb, Hr⟩
    ihave G := (Entails.of_eq ((congrArg (fun I => outP c I W0) hb).trans (block_split c (Ring.bk 32 t.val) W0))) $$ Hb
    icases G with ⟨D0, D1, D2, D3, D4, D5, D6, D7⟩
    ihave G := (Entails.of_eq (slot_split c (Ring.sl 2 t.val) (slotBuf c (o (Ring.bk 32 t.val))))) $$ HS
    icases G with ⟨S0, S1, S2, S3, S4, S5, S6, S7⟩
    have hD := storable_winD (F := F) c o (Ring.sl 2 t.val) (Ring.bk 32 t.val)
    imod (Transfers.batch_alloc' (Lvl := ℕ) countersEmb (c : Thread nD τ) default NN (winD c o (Ring.sl 2 t.val) (Ring.bk 32 t.val)) (sm := cellR (Ring.sl 2 t.val)) (E := Set.univ)) $$ Hc with HB
    clear hD
    sl_exec
    rw [wp_ret]
    imodintro
    iapply Hk
    isplitl [HB]; · iexact HB
    isplitl [Hr]; · iexact Hr
    iexact HW

end Cert.FfnIdeal.Mlp

end
-- ==== Proof.FfnLast.lean ====
module

public import proofs.«01_k».proof.Proof.FfnSpec
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The last point waits for what is outstanding: both slots' tiles have landed. -/
theorem run_last (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg17 : Memref sig .tc .vmem S1024x2816 .bf16) (harg17 : arg17.IsWhole) (arg20 : Memref sig .tc .vmem S16x5632 .f32) (harg20 : arg20.IsWhole) (v1 v11 : BitVec 32) (hc4 : cond4 (grid0.coords t)) (o : Fin 32 → FVec F S1024x1024 .f32) :
      ∀ (W : Waits sig Unit) (K : PUnit → sProp 𝕄),
        iprop(batchP c o (Ring.sl 2 (t.val - 1)) (Ring.bk 32 (t.val - 1)) ∗ batchP c o (Ring.sl 2 t.val) (Ring.bk 32 t.val) ∗ outP c (doneSet (t.val - 1)) (outBuf c o) ∗ owes c 0 W
            ∗ ((cellP c (Ring.sl 2 (t.val - 1)) ∗ (∃ e, slotP c (Ring.sl 2 (t.val - 1)) e) ∗ cellP c (Ring.sl 2 t.val) ∗ (∃ e, slotP c (Ring.sl 2 t.val) e) ∗ outP c (doneSet (t.val + 1)) (outBuf c o) ∗ (∃ W, owes c 0 W)) -∗ K ⟨⟩))
          ⊢ wp frame (wpE (defs₀ (F := F)) Variants.none c none) Set.univ (lastP (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 arg14 harg14 arg15 harg15 cc0_scratch4 arg17 harg17 scO (Memref.isWhole_whole _) cc0_scratch7 arg20 harg20 v1 v11) K := by
    intro W K
    haveI : Fact (cond4 (grid0.coords t)) := ⟨hc4⟩
    have ht : t.val < 32 := lt_of_lt_of_eq t.isLt N_0
    have ht1 : t.val - 1 + 1 = t.val := by have := (hcond4 t).1 hc4; omega
    unfold lastP
    simp only [k0_part19_eq_skeleton, k0_part20_eq_skeleton, k0_part21_eq_skeleton, k0_part22_eq_skeleton, k0_part23_eq_skeleton]
    unfold k0_part23_skel
    simp only [k0_part19_eq_skeleton, k0_part20_eq_skeleton, k0_part21_eq_skeleton, k0_part22_eq_skeleton, k0_part23_eq_skeleton]
    unfold k0_part19_skel k0_part20_skel k0_part21_skel k0_part22_skel
    iintro ⟨HA, HB, Hd, HW, Hk⟩
    sl_exec (disch := sl_exact hc4)
    ihave G := (Entails.of_eq (slot_split c (Ring.sl 2 (t.val - 1)) (slotBuf c (o (Ring.bk 32 (t.val - 1))))).symm) $$ [HA_src0 HA_src1 HA_src2 HA_src3 HA_src4 HA_src5 HA_src6 HA_src7]
    · isplitl [HA_src0]; · iexact HA_src0
      isplitl [HA_src1]; · iexact HA_src1
      isplitl [HA_src2]; · iexact HA_src2
      isplitl [HA_src3]; · iexact HA_src3
      isplitl [HA_src4]; · iexact HA_src4
      isplitl [HA_src5]; · iexact HA_src5
      isplitl [HA_src6]; · iexact HA_src6
      iexact HA_src7
    icases G with HAS
    ihave G := (Entails.of_eq (block_split c (Ring.bk 32 (t.val - 1)) (outBuf c o)).symm) $$ [HA_dst0 HA_dst1 HA_dst2 HA_dst3 HA_dst4 HA_dst5 HA_dst6 HA_dst7]
    · isplitl [HA_dst0]
      · iapply (Entails.of_eq (landed_eq c o (Ring.sl 2 (t.val - 1)) (Ring.bk 32 (t.val - 1)) 0)); iexact HA_dst0
      isplitl [HA_dst1]
      · iapply (Entails.of_eq (landed_eq c o (Ring.sl 2 (t.val - 1)) (Ring.bk 32 (t.val - 1)) 1)); iexact HA_dst1
      isplitl [HA_dst2]
      · iapply (Entails.of_eq (landed_eq c o (Ring.sl 2 (t.val - 1)) (Ring.bk 32 (t.val - 1)) 2)); iexact HA_dst2
      isplitl [HA_dst3]
      · iapply (Entails.of_eq (landed_eq c o (Ring.sl 2 (t.val - 1)) (Ring.bk 32 (t.val - 1)) 3)); iexact HA_dst3
      isplitl [HA_dst4]
      · iapply (Entails.of_eq (landed_eq c o (Ring.sl 2 (t.val - 1)) (Ring.bk 32 (t.val - 1)) 4)); iexact HA_dst4
      isplitl [HA_dst5]
      · iapply (Entails.of_eq (landed_eq c o (Ring.sl 2 (t.val - 1)) (Ring.bk 32 (t.val - 1)) 5)); iexact HA_dst5
      isplitl [HA_dst6]
      · iapply (Entails.of_eq (landed_eq c o (Ring.sl 2 (t.val - 1)) (Ring.bk 32 (t.val - 1)) 6)); iexact HA_dst6
      iapply (Entails.of_eq (landed_eq c o (Ring.sl 2 (t.val - 1)) (Ring.bk 32 (t.val - 1)) 7)); iexact HA_dst7
    icases G with HAD
    ihave G := (done_split c (t.val - 1) (outBuf c o)).2 $$ [HAD Hd]
    · isplitl [HAD]; · iapply (Entails.of_eq (congrArg (fun n => outP c (blockSet n) (outBuf c o)) (Nat.mod_eq_of_lt (by omega) : (Ring.bk 32 (t.val - 1)).val = t.val - 1))); iexact HAD
      iexact Hd
    icases G with Hd
    rw [ht1]
    ihave G := (Entails.of_eq (slot_split c (Ring.sl 2 t.val) (slotBuf c (o (Ring.bk 32 t.val)))).symm) $$ [HB_src0 HB_src1 HB_src2 HB_src3 HB_src4 HB_src5 HB_src6 HB_src7]
    · isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      iexact HB_src7
    icases G with HBS
    ihave G := (Entails.of_eq (block_split c (Ring.bk 32 t.val) (outBuf c o)).symm) $$ [HB_dst0 HB_dst1 HB_dst2 HB_dst3 HB_dst4 HB_dst5 HB_dst6 HB_dst7]
    · isplitl [HB_dst0]
      · iapply (Entails.of_eq (landed_eq c o (Ring.sl 2 t.val) (Ring.bk 32 t.val) 0)); iexact HB_dst0
      isplitl [HB_dst1]
      · iapply (Entails.of_eq (landed_eq c o (Ring.sl 2 t.val) (Ring.bk 32 t.val) 1)); iexact HB_dst1
      isplitl [HB_dst2]
      · iapply (Entails.of_eq (landed_eq c o (Ring.sl 2 t.val) (Ring.bk 32 t.val) 2)); iexact HB_dst2
      isplitl [HB_dst3]
      · iapply (Entails.of_eq (landed_eq c o (Ring.sl 2 t.val) (Ring.bk 32 t.val) 3)); iexact HB_dst3
      isplitl [HB_dst4]
      · iapply (Entails.of_eq (landed_eq c o (Ring.sl 2 t.val) (Ring.bk 32 t.val) 4)); iexact HB_dst4
      isplitl [HB_dst5]
      · iapply (Entails.of_eq (landed_eq c o (Ring.sl 2 t.val) (Ring.bk 32 t.val) 5)); iexact HB_dst5
      isplitl [HB_dst6]
      · iapply (Entails.of_eq (landed_eq c o (Ring.sl 2 t.val) (Ring.bk 32 t.val) 6)); iexact HB_dst6
      iapply (Entails.of_eq (landed_eq c o (Ring.sl 2 t.val) (Ring.bk 32 t.val) 7)); iexact HB_dst7
    icases G with HBD
    ihave G := (done_split c (t.val) (outBuf c o)).2 $$ [HBD Hd]
    · isplitl [HBD]; · iapply (Entails.of_eq (congrArg (fun n => outP c (blockSet n) (outBuf c o)) (Nat.mod_eq_of_lt (by omega) : (Ring.bk 32 t.val).val = t.val))); iexact HBD
      iexact Hd
    icases G with Hd
    sl_step
    iapply Hk
    isplitl [HA]; · iexact HA
    isplitl [HAS]; · iexists _; iexact HAS
    isplitl [HB]; · iexact HB
    isplitl [HBS]; · iexists _; iexact HBS
    isplitl [Hd]; · iexact Hd
    iexists _; iexact HW
/-- The others leave theirs in flight. -/
theorem run_last_no (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (arg12 : Memref sig .tc .vmem S1024x5632 .bf16) (harg12 : arg12.IsWhole) (arg13 : Memref sig .tc .vmem S2816x1024 .bf16) (harg13 : arg13.IsWhole) (arg14 : Memref sig .tc .vmem S4x64x5632 .f32) (harg14 : arg14.IsWhole) (arg15 : Memref sig .tc .vmem S4x256x1024 .f32) (harg15 : arg15.IsWhole) (arg17 : Memref sig .tc .vmem S1024x2816 .bf16) (harg17 : arg17.IsWhole) (arg20 : Memref sig .tc .vmem S16x5632 .f32) (harg20 : arg20.IsWhole) (v1 v11 : BitVec 32) (hc4 : ¬cond4 (grid0.coords t)) :
      ∀ (K : PUnit → sProp 𝕄), K ⟨⟩ ⊢ wp frame (wpE (defs₀ (F := F)) Variants.none c none) Set.univ (lastP (grid0.coords t) arg2 harg2 arg3 harg3 arg4 harg4 arg5 harg5 hbU (Memref.isWhole_whole _) arg7 harg7 arg8 harg8 hbD (Memref.isWhole_whole _) arg10 harg10 hbO (Memref.isWhole_whole _) arg12 harg12 arg13 harg13 arg14 harg14 arg15 harg15 cc0_scratch4 arg17 harg17 scO (Memref.isWhole_whole _) cc0_scratch7 arg20 harg20 v1 v11) K := by
    intro K
    unfold lastP
    rw [dif_neg hc4]
    exact fupd_intro.trans (Entails.of_eq (wp_ret ..).symm)

end Cert.FfnIdeal.Mlp

end
-- ==== Proof.FfnBody.lean ====
module

public import proofs.«01_k».proof.Proof.FfnMid
public import proofs.«01_k».proof.Proof.FfnLoad
public import proofs.«01_k».proof.Proof.FfnWait
public import proofs.«01_k».proof.Proof.FfnZero
public import proofs.«01_k».proof.Proof.FfnSend
public import proofs.«01_k».proof.Proof.FfnLast
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What is held between points -/

section state
variable (c : Dev nD) (fU : HbBuf (F := F) c hbU) (fD : HbBuf (F := F) c hbD) (W0 : HbBuf (F := F) c hbO) (o : Fin 32 → FVec F S1024x1024 .f32) (T : ℕ → FVec F S16x5632 .f32)

/-- The weights' scratch: anything before the first point, the weights in the working format from then on. -/
def wtAt : ℕ → sProp 𝕄
  | 0 => iprop((∃ d, owns (c : Thread nD τ) scU fullShare d) ∗ (∃ d, owns (c : Thread nD τ) scD fullShare d))
  | _ + 1 => iprop(owns (c : Thread nD τ) scU fullShare (UPW c fU) ∗ owns (c : Thread nD τ) scD fullShare (DNW c fD))
/-- What loading them needs, and gives back. -/
def loadRes : sProp 𝕄 :=
  iprop(hbPt c hbU fU ∗ hbPt c hbD fD ∗ (∃ e, hbPt c scSU e) ∗ (∃ e, hbPt c scSD e) ∗ (semVal ((c : Thread nD τ), SemLoc.dma (((cc0_scratch4.slice (Rect.unit (s := S4) ![0] S1.size inb_S4_S1_0)).squeeze S_ squeezes_S1_S_).sem)) 0 ∗ semVal ((c : Thread nD τ), SemLoc.dma (((cc0_scratch4.slice (Rect.unit (s := S4) ![1] S1.size inb_S4_S1_1)).squeeze S_ squeezes_S1_S_).sem)) 0 ∗ semVal ((c : Thread nD τ), SemLoc.dma (((cc0_scratch4.slice (Rect.unit (s := S4) ![2] S1.size inb_S4_S1_2)).squeeze S_ squeezes_S1_S_).sem)) 0 ∗ semVal ((c : Thread nD τ), SemLoc.dma (((cc0_scratch4.slice (Rect.unit (s := S4) ![3] S1.size inb_S4_S1_3)).squeeze S_ squeezes_S1_S_).sem)) 0))
/-- The history: anything where a batch row starts, the last rows of the tile before otherwise. -/
def tlAt (k : ℕ) : sProp 𝕄 :=
  if k % 4 = 0 then iprop(∃ d, owns (c : Thread nD τ) scT fullShare d) else owns (c : Thread nD τ) scT fullShare (T k)
/-- The history a point computes with. -/
def tin (k : ℕ) : FVec F S16x5632 .f32 := if k % 4 = 0 then k0_pay28 (F := F) else T k
/-- The two slots, the tiles landed. -/
def ringAt : ℕ → sProp 𝕄
  | 0 => iprop((cellP c 0 ∗ ∃ e, slotP c 0 e) ∗ (cellP c 1 ∗ ∃ e, slotP c 1 e) ∗ outP c (doneSet 0) (outBuf c o))
  | 1 => iprop(batchP c o 0 0 ∗ (cellP c 1 ∗ ∃ e, slotP c 1 e) ∗ outP c (doneSet 0) (outBuf c o))
  | k + 2 => if k < 30 then iprop(batchP c o (Ring.sl 2 k) (Ring.bk 32 k) ∗ batchP c o (Ring.sl 2 (k + 1)) (Ring.bk 32 (k + 1)) ∗ outP c (doneSet k) (outBuf c o))
      else iprop((cellP c 0 ∗ ∃ e, slotP c 0 e) ∗ (cellP c 1 ∗ ∃ e, slotP c 1 e) ∗ outP c (doneSet 32) (outBuf c o))
/-- What the ring has besides the point's own slot. -/
def restAt : ℕ → sProp 𝕄
  | 0 => iprop((cellP c 1 ∗ ∃ e, slotP c 1 e) ∗ outP c (doneSet 0) (outBuf c o))
  | 1 => iprop(batchP c o 0 0 ∗ outP c (doneSet 0) (outBuf c o))
  | k + 2 => iprop(batchP c o (Ring.sl 2 (k + 1)) (Ring.bk 32 (k + 1)) ∗ outP c (doneSet (k + 1)) (outBuf c o))
end state

/-- The weights are there after the point's load. -/
theorem load_step (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (fU : HbBuf (F := F) c hbU) (fD : HbBuf (F := F) c hbD) :
      ∀ (W : Waits sig Unit) (K : PUnit → sProp 𝕄),
        iprop(wtAt c fU fD t.val ∗ loadRes c fU fD ∗ owes c 0 W
            ∗ ((owns (c : Thread nD τ) scU fullShare (UPW c fU) ∗ owns (c : Thread nD τ) scD fullShare (DNW c fD) ∗ loadRes c fU fD ∗ (∃ W, owes c 0 W)) -∗ K ⟨⟩))
          ⊢ wp frame (wpE (defs₀ (F := F)) Variants.none c none) Set.univ (headLoad (grid0.coords t) arg2 harg2 arg3 harg3 arg4 harg4 arg5 harg5 hbU (Memref.isWhole_whole _) arg7 harg7 arg8 harg8 hbD (Memref.isWhole_whole _) arg10 harg10 hbO (Memref.isWhole_whole _) scU (Memref.isWhole_whole _) scD (Memref.isWhole_whole _) scSU (Memref.isWhole_whole _) scSD (Memref.isWhole_whole _) cc0_scratch4 scA (Memref.isWhole_whole _) scO (Memref.isWhole_whole _) cc0_scratch7 scT (Memref.isWhole_whole _)) K := by
    intro W K
    by_cases h : cond1 (grid0.coords t)
    · rw [(hcond1 t).1 h]
      unfold wtAt loadRes
      iintro ⟨⟨H12, H13⟩, ⟨HU, HD, HSU, HSD, HC⟩, HW, Hk⟩
      iapply (run_load c t arg2 harg2 arg3 harg3 arg4 harg4 arg5 harg5 arg7 harg7 arg8 harg8 arg10 harg10 scU (Memref.isWhole_whole _) scD (Memref.isWhole_whole _) scA (Memref.isWhole_whole _) scT (Memref.isWhole_whole _) h fU fD)
      isplitl [HU]; · iexact HU
      isplitl [HD]; · iexact HD
      isplitl [H12]; · iexact H12
      isplitl [H13]; · iexact H13
      isplitl [HSU]; · iexact HSU
      isplitl [HSD]; · iexact HSD
      isplitl [HC]; · iexact HC
      isplitl [HW]; · iexact HW
      iintro ⟨HU, HD, H12, H13, HSU, HSD, HC, HW⟩
      iapply Hk
      isplitl [H12]; · iexact H12
      isplitl [H13]; · iexact H13
      isplitl [HU HD HSU HSD HC]
      · isplitl [HU]; · iexact HU
        isplitl [HD]; · iexact HD
        isplitl [HSU]; · iexact HSU
        isplitl [HSD]; · iexact HSD
        iexact HC
      iexact HW
    · obtain ⟨k, hk⟩ := Nat.exists_eq_succ_of_ne_zero (fun h0 => h ((hcond1 t).2 h0))
      rw [hk]
      unfold wtAt
      iintro ⟨⟨H12, H13⟩, HL, HW, Hk⟩
      iapply (run_load_no c t arg2 harg2 arg3 harg3 arg4 harg4 arg5 harg5 arg7 harg7 arg8 harg8 arg10 harg10 scU (Memref.isWhole_whole _) scD (Memref.isWhole_whole _) scA (Memref.isWhole_whole _) scT (Memref.isWhole_whole _) h)
      iapply Hk
      isplitl [H12]; · iexact H12
      isplitl [H13]; · iexact H13
      isplitl [HL]; · iexact HL
      iexists _; iexact HW

/-- The point's slot is free after the wait. -/
theorem wait_step (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (o : Fin 32 → FVec F S1024x1024 .f32) :
      ∀ (W : Waits sig Unit) (K : PUnit → sProp 𝕄),
        iprop(ringAt c o t.val ∗ owes c 0 W
            ∗ ((cellP c (Ring.sl 2 t.val) ∗ (∃ e, slotP c (Ring.sl 2 t.val) e) ∗ restAt c o t.val ∗ (∃ W, owes c 0 W)) -∗ K ⟨⟩))
          ⊢ wp frame (wpE (defs₀ (F := F)) Variants.none c none) Set.univ (headWait (grid0.coords t) arg2 harg2 arg3 harg3 arg4 harg4 arg5 harg5 hbU (Memref.isWhole_whole _) arg7 harg7 arg8 harg8 hbD (Memref.isWhole_whole _) arg10 harg10 hbO (Memref.isWhole_whole _) scU (Memref.isWhole_whole _) scD (Memref.isWhole_whole _) scSU (Memref.isWhole_whole _) scSD (Memref.isWhole_whole _) cc0_scratch4 scA (Memref.isWhole_whole _) scO (Memref.isWhole_whole _) cc0_scratch7 scT (Memref.isWhole_whole _)) K := by
    intro W K
    have ht : t.val < 32 := lt_of_lt_of_eq t.isLt N_0
    by_cases h : cond2 (grid0.coords t)
    · obtain ⟨k, hk⟩ := Nat.exists_eq_add_of_le' ((hcond2 t).1 h)
      have hR := run_wait c t arg2 harg2 arg3 harg3 arg4 harg4 arg5 harg5 arg7 harg7 arg8 harg8 arg10 harg10 scU (Memref.isWhole_whole _) scD (Memref.isWhole_whole _) scSU (Memref.isWhole_whole _) scSD (Memref.isWhole_whole _) scA (Memref.isWhole_whole _) scT (Memref.isWhole_whole _) h o W K
      rw [show t.val - 2 = k by omega, hk, Ring.sl_add] at hR
      rw [hk, Ring.sl_add]
      rw [show ringAt c o (k + 2) = iprop(batchP c o (Ring.sl 2 k) (Ring.bk 32 k) ∗ batchP c o (Ring.sl 2 (k + 1)) (Ring.bk 32 (k + 1)) ∗ outP c (doneSet k) (outBuf c o)) from if_pos (by omega)]
      unfold restAt
      iintro ⟨⟨HB, HB', Hd⟩, HW, Hk⟩
      iapply hR
      isplitl [HB]; · iexact HB
      isplitl [Hd]; · iexact Hd
      isplitl [HW]; · iexact HW
      iintro ⟨Hc, HS, Hd, HW⟩
      iapply Hk
      isplitl [Hc]; · iexact Hc
      isplitl [HS]; · iexact HS
      isplitl [HB' Hd]
      · isplitl [HB']; · iexact HB'
        iexact Hd
      iexact HW
    · have h2 : ¬2 ≤ t.val := fun h2 => h ((hcond2 t).2 h2)
      have hc : t.val = 0 ∨ t.val = 1 := by omega
      rcases hc with hc | hc
      · rw [hc, show Ring.sl 2 0 = 0 from rfl]
        unfold ringAt restAt
        iintro ⟨⟨⟨Hc, HS⟩, HF, Hd⟩, HW, Hk⟩
        iapply (run_wait_no c t arg2 harg2 arg3 harg3 arg4 harg4 arg5 harg5 arg7 harg7 arg8 harg8 arg10 harg10 scU (Memref.isWhole_whole _) scD (Memref.isWhole_whole _) scSU (Memref.isWhole_whole _) scSD (Memref.isWhole_whole _) scA (Memref.isWhole_whole _) scT (Memref.isWhole_whole _) h)
        iapply Hk
        isplitl [Hc]; · iexact Hc
        isplitl [HS]; · iexact HS
        isplitl [HF Hd]
        · isplitl [HF]; · iexact HF
          iexact Hd
        iexists _; iexact HW
      · rw [hc, show Ring.sl 2 1 = 1 from rfl]
        unfold ringAt restAt
        iintro ⟨⟨HB, ⟨Hc, HS⟩, Hd⟩, HW, Hk⟩
        iapply (run_wait_no c t arg2 harg2 arg3 harg3 arg4 harg4 arg5 harg5 arg7 harg7 arg8 harg8 arg10 harg10 scU (Memref.isWhole_whole _) scD (Memref.isWhole_whole _) scSU (Memref.isWhole_whole _) scSD (Memref.isWhole_whole _) scA (Memref.isWhole_whole _) scT (Memref.isWhole_whole _) h)
        iapply Hk
        isplitl [Hc]; · iexact Hc
        isplitl [HS]; · iexact HS
        isplitl [HB Hd]
        · isplitl [HB]; · iexact HB
          iexact Hd
        iexists _; iexact HW

/-- The history is the batch row's after the reset. -/
theorem zero_step (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (T : ℕ → FVec F S16x5632 .f32) :
      ∀ (W : Waits sig Unit) (K : PUnit → sProp 𝕄),
        iprop(tlAt c T t.val ∗ owes c 0 W ∗ ((owns (c : Thread nD τ) scT fullShare (tin T t.val) ∗ owes c 0 W) -∗ K ⟨⟩))
          ⊢ wp frame (wpE (defs₀ (F := F)) Variants.none c none) Set.univ (headZero (grid0.coords t) arg2 harg2 arg3 harg3 arg4 harg4 arg5 harg5 hbU (Memref.isWhole_whole _) arg7 harg7 arg8 harg8 hbD (Memref.isWhole_whole _) arg10 harg10 hbO (Memref.isWhole_whole _) scU (Memref.isWhole_whole _) scD (Memref.isWhole_whole _) scSU (Memref.isWhole_whole _) scSD (Memref.isWhole_whole _) cc0_scratch4 scA (Memref.isWhole_whole _) scO (Memref.isWhole_whole _) cc0_scratch7 scT (Memref.isWhole_whole _)) K := by
    intro W K
    unfold tlAt tin
    by_cases h : cond3 (grid0.coords t)
    · rw [if_pos ((hcond3 t).1 h), if_pos ((hcond3 t).1 h)]
      exact run_zero c t arg2 harg2 arg3 harg3 arg4 harg4 arg5 harg5 arg7 harg7 arg8 harg8 arg10 harg10 scU (Memref.isWhole_whole _) scD (Memref.isWhole_whole _) scSU (Memref.isWhole_whole _) scSD (Memref.isWhole_whole _) scA (Memref.isWhole_whole _) scT (Memref.isWhole_whole _) h W K
    · rw [if_neg (fun h' => h ((hcond3 t).2 h')), if_neg (fun h' => h ((hcond3 t).2 h'))]
      iintro ⟨H20, HW, Hk⟩
      iapply (run_zero_no c t arg2 harg2 arg3 harg3 arg4 harg4 arg5 harg5 arg7 harg7 arg8 harg8 arg10 harg10 scU (Memref.isWhole_whole _) scD (Memref.isWhole_whole _) scSU (Memref.isWhole_whole _) scSD (Memref.isWhole_whole _) scA (Memref.isWhole_whole _) scT (Memref.isWhole_whole _) h)
      iapply Hk
      isplitl [H20]; · iexact H20
      iexact HW

/-- The ring before the next point. -/
theorem last_step (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (v1 v11 : BitVec 32) (o : Fin 32 → FVec F S1024x1024 .f32) :
      ∀ (W : Waits sig Unit) (K : PUnit → sProp 𝕄),
        iprop(batchP c o (Ring.sl 2 t.val) (Ring.bk 32 t.val) ∗ restAt c o t.val ∗ owes c 0 W
            ∗ ((ringAt c o (t.val + 1) ∗ (∃ W, owes c 0 W)) -∗ K ⟨⟩))
          ⊢ wp frame (wpE (defs₀ (F := F)) Variants.none c none) Set.univ (lastP (grid0.coords t) arg2 harg2 arg3 harg3 arg4 harg4 arg5 harg5 hbU (Memref.isWhole_whole _) arg7 harg7 arg8 harg8 hbD (Memref.isWhole_whole _) arg10 harg10 hbO (Memref.isWhole_whole _) scU (Memref.isWhole_whole _) scD (Memref.isWhole_whole _) scSU (Memref.isWhole_whole _) scSD (Memref.isWhole_whole _) cc0_scratch4 scA (Memref.isWhole_whole _) scO (Memref.isWhole_whole _) cc0_scratch7 scT (Memref.isWhole_whole _) v1 v11) K := by
    intro W K
    have ht : t.val < 32 := lt_of_lt_of_eq t.isLt N_0
    by_cases h : cond4 (grid0.coords t)
    · have h31 : t.val = 31 := (hcond4 t).1 h
      have hR := run_last c t arg2 harg2 arg3 harg3 arg4 harg4 arg5 harg5 arg7 harg7 arg8 harg8 arg10 harg10 scU (Memref.isWhole_whole _) scD (Memref.isWhole_whole _) scSU (Memref.isWhole_whole _) scSD (Memref.isWhole_whole _) scA (Memref.isWhole_whole _) scT (Memref.isWhole_whole _) v1 v11 h o W K
      rw [h31] at hR ⊢
      rw [show restAt c o 31 = iprop(batchP c o (Ring.sl 2 (31 - 1)) (Ring.bk 32 (31 - 1)) ∗ outP c (doneSet (31 - 1)) (outBuf c o)) from rfl,
        show ringAt c o (31 + 1) = iprop((cellP c (Ring.sl 2 (31 - 1)) ∗ ∃ e, slotP c (Ring.sl 2 (31 - 1)) e) ∗ (cellP c (Ring.sl 2 31) ∗ ∃ e, slotP c (Ring.sl 2 31) e) ∗ outP c (doneSet (31 + 1)) (outBuf c o)) from rfl]
      iintro ⟨HB, ⟨HB', Hd⟩, HW, Hk⟩
      iapply hR
      isplitl [HB']; · iexact HB'
      isplitl [HB]; · iexact HB
      isplitl [Hd]; · iexact Hd
      isplitl [HW]; · iexact HW
      iintro ⟨Hc, HS, Hc', HS', Hd, HW⟩
      iapply Hk
      isplitl [Hc HS Hc' HS' Hd]
      · isplitl [Hc HS]
        · isplitl [Hc]; · iexact Hc
          iexact HS
        isplitl [Hc' HS']
        · isplitl [Hc']; · iexact Hc'
          iexact HS'
        iexact Hd
      iexact HW
    · have h31 : t.val ≠ 31 := fun h' => h ((hcond4 t).2 h')
      have hn := run_last_no (F := F) c t arg2 harg2 arg3 harg3 arg4 harg4 arg5 harg5 arg7 harg7 arg8 harg8 arg10 harg10 scU (Memref.isWhole_whole _) scD (Memref.isWhole_whole _) scSU (Memref.isWhole_whole _) scSD (Memref.isWhole_whole _) scA (Memref.isWhole_whole _) scT (Memref.isWhole_whole _) v1 v11 h K
      generalize t.val = n at ht h31 ⊢
      match n, ht, h31 with
      | 0, _, _ =>
        rw [show ringAt c o (0 + 1) = iprop(batchP c o (Ring.sl 2 0) (Ring.bk 32 0) ∗ (cellP c 1 ∗ ∃ e, slotP c 1 e) ∗ outP c (doneSet 0) (outBuf c o)) from rfl]
        unfold restAt
        iintro ⟨HB, ⟨HF, Hd⟩, HW, Hk⟩
        iapply hn
        iapply Hk
        isplitl [HB HF Hd]
        · isplitl [HB]; · iexact HB
          isplitl [HF]; · iexact HF
          iexact Hd
        iexists _; iexact HW
      | 1, _, _ =>
        rw [show ringAt c o (1 + 1) = iprop(batchP c o 0 0 ∗ batchP c o (Ring.sl 2 1) (Ring.bk 32 1) ∗ outP c (doneSet 0) (outBuf c o)) from rfl]
        unfold restAt
        iintro ⟨HB, ⟨HB', Hd⟩, HW, Hk⟩
        iapply hn
        iapply Hk
        isplitl [HB HB' Hd]
        · isplitl [HB']; · iexact HB'
          isplitl [HB]; · iexact HB
          iexact Hd
        iexists _; iexact HW
      | k + 2, ht, h31 =>
        rw [show ringAt c o (k + 2 + 1) = iprop(batchP c o (Ring.sl 2 (k + 1)) (Ring.bk 32 (k + 1)) ∗ batchP c o (Ring.sl 2 (k + 2)) (Ring.bk 32 (k + 2)) ∗ outP c (doneSet (k + 1)) (outBuf c o)) from if_pos (by omega)]
        unfold restAt
        iintro ⟨HB, ⟨HB', Hd⟩, HW, Hk⟩
        iapply hn
        iapply Hk
        isplitl [HB HB' Hd]
        · isplitl [HB']; · iexact HB'
          isplitl [HB]; · iexact HB
          iexact Hd
        iexists _; iexact HW

set_option maxHeartbeats 1000000 in
/-- The body at a point. -/
theorem run (c : Dev nD) (t : Fin cfg0.N) (arg2 : Memref sig .tc .vmem S1x8x1024x128 .f32) (harg2 : arg2.IsWhole) (arg3 : Memref sig .tc .vmem S1x1024x1 .f32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S3x5632 .f32) (harg7 : arg7.IsWhole) (arg8 : Memref sig .tc .vmem S1x5632 .f32) (harg8 : arg8.IsWhole) (arg10 : Memref sig .tc .vmem S1x1024 .f32) (harg10 : arg10.IsWhole) (x2 : Vec F S1x8x1024x128 .f32) (x3 : Vec F S1x1024x1 .f32) (x4 : Vec F S1x6x1024 .f32) (x5 : Vec F S1x1024 .f32) (x7 : Vec F S3x5632 .f32) (x8 : Vec F S1x5632 .f32) (x10 : Vec F S1x1024 .f32)
    (fU : HbBuf (F := F) c hbU) (fD : HbBuf (F := F) c hbD) (W0 : HbBuf (F := F) c hbO) (o : Fin 32 → FVec F S1024x1024 .f32) (T : ℕ → FVec F S16x5632 .f32)
    (ho : o (Ring.bk 32 t.val) = OUT x2 x3 x4 x5 x7 x8 x10 (UPW c fU) (DNW c fD) (tin T t.val)) (hT : T (t.val + 1) = TAIL (hE x2 x3 x4 x5) (UPW c fU)) :
      ∀ (W : Waits sig Unit) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare x7 ∗ owns (c : Thread nD τ) arg8 fullShare x8 ∗ owns (c : Thread nD τ) arg10 fullShare x10 ∗ (∃ d, owns (c : Thread nD τ) scA fullShare d) ∗ wtAt c fU fD t.val ∗ loadRes c fU fD ∗ tlAt c T t.val ∗ ringAt c o t.val ∗ outP c (restSet t.val) W0 ∗ owes c 0 W
            ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare x7 ∗ owns (c : Thread nD τ) arg8 fullShare x8 ∗ owns (c : Thread nD τ) arg10 fullShare x10 ∗ (∃ d, owns (c : Thread nD τ) scA fullShare d) ∗ wtAt c fU fD (t.val + 1) ∗ loadRes c fU fD ∗ tlAt c T (t.val + 1) ∗ ringAt c o (t.val + 1) ∗ outP c (restSet (t.val + 1)) W0 ∗ (∃ W, owes c 0 W)) -∗ K ⟨⟩))
          ⊢ wp frame (wpE (defs₀ (F := F)) Variants.none c none) Set.univ (cc0_channel_mixer (grid0.coords t) arg2 harg2 arg3 harg3 arg4 harg4 arg5 harg5 hbU (Memref.isWhole_whole _) arg7 harg7 arg8 harg8 hbD (Memref.isWhole_whole _) arg10 harg10 hbO (Memref.isWhole_whole _) scU (Memref.isWhole_whole _) scD (Memref.isWhole_whole _) scSU (Memref.isWhole_whole _) scSD (Memref.isWhole_whole _) cc0_scratch4 scA (Memref.isWhole_whole _) scO (Memref.isWhole_whole _) cc0_scratch7 scT (Memref.isWhole_whole _)) K := by
    intro W K
    rw [cc0_channel_mixer_eq_skeleton, body_eq]
    simp only [wp_bind]
    iintro ⟨H2, H3, H4, H5, H7, H8, H10, H17, Hw, HL, Ht, HR, Hr, HW, Hk⟩
    iapply (load_step c t arg2 harg2 arg3 harg3 arg4 harg4 arg5 harg5 arg7 harg7 arg8 harg8 arg10 harg10 fU fD)
    isplitl [Hw]; · iexact Hw
    isplitl [HL]; · iexact HL
    isplitl [HW]; · iexact HW
    iintro ⟨H12, H13, HL, ⟨%W1, HW⟩⟩
    iapply (wait_step c t arg2 harg2 arg3 harg3 arg4 harg4 arg5 harg5 arg7 harg7 arg8 harg8 arg10 harg10 o)
    isplitl [HR]; · iexact HR
    isplitl [HW]; · iexact HW
    iintro ⟨Hc, ⟨%e, HS⟩, HR, ⟨%W2, HW⟩⟩
    iapply (zero_step c t arg2 harg2 arg3 harg3 arg4 harg4 arg5 harg5 arg7 harg7 arg8 harg8 arg10 harg10 T)
    isplitl [Ht]; · iexact Ht
    isplitl [HW]; · iexact HW
    iintro ⟨H20, HW⟩
    iapply (run_mid c t arg2 harg2 arg3 harg3 arg4 harg4 arg5 harg5 arg7 harg7 arg8 harg8 arg10 harg10 scU (Memref.isWhole_whole _) scD (Memref.isWhole_whole _) scSU (Memref.isWhole_whole _) scSD (Memref.isWhole_whole _) scA (Memref.isWhole_whole _) scT (Memref.isWhole_whole _) x2 x3 x4 x5 x7 x8 x10 (UPW c fU) (DNW c fD) (tin T t.val) e)
    isplitl [H2]; · iexact H2
    isplitl [H3]; · iexact H3
    isplitl [H4]; · iexact H4
    isplitl [H5]; · iexact H5
    isplitl [H7]; · iexact H7
    isplitl [H8]; · iexact H8
    isplitl [H10]; · iexact H10
    isplitl [H12]; · iexact H12
    isplitl [H13]; · iexact H13
    isplitl [H17]; · iexact H17
    isplitl [H20]; · iexact H20
    isplitl [HS]; · iexact HS
    isplitl [HW]; · iexact HW
    iintro %r ⟨H2, H3, H4, H5, H7, H8, H10, H12, H13, H17, H20, HS, HW⟩
    obtain ⟨v1, v11, c4_i32_665, v1100, v1105, v1107, v1108⟩ := r
    simp only [wp_bind]
    rw [← ho, ← hT]
    iapply (run_send c t arg2 harg2 arg3 harg3 arg4 harg4 arg5 harg5 arg7 harg7 arg8 harg8 arg10 harg10 scU (Memref.isWhole_whole _) scD (Memref.isWhole_whole _) scSU (Memref.isWhole_whole _) scSD (Memref.isWhole_whole _) scA (Memref.isWhole_whole _) scT (Memref.isWhole_whole _) v1 v11 c4_i32_665 v1100 v1105 v1107 v1108 W0 o)
    isplitl [HS]; · iexact HS
    isplitl [Hc]; · iexact Hc
    isplitl [Hr]; · iexact Hr
    isplitl [HW]; · iexact HW
    iintro ⟨HB, Hr, HW⟩
    iapply (last_step c t arg2 harg2 arg3 harg3 arg4 harg4 arg5 harg5 arg7 harg7 arg8 harg8 arg10 harg10 v1 v11 o)
    isplitl [HB]; · iexact HB
    isplitl [HR]; · iexact HR
    isplitl [HW]; · iexact HW
    iintro ⟨HR, HW⟩
    iapply Hk
    isplitl [H2]; · iexact H2
    isplitl [H3]; · iexact H3
    isplitl [H4]; · iexact H4
    isplitl [H5]; · iexact H5
    isplitl [H7]; · iexact H7
    isplitl [H8]; · iexact H8
    isplitl [H10]; · iexact H10
    isplitl [H17]; · iexact H17
    isplitl [H12 H13]
    · unfold wtAt
      isplitl [H12]; · iexact H12
      iexact H13
    isplitl [HL]; · iexact HL
    isplitl [H20]
    · unfold tlAt
      split
      · iexists _; iexact H20
      · iexact H20
    isplitl [HR]; · iexact HR
    isplitl [Hr]; · iexact Hr
    iexact HW

end Cert.FfnIdeal.Mlp

end
-- ==== Proof.FfnFrame.lean ====
module

public import proofs.«01_k».proof.Proof.FfnBody
public import proofs.«01_k».proof.Proof.Gen.FfnIdeal.Frame
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp
public import Idealize.ShloMosaic.Lib.ValueIdx
public import Idealize.ShloMosaic.Lib.ValueLayout
public import Idealize.ShloMosaic.Lib.Pipeline.FrameValue

@[expose] public section

-- rectangles of long axes are looked at once per coordinate
set_option maxRecDepth 16384

noncomputable section

namespace Cert.FfnIdeal.Mlp

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run computes, off the arrays as the region finds them -/

/-- The grid's point number `k`. -/
def pt (k : ℕ) : Fin cfg0.N := ⟨k % 32, lt_of_lt_of_eq (Nat.mod_lt k (by decide)) N_0.symm⟩
theorem pt_val (t : Fin cfg0.N) : pt t.val = t := Fin.ext (Nat.mod_eq_of_lt (lt_of_lt_of_eq t.isLt N_0))
theorem pt_bk (t : Fin cfg0.N) : pt (Ring.bk 32 t.val).val = t := by
  rw [Ring.bk_val (lt_of_lt_of_eq t.isLt N_0)]; exact pt_val t

/-- A point's normalised rows. -/
def rowsAt (c : Dev nD) (t : Fin cfg0.N) := hE (F := F) (iblk m c 0 t) (iblk m c 1 t) (iblk m c 2 t) (iblk m c 3 t)
/-- The history the point before `k` leaves. -/
def hist (c : Dev nD) (k : ℕ) : FVec F S16x5632 .f32 := TAIL (rowsAt m c (pt (k - 1))) (UPW c (V m c main_arg3))
/-- The rows tile `b` puts out. -/
def outs (c : Dev nD) (b : Fin 32) : FVec F S1024x1024 .f32 :=
  OUT (iblk m c 0 (pt b.val)) (iblk m c 1 (pt b.val)) (iblk m c 2 (pt b.val)) (iblk m c 3 (pt b.val)) (iblk m c 4 (pt b.val)) (iblk m c 5 (pt b.val)) (iblk m c 6 (pt b.val))
    (UPW c (V m c main_arg3)) (DNW c (V m c main_arg6)) (tin (hist m c) b.val)

theorem outs_at (c : Dev nD) (t : Fin cfg0.N) : outs m c (Ring.bk 32 t.val)
    = OUT (iblk m c 0 t) (iblk m c 1 t) (iblk m c 2 t) (iblk m c 3 t) (iblk m c 4 t) (iblk m c 5 t) (iblk m c 6 t) (UPW c (V m c main_arg3)) (DNW c (V m c main_arg6)) (tin (hist m c) t.val) := by
  unfold outs; rw [pt_bk, Ring.bk_val (lt_of_lt_of_eq t.isLt N_0)]
theorem hist_next (c : Dev nD) (t : Fin cfg0.N) : hist m c (t.val + 1) = TAIL (hE (iblk m c 0 t) (iblk m c 1 t) (iblk m c 2 t) (iblk m c 3 t)) (UPW c (V m c main_arg3)) := by
  unfold hist rowsAt; rw [Nat.add_sub_cancel, pt_val]

/-- The buffers as the region leaves them: the result at the tiles' rows. -/
def leaves (c : Dev nD) : (b : Ref sig .tc) → Buf (Elt F) ((c.tc : Thread nD τ).loc b) := Function.update (V m c) main_v12 (outBuf c (outs m c))

/-! ## The launch's host part, at this certificate's algebra -/

/-- The host operations before the region, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The region's invariant before point `k`: the hidden layer's scratch at anything, the weights, the history, the generator register, and the ring. -/
def Phi (c : Dev nD) (k : ℕ) : sProp 𝕄 :=
  iprop((∃ d, owns (c : Thread nD τ) scA fullShare d) ∗ wtAt c (V m c main_arg3) (V m c main_arg6) k ∗ loadRes c (V m c main_arg3) (V m c main_arg6) ∗ tlAt c (hist m c) k ∗ ringAt c (outs m c) k ∗ outP c (restSet k) (V m c main_v12) ∗ (∃ r, prngReg c r))

/-- The proof data: the arrays as the region finds them, the inputs' buffers left at their blocks. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨_ + 7, h⟩ => absurd h (Nat.not_lt.2 (Nat.le_add_left _ _))
  Φ t := Phi m c t.val
  q _ := fullShare
  owed _ := 0

theorem A_eq (c : Dev nD) (w : Fin 7) : (dats m 0 c).A w = V m c (Pipeline.arrRef spec0 w) := by dsimp only [dats]
theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## The body's obligation -/

abbrev ms0_0 (t : Fin cfg0.N) : Memref sig .tc .vmem S1x8x1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x5632 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5632 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)

def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [after0_0 m c t, after0_1 m c t, after0_2 m c t, after0_3 m c t, after0_4 m c t, after0_5 m c t, after0_6 m c t]
  rw [Phi_castSucc m c t, Phi_succ m c t]
  unfold Dat.owesAt Pipeline.owesWithin
  rw [show (dats m 0 c).owed t.castSucc = 0 from rfl, show (dats m 0 c).owed t.succ = 0 from rfl]
  unfold Phi
  iintro ⟨⟨HA, Hw, HL, Ht, HR, Hr, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (run c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (iblk m c 6 t) (V m c main_arg3) (V m c main_arg6) (V m c main_v12) (outs m c) (hist m c) (outs_at m c t) (hist_next m c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [Hw]; · iexact Hw
  isplitl [HL]; · iexact HL
  isplitl [Ht]; · iexact Ht
  isplitl [HR]; · iexact HR
  isplitl [Hr]; · iexact Hr
  isplitl [HW]; · iexact HW
  iintro ⟨H0, H1, H2, H3, H4, H5, H6, HA, Hw, HL, Ht, HR, Hr, ⟨%W', HW'⟩⟩
  isplitl [HA Hw HL Ht HR Hr Hg]
  · isplitl [HA]; · iexact HA
    isplitl [Hw]; · iexact Hw
    isplitl [HL]; · iexact HL
    isplitl [Ht]; · iexact Ht
    isplitl [HR]; · iexact HR
    isplitl [Hr]; · iexact Hr
    iexact Hg
  isplitl [HW']
  · iexists W'; isplitr
    · ipureintro; exact fun _ _ => Or.inl trivial
    · iexact HW'
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The region's two ends -/

theorem hbmPts0_eq (c : Dev nD) : (bigSep H0 (fun b => ((c : Thread nD τ).loc b) ↦{fullShare} V m c b) : sProp 𝕄) = iprop(hbPt c hbU (V m c main_arg3) ∗ hbPt c hbD (V m c main_arg6)) := by
  rw [BI.bigSep_eq_bigSepL_of_eq [main_arg3, main_arg6] (by decide) (by decide)]; rfl
theorem routed0_eq (c : Dev nD) (G : (b : Ref sig .tc) → Buf (Elt F) ((c.tc : Thread nD τ).loc b)) : (Pipeline.routed R0 c G : sProp 𝕄) = hbPt c hbO (G main_v12) := by
  unfold Pipeline.routed
  rw [BI.bigSep_eq_bigSepL_of_eq [main_v12] (by decide) (by decide)]; rfl

/-- The region's ends, piece by piece. -/
def endP (c : Dev nD) (G : HbBuf (F := F) c hbO) : sProp 𝕄 :=
  iprop(((∃ d, owns (c : Thread nD τ) scU fullShare d) ∗ (∃ d, owns (c : Thread nD τ) scD fullShare d) ∗ (∃ e, hbPt c scSU e) ∗ (∃ e, hbPt c scSD e) ∗ (∃ d, owns (c : Thread nD τ) scA fullShare d) ∗ (∃ e, hbPt c scO e) ∗ (∃ d, owns (c : Thread nD τ) scT fullShare d)) ∗ (∃ r, prngReg c r)
    ∗ (semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0
          ∗ semVal ((c : Thread nD τ), SemLoc.dma 14) 0 ∗ semVal ((c : Thread nD τ), SemLoc.dma 15) 0)
    ∗ (hbPt c hbU (V m c main_arg3) ∗ hbPt c hbD (V m c main_arg6)) ∗ hbPt c hbO G)
theorem end_eq (c : Dev nD) (G : (c : Dev nD) → (b : Ref sig .tc) → Buf (Elt F) ((c.tc : Thread nD τ).loc b)) :
    (Pipeline.ΦDRG osem0 spec0 H0 R0 (V m) G c : sProp 𝕄) = endP m c (G c main_v12) := by
  rw [Pipeline.ΦDRG_eq, scopedRest0_eq, ownSems0_eq, hbmPts0_eq, routed0_eq]
  unfold endP
  simp only [owns_whole]
  try rfl
theorem out_empty (c : Dev nD) (e : HbBuf (F := F) c hbO) (f : HbBuf (F := F) c hbO) : (hbPt c hbO e : sProp 𝕄) ⊢ iprop(outP c (doneSet 0) f ∗ outP c (restSet 0) e) := by
  rw [done_zero, rest_zero]
  exact ((pointsTo_split_subset (Finset.empty_subset (Finset.univ))).1).trans (by
    rw [Finset.sdiff_empty, pointsTo_congr (ℓ := (c : Thread nD τ).loc main_v12) (I := ∅) (f := e) (g := f) (fun i hi => absurd hi (Finset.notMem_empty i))])

theorem hin (c : Dev nD) : Pipeline.ΦDRG osem0 spec0 H0 R0 (V m) (V m) c ⊢ (dats m 0 c).Φ 0 := by
  rw [end_eq, show (dats m 0 c).Φ 0 = Phi m c 0 from rfl]
  unfold endP Phi loadRes
  rw [show tlAt c (hist m c) 0 = iprop(∃ d, owns (c : Thread nD τ) scT fullShare d) from rfl]
  unfold wtAt ringAt cellP
  rw [cellR_0, cellR_1]
  iintro ⟨⟨HU, HD, HSU, HSD, HA, ⟨%e, HO⟩, HT⟩, Hg, ⟨C0, C1, C2, C3, C4, C5⟩, ⟨HX, HY⟩, HZ⟩
  ihave G := (Entails.of_eq (slots_split c e)) $$ HO
  icases G with ⟨S0, S1⟩
  ihave G := (out_empty c (V m c main_v12) (outBuf c (outs m c))) $$ HZ
  icases G with ⟨Hd, Hr⟩
  isplitl [HA]; · iexact HA
  isplitl [HU HD]
  · isplitl [HU]; · iexact HU
    iexact HD
  isplitl [HX HY HSU HSD C0 C1 C2 C3]
  · isplitl [HX]; · iexact HX
    isplitl [HY]; · iexact HY
    isplitl [HSU]; · iexact HSU
    isplitl [HSD]; · iexact HSD
    isplitl [C0]; · iexact C0
    isplitl [C1]; · iexact C1
    isplitl [C2]; · iexact C2
    iexact C3
  isplitl [HT]; · iexact HT
  isplitl [C4 C5 S0 S1 Hd]
  · isplitl [C4 S0]
    · isplitl [C4]; · iexact C4
      iexists e; iexact S0
    isplitl [C5 S1]
    · isplitl [C5]; · iexact C5
      iexists e; iexact S1
    iexact Hd
  isplitl [Hr]; · iexact Hr
  iexact Hg

theorem hout (c : Dev nD) : (dats m 0 c).Φ (Fin.last cfg0.N) ⊢ Pipeline.ΦDRG osem0 spec0 H0 R0 (V m) (leaves m) c := by
  rw [end_eq, show (dats m 0 c).Φ (Fin.last cfg0.N) = Phi m c grid0.N from rfl, show grid0.N = 32 by rw [N_0]]
  unfold endP Phi loadRes
  rw [show tlAt c (hist m c) 32 = iprop(∃ d, owns (c : Thread nD τ) scT fullShare d) from rfl,
    show leaves m c main_v12 = outBuf c (outs m c) from Function.update_self ..,
    show ringAt c (outs m c) 32 = iprop((cellP c 0 ∗ ∃ e, slotP c 0 e) ∗ (cellP c 1 ∗ ∃ e, slotP c 1 e) ∗ outP c (doneSet 32) (outBuf c (outs m c))) from rfl]
  unfold wtAt cellP
  rw [cellR_0, cellR_1, done_all]
  iintro ⟨HA, ⟨HU, HD⟩, ⟨HX, HY, HSU, HSD, C0, C1, C2, C3⟩, HT, ⟨⟨C4, S0⟩, ⟨C5, S1⟩, HZ⟩, -, Hg⟩
  ihave HO := (slots_join c) $$ [S0 S1]
  · isplitl [S0]; · iexact S0
    iexact S1
  isplitl [HU HD HSU HSD HA HO HT]
  · isplitl [HU]; · iexists _; iexact HU
    isplitl [HD]; · iexists _; iexact HD
    isplitl [HSU]; · iexact HSU
    isplitl [HSD]; · iexact HSD
    isplitl [HA]; · iexact HA
    isplitl [HO]; · iexact HO
    iexact HT
  isplitl [Hg]; · iexact Hg
  isplitl [C0 C1 C2 C3 C4 C5]
  · isplitl [C0]; · iexact C0
    isplitl [C1]; · iexact C1
    isplitl [C2]; · iexact C2
    isplitl [C3]; · iexact C3
    isplitl [C4]; · iexact C4
    iexact C5
  isplitl [HX HY]
  · isplitl [HX]; · iexact HX
    iexact HY
  iexact HZ

/-! ## The launch, and the frame -/

-- the conclusion's implicit arguments are found through plain definitions
set_option backward.isDefEq.respectTransparency.types false in
theorem run_main : θ_run defs (onTc (τ := τ) (main (F := F))) (s₀ m ρ)
    (fun r => Pipeline.FramePostRG cfgs (dats m) 0 R0 (V m) (leaves m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := leaves m) (hin := hin m) (hout := hout m)

/-- The frame, with the result named: every argument array ends as launched, every semaphore counter at zero, and the result holds the tiles' rows. -/
theorem frame_named : θ_run defs (onTc (τ := τ) (main (F := F))) ⟨m, fun _ => 0, ρ⟩
    (fun r => ((∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) ∧ ∀ c : Dev nD, r.2.mem ((c.tc : Thread nD τ).loc main_v12) = outBuf c (outs m c)) :=
  (θ_run defs _ _).mono (fun _ h => ⟨⟨fun c => ⟨((h.1.1 c).2 main_arg0 (Finset.mem_sdiff.2 ⟨Pipeline.mem_restRefs_of main_arg0 (by decide) (by decide), by decide⟩)).trans (V_main_arg0 m c),
      ((h.1.1 c).1 2).trans (((dats m 0 c).arrAt_in 2 rfl _).trans ((A_eq m c 2).trans (V_main_arg1 m c))),
      ((h.1.1 c).2 main_arg2 (Finset.mem_sdiff.2 ⟨Pipeline.mem_restRefs_of main_arg2 (by decide) (by decide), by decide⟩)).trans (V_main_arg2 m c),
      ((h.1.1 c).2 main_arg3 (Finset.mem_sdiff.2 ⟨Pipeline.mem_restRefs_of main_arg3 (by decide) (by decide), by decide⟩)).trans (V_main_arg3 m c),
      ((h.1.1 c).1 4).trans (((dats m 0 c).arrAt_in 4 rfl _).trans ((A_eq m c 4).trans (V_main_arg4 m c))),
      ((h.1.1 c).2 main_arg5 (Finset.mem_sdiff.2 ⟨Pipeline.mem_restRefs_of main_arg5 (by decide) (by decide), by decide⟩)).trans (V_main_arg5 m c),
      ((h.1.1 c).2 main_arg6 (Finset.mem_sdiff.2 ⟨Pipeline.mem_restRefs_of main_arg6 (by decide) (by decide), by decide⟩)).trans (V_main_arg6 m c),
      ((h.1.1 c).2 main_arg7 (Finset.mem_sdiff.2 ⟨Pipeline.mem_restRefs_of main_arg7 (by decide) (by decide), by decide⟩)).trans (V_main_arg7 m c)⟩, h.2⟩,
      fun c => (h.1.2 c main_v12 (by decide)).trans (Function.update_self ..)⟩) (run_main m ρ)
/-- The frame alone. -/
theorem frame_main : θ_run defs (onTc (τ := τ) (main (F := F))) ⟨m, fun _ => 0, ρ⟩
    (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  (θ_run defs _ _).mono (fun _ h => h.1) (frame_named m ρ)

end Cert.FfnIdeal.Mlp

end
-- ==== Proof.FfnLay.lean ====
/-
The layout operations of the channel mixer read at an index, over shapes given by their axes' lengths: a row or a column
broadcast, a slab of a four-axis block, eight slabs side by side, and a product of two matrices.
-/
module

public import Idealize.ShloMosaic.Lib.ValueIdx
public import Idealize.ShloMosaic.Lib.Pipeline.Value
public import Idealize.ShloMosaic.Lib.KernelVsHost
public import Idealize.ShloMosaic.Lib.Pointwise.Contract
public import Idealize.ShloMosaic.PureOps.Ideal.Laws

@[expose] public section

noncomputable section

namespace Cert.FfnIdeal.Mlp

open Idealize.ShloMosaic hiding ix1 ix2 ix3 ix4
open Idealize.ShloMosaic.ValueIdx

variable {α : Type}

/-- A load through a rectangle of unit strides, at an index: the contents at the offsets plus the index. -/
theorem ld_at {Val : EltTy → Type} {e : EltTy} {S : Shape} (X : S.Idx → Val e) (off size : Fin S.rank → ℕ)
    (inb : ∀ a, off a + size a ≤ S.size a) (j : (⟨S.rank, size⟩ : Shape).Idx) (k : S.Idx) (hk : ∀ a, (k a).val = off a + (j a).val) :
    View.ld X (Rect.unit off size inb) j = X k := by
  rw [View.ld_unit]; exact extractStridedSlice_apply _ _ _ _ _ hk

/-- A column broadcast along the rows. -/
theorem bcol {n m : ℕ} (x : (⟨2, ![n, 1]⟩ : Shape).Idx → α) (h : (⟨2, ![n, 1]⟩ : Shape).Broadcasts ⟨2, ![n, m]⟩) (r : Fin n) (k : Fin m) :
    broadcastTo (⟨2, ![n, m]⟩ : Shape) x h (ix2 r k) = x (ix2 r 0) := by
  refine broadcastTo_apply _ _ _ _ fun a => ?_
  fin_cases a
  · show r.val = if n = 1 then 0 else r.val
    have := r.isLt; split <;> omega
  · rfl
/-- A row broadcast down the columns. -/
theorem brow {n m : ℕ} (x : (⟨2, ![1, m]⟩ : Shape).Idx → α) (h : (⟨2, ![1, m]⟩ : Shape).Broadcasts ⟨2, ![n, m]⟩) (r : Fin n) (k : Fin m) :
    broadcastTo (⟨2, ![n, m]⟩ : Shape) x h (ix2 r k) = x (ix2 0 k) := by
  refine broadcastTo_apply _ _ _ _ fun a => ?_
  fin_cases a
  · rfl
  · show k.val = if m = 1 then 0 else k.val
    have := k.isLt; split <;> omega

/-- A slab of a block of eight, some rows of it. -/
theorem slab_at {Val : EltTy → Type} {e : EltTy} {n N : ℕ} (x : (⟨4, ![1, 8, N, 128]⟩ : Shape).Idx → Val e) (j o : ℕ) (hj : j < 8)
    (inb : ∀ a, (![0, j, o, 0] : Fin 4 → ℕ) a + (![1, 1, n, 128] : Fin 4 → ℕ) a ≤ (⟨4, ![1, 8, N, 128]⟩ : Shape).size a)
    (h : (⟨4, ![1, 1, n, 128]⟩ : Shape).ShapeCasts ⟨2, ![n, 128]⟩) (r : Fin n) (l : Fin 128) (R : Fin N) (hR : R.val = o + r.val) :
    shapeCast (⟨2, ![n, 128]⟩ : Shape) (View.ld x (Rect.unit (s := (⟨4, ![1, 8, N, 128]⟩ : Shape)) ![0, j, o, 0] ![1, 1, n, 128] inb) : (⟨4, ![1, 1, n, 128]⟩ : Shape).Idx → Val e) h (ix2 r l)
      = x (ix4 0 ⟨j, hj⟩ R l) := by
  refine (shapeCast_apply _ _ _ (ix4 (n0 := 1) (n1 := 1) (n2 := n) (n3 := 128) 0 0 r l) ?_).trans (ld_at _ _ _ _ _ _ fun a => ?_)
  · rw [Shape.rowMajor_val_four, Shape.rowMajor_val_two]
    show ((0 * 1 + 0) * n + r.val) * 128 + l.val = r.val * 128 + l.val
    omega
  · fin_cases a
    · rfl
    · show j = j + 0; rfl
    · exact hR
    · show l.val = 0 + l.val; omega

/-- A row of a block of six. -/
theorem row_at {Val : EltTy → Type} {e : EltTy} {m : ℕ} (x : (⟨3, ![1, 6, m]⟩ : Shape).Idx → Val e) (j : ℕ) (hj : j < 6)
    (inb : ∀ a, (![0, j, 0] : Fin 3 → ℕ) a + (![1, 1, m] : Fin 3 → ℕ) a ≤ (⟨3, ![1, 6, m]⟩ : Shape).size a)
    (h : (⟨3, ![1, 1, m]⟩ : Shape).ShapeCasts ⟨2, ![1, m]⟩) (k : Fin m) :
    shapeCast (⟨2, ![1, m]⟩ : Shape) (View.ld x (Rect.unit (s := (⟨3, ![1, 6, m]⟩ : Shape)) ![0, j, 0] ![1, 1, m] inb) : (⟨3, ![1, 1, m]⟩ : Shape).Idx → Val e) h (ix2 0 k)
      = x (ix3 0 ⟨j, hj⟩ k) := by
  refine (shapeCast_apply _ _ _ (ix3 (n0 := 1) (n1 := 1) (n2 := m) 0 0 k) ?_).trans (ld_at _ _ _ _ _ _ fun a => ?_)
  · rw [Shape.rowMajor_val_three, Shape.rowMajor_val_two]
    show (0 * 1 + 0) * m + k.val = 0 * m + k.val
    omega
  · fin_cases a
    · rfl
    · show j = j + 0; rfl
    · show k.val = 0 + k.val; omega

/-- Eight slabs of 128 columns side by side. -/
theorem slabs {n : ℕ} (x0 x1 x2 x3 x4 x5 x6 x7 : (⟨2, ![n, 128]⟩ : Shape).Idx → α)
    (h : Shape.Concatenates (([⟨_, x0⟩, ⟨_, x1⟩, ⟨_, x2⟩, ⟨_, x3⟩, ⟨_, x4⟩, ⟨_, x5⟩, ⟨_, x6⟩, ⟨_, x7⟩] : List ((s : Shape) × (s.Idx → α))).map (·.1)) ⟨2, ![n, 1024]⟩ 1)
    (f : Fin 8 → Fin n → Fin 128 → α) (h0 : ∀ r l, x0 (ix2 r l) = f 0 r l) (h1 : ∀ r l, x1 (ix2 r l) = f 1 r l)
    (h2 : ∀ r l, x2 (ix2 r l) = f 2 r l) (h3 : ∀ r l, x3 (ix2 r l) = f 3 r l) (h4 : ∀ r l, x4 (ix2 r l) = f 4 r l)
    (h5 : ∀ r l, x5 (ix2 r l) = f 5 r l) (h6 : ∀ r l, x6 (ix2 r l) = f 6 r l) (h7 : ∀ r l, x7 (ix2 r l) = f 7 r l) (r : Fin n) (k : Fin 1024) :
    concatenate (⟨2, ![n, 1024]⟩ : Shape) 1 [⟨_, x0⟩, ⟨_, x1⟩, ⟨_, x2⟩, ⟨_, x3⟩, ⟨_, x4⟩, ⟨_, x5⟩, ⟨_, x6⟩, ⟨_, x7⟩] h (ix2 r k)
      = f ⟨k.val / 128, by have := k.isLt; omega⟩ r ⟨k.val % 128, Nat.mod_lt _ (by decide)⟩ := by
  have hk := k.isLt
  have key : ∀ (q : Fin 8) (x : (⟨2, ![n, 128]⟩ : Shape).Idx → α),
      ([⟨_, x0⟩, ⟨_, x1⟩, ⟨_, x2⟩, ⟨_, x3⟩, ⟨_, x4⟩, ⟨_, x5⟩, ⟨_, x6⟩, ⟨_, x7⟩] : List ((s : Shape) × (s.Idx → α)))[q.val]'q.isLt = ⟨⟨2, ![n, 128]⟩, x⟩ →
      (∀ r l, x (ix2 r l) = f q r l) → q.val = k.val / 128 →
      concatenate (⟨2, ![n, 1024]⟩ : Shape) 1 [⟨_, x0⟩, ⟨_, x1⟩, ⟨_, x2⟩, ⟨_, x3⟩, ⟨_, x4⟩, ⟨_, x5⟩, ⟨_, x6⟩, ⟨_, x7⟩] h (ix2 r k)
        = f ⟨k.val / 128, by omega⟩ r ⟨k.val % 128, Nat.mod_lt _ (by decide)⟩ := by
    intro q x hx hf hq
    refine (concatenate_apply_piece (1 : Fin 2) [⟨_, x0⟩, ⟨_, x1⟩, ⟨_, x2⟩, ⟨_, x3⟩, ⟨_, x4⟩, ⟨_, x5⟩, ⟨_, x6⟩, ⟨_, x7⟩] h (ix2 r k) q.val q.isLt _ x hx rfl (128 * q.val) ?_ (ix2 r ⟨k.val % 128, Nat.mod_lt _ (by decide)⟩) ?_ ?_).trans ?_
    · fin_cases q <;> rfl
    · intro b hb
      fin_cases b
      · rfl
      · exact absurd rfl hb
    · show 128 * q.val + k.val % 128 = k.val; omega
    · rw [hf]; congr 1; exact Fin.ext hq
  have : k.val / 128 = 0 ∨ k.val / 128 = 1 ∨ k.val / 128 = 2 ∨ k.val / 128 = 3 ∨ k.val / 128 = 4 ∨ k.val / 128 = 5 ∨ k.val / 128 = 6 ∨ k.val / 128 = 7 := by omega
  rcases this with e | e | e | e | e | e | e | e
  · exact key 0 x0 rfl h0 e.symm
  · exact key 1 x1 rfl h1 e.symm
  · exact key 2 x2 rfl h2 e.symm
  · exact key 3 x3 rfl h3 e.symm
  · exact key 4 x4 rfl h4 e.symm
  · exact key 5 x5 rfl h5 e.symm
  · exact key 6 x6 rfl h6 e.symm
  · exact key 7 x7 rfl h7 e.symm

/-- The product of two matrices: the first's columns against the second's rows. -/
abbrev mmDims (n K m : ℕ) (wf : DotDims.WF (sl := ⟨2, ![n, K]⟩) (sr := ⟨2, ![K, m]⟩) (so := ⟨2, ![n, m]⟩) [1] [0] [0] [1] [] []) : DotDims ⟨2, ![n, K]⟩ ⟨2, ![K, m]⟩ ⟨2, ![n, m]⟩ where
  lhsContracting := [1]
  rhsContracting := [0]
  lhsNonContracting := [0]
  rhsNonContracting := [1]
  lhsBatch := []
  rhsBatch := []
  wf := wf
theorem mm_apply {n K m : ℕ} (wf) (p : Option ContractPrecision) {φ ψ : FTy} (A : FVec Ideal ⟨2, ![n, K]⟩ φ) (B : FVec Ideal ⟨2, ![K, m]⟩ ψ) (r : Fin n) (c : Fin m) :
    matmul (mmDims n K m wf) p A B (constant (F := Ideal) ⟨2, ![n, m]⟩ .f32 0x00000000#32) (ix2 r c) = ∑ k : Fin K, A (ix2 r k) * B (ix2 k c) := by
  simp only [matmul]
  rw [Ideal.matmul_constant_zero_apply, (mmDims n K m wf).sum_contr₁ (a := 1) rfl (K := K) rfl]
  refine Finset.sum_congr rfl fun k _ => congrArg₂ (· * ·) (congrArg A (funext fun a => ?_)) (congrArg B (funext fun a => ?_))
  · fin_cases a
    · refine Fin.ext ?_; unfold DotDims.lhsIdx
      rfl
    · exact Fin.ext ((mmDims n K m wf).lhsIdx_val_of_single rfl _ _)
  · fin_cases a
    · exact Fin.ext ((mmDims n K m wf).rhsIdx_val_of_single rfl _ _)
    · refine Fin.ext ?_; unfold DotDims.rhsIdx
      rfl

/-- A sum down the rows' entries. -/
theorem rowsum_apply {n m : ℕ} (x : FVec Ideal ⟨2, ![n, m]⟩ .f32) (h : (⟨2, ![n, m]⟩ : Shape).Reduces [1] ⟨1, ![n]⟩) (hφ hacc) (r : Fin n) :
    multiReduction .add [1] ⟨1, ![n]⟩ x 0x00000000#32 h hφ hacc (ix1 r) = ∑ k : Fin m, x (ix2 r k) := by
  refine (Ideal.multiReduction_add_single x _ h hφ hacc (ix1 r)).trans (Finset.sum_congr rfl fun k _ => congrArg x (funext fun a => ?_))
  fin_cases a <;> rfl

end Cert.FfnIdeal.Mlp

end
-- ==== Proof.FfnTile.lean ====
/-
One tile of the channel mixer over the extended reals, read at an index: the normed and modulated rows, the up-projection with
its history before it, the convolution, the gated activations, and the result rows.
-/
module

public import proofs.«01_k».proof.Proof.FfnSpec
public import proofs.«01_k».proof.Proof.FfnLay

@[expose] public section

set_option maxRecDepth 16384

noncomputable section

namespace Cert.FfnIdeal.Mlp

open Cert.FfnIdeal.Gen
open Idealize.ShloMosaic hiding ix1 ix2 ix3 ix4
open Idealize.ShloMosaic.ValueIdx

/-- The scale of a row of squares' sum, the epsilon, and the one, as the program's words spell them. -/
def cMean : EReal := Ideal.ofBits .f32 0x3A800000#32
def cEps : EReal := Ideal.ofBits .f32 0x358637BD#32
def cOne : EReal := Ideal.ofBits .f32 0x3F800000#32
def cLen : EReal := Ideal.ofBits .f32 0x44800000#32

theorem hE_apply (x2 : Vec Ideal S1x8x1024x128 .f32) (x3 : Vec Ideal S1x1024x1 .f32) (x4 : Vec Ideal S1x6x1024 .f32) (x5 : Vec Ideal S1x1024 .f32) (r k : Fin 1024) :
    hE x2 x3 x4 x5 (ix2 r k)
      = x2 (ix4 0 ⟨k.val / 128, by have := k.isLt; omega⟩ r ⟨k.val % 128, Nat.mod_lt _ (by decide)⟩)
          * Ideal.rsqrt (x3 (ix3 0 r 0) * cMean + cEps) * (x5 (ix2 0 k) * (cOne + x4 (ix3 0 4 k))) + x4 (ix3 0 3 k) := by
  unfold hE k0_pay36 k0_pay35
  dsimp only
  simp only [truncf_apply, addf_apply, mulf_apply]
  refine congrArg₂ (· + ·) (congrArg₂ (· * ·) (congrArg₂ (· * ·) ?_ ?_) ?_) ?_
  · exact slabs _ _ _ _ _ _ _ _ _ (fun j r l => x2 (ix4 0 j r l)) (fun r l => slab_at x2 0 0 (by decide) _ _ r l r (Nat.zero_add _).symm) (fun r l => slab_at x2 1 0 (by decide) _ _ r l r (Nat.zero_add _).symm) (fun r l => slab_at x2 2 0 (by decide) _ _ r l r (Nat.zero_add _).symm) (fun r l => slab_at x2 3 0 (by decide) _ _ r l r (Nat.zero_add _).symm) (fun r l => slab_at x2 4 0 (by decide) _ _ r l r (Nat.zero_add _).symm) (fun r l => slab_at x2 5 0 (by decide) _ _ r l r (Nat.zero_add _).symm) (fun r l => slab_at x2 6 0 (by decide) _ _ r l r (Nat.zero_add _).symm) (fun r l => slab_at x2 7 0 (by decide) _ _ r l r (Nat.zero_add _).symm) r k
  · refine (bcol _ _ r k).trans (congrArg Ideal.rsqrt (congrArg₂ (· + ·) (congrArg₂ (· * ·) ?_ rfl) rfl))
    refine (shapeCast_apply _ _ _ (ix3 (n0 := 1) (n1 := 1024) (n2 := 1) 0 r 0) ?_).trans (congrFun (View.ld_unit_zero (by funext a; fin_cases a <;> rfl) _ _) _)
    rw [Shape.rowMajor_val_three, Shape.rowMajor_val_two]
    show (0 * 1024 + r.val) * 1 + 0 = r.val * 1 + 0
    omega
  · refine (brow _ _ r k).trans (congrArg₂ (· * ·) ?_ (congrArg₂ (· + ·) rfl ?_))
    · rw [shapeCast_self]; exact congrFun (View.ld_unit_zero (by funext a; fin_cases a <;> rfl) _ _) _
    · exact row_at x4 4 (by decide) _ _ k
  · exact (brow _ _ r k).trans (row_at x4 3 (by decide) _ _ k)

/-- A row of the up-projection. -/
def UPr (h : FVec Ideal S1024x1024 .bf16) (x12 : Vec Ideal S1024x5632 .bf16) (r : Fin 1024) (f : Fin 5632) : EReal :=
  ∑ k : Fin 1024, h (ix2 r k) * x12 (ix2 k f)
theorem up_apply (h : FVec Ideal S1024x1024 .bf16) (x12 : Vec Ideal S1024x5632 .bf16) (k : ℕ) (hk : k < 22) (r : Fin 1024) (q : Fin 256) (f : Fin 5632) (hf : f.val = 256 * k + q.val) :
    k0_pay42 h (wcol x12 k hk) (ix2 r q) = UPr h x12 r f := by
  refine (mm_apply dot_S1024x1024_S1024x256_S1024x256_1_0_0_1_n_n_wf none h (wcol x12 k hk) r q).trans (Finset.sum_congr rfl fun i _ => congrArg₂ (· * ·) rfl ?_)
  refine ld_at _ _ _ _ _ _ fun a => ?_
  fin_cases a
  · show i.val = 0 + i.val; omega
  · exact hf

/-- What stands before the tile's rows: rows 7 and 15 of the carried history lead strand 0, the other strands are led by the tile's own last rows. -/
def lead (h : FVec Ideal S1024x1024 .bf16) (x12 : Vec Ideal S1024x5632 .bf16) (x20 : Vec Ideal S16x5632 .f32) (i : ℕ) (hi : i < 1040) (f : Fin 5632) : EReal :=
  if h16 : 16 ≤ i then UPr h x12 ⟨i - 16, by omega⟩ f
  else if i % 8 = 0 then x20 (ix2 ⟨i + 7 - i % 8, by omega⟩ f) else UPr h x12 ⟨1007 + i, by omega⟩ f

/-- Eight rows turned by one, the carried row put last before: the carried row leads. -/
theorem turn_apply (u : S1024x256.Idx → EReal) (c : S8x256.Idx → EReal) (o : ℕ) (ho : o + 8 ≤ 1024) (hs : S1024x256.Slices ![o, 0] S8x256) (hr hi) (i : Fin 8) (q : Fin 256) :
    dynamicRotate 0 1#32 none (select (cmpi .eq (iota .tc S8x256 32 [0] hi) (broadcast S8x256 7#32)) c (extractStridedSlice S8x256 ![o, 0] u hs)) hr (ix2 i q)
      = if hi0 : i.val = 0 then c (ix2 7 q) else u (ix2 ⟨o + i.val - 1, by have := i.isLt; omega⟩ q) := by
  have hk : ∀ (k : Fin 8), k.val = (i.val + 8 - 1) % 8 → dynamicRotate 0 1#32 none (select (cmpi .eq (iota .tc S8x256 32 [0] hi) (broadcast S8x256 7#32)) c (extractStridedSlice S8x256 ![o, 0] u hs)) hr (ix2 i q)
      = select (cmpi .eq (iota .tc S8x256 32 [0] hi) (broadcast S8x256 7#32)) c (extractStridedSlice S8x256 ![o, 0] u hs) (ix2 k q) := by
    intro k hk
    refine dynamicRotate_apply (s := S8x256) 0 1#32 _ hr (ix2 i q) (ix2 k q) fun b => ?_
    fin_cases b
    · exact hk
    · rfl
  have hil := i.isLt
  have hsel : ∀ k : Fin 8, (cmpi .eq (iota .tc S8x256 32 [0] hi) (broadcast S8x256 7#32)) (ix2 k q) = if k.val = 7 then 1#1 else 0#1 := by
    intro k
    show Scalar.cmpi .eq (BitVec.ofNat 32 (0 * 8 + k.val)) 7#32 = _
    fin_cases k <;> rfl
  by_cases h0 : i.val = 0
  · rw [hk 7 (by show 7 = (i.val + 8 - 1) % 8; omega), select_apply, hsel, dif_pos h0]; rfl
  · rw [hk ⟨i.val - 1, by omega⟩ (by show i.val - 1 = (i.val + 8 - 1) % 8; omega), select_apply, hsel, if_neg (by show ¬i.val - 1 = 7; omega), dif_neg h0]
    refine extractStridedSlice_apply _ u hs _ _ fun a => ?_
    fin_cases a
    · show o + i.val - 1 = o + (i.val - 1); omega
    · show q.val = 0 + q.val; omega

theorem past_apply (x20 : Vec Ideal S16x5632 .f32) (o : ℕ) (ho : o + 8 ≤ 16) (k : ℕ) (hk : k < 22) (q : Fin 256) (f : Fin 5632) (hf : f.val = 256 * k + q.val) :
    past x20 o ho k hk (ix2 7 q) = x20 (ix2 ⟨o + 7, by omega⟩ f) := by
  refine ld_at _ _ _ _ _ _ fun a => ?_
  fin_cases a
  · rfl
  · exact hf

theorem histE_apply (h : FVec Ideal S1024x1024 .bf16) (x12 : Vec Ideal S1024x5632 .bf16) (x20 : Vec Ideal S16x5632 .f32) (k : ℕ) (hk : k < 22) (i : Fin 1040) (q : Fin 256) (f : Fin 5632) (hf : f.val = 256 * k + q.val) :
    histE h x12 x20 k hk (ix2 i q) = lead h x12 x20 i.val i.isLt f := by
  have hi := i.isLt
  unfold histE k0_pay44 lead
  dsimp only
  by_cases h16 : 16 ≤ i.val
  · rw [dif_pos h16]
    refine (concatenate_apply_piece (0 : Fin 2) _ _ (ix2 i q) 2 (by show 2 < 3; decide) S1024x256 (k0_pay42 h (wcol x12 k hk)) rfl rfl 16 rfl (ix2 ⟨i.val - 16, by omega⟩ q) ?_ ?_).trans (up_apply h x12 k hk _ q f hf)
    · intro b hb; fin_cases b
      · exact absurd rfl hb
      · rfl
    · show 16 + (i.val - 16) = i.val; omega
  rw [dif_neg h16]
  by_cases h8 : 8 ≤ i.val
  · refine (concatenate_apply_piece (0 : Fin 2) _ _ (ix2 i q) 1 (by show 1 < 3; decide) S8x256 _ rfl rfl 8 rfl (ix2 ⟨i.val - 8, by omega⟩ q) ?_ ?_).trans ?_
    · intro b hb; fin_cases b
      · exact absurd rfl hb
      · rfl
    · show 8 + (i.val - 8) = i.val; omega
    · refine (turn_apply _ _ 1016 (by decide) _ _ _ ⟨i.val - 8, by omega⟩ q).trans ?_
      by_cases h0 : i.val = 8
      · rw [dif_pos (by show i.val - 8 = 0; omega), if_pos (by omega), past_apply x20 8 (by decide) k hk q f hf]
        exact congrArg (fun n => x20 (ix2 n f)) (Fin.ext (by show 15 = i.val + 7 - i.val % 8; omega))
      · rw [dif_neg (by show ¬i.val - 8 = 0; omega), if_neg (by omega), up_apply h x12 k hk _ q f hf]
        exact congrArg (fun n => UPr h x12 n f) (Fin.ext (by show 1016 + (i.val - 8) - 1 = 1007 + i.val; omega))
  · refine Eq.trans (concatenate_apply_piece (0 : Fin 2) _ _ (ix2 i q) 0 (by show 0 < 3; decide) S8x256 _ rfl rfl 0 rfl (ix2 ⟨i.val, by omega⟩ q) ?_ ?_) ?_
    · intro b hb; fin_cases b
      · exact absurd rfl hb
      · rfl
    · show 0 + i.val = i.val; omega
    · refine (turn_apply _ _ 1008 (by decide) _ _ _ ⟨i.val, by omega⟩ q).trans ?_
      by_cases h0 : i.val = 0
      · rw [dif_pos h0, if_pos (by omega), past_apply x20 0 (by decide) k hk q f hf]
        exact congrArg (fun n => x20 (ix2 n f)) (Fin.ext (by show 0 + 7 = i.val + 7 - i.val % 8; omega))
      · rw [dif_neg h0, if_neg (by omega), up_apply h x12 k hk _ q f hf]
        exact congrArg (fun n => UPr h x12 n f) (Fin.ext (by show 1008 + i.val - 1 = 1007 + i.val; omega))

/-- The convolution of three taps over the rows and what stands before them. -/
def CVr (h : FVec Ideal S1024x1024 .bf16) (x7 : Vec Ideal S3x5632 .f32) (x8 : Vec Ideal S1x5632 .f32) (x12 : Vec Ideal S1024x5632 .bf16) (x20 : Vec Ideal S16x5632 .f32) (r : Fin 1024) (f : Fin 5632) : EReal :=
  x8 (ix2 0 f) + x7 (ix2 0 f) * lead h x12 x20 r.val (by have := r.isLt; omega) f + x7 (ix2 1 f) * lead h x12 x20 (8 + r.val) (by have := r.isLt; omega) f
    + x7 (ix2 2 f) * lead h x12 x20 (16 + r.val) (by have := r.isLt; omega) f

theorem tap_apply (x7 : Vec Ideal S3x5632 .f32) (o : ℕ) (ho : o + 1 ≤ 3) (k : ℕ) (hk : k < 22) (q : Fin 256) (f : Fin 5632) (hf : f.val = 256 * k + q.val) :
    tap x7 o ho k hk (ix2 0 q) = x7 (ix2 ⟨o, by omega⟩ f) := by
  refine ld_at _ _ _ _ _ _ fun a => ?_
  fin_cases a
  · rfl
  · exact hf
theorem bias_apply (x8 : Vec Ideal S1x5632 .f32) (k : ℕ) (hk : k < 22) (q : Fin 256) (f : Fin 5632) (hf : f.val = 256 * k + q.val) :
    bias x8 k hk (ix2 0 q) = x8 (ix2 0 f) := by
  refine ld_at _ _ _ _ _ _ fun a => ?_
  fin_cases a
  · rfl
  · exact hf
/-- The history shifted by a whole number of rows. -/
theorem shift_apply (h : FVec Ideal S1024x1024 .bf16) (x12 : Vec Ideal S1024x5632 .bf16) (x20 : Vec Ideal S16x5632 .f32) (k : ℕ) (hk : k < 22) (o : ℕ) (ho : o + 1024 ≤ 1040) (hs : S1040x256.Slices ![o, 0] S1024x256) (r : Fin 1024) (q : Fin 256) (f : Fin 5632) (hf : f.val = 256 * k + q.val) :
    extractStridedSlice S1024x256 ![o, 0] (histE h x12 x20 k hk) hs (ix2 r q) = lead h x12 x20 (o + r.val) (by have := r.isLt; omega) f := by
  refine (extractStridedSlice_apply _ _ _ _ (ix2 ⟨o + r.val, by have := r.isLt; omega⟩ q) fun a => ?_).trans (histE_apply h x12 x20 k hk _ q f hf)
  fin_cases a
  · rfl
  · show q.val = 0 + q.val; omega
theorem lead_congr (h : FVec Ideal S1024x1024 .bf16) (x12 : Vec Ideal S1024x5632 .bf16) (x20 : Vec Ideal S16x5632 .f32) {i j : ℕ} (e : i = j) (hi : i < 1040) (hj : j < 1040) (f : Fin 5632) :
    lead h x12 x20 i hi f = lead h x12 x20 j hj f := by subst e; rfl

theorem convE_apply (h : FVec Ideal S1024x1024 .bf16) (x7 : Vec Ideal S3x5632 .f32) (x8 : Vec Ideal S1x5632 .f32) (x12 : Vec Ideal S1024x5632 .bf16) (x20 : Vec Ideal S16x5632 .f32) (k : ℕ) (hk : k < 22) (r : Fin 1024) (q : Fin 256) (f : Fin 5632) (hf : f.val = 256 * k + q.val) :
    convE h x7 x8 x12 x20 k hk (ix2 r q) = CVr h x7 x8 x12 x20 r f := by
  unfold convE k0_pay41 convE0 k0_pay45
  dsimp only
  simp only [addf_apply, mulf_apply, shapeCast_self]
  refine congrArg₂ (· + ·) (congrArg₂ (· + ·) (congrArg₂ (· + ·) ?_ (congrArg₂ (· * ·) ?_ ?_)) (congrArg₂ (· * ·) ?_ ?_)) (congrArg₂ (· * ·) ?_ ?_)
  · exact (brow _ _ r q).trans (bias_apply x8 k hk q f hf)
  · exact (brow _ _ r q).trans (tap_apply x7 0 (by decide) k hk q f hf)
  · exact (shift_apply h x12 x20 k hk 0 (by decide) _ r q f hf).trans (lead_congr h x12 x20 (Nat.zero_add _) _ _ f)
  · exact (brow _ _ r q).trans (tap_apply x7 1 (by decide) k hk q f hf)
  · exact shift_apply h x12 x20 k hk 8 (by decide) _ r q f hf
  · exact (brow _ _ r q).trans (tap_apply x7 2 (by decide) k hk q f hf)
  · exact shift_apply h x12 x20 k hk 16 (by decide) _ r q f hf

/-- The activations: the gate's column times its logistic, times the value's column. -/
theorem ACT_apply (h : FVec Ideal S1024x1024 .bf16) (x7 : Vec Ideal S3x5632 .f32) (x8 : Vec Ideal S1x5632 .f32) (x12 : Vec Ideal S1024x5632 .bf16) (x20 : Vec Ideal S16x5632 .f32) (r : Fin 1024) (f : Fin 2816) :
    ACT h x7 x8 x12 x20 (ix2 r f)
      = CVr h x7 x8 x12 x20 r ⟨f.val, by have := f.isLt; omega⟩ * Ideal.logistic (CVr h x7 x8 x12 x20 r ⟨f.val, by have := f.isLt; omega⟩)
          * CVr h x7 x8 x12 x20 r ⟨f.val + 2816, by have := f.isLt; omega⟩ := by
  have hf := f.isLt
  have eg := convE_apply h x7 x8 x12 x20 (f.val / 256) (by omega) r ⟨f.val % 256, Nat.mod_lt _ (by decide)⟩ ⟨f.val, by omega⟩ (by show f.val = 256 * (f.val / 256) + f.val % 256; omega)
  have ev := convE_apply h x7 x8 x12 x20 (f.val / 256 + 11) (by omega) r ⟨f.val % 256, Nat.mod_lt _ (by decide)⟩ ⟨f.val + 2816, by omega⟩ (by show f.val + 2816 = 256 * (f.val / 256 + 11) + f.val % 256; omega)
  unfold ACT actB k0_pay46
  dsimp only
  rw [shapeCast_self]
  exact congrArg₂ (· * ·) (congrArg₂ (· * ·) eg (congrArg Ideal.logistic eg)) ev

/-- What a tile leaves: the last sixteen rows of its up-projection. -/
theorem TAIL_apply (h : FVec Ideal S1024x1024 .bf16) (x12 : Vec Ideal S1024x5632 .bf16) (r : Fin 16) (f : Fin 5632) :
    TAIL h x12 (ix2 r f) = UPr h x12 ⟨1008 + r.val, by have := r.isLt; omega⟩ f := by
  have hf := f.isLt
  unfold TAIL tailB k0_pay43
  dsimp only
  rw [shapeCast_self]
  refine (extractStridedSlice_apply _ _ _ _ (ix2 ⟨1008 + r.val, by have := r.isLt; omega⟩ ⟨f.val % 256, Nat.mod_lt _ (by decide)⟩) fun a => ?_).trans
    (up_apply h x12 (f.val / 256) (by omega) _ _ f (by show f.val = 256 * (f.val / 256) + f.val % 256; omega))
  fin_cases a
  · rfl
  · show f.val % 256 = 0 + f.val % 256; omega

/-- A row before the last norm: the row of the block plus the gated down-projection. -/
def Zr (x2 : Vec Ideal S1x8x1024x128 .f32) (g : FVec Ideal S1x1024 .f32) (A : FVec Ideal S1024x2816 .bf16) (x13 : Vec Ideal S2816x1024 .bf16) (r k : Fin 1024) : EReal :=
  x2 (ix4 0 ⟨k.val / 128, by have := k.isLt; omega⟩ r ⟨k.val % 128, Nat.mod_lt _ (by decide)⟩) + g (ix2 0 k) * ∑ f : Fin 2816, A (ix2 r f) * x13 (ix2 f k)

theorem down_apply (A : FVec Ideal S1024x2816 .bf16) (x13 : Vec Ideal S2816x1024 .bf16) (p : ℕ) (hp : p < 4) (r : Fin 256) (k : Fin 1024) :
    k0_pay169 (View.ld A (Rect.unit (s := S1024x2816) ![256 * p, 0] S256x2816.size (inb_rows p hp))) (View.ld x13 (Rect.unit (s := S2816x1024) ![0, 0] S2816x1024.size inb_S2816x1024_S2816x1024_0_0)) (ix2 r k)
      = ∑ f : Fin 2816, A (ix2 ⟨256 * p + r.val, by have := r.isLt; omega⟩ f) * x13 (ix2 f k) := by
  refine (mm_apply dot_S256x2816_S2816x1024_S256x1024_1_0_0_1_n_n_wf none _ _ r k).trans (Finset.sum_congr rfl fun f _ => congrArg₂ (· * ·) ?_ ?_)
  · refine ld_at (S := S1024x2816) _ _ _ _ _ _ fun a => ?_
    fin_cases a
    · rfl
    · show f.val = 0 + f.val; omega
  · exact congrFun (View.ld_unit_zero (by funext a; fin_cases a <;> rfl) _ _) _

/-- The column of the rows' sums. -/
theorem sums_apply (x : FVec Ideal S256x1024 .f32) (hφ hacc) (s : Fin 256) :
    shapeCast S256x1 (multiReduction .add [1] S256 x 0x00000000#32 reduces_S256x1024_S256 hφ hacc) shapeCasts_S256_S256x1 (ix2 s 0) = ∑ j : Fin 1024, x (ix2 s j) := by
  refine (shapeCast_apply _ _ _ (ix1 s) ?_).trans (rowsum_apply x reduces_S256x1024_S256 hφ hacc s)
  rw [Shape.rowMajor_val_one, Shape.rowMajor_val_two]
  show s.val = s.val * 1 + 0; omega

theorem OUTg_apply (g : FVec Ideal S1x1024 .f32) (A : FVec Ideal S1024x2816 .bf16) (x2 : Vec Ideal S1x8x1024x128 .f32) (x10 : Vec Ideal S1x1024 .f32) (x13 : Vec Ideal S2816x1024 .bf16) (r k : Fin 1024) :
    OUTg g A x2 x10 x13 (ix2 r k)
      = Zr x2 g A x13 r k * Ideal.rsqrt (Ideal.div (∑ j : Fin 1024, Zr x2 g A x13 r j * Zr x2 g A x13 r j) cLen + cEps) * x10 (ix2 0 k) := by
  have hr := r.isLt
  obtain ⟨p, hp, s, hs⟩ : ∃ p, ∃ hp : p < 4, ∃ s : Fin 256, r = ⟨256 * p + s.val, by have := s.isLt; omega⟩ :=
    ⟨r.val / 256, by omega, ⟨r.val % 256, Nat.mod_lt _ (by decide)⟩, Fin.ext (by show r.val = 256 * (r.val / 256) + r.val % 256; omega)⟩
  have hsl := s.isLt
  have ez : ∀ j : Fin 1024, k0_pay170 g (k0_pay169 (View.ld A (Rect.unit (s := S1024x2816) ![256 * p, 0] S256x2816.size (inb_rows p hp))) (View.ld x13 (Rect.unit (s := S2816x1024) ![0, 0] S2816x1024.size inb_S2816x1024_S2816x1024_0_0)))
      (View.ld x2 (Rect.unit (s := S1x8x1024x128) ![0, 0, 256 * p, 0] S1x1x256x128.size (inb_slab 0 p (by decide) hp))) (View.ld x2 (Rect.unit (s := S1x8x1024x128) ![0, 1, 256 * p, 0] S1x1x256x128.size (inb_slab 1 p (by decide) hp))) (View.ld x2 (Rect.unit (s := S1x8x1024x128) ![0, 2, 256 * p, 0] S1x1x256x128.size (inb_slab 2 p (by decide) hp))) (View.ld x2 (Rect.unit (s := S1x8x1024x128) ![0, 3, 256 * p, 0] S1x1x256x128.size (inb_slab 3 p (by decide) hp))) (View.ld x2 (Rect.unit (s := S1x8x1024x128) ![0, 4, 256 * p, 0] S1x1x256x128.size (inb_slab 4 p (by decide) hp))) (View.ld x2 (Rect.unit (s := S1x8x1024x128) ![0, 5, 256 * p, 0] S1x1x256x128.size (inb_slab 5 p (by decide) hp))) (View.ld x2 (Rect.unit (s := S1x8x1024x128) ![0, 6, 256 * p, 0] S1x1x256x128.size (inb_slab 6 p (by decide) hp))) (View.ld x2 (Rect.unit (s := S1x8x1024x128) ![0, 7, 256 * p, 0] S1x1x256x128.size (inb_slab 7 p (by decide) hp))) (ix2 s j) = Zr x2 g A x13 r j := by
    intro j
    unfold k0_pay170
    dsimp only
    simp only [addf_apply, mulf_apply]
    rw [hs]
    refine congrArg₂ (· + ·) ?_ (congrArg₂ (· * ·) (brow _ _ s j) (down_apply A x13 p hp s j))
    exact slabs _ _ _ _ _ _ _ _ _ (fun j s l => x2 (ix4 0 j ⟨256 * p + s.val, by have := s.isLt; omega⟩ l)) (fun r l => slab_at x2 0 (256 * p) (by decide) _ _ r l ⟨256 * p + r.val, by have := r.isLt; omega⟩ rfl) (fun r l => slab_at x2 1 (256 * p) (by decide) _ _ r l ⟨256 * p + r.val, by have := r.isLt; omega⟩ rfl) (fun r l => slab_at x2 2 (256 * p) (by decide) _ _ r l ⟨256 * p + r.val, by have := r.isLt; omega⟩ rfl) (fun r l => slab_at x2 3 (256 * p) (by decide) _ _ r l ⟨256 * p + r.val, by have := r.isLt; omega⟩ rfl) (fun r l => slab_at x2 4 (256 * p) (by decide) _ _ r l ⟨256 * p + r.val, by have := r.isLt; omega⟩ rfl) (fun r l => slab_at x2 5 (256 * p) (by decide) _ _ r l ⟨256 * p + r.val, by have := r.isLt; omega⟩ rfl) (fun r l => slab_at x2 6 (256 * p) (by decide) _ _ r l ⟨256 * p + r.val, by have := r.isLt; omega⟩ rfl) (fun r l => slab_at x2 7 (256 * p) (by decide) _ _ r l ⟨256 * p + r.val, by have := r.isLt; omega⟩ rfl) s j
  unfold OUTg
  dsimp only
  have eq : ∀ (p' : ℕ) (hp' : p' < 4), p' = p → outB g A x2 x10 x13 p' hp' = outB g A x2 x10 x13 p hp := by intro p' hp' e; subst e; rfl
  rw [eq _ _ (by show r.val / 256 = p; rw [hs]; show (256 * p + s.val) / 256 = p; omega)]
  unfold outB k0_pay172
  dsimp only
  refine (shapeCast_apply _ _ _ (ix3 (n0 := 32) (n1 := 8) (n2 := 1024) ⟨s.val / 8, by omega⟩ ⟨s.val % 8, Nat.mod_lt _ (by decide)⟩ k) ?_).trans
    ((shapeCast_apply _ _ _ (ix2 (n0 := 256) (n1 := 1024) s k) ?_).trans ?_)
  · rw [Shape.rowMajor_val_four, Shape.rowMajor_val_three]
    show (s.val / 8 * 8 + s.val % 8) * 1024 + k.val = ((0 * 32 + r.val / 8 % 32) * 8 + r.val % 8) * 1024 + k.val
    rw [hs]
    show (s.val / 8 * 8 + s.val % 8) * 1024 + k.val = ((0 * 32 + (256 * p + s.val) / 8 % 32) * 8 + (256 * p + s.val) % 8) * 1024 + k.val
    omega
  · rw [Shape.rowMajor_val_three, Shape.rowMajor_val_two]
    show s.val * 1024 + k.val = (s.val / 8 * 8 + s.val % 8) * 1024 + k.val
    omega
  · simp only [mulf_apply]
    refine congrArg₂ (· * ·) (congrArg₂ (· * ·) (ez k) ?_) ?_
    · refine (bcol _ _ s k).trans (congrArg Ideal.rsqrt ?_)
      unfold k0_pay171
      dsimp only
      simp only [addf_apply, divf_apply]
      refine congrArg₂ (· + ·) (congrArg₂ Ideal.div ?_ rfl) rfl
      exact (sums_apply _ _ _ s).trans (Finset.sum_congr rfl fun j _ => congrArg₂ (· * ·) (ez j) (ez j))
    · refine (brow _ _ s k).trans ?_
      rw [shapeCast_self]; exact congrFun (View.ld_unit_zero (by funext a; fin_cases a <;> rfl) _ _) _

theorem gateE_apply (x4 : Vec Ideal S1x6x1024 .f32) (k : Fin 1024) : gateE x4 (ix2 0 k) = x4 (ix3 0 5 k) := row_at x4 5 (by decide) _ _ k

end Cert.FfnIdeal.Mlp

end
-- ==== Proof.FfnArr.lean ====
/-
What the channel mixer's blocks hold, by the arguments' own coordinates: tile `t` is batch `t / 4`, and its row `r` is the time step
`timeOf t r`, for a tile's rows are eight strands of 128 steps, the strands side by side.
-/
module

public import proofs.«01_k».proof.Proof.FfnFrame
public import proofs.«01_k».proof.Proof.FfnTile
public import Idealize.ShloMosaic.Lib.Pipeline.ValueKit

@[expose] public section

set_option maxRecDepth 16384

noncomputable section

namespace Cert.FfnIdeal.Mlp

open Cert.FfnIdeal.Gen
open Idealize.ShloMosaic hiding ix1 ix2 ix3 ix4 ix5
open Idealize.ShloMosaic.ValueIdx Idealize.ShloMosaic.TcCoe Idealize.ShloMosaic.StableHlo
open Idealize.SL Idealize.SL.RA Idealize.SL.BI

variable (m : (ℓ : Loc nD τ sig) → Buf (Elt Ideal) ℓ) (c : Dev nD)

/-- The arguments, at their own shapes. -/
abbrev aX : FVec Ideal S8x4096x1024 .f32 := m ((c : Thread nD τ).loc main_arg0)
abbrev aMod : FVec Ideal S8x6x1024 .f32 := m ((c : Thread nD τ).loc main_arg1)
abbrev aG2 : FVec Ideal S1024 .f32 := m ((c : Thread nD τ).loc main_arg2)
abbrev aUp : FVec Ideal S1024x5632 .f32 := m ((c : Thread nD τ).loc main_arg3)
abbrev aTap : FVec Ideal S3x5632 .f32 := m ((c : Thread nD τ).loc main_arg4)
abbrev aBias : FVec Ideal S5632 .f32 := m ((c : Thread nD τ).loc main_arg5)
abbrev aDown : FVec Ideal S2816x1024 .f32 := m ((c : Thread nD τ).loc main_arg6)
abbrev aGf : FVec Ideal S1024 .f32 := m ((c : Thread nD τ).loc main_arg7)

/-- The time step of a tile's row. -/
def timeOf (t r : ℕ) : ℕ := t % 4 * 1024 + r % 8 * 128 + r / 8
theorem timeOf_lt (t : ℕ) (r : Fin 1024) : timeOf t r.val < 4096 := by have := r.isLt; unfold timeOf; omega

theorem V_main_v2 : (V m c main_v2 : S8x8x4096x128.Idx → EReal)
    = shapeCast S8x8x4096x128 (transpose S8x8x4x128x8x128 [0, 4, 1, 3, 2, 5] (shapeCast S8x4x8x128x8x128 (aX m c) shapeCasts_S8x4096x1024_S8x4x8x128x8x128) transposes_S8x4x8x128x8x128_S8x8x4x128x8x128_0_4_1_3_2_5) shapeCasts_S8x8x4x128x8x128_S8x8x4096x128 := by
  after_results_simp <;> rfl
theorem V_main_v8 : (V m c main_v8 : S8x4096x1.Idx → EReal)
    = shapeCast S8x4096x1 (transpose S8x4x128x8x1 [0, 1, 3, 2, 4] (shapeCast S8x4x8x128x1 (broadcastInDim S8x4096x1 ![0, 1] bcast_S8x4096_S8x4096x1_0_1
        (Host.reduceAdd (mulf (aX m c) (aX m c)) (constant (F := Ideal) S_ .f32 0x00000000#32) reducesTo_S8x4096x1024_S8x4096_d2 h_S_)) shapeCasts_S8x4096x1_S8x4x8x128x1) transposes_S8x4x8x128x1_S8x4x128x8x1_0_1_3_2_4) shapeCasts_S8x4x128x8x1_S8x4096x1 := by
  after_results_simp <;> rfl
theorem V_main_v9 : (V m c main_v9 : S1x1024.Idx → EReal) = shapeCast S1x1024 (aG2 m c) shapeCasts_S1024_S1x1024 := by
  rfl
theorem V_main_v10 : (V m c main_v10 : S1x5632.Idx → EReal) = shapeCast S1x5632 (aBias m c) shapeCasts_S5632_S1x5632 := by
  rfl
theorem V_main_v11 : (V m c main_v11 : S1x1024.Idx → EReal) = shapeCast S1x1024 (aGf m c) shapeCasts_S1024_S1x1024 := by
  rfl

/-- An index of six axes, and where it stands in row-major order. -/
def ix6 {n0 n1 n2 n3 n4 n5 : ℕ} (a : Fin n0) (b : Fin n1) (d : Fin n2) (e : Fin n3) (f : Fin n4) (g : Fin n5) : (⟨6, ![n0, n1, n2, n3, n4, n5]⟩ : Shape).Idx := fun
  | ⟨0, _⟩ => a | ⟨1, _⟩ => b | ⟨2, _⟩ => d | ⟨3, _⟩ => e | ⟨4, _⟩ => f | ⟨5, _⟩ => g
theorem rowMajor_ix6 {n0 n1 n2 n3 n4 n5 : ℕ} (a : Fin n0) (b : Fin n1) (d : Fin n2) (e : Fin n3) (f : Fin n4) (g : Fin n5) :
    ((⟨6, ![n0, n1, n2, n3, n4, n5]⟩ : Shape).rowMajor (ix6 a b d e f g)).val = ((((a.val * n1 + b.val) * n2 + d.val) * n3 + e.val) * n4 + f.val) * n5 + g.val := by
  rw [Shape.rowMajor_val_succ, Shape.rowMajor_val_five]
  have : (⟨5, fun i => (![n0, n1, n2, n3, n4, n5] : Fin 6 → ℕ) i.succ⟩ : Shape).numel = n1 * (n2 * (n3 * (n4 * n5))) := by
    simp [Shape.numel, Fin.prod_univ_succ]
  rw [this]
  show a.val * (n1 * (n2 * (n3 * (n4 * n5)))) + ((((b.val * n2 + d.val) * n3 + e.val) * n4 + f.val) * n5 + g.val) = _
  ring

theorem index_0 : ∀ t : Fin cfg0.N, win0_0.index t = ![t.val / 4, 0, t.val % 4, 0] := (by decide +kernel : ∀ t : Fin grid0.N, _)
theorem index_1 : ∀ t : Fin cfg0.N, win0_1.index t = ![t.val / 4, t.val % 4, 0] := (by decide +kernel : ∀ t : Fin grid0.N, _)
theorem index_2 : ∀ t : Fin cfg0.N, win0_2.index t = ![t.val / 4, 0, 0] := (by decide +kernel : ∀ t : Fin grid0.N, _)
theorem tile_lt (t : Fin cfg0.N) : t.val < 32 := lt_of_lt_of_eq t.isLt N_0

theorem blk0 (t : Fin cfg0.N) (n : Fin 8) (r : Fin 1024) (l : Fin 128) :
    (iblk m c 0 t : S1x8x1024x128.Idx → EReal) (ix4 0 n r l)
      = aX m c (ix3 ⟨t.val / 4, by have := tile_lt t; omega⟩ ⟨timeOf t.val r.val, timeOf_lt _ r⟩ ⟨n.val * 128 + l.val, by have := n.isLt; have := l.isLt; omega⟩) := by
  have ht := tile_lt t
  have hr := r.isLt
  have e : (iblk m c 0 t : S1x8x1024x128.Idx → EReal) (ix4 0 n r l) = (V m c main_v2 : S8x8x4096x128.Idx → EReal) (ix4 ⟨t.val / 4, by omega⟩ n ⟨t.val % 4 * 1024 + r.val, by omega⟩ l) := by
    show (V m c main_v2 : S8x8x4096x128.Idx → EReal) ((win0_0.blk t).view.emb (ix4 0 n r l)) = _
    congr 1
    blk_ext [index_0 t]
  rw [e, V_main_v2]
  refine (shapeCast_apply _ _ _ (ix6 (n0 := 8) (n1 := 8) (n2 := 4) (n3 := 128) (n4 := 8) (n5 := 128) ⟨t.val / 4, by omega⟩ n ⟨t.val % 4, by omega⟩ ⟨r.val / 8, by omega⟩ ⟨r.val % 8, by omega⟩ l) ?_).trans
    ((transpose_apply _ _ _ _ (ix6 (n0 := 8) (n1 := 4) (n2 := 8) (n3 := 128) (n4 := 8) (n5 := 128) ⟨t.val / 4, by omega⟩ ⟨t.val % 4, by omega⟩ ⟨r.val % 8, by omega⟩ ⟨r.val / 8, by omega⟩ n l) ?_).trans
    (shapeCast_apply _ _ _ _ ?_))
  · rw [rowMajor_ix6, Shape.rowMajor_val_four]
    show ((((t.val / 4 * 8 + n.val) * 4 + t.val % 4) * 128 + r.val / 8) * 8 + r.val % 8) * 128 + l.val = ((t.val / 4 * 8 + n.val) * 4096 + (t.val % 4 * 1024 + r.val)) * 128 + l.val
    omega
  · intro b; fin_cases b <;> rfl
  · rw [rowMajor_ix6, Shape.rowMajor_val_three]
    show (t.val / 4 * 4096 + timeOf t.val r.val) * 1024 + (n.val * 128 + l.val) = ((((t.val / 4 * 4 + t.val % 4) * 8 + r.val % 8) * 128 + r.val / 8) * 8 + n.val) * 128 + l.val
    unfold timeOf; omega

/-- The host's sum of a row's squares. -/
theorem ssq_apply (x : FVec Ideal S8x4096x1024 .f32) (b : Fin 8) (t : Fin 4096) :
    Host.reduceAdd x (constant (F := Ideal) S_ .f32 0x00000000#32) reducesTo_S8x4096x1024_S8x4096_d2 h_S_ (ix2 b t) = ∑ k : Fin 1024, x (ix3 b t k) := by
  simp only [Host.reduceAdd, Ideal.hostReduceAdd_def]
  rw [Ideal.hostReduceAdd_single reducesTo_S8x4096x1024_S8x4096_d2 (by decide)]
  rw [constant_apply, Ideal.ofBits_zero_f32, zero_add]
  exact Finset.sum_congr rfl fun k _ => congrArg x (funext fun a => by fin_cases a <;> rfl)

theorem blk1 (t : Fin cfg0.N) (r : Fin 1024) :
    (iblk m c 1 t : S1x1024x1.Idx → EReal) (ix3 0 r 0)
      = ∑ k : Fin 1024, aX m c (ix3 ⟨t.val / 4, by have := tile_lt t; omega⟩ ⟨timeOf t.val r.val, timeOf_lt _ r⟩ k) * aX m c (ix3 ⟨t.val / 4, by have := tile_lt t; omega⟩ ⟨timeOf t.val r.val, timeOf_lt _ r⟩ k) := by
  have ht := tile_lt t
  have hr := r.isLt
  have e : (iblk m c 1 t : S1x1024x1.Idx → EReal) (ix3 0 r 0) = (V m c main_v8 : S8x4096x1.Idx → EReal) (ix3 ⟨t.val / 4, by omega⟩ ⟨t.val % 4 * 1024 + r.val, by omega⟩ 0) := by
    show (V m c main_v8 : S8x4096x1.Idx → EReal) ((win0_1.blk t).view.emb (ix3 0 r 0)) = _
    congr 1
    blk_ext [index_1 t]
  rw [e, V_main_v8]
  refine (shapeCast_apply _ _ _ (ix5 (n0 := 8) (n1 := 4) (n2 := 128) (n3 := 8) (n4 := 1) ⟨t.val / 4, by omega⟩ ⟨t.val % 4, by omega⟩ ⟨r.val / 8, by omega⟩ ⟨r.val % 8, by omega⟩ 0) ?_).trans
    ((transpose_apply _ _ _ _ (ix5 (n0 := 8) (n1 := 4) (n2 := 8) (n3 := 128) (n4 := 1) ⟨t.val / 4, by omega⟩ ⟨t.val % 4, by omega⟩ ⟨r.val % 8, by omega⟩ ⟨r.val / 8, by omega⟩ 0) ?_).trans
    ((shapeCast_apply _ _ _ (ix3 (n0 := 8) (n1 := 4096) (n2 := 1) ⟨t.val / 4, by omega⟩ ⟨timeOf t.val r.val, timeOf_lt _ r⟩ 0) ?_).trans
    ((broadcastInDim_apply _ _ _ _ (ix2 ⟨t.val / 4, by omega⟩ ⟨timeOf t.val r.val, timeOf_lt _ r⟩) ?_).trans (ssq_apply _ _ _))))
  · rw [Shape.rowMajor_val_five, Shape.rowMajor_val_three]
    show (((t.val / 4 * 4 + t.val % 4) * 128 + r.val / 8) * 8 + r.val % 8) * 1 + 0 = (t.val / 4 * 4096 + (t.val % 4 * 1024 + r.val)) * 1 + 0
    omega
  · intro b; fin_cases b <;> rfl
  · rw [Shape.rowMajor_val_five, Shape.rowMajor_val_three]
    show (t.val / 4 * 4096 + timeOf t.val r.val) * 1 + 0 = (((t.val / 4 * 4 + t.val % 4) * 8 + r.val % 8) * 128 + r.val / 8) * 1 + 0
    unfold timeOf; omega
  · intro a; fin_cases a <;> rfl

theorem blk2 (t : Fin cfg0.N) (j : Fin 6) (k : Fin 1024) :
    (iblk m c 2 t : S1x6x1024.Idx → EReal) (ix3 0 j k) = aMod m c (ix3 ⟨t.val / 4, by have := tile_lt t; omega⟩ j k) := by
  have ht := tile_lt t
  refine Eq.trans ?_ (congrFun (V_main_arg1 m c) _)
  show (V m c main_arg1 : S8x6x1024.Idx → EReal) ((win0_2.blk t).view.emb (ix3 0 j k)) = _
  congr 1
  blk_ext [index_2 t]

/-- A vector laid out as one row. -/
theorem row_of_vec {α : Type} {n : ℕ} (x : (⟨1, ![n]⟩ : Shape).Idx → α) (h : (⟨1, ![n]⟩ : Shape).ShapeCasts ⟨2, ![1, n]⟩) (k : Fin n) :
    shapeCast (⟨2, ![1, n]⟩ : Shape) x h (ix2 0 k) = x (ix1 k) := by
  refine shapeCast_apply _ _ _ _ ?_
  rw [Shape.rowMajor_val_one, Shape.rowMajor_val_two]
  show k.val = 0 * n + k.val; omega

theorem index_3 : ∀ t : Fin cfg0.N, win0_3.index t = ![0, 0] := (by decide +kernel : ∀ t : Fin grid0.N, _)
theorem blk3 (t : Fin cfg0.N) (k : Fin 1024) : (iblk m c 3 t : S1x1024.Idx → EReal) (ix2 0 k) = aG2 m c (ix1 k) := by
  have e : (iblk m c 3 t : S1x1024.Idx → EReal) (ix2 0 k) = (V m c main_v9 : S1x1024.Idx → EReal) (ix2 0 k) := by
    show (V m c main_v9 : S1x1024.Idx → EReal) ((win0_3.blk t).view.emb (ix2 0 k)) = _
    congr 1
    blk_ext [index_3 t]
  rw [e, V_main_v9]
  exact row_of_vec _ _ k

theorem index_5 : ∀ t : Fin cfg0.N, win0_5.index t = ![0, 0] := (by decide +kernel : ∀ t : Fin grid0.N, _)
theorem blk5 (t : Fin cfg0.N) (k : Fin 5632) : (iblk m c 5 t : S1x5632.Idx → EReal) (ix2 0 k) = aBias m c (ix1 k) := by
  have e : (iblk m c 5 t : S1x5632.Idx → EReal) (ix2 0 k) = (V m c main_v10 : S1x5632.Idx → EReal) (ix2 0 k) := by
    show (V m c main_v10 : S1x5632.Idx → EReal) ((win0_5.blk t).view.emb (ix2 0 k)) = _
    congr 1
    blk_ext [index_5 t]
  rw [e, V_main_v10]
  exact row_of_vec _ _ k

theorem index_6 : ∀ t : Fin cfg0.N, win0_6.index t = ![0, 0] := (by decide +kernel : ∀ t : Fin grid0.N, _)
theorem blk6 (t : Fin cfg0.N) (k : Fin 1024) : (iblk m c 6 t : S1x1024.Idx → EReal) (ix2 0 k) = aGf m c (ix1 k) := by
  have e : (iblk m c 6 t : S1x1024.Idx → EReal) (ix2 0 k) = (V m c main_v11 : S1x1024.Idx → EReal) (ix2 0 k) := by
    show (V m c main_v11 : S1x1024.Idx → EReal) ((win0_6.blk t).view.emb (ix2 0 k)) = _
    congr 1
    blk_ext [index_6 t]
  rw [e, V_main_v11]
  exact row_of_vec _ _ k

theorem index_4 : ∀ t : Fin cfg0.N, win0_4.index t = ![0, 0] := (by decide +kernel : ∀ t : Fin grid0.N, _)
theorem blk4 (t : Fin cfg0.N) (j : Fin 3) (f : Fin 5632) : (iblk m c 4 t : S3x5632.Idx → EReal) (ix2 j f) = aTap m c (ix2 j f) := by
  refine Eq.trans ?_ (congrFun (V_main_arg4 m c) _)
  show (V m c main_arg4 : S3x5632.Idx → EReal) ((win0_4.blk t).view.emb (ix2 j f)) = _
  congr 1
  blk_ext [index_4 t]

theorem up_w (k : Fin 1024) (f : Fin 5632) : UPW c (V m c main_arg3) (ix2 k f) = aUp m c (ix2 k f) := congrFun (V_main_arg3 m c) _
theorem down_w (f : Fin 2816) (k : Fin 1024) : DNW c (V m c main_arg6) (ix2 f k) = aDown m c (ix2 f k) := congrFun (V_main_arg6 m c) _

end Cert.FfnIdeal.Mlp

end
-- ==== Proof.FfnOut.lean ====
/-
The channel mixer's result as a function of its arguments, entry by entry (`spec`), and that every tile computes it: a tile's own
rows by the layout of its block, and the rows before a strand's first from the strand before it or from the tile before it.
-/
module

public import proofs.«01_k».proof.Proof.FfnArr

@[expose] public section

set_option maxRecDepth 16384

noncomputable section

namespace Cert.FfnIdeal.Mlp

open Cert.FfnIdeal.Gen
open Idealize.ShloMosaic hiding ix1 ix2 ix3 ix4
open Idealize.ShloMosaic.ValueIdx Idealize.ShloMosaic.TcCoe

section Spec
variable (X : FVec Ideal S8x4096x1024 .f32) (M : FVec Ideal S8x6x1024 .f32) (G2 : FVec Ideal S1024 .f32) (Wu : FVec Ideal S1024x5632 .f32)
  (T : FVec Ideal S3x5632 .f32) (B : FVec Ideal S5632 .f32) (Wd : FVec Ideal S2816x1024 .f32) (Gf : FVec Ideal S1024 .f32)

/-- A row normed and modulated; -/
def hS (b : Fin 8) (t : Fin 4096) (k : Fin 1024) : EReal :=
  X (ix3 b t k) * Ideal.rsqrt ((∑ j : Fin 1024, X (ix3 b t j) * X (ix3 b t j)) * cMean + cEps) * (G2 (ix1 k) * (cOne + M (ix3 b 4 k))) + M (ix3 b 3 k)
/-- its up-projection; -/
def upS (b : Fin 8) (t : Fin 4096) (f : Fin 5632) : EReal := ∑ k : Fin 1024, hS X M G2 b t k * Wu (ix2 k f)
/-- the same with two rows of zeros before the first; -/
def padS (b : Fin 8) (t : ℕ) (f : Fin 5632) : EReal := if h : 2 ≤ t ∧ t - 2 < 4096 then upS X M G2 Wu b ⟨t - 2, h.2⟩ f else 0
/-- the convolution of three taps; -/
def convS (b : Fin 8) (t : Fin 4096) (f : Fin 5632) : EReal :=
  B (ix1 f) + T (ix2 0 f) * padS X M G2 Wu b t.val f + T (ix2 1 f) * padS X M G2 Wu b (t.val + 1) f + T (ix2 2 f) * padS X M G2 Wu b (t.val + 2) f
/-- the gated activation; -/
def actS (b : Fin 8) (t : Fin 4096) (f : Fin 2816) : EReal :=
  convS X M G2 Wu T B b t ⟨f.val, by have := f.isLt; omega⟩ * Ideal.logistic (convS X M G2 Wu T B b t ⟨f.val, by have := f.isLt; omega⟩)
    * convS X M G2 Wu T B b t ⟨f.val + 2816, by have := f.isLt; omega⟩
/-- the residual; -/
def resS (b : Fin 8) (t : Fin 4096) (k : Fin 1024) : EReal := X (ix3 b t k) + M (ix3 b 5 k) * ∑ f : Fin 2816, actS X M G2 Wu T B b t f * Wd (ix2 f k)
/-- and the last norm. -/
def spec (b : Fin 8) (t : Fin 4096) (k : Fin 1024) : EReal :=
  resS X M G2 Wu T B Wd b t k * Ideal.rsqrt (Ideal.div (∑ j : Fin 1024, resS X M G2 Wu T B Wd b t j * resS X M G2 Wu T B Wd b t j) cLen + cEps) * Gf (ix1 k)
end Spec

variable (m : (ℓ : Loc nD τ sig) → Buf (Elt Ideal) ℓ) (c : Dev nD)

theorem timeOf_mk (t a s : ℕ) (hs : s < 8) : timeOf t (8 * a + s) = t % 4 * 1024 + s * 128 + a := by unfold timeOf; omega

abbrev bOf (t : Fin cfg0.N) : Fin 8 := ⟨t.val / 4, by have := tile_lt t; omega⟩
abbrev tOf (t : Fin cfg0.N) (r : Fin 1024) : Fin 4096 := ⟨timeOf t.val r.val, timeOf_lt _ r⟩

/-- A column of a row's block is the argument's column. -/
theorem x_apply (t : Fin cfg0.N) (r k : Fin 1024) :
    (iblk m c 0 t : S1x8x1024x128.Idx → EReal) (ix4 0 ⟨k.val / 128, by have := k.isLt; omega⟩ r ⟨k.val % 128, Nat.mod_lt _ (by decide)⟩) = aX m c (ix3 (bOf t) (tOf t r) k) := by
  refine (blk0 m c t _ r _).trans (congrArg (fun k => aX m c (ix3 (bOf t) (tOf t r) k)) (Fin.ext ?_))
  show k.val / 128 * 128 + k.val % 128 = k.val; omega

theorem rows_apply (t : Fin cfg0.N) (r k : Fin 1024) : rowsAt m c t (ix2 r k) = hS (aX m c) (aMod m c) (aG2 m c) (bOf t) (tOf t r) k := by
  unfold rowsAt hS
  refine (hE_apply _ _ _ _ r k).trans ?_
  rw [x_apply m c t r k]
  refine congrArg₂ (· + ·) (congrArg₂ (· * ·) (congrArg₂ (· * ·) rfl (congrArg Ideal.rsqrt (congrArg₂ (· + ·) (congrArg₂ (· * ·) (blk1 m c t r) rfl) rfl)))
    (congrArg₂ (· * ·) (blk3 m c t k) (congrArg₂ (· + ·) rfl (blk2 m c t 4 k)))) (blk2 m c t 3 k)

theorem up_rows (t : Fin cfg0.N) (r : Fin 1024) (f : Fin 5632) :
    UPr (rowsAt m c t) (UPW c (V m c main_arg3)) r f = upS (aX m c) (aMod m c) (aG2 m c) (aUp m c) (bOf t) (tOf t r) f :=
  Finset.sum_congr rfl fun k _ => congrArg₂ (· * ·) (rows_apply m c t r k) (up_w m c k f)

theorem upS_congr {b b' : Fin 8} {t t' : Fin 4096} (hb : b.val = b'.val) (ht : t.val = t'.val) (f : Fin 5632) :
    upS (aX m c) (aMod m c) (aG2 m c) (aUp m c) b t f = upS (aX m c) (aMod m c) (aG2 m c) (aUp m c) b' t' f := by
  obtain rfl := Fin.ext hb; obtain rfl := Fin.ext ht; rfl

/-- Whatever leads a row, `k` steps back from two before it, is the padded up-projection there. -/
theorem lead_rows (t : Fin cfg0.N) (r : Fin 1024) (k : ℕ) (hk : k < 3) (i : ℕ) (hi : i = 8 * k + r.val) (hi' : i < 1040) (f : Fin 5632) :
    lead (rowsAt m c t) (UPW c (V m c main_arg3)) (tin (hist m c) t.val) i hi' f = padS (aX m c) (aMod m c) (aG2 m c) (aUp m c) (bOf t) (timeOf t.val r.val + k) f := by
  have ht := tile_lt t
  have hr := r.isLt
  unfold lead padS
  by_cases h16 : 16 ≤ i
  · have h2 : 2 ≤ timeOf t.val r.val + k ∧ timeOf t.val r.val + k - 2 < 4096 := by unfold timeOf; omega
    rw [dif_pos h16, dif_pos h2, up_rows]
    exact upS_congr m c rfl (by show timeOf t.val (i - 16) = timeOf t.val r.val + k - 2; unfold timeOf; omega) f
  rw [dif_neg h16]
  by_cases h0 : i % 8 = 0
  · rw [if_pos h0]
    unfold tin
    by_cases h4 : t.val % 4 = 0
    · rw [if_pos h4, dif_neg (by unfold timeOf; omega)]
      unfold k0_pay28
      rw [shapeCast_self]
      exact Ideal.ofBits_zero_f32
    · have h2 : 2 ≤ timeOf t.val r.val + k ∧ timeOf t.val r.val + k - 2 < 4096 := by unfold timeOf; omega
      rw [if_neg h4, dif_pos h2]
      have hp : (pt (t.val - 1)).val = t.val - 1 := Nat.mod_eq_of_lt (by omega)
      unfold hist
      rw [TAIL_apply, up_rows]
      refine upS_congr m c ?_ ?_ f
      · show (pt (t.val - 1)).val / 4 = t.val / 4; rw [hp]; omega
      · show timeOf (pt (t.val - 1)).val (1008 + (i + 7 - i % 8)) = timeOf t.val r.val + k - 2
        rw [hp]; unfold timeOf; omega
  · have h2 : 2 ≤ timeOf t.val r.val + k ∧ timeOf t.val r.val + k - 2 < 4096 := by unfold timeOf; omega
    rw [if_neg h0, dif_pos h2, up_rows]
    exact upS_congr m c rfl (by
      show timeOf t.val (1007 + i) = timeOf t.val r.val + k - 2
      obtain ⟨a, s, hs, e⟩ : ∃ a s, s < 8 ∧ r.val = 8 * a + s := ⟨r.val / 8, r.val % 8, by omega, by omega⟩
      rw [e, timeOf_mk _ _ _ hs, show 1007 + i = 8 * (126 + k + a) + (s - 1) by omega, timeOf_mk _ _ _ (by omega)]
      omega) f

theorem conv_rows (t : Fin cfg0.N) (r : Fin 1024) (f : Fin 5632) :
    CVr (rowsAt m c t) (iblk m c 4 t) (iblk m c 5 t) (UPW c (V m c main_arg3)) (tin (hist m c) t.val) r f
      = convS (aX m c) (aMod m c) (aG2 m c) (aUp m c) (aTap m c) (aBias m c) (bOf t) (tOf t r) f :=
  congrArg₂ (· + ·) (congrArg₂ (· + ·) (congrArg₂ (· + ·) (blk5 m c t f) (congrArg₂ (· * ·) (blk4 m c t 0 f) (lead_rows m c t r 0 (by decide) _ (by omega) _ f)))
    (congrArg₂ (· * ·) (blk4 m c t 1 f) (lead_rows m c t r 1 (by decide) _ (by omega) _ f))) (congrArg₂ (· * ·) (blk4 m c t 2 f) (lead_rows m c t r 2 (by decide) _ (by omega) _ f))

theorem act_rows (t : Fin cfg0.N) (r : Fin 1024) (f : Fin 2816) :
    ACT (rowsAt m c t) (iblk m c 4 t) (iblk m c 5 t) (UPW c (V m c main_arg3)) (tin (hist m c) t.val) (ix2 r f)
      = actS (aX m c) (aMod m c) (aG2 m c) (aUp m c) (aTap m c) (aBias m c) (bOf t) (tOf t r) f :=
  (ACT_apply _ _ _ _ _ r f).trans
    (congrArg₂ (· * ·) (congrArg₂ (· * ·) (conv_rows m c t r _) (congrArg Ideal.logistic (conv_rows m c t r _))) (conv_rows m c t r _))

theorem res_rows (t : Fin cfg0.N) (r k : Fin 1024) :
    Zr (iblk m c 0 t) (gateE (iblk m c 2 t)) (ACT (rowsAt m c t) (iblk m c 4 t) (iblk m c 5 t) (UPW c (V m c main_arg3)) (tin (hist m c) t.val)) (DNW c (V m c main_arg6)) r k
      = resS (aX m c) (aMod m c) (aG2 m c) (aUp m c) (aTap m c) (aBias m c) (aDown m c) (bOf t) (tOf t r) k :=
  congrArg₂ (· + ·) (x_apply m c t r k) (congrArg₂ (· * ·) ((gateE_apply _ k).trans (blk2 m c t 5 k))
    (Finset.sum_congr rfl fun f _ => congrArg₂ (· * ·) (act_rows m c t r f) (down_w m c f k)))

/-- A tile's rows of the result. -/
theorem outs_apply (t : Fin cfg0.N) (r k : Fin 1024) :
    outs m c ⟨t.val, tile_lt t⟩ (ix2 r k)
      = spec (aX m c) (aMod m c) (aG2 m c) (aUp m c) (aTap m c) (aBias m c) (aDown m c) (aGf m c) (bOf t) (tOf t r) k := by
  unfold outs OUT
  dsimp only
  rw [pt_val]
  refine (OUTg_apply _ _ _ _ _ r k).trans ?_
  exact congrArg₂ (· * ·) (congrArg₂ (· * ·) (res_rows m c t r k) (congrArg Ideal.rsqrt (congrArg₂ (· + ·) (congrArg₂ Ideal.div
    (Finset.sum_congr rfl fun j _ => congrArg₂ (· * ·) (res_rows m c t r j) (res_rows m c t r j)) rfl) rfl))) (blk6 m c t k)

/-- The kernel's result, entry by entry. -/
theorem outBuf_apply (i : S8x4096x1024.Idx) :
    (outBuf c (outs m c) : S8x4096x1024.Idx → EReal) i
      = spec (aX m c) (aMod m c) (aG2 m c) (aUp m c) (aTap m c) (aBias m c) (aDown m c) (aGf m c) (i 0) (i 1) (i 2) := by
  have h0 : (i 0).val < 8 := (i 0).isLt
  have h1 : (i 1).val < 4096 := (i 1).isLt
  have e := outs_apply m c ⟨tileOf i, lt_of_lt_of_eq (by unfold tileOf; omega) N_0.symm⟩ ⟨(i 1).val % 128 * 8 + (i 1).val / 128 % 8, by omega⟩ (i 2)
  refine Eq.trans ?_ (e.trans ?_)
  · rfl
  · congr 1
    · exact Fin.ext (by show tileOf i / 4 = (i 0).val; unfold tileOf; omega)
    · refine Fin.ext ?_
      show timeOf (tileOf i) ((i 1).val % 128 * 8 + (i 1).val / 128 % 8) = (i 1).val
      rw [Nat.mul_comm, timeOf_mk _ _ _ (by omega)]
      unfold tileOf; omega

end Cert.FfnIdeal.Mlp

end
-- ==== Proof.FfnRef.lean ====
/-
The reference's result is the same function of the arguments (`spec`): its operations one stage at a time — the modulated norm, the
up-projection, the padded convolution, the gated activation, the residual, the last norm — and `result_eq`, that the two programs agree.
-/
module

public import proofs.«01_k».proof.Proof.FfnOut
public import proofs.«01_k».proof.Proof.Gen.FfnReferenceIdeal.Read
public import Idealize.ShloMosaic.Lib.KernelVsHost

@[expose] public section

set_option maxRecDepth 16384

noncomputable section

namespace Cert.FfnIdeal.Mlp

open Cert.FfnIdeal.Gen
open Cert.FfnReferenceIdeal.Read
open Idealize.ShloMosaic hiding ix1 ix2 ix3 ix4 ix5
open Idealize.ShloMosaic.ValueIdx Idealize.ShloMosaic.TcCoe

/-- Dividing by the row's length is multiplying by its reciprocal, both being powers of two. -/
theorem div_len (s : EReal) : Ideal.div s cLen = s * cMean := by
  have e : cLen = ((1024 : ℝ) : EReal) := by unfold cLen; simp [Ideal.ofBits, Ideal.ieee, -EReal.coe_mul]; norm_num
  have e' : cMean = ((1 / 1024 : ℝ) : EReal) := by unfold cMean; simp [Ideal.ofBits, Ideal.ieee, -EReal.coe_mul]; norm_num
  rw [e, e', Ideal.div_coe (by norm_num)]

theorem one_eq : cOne = 1 := by unfold cOne; simp [Ideal.ofBits, Ideal.ieee, -EReal.coe_mul]; norm_num

/-- Two indices of a matrix, or of a stack of matrices, that agree on every axis. -/
theorem ext1 {n : Fin 1 → ℕ} {i j : (⟨1, n⟩ : Shape).Idx} (h0 : (i 0).val = (j 0).val) : i = j :=
  funext fun a => by fin_cases a; exact Fin.ext h0
theorem ext2 {n : Fin 2 → ℕ} {i j : (⟨2, n⟩ : Shape).Idx} (h0 : (i 0).val = (j 0).val) (h1 : (i 1).val = (j 1).val) : i = j :=
  funext fun a => by fin_cases a; exacts [Fin.ext h0, Fin.ext h1]
theorem ext3 {n : Fin 3 → ℕ} {i j : (⟨3, n⟩ : Shape).Idx} (h0 : (i 0).val = (j 0).val) (h1 : (i 1).val = (j 1).val) (h2 : (i 2).val = (j 2).val) : i = j :=
  funext fun a => by fin_cases a; exacts [Fin.ext h0, Fin.ext h1, Fin.ext h2]

section Stages
variable (X : FVec Ideal S8x4096x1024 .f32) (M : FVec Ideal S8x6x1024 .f32) (G2 : FVec Ideal S1024 .f32) (Wu : FVec Ideal S1024x5632 .f32)
  (T : FVec Ideal S3x5632 .f32) (B : FVec Ideal S5632 .f32) (Wd : FVec Ideal S2816x1024 .f32) (Gf : FVec Ideal S1024 .f32)

/-- The reciprocal root of a row's mean square, wherever in the row it is read. -/
theorem rs_ref (b : Fin 8) (t : Fin 4096) (k : Fin 1024) : val_main_v11 (F := Ideal) X (ix3 b t k)
    = Ideal.rsqrt ((∑ j : Fin 1024, X (ix3 b t j) * X (ix3 b t j)) * cMean + cEps) := by
  rw [val_main_v11_apply, val_main_v10_apply, val_main_v9_apply, val_main_v7_apply, val_main_v8_apply, val_main_v5_apply, val_main_v6_apply,
    val_main_v4_apply, val_main_cst_apply, val_main_cst_0_apply, val_main_cst_1_apply]
  refine congrArg Ideal.rsqrt (congrArg₂ (· + ·) ((div_len _).trans (congrArg₂ (· * ·) ?_ rfl)) rfl)
  refine Eq.trans (congrArg₂ (· + ·) Ideal.ofBits_zero_f32 (Finset.sum_congr rfl fun j _ => ?_)) (zero_add _)
  rw [val_main_v3_apply]
  have e : idx_main_v4 (idx_main_v5 (idx_main_v11 (ix3 b t k))) j = ix3 b t j := ext3 rfl rfl rfl
  exact congrArg₂ (· * ·) (congrArg X e) (congrArg X e)

/-- The modulated norm. -/
theorem h_ref (b : Fin 8) (t : Fin 4096) (k : Fin 1024) : val_main_v21 (F := Ideal) X M G2 (ix3 b t k) = hS X M G2 b t k := by
  rw [val_main_v21_apply, val_main_v19_apply, val_main_v15_apply, val_main_v12_apply, rs_ref, val_main_v14_apply, val_main_v13_apply,
    val_main_v18_apply, val_main_v17_apply, val_main_v16_apply, val_main_v1_apply, val_main_v20_apply, val_main_v0_apply, val_main_cst_2_apply]
  refine congrArg₂ (· + ·) (Eq.trans (mul_assoc _ _ _) (congrArg₂ (· * ·) rfl (congrArg₂ (· * ·) (congrArg G2 (ext1 rfl))
    (congrArg₂ (· + ·) rfl (congrArg M (ext3 rfl rfl rfl)))))) (congrArg M (ext3 rfl rfl rfl))

/-- The up-projection. -/
theorem up_ref (b : Fin 8) (t : Fin 4096) (f : Fin 5632) : val_main_v22 (F := Ideal) X M G2 Wu (ix3 b t f) = upS X M G2 Wu b t f := by
  rw [val_main_v22_apply]
  refine Finset.sum_congr rfl fun k _ => congrArg₂ (· * ·) (Eq.trans (congrArg _ ?_) (h_ref X M G2 b t k)) (congrArg Wu (ext2 rfl rfl))
  exact ext3 rfl rfl rfl

/-- Two rows of zeros before it. -/
theorem pad_ref (b : Fin 8) (t : Fin 4098) (f : Fin 5632) : val_main_v23 (F := Ideal) X M G2 Wu (ix3 b t f) = padS X M G2 Wu b t.val f := by
  have ht := t.isLt
  unfold val_main_v23 padS
  by_cases h : 2 ≤ t.val
  · rw [dif_pos (⟨h, by omega⟩ : 2 ≤ t.val ∧ t.val - 2 < 4096), ← up_ref]
    refine pad_apply_of_inside _ _ _ _ _ _ _ _ _ fun a => ?_
    fin_cases a
    · show b.val = 0 + b.val * (0 + 1); omega
    · show t.val = 2 + (t.val - 2) * (0 + 1); omega
    · show f.val = 0 + f.val * (0 + 1); omega
  rw [dif_neg fun h' => h h'.1]
  refine (pad_apply_of_not_inside _ _ _ _ _ _ _ _ 1 fun h' => h h'.1).trans ?_
  rw [val_main_cst_3_apply]; exact Ideal.ofBits_zero_f32

/-- The convolution of three taps. -/
theorem conv_ref (b : Fin 8) (t : Fin 4096) (f : Fin 5632) : val_main_v46 (F := Ideal) X M G2 Wu T B (ix3 b t f) = convS X M G2 Wu T B b t f := by
  rw [val_main_v46_apply, val_main_v43_apply, val_main_v36_apply, val_main_v29_apply, val_main_v35_apply, val_main_v42_apply,
    val_main_v28_apply, val_main_v27_apply, val_main_v25_apply, val_main_v24_apply, val_main_v34_apply, val_main_v33_apply,
    val_main_v31_apply, val_main_v30_apply, val_main_v41_apply, val_main_v40_apply, val_main_v38_apply, val_main_v37_apply,
    val_main_v26_apply, val_main_v32_apply, val_main_v39_apply, val_main_v45_apply, val_main_v44_apply]
  have ht := t.isLt
  have p : ∀ (i : Cert.FfnReferenceIdeal.S8x4098x5632.Idx) (u : ℕ), (i 0).val = b.val → (i 1).val = u → (i 2).val = f.val →
      val_main_v23 (F := Ideal) X M G2 Wu i = padS X M G2 Wu b u f := fun i u h0 h1 h2 => by
    obtain rfl := h1
    exact (congrArg _ (ext3 h0 rfl h2 : i = ix3 b (i 1) f)).trans (pad_ref X M G2 Wu b (i 1) f)
  refine Eq.trans (congrArg₂ (· + ·) (congrArg₂ (· + ·) (congrArg₂ (· + ·)
      (congrArg₂ (· * ·) (congrArg T (ext2 (j := ix2 0 f) rfl (Nat.mod_eq_of_lt f.isLt))) (p _ t.val rfl rfl rfl))
      (congrArg₂ (· * ·) (congrArg T (ext2 (j := ix2 1 f) rfl (Nat.mod_eq_of_lt f.isLt))) (p _ (t.val + 1) rfl (Nat.add_comm 1 t.val) rfl)))
      (congrArg₂ (· * ·) (congrArg T (ext2 (j := ix2 2 f) rfl (Nat.mod_eq_of_lt f.isLt))) (p _ (t.val + 2) rfl (Nat.add_comm 2 t.val) rfl)))
      (congrArg B (ext1 (j := ix1 f) rfl))) ?_
  unfold convS
  rw [add_comm, ← add_assoc, ← add_assoc]

/-- The gated activation. -/
theorem act_ref (b : Fin 8) (t : Fin 4096) (f : Fin 2816) : val_main_v56 (F := Ideal) X M G2 Wu T B (ix3 b t f) = actS X M G2 Wu T B b t f := by
  have hf := f.isLt
  have g : val_main_v47 (F := Ideal) X M G2 Wu T B (ix3 b t f) = convS X M G2 Wu T B b t ⟨f.val, by omega⟩ := by
    rw [val_main_v47_apply, ← conv_ref]
    exact congrArg _ (ext3 rfl rfl rfl)
  have u : val_main_v48 (F := Ideal) X M G2 Wu T B (ix3 b t f) = convS X M G2 Wu T B b t ⟨f.val + 2816, by omega⟩ := by
    rw [val_main_v48_apply, ← conv_ref]
    exact congrArg _ (ext3 rfl rfl (Nat.add_comm 2816 f.val))
  rw [val_main_v56_apply, val_main_v55_apply, val_main_v54_apply, val_main_v53_apply, val_main_v52_apply, val_main_v51_apply, val_main_v50_apply,
    val_main_v49_apply, val_main_cst_4_apply, val_main_cst_5_apply, g, u]
  refine congrArg₂ (· * ·) (congrArg₂ (· * ·) rfl ?_) rfl
  exact congrArg₂ Ideal.div one_eq (congrArg₂ (· + ·) one_eq rfl)

/-- The residual. -/
theorem res_ref (b : Fin 8) (t : Fin 4096) (k : Fin 1024) :
    val_main_v60 (F := Ideal) X M G2 Wu T B Wd (ix3 b t k) = resS X M G2 Wu T B Wd b t k := by
  rw [val_main_v60_apply, val_main_v59_apply, val_main_v58_apply, val_main_v2_apply, val_main_v57_apply]
  refine congrArg₂ (· + ·) rfl (congrArg₂ (· * ·) (congrArg M (ext3 rfl rfl rfl)) (Finset.sum_congr rfl fun f _ =>
    congrArg₂ (· * ·) (Eq.trans (congrArg _ ?_) (act_ref X M G2 Wu T B b t f)) (congrArg Wd (ext2 rfl rfl))))
  exact ext3 rfl rfl rfl

/-- The last norm. -/
theorem out_ref (b : Fin 8) (t : Fin 4096) (k : Fin 1024) :
    val_main_v73 (F := Ideal) X M G2 Wu T B Wd Gf (ix3 b t k) = spec X M G2 Wu T B Wd Gf b t k := by
  rw [val_main_v73_apply, val_main_v70_apply, res_ref, val_main_v69_apply, val_main_v68_apply, val_main_v67_apply, val_main_v65_apply,
    val_main_v63_apply, val_main_v62_apply, val_main_v64_apply, val_main_v66_apply, val_main_v72_apply, val_main_v71_apply,
    val_main_cst_6_apply, val_main_cst_7_apply, val_main_cst_8_apply]
  refine congrArg₂ (· * ·) (congrArg₂ (· * ·) rfl (congrArg Ideal.rsqrt (congrArg₂ (· + ·) (congrArg₂ Ideal.div ?_ rfl) rfl))) (congrArg Gf (ext1 rfl))
  refine Eq.trans (congrArg₂ (· + ·) Ideal.ofBits_zero_f32 (Finset.sum_congr rfl fun j _ => ?_)) (zero_add _)
  have e : idx_main_v62 (idx_main_v63 (idx_main_v69 (ix3 b t k))) j = ix3 b t j := ext3 rfl rfl rfl
  rw [val_main_v61_apply, e, res_ref]; rfl
end Stages

/-- From equal arguments the reference's result is the kernel's. -/
theorem result_eq (m : (ℓ : Loc Cert.FfnIdeal.nD Cert.FfnIdeal.τ Cert.FfnIdeal.sig) → Buf (Elt Ideal) ℓ)
    (m' : (ℓ : Loc Cert.FfnReferenceIdeal.nD Cert.FfnReferenceIdeal.τ Cert.FfnReferenceIdeal.sig) → Buf (Elt Ideal) ℓ) (c : Dev Cert.FfnIdeal.nD)
    (h : m' (c.tc.loc Cert.FfnReferenceIdeal.main_arg0) = m (c.tc.loc Cert.FfnIdeal.main_arg0)
      ∧ m' (c.tc.loc Cert.FfnReferenceIdeal.main_arg1) = m (c.tc.loc Cert.FfnIdeal.main_arg1)
      ∧ m' (c.tc.loc Cert.FfnReferenceIdeal.main_arg2) = m (c.tc.loc Cert.FfnIdeal.main_arg2)
      ∧ m' (c.tc.loc Cert.FfnReferenceIdeal.main_arg3) = m (c.tc.loc Cert.FfnIdeal.main_arg3)
      ∧ m' (c.tc.loc Cert.FfnReferenceIdeal.main_arg4) = m (c.tc.loc Cert.FfnIdeal.main_arg4)
      ∧ m' (c.tc.loc Cert.FfnReferenceIdeal.main_arg5) = m (c.tc.loc Cert.FfnIdeal.main_arg5)
      ∧ m' (c.tc.loc Cert.FfnReferenceIdeal.main_arg6) = m (c.tc.loc Cert.FfnIdeal.main_arg6)
      ∧ m' (c.tc.loc Cert.FfnReferenceIdeal.main_arg7) = m (c.tc.loc Cert.FfnIdeal.main_arg7)) :
    (Cert.FfnReferenceIdeal.Value.res_main_v73 m' c : S8x4096x1024.Idx → EReal) = outBuf c (outs m c) := by
  obtain ⟨h0, h1, h2, h3, h4, h5, h6, h7⟩ := h
  funext i
  rw [outBuf_apply, val_main_v73_eq, h0, h1, h2, h3, h4, h5, h6, h7]
  exact (congrArg _ (ext3 rfl rfl rfl : i = ix3 (i 0) (i 1) (i 2))).trans (out_ref _ _ _ _ _ _ _ _ (i 0) (i 1) (i 2))

end Cert.FfnIdeal.Mlp

end
-- ==== Proof.AdaValue.lean ====
/-
The call `ada_mod`: what a grid point leaves in its block of the modulation, entry by entry, the whole array after the run, and that
the reference's result is the same function of the arguments (`modS`).
-/
module

public import proofs.«01_k».proof.Proof.FfnRef
public import proofs.«01_k».proof.Proof.Gen.AdaIdeal.Value
public import proofs.«01_k».proof.Proof.Gen.AdaReferenceIdeal.Read

@[expose] public section

set_option maxRecDepth 16384

noncomputable section

namespace Cert.AdaIdeal.Modulation

open Cert.AdaIdeal.Gen
open Cert.AdaReferenceIdeal.Read
open Cert.FfnIdeal.Mlp (ld_at brow mm_apply row_of_vec one_eq ext1 ext2)
open Idealize.ShloMosaic hiding ix1 ix2 ix3 ix4 ix5
open Idealize.ShloMosaic.ValueIdx Idealize.ShloMosaic.TcCoe

section Spec
variable (C : FVec Ideal S8x1024 .f32) (W : FVec Ideal S1024x6144 .f32) (B : FVec Ideal S6144 .f32)

/-- The gated condition against the weights, and the bias. -/
def modS (r : Fin 8) (f : Fin 6144) : EReal := (∑ k : Fin 1024, C (ix2 r k) * Ideal.logistic (C (ix2 r k)) * W (ix2 k f)) + B (ix1 f)

theorem ref_eq (r : Fin 8) (f : Fin 6144) : val_main_v4 (F := Ideal) C W B (ix2 r f) = modS C W B r f := by
  rw [val_main_v4_apply, val_main_v1_apply, val_main_v3_apply, val_main_v2_apply]
  refine congrArg₂ (· + ·) (Finset.sum_congr rfl fun k _ => congrArg₂ (· * ·) ?_ (congrArg W (ext2 rfl rfl))) (congrArg B (ext1 rfl))
  have e : lidx_main_v1 (ix2 r f) k = ix2 r k := ext2 rfl rfl
  rw [e, val_main_v0_apply, val_main_call0_v5_apply, val_main_call0_v4_apply, val_main_call0_v3_apply, val_main_call0_v2_apply,
    val_main_call0_v1_apply, val_main_call0_v0_apply, val_main_call0_cst_apply, val_main_call0_cst_0_apply]
  exact congrArg₂ (· * ·) rfl (congrArg₂ Ideal.div one_eq (congrArg₂ (· + ·) one_eq rfl))
end Spec

/-- A load of a whole buffer. -/
theorem ld_whole {Val : EltTy → Type} {e : EltTy} {S : Shape} (X : S.Idx → Val e) (off : Fin S.rank → ℕ) (inb : ∀ a, off a + S.size a ≤ S.size a)
    (h : ∀ a, off a = 0) : View.ld X (Rect.unit off S.size inb) = X :=
  funext fun i => ld_at X off S.size inb i i fun a => by rw [h a, Nat.zero_add]
theorem zero2 : ∀ a : Fin 2, ![0, 0] a = 0 := by decide

/-- What the body leaves, from the three blocks. -/
theorem out_apply (x : FVec Ideal S8x1024 .f32) (w : FVec Ideal S1024x1024 .f32) (b : FVec Ideal S1x1024 .f32) (r : Fin 8) (k : Fin 1024) :
    (out0_3 (F := Ideal) x w b : S8x1024.Idx → EReal) (ix2 r k) = (∑ j : Fin 1024, x (ix2 r j) * Ideal.logistic (x (ix2 r j)) * w (ix2 j k)) + b (ix2 0 k) := by
  unfold out0_3
  rw [View.canon_cons_unit_zero (by funext a; fin_cases a <;> rfl)]
  rw [ld_whole _ _ _ zero2, ld_whole _ _ _ zero2, ld_whole _ _ _ zero2]
  unfold k0_pay1
  refine congrArg₂ (· + ·) (mm_apply (n := 8) (K := 1024) (m := 1024) _ none _ _ r k) ((brow _ _ r k).trans ?_)
  exact shapeCast_apply _ _ _ _ rfl

variable (m : (ℓ : Loc nD τ sig) → Buf (Elt Ideal) ℓ) (c : Dev nD)

/-- The arguments at their own shapes. -/
abbrev aC : FVec Ideal S8x1024 .f32 := m ((c.tc : Thread nD τ).loc main_arg0)
abbrev aW : FVec Ideal S1024x6144 .f32 := m ((c.tc : Thread nD τ).loc main_arg1)
abbrev aB : FVec Ideal S6144 .f32 := m ((c.tc : Thread nD τ).loc main_arg2)

theorem V_main_v0 : (V m c main_v0 : S1x6144.Idx → EReal) = shapeCast S1x6144 (aB m c) shapeCasts_S6144_S1x6144 := by
  rfl

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, t.val] := (by decide +kernel : ∀ t : Fin grid0.N, _)
theorem index_3 : ∀ t : Fin cfg0.N, win0_3.index t = ![0, t.val] := (by decide +kernel : ∀ t : Fin grid0.N, _)
theorem t_lt (t : Fin cfg0.N) : t.val < 6 := lt_of_lt_of_eq t.isLt N_0

/-- The column of the whole array that a block's column is. -/
abbrev col (t : Fin cfg0.N) (k : Fin 1024) : Fin 6144 := ⟨t.val * 1024 + k.val, by have := t_lt t; have := k.isLt; omega⟩

theorem blk0 (t : Fin cfg0.N) (r : Fin 8) (k : Fin 1024) : (iblk m c 0 t : S8x1024.Idx → EReal) (ix2 r k) = aC m c (ix2 r k) := by
  refine Eq.trans ?_ (congrFun (V_main_arg0 m c) _)
  show (V m c main_arg0 : S8x1024.Idx → EReal) ((win0_0.blk t).view.emb (ix2 r k)) = _
  congr 1
  blk_ext [index_0 t]
theorem blk1 (t : Fin cfg0.N) (j k : Fin 1024) : (iblk m c 1 t : S1024x1024.Idx → EReal) (ix2 j k) = aW m c (ix2 j (col t k)) := by
  refine Eq.trans ?_ (congrFun (V_main_arg1 m c) _)
  show (V m c main_arg1 : S1024x6144.Idx → EReal) ((win0_1.blk t).view.emb (ix2 j k)) = _
  congr 1
  blk_ext [index_1 t]
theorem blk2 (t : Fin cfg0.N) (k : Fin 1024) : (iblk m c 2 t : S1x1024.Idx → EReal) (ix2 0 k) = aB m c (ix1 (col t k)) := by
  have e : (iblk m c 2 t : S1x1024.Idx → EReal) (ix2 0 k) = (V m c main_v0 : S1x6144.Idx → EReal) (ix2 0 (col t k)) := by
    show (V m c main_v0 : S1x6144.Idx → EReal) ((win0_2.blk t).view.emb (ix2 0 k)) = _
    congr 1
    blk_ext [index_2 t]
  rw [e, V_main_v0]
  exact row_of_vec _ _ (col t k)

/-- The whole array after the run. -/
theorem arr_eq : (dats m 0 c).arrAt 3 cfg0.N = fun i : S8x6144.Idx => modS (aC m c) (aW m c) (aB m c) (i 0) (i 1) := by
  refine (dats m 0 c).arrAt_eq_of_covers 3 _ (by decide +kernel) fun t hf y => ?_
  have e : (win0_3.blk t).view.emb y = ix2 (y 0) (col t (y 1)) := by
    blk_ext [index_3 t]
  have ey : y = ix2 (y 0) (y 1) := ext2 rfl rfl
  show (dats m 0 c).after 3 t y = _
  rw [after0_3]
  refine Eq.trans (congrArg _ ey) ((out_apply _ _ _ (y 0) (y 1)).trans ?_)
  refine Eq.trans (congrArg₂ (· + ·) (Finset.sum_congr rfl fun j _ => ?_) (blk2 m c t (y 1)))
    (congrArg (fun i : S8x6144.Idx => modS (aC m c) (aW m c) (aB m c) (i 0) (i 1)) e).symm
  rw [blk0 m c t (y 0) j, blk1 m c t j (y 1)]

/-- From equal arguments the reference's result is the call's. -/
theorem result_eq (x0 : FVec Ideal S8x1024 .f32) (x1 : FVec Ideal S1024x6144 .f32) (x2 : FVec Ideal S6144 .f32)
    (h0 : x0 = aC m c) (h1 : x1 = aW m c) (h2 : x2 = aB m c) : val_main_v4 (F := Ideal) x0 x1 x2 = (dats m 0 c).arrAt 3 cfg0.N := by
  rw [arr_eq, h0, h1, h2]
  funext i
  exact (congrArg _ (ext2 rfl rfl : i = ix2 (i 0) (i 1))).trans (ref_eq _ _ _ (i 0) (i 1))

end Cert.AdaIdeal.Modulation

end
-- ==== Proof.lean ====
/-
The proof of `Cert.Claim`: the frames of the three calls in both interpretations, and the values of the channel mixer and of the
modulation against their references.
-/
module

public import proofs.«01_k».proof.Defs
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Frame
public import proofs.«01_k».proof.Proof.FfnFrame
public import proofs.«01_k».proof.Proof.FfnRef
public import proofs.«01_k».proof.Proof.AdaValue
public import Idealize.ShloMosaic.Init

@[expose] public section

noncomputable section

namespace Cert.Proof

open Idealize.ShloMosaic Idealize.SL.Sem Cert.Kernel

-- the two printed texts are compared operation by operation
set_option maxHeartbeats 4000000
set_option maxRecDepth 100000

/-! `Kernel`'s program is `KernelIdeal`'s text, so its frame is the same run at bits. -/

theorem body_same : @Cert.Kernel.cc0_token_mixer Bits _ _ = @Cert.KernelIdeal.cc0_token_mixer Bits _ _ := rfl

theorem defs₀_same : Cert.Kernel.defs₀ (F := Bits) = Cert.KernelIdeal.defs₀ (F := Bits) := by
  unfold Cert.Kernel.defs₀ Cert.KernelIdeal.defs₀
  rw [body_same]
  refine congrArg Defs.onTc ?_
  funext l a
  match l, a with
  | ⟨0, _⟩, (t, s) => rfl
  | ⟨_ + 1, h⟩, _ => exact absurd h (Nat.not_lt.2 (Nat.le_add_left _ _))

theorem defs_same : Cert.Kernel.defs (F := Bits) = Cert.KernelIdeal.defs (F := Bits) := congrArg (Pipeline.defs _) defs₀_same
theorem main_same : Cert.Kernel.main (F := Bits) = Cert.KernelIdeal.main (F := Bits) := rfl

theorem frame_kernel : Cert.quiescent_Kernel := fun m ρ _ => by
  rw [defs_same, main_same]
  exact Cert.KernelIdeal.Mixer.frame_main (F := Bits) m ρ

theorem frame_kernelIdeal : Cert.quiescent_KernelIdeal := fun m ρ _ => Cert.KernelIdeal.Mixer.frame_main (F := Ideal) m ρ

/-! The same of the channel mixer's two programs. -/

theorem ffn_body_same : @Cert.Ffn.cc0_channel_mixer Bits _ _ = @Cert.FfnIdeal.cc0_channel_mixer Bits _ _ := rfl

theorem ffn_defs₀_same : Cert.Ffn.defs₀ (F := Bits) = Cert.FfnIdeal.defs₀ (F := Bits) := by
  unfold Cert.Ffn.defs₀ Cert.FfnIdeal.defs₀
  rw [ffn_body_same]
  refine congrArg Defs.onTc ?_
  funext l a
  match l, a with
  | ⟨0, _⟩, (t, s) => rfl
  | ⟨_ + 1, h⟩, _ => exact absurd h (Nat.not_lt.2 (Nat.le_add_left _ _))

theorem ffn_defs_same : Cert.Ffn.defs (F := Bits) = Cert.FfnIdeal.defs (F := Bits) := congrArg (Pipeline.defs _) ffn_defs₀_same
theorem ffn_main_same : Cert.Ffn.main (F := Bits) = Cert.FfnIdeal.main (F := Bits) := rfl

theorem frame_ffn : Cert.quiescent_Ffn := fun m ρ _ => by
  rw [ffn_defs_same, ffn_main_same]
  exact Cert.FfnIdeal.Mlp.frame_main (F := Bits) m ρ

theorem frame_ffnIdeal : Cert.quiescent_FfnIdeal := fun m ρ _ => Cert.FfnIdeal.Mlp.frame_main (F := Ideal) m ρ

/-- The reference is a straight-line host program that declares no semaphore. -/
theorem frame_ffnReference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The two programs' results, element by element the same. -/
theorem value : Cert.algebraic_FfnIdeal_FfnReferenceIdeal := fun m g m' g' _ hargs =>
  ⟨fun c => Cert.FfnIdeal.Mlp.outBuf c (Cert.FfnIdeal.Mlp.outs m c),
    (θ_run Cert.FfnIdeal.defs _ _).mono (fun _ h c => ⟨h.2 c, h.1.1 c⟩) (Cert.FfnIdeal.Mlp.frame_named (F := Ideal) m g),
    (θ_run Cert.FfnReferenceIdeal.defs _ _).mono (fun _ h c => ⟨(h c).1.trans (Cert.FfnIdeal.Mlp.result_eq m m' c (hargs c)), (h c).2⟩) (Cert.FfnReferenceIdeal.Value.run (F := Ideal) m' g')⟩

/-- The modulation's reference is a straight-line host program too. -/
theorem frame_adaReference : Cert.quiescent_AdaReferenceIdeal := fun m ρ _ =>
  (θ_run Cert.AdaReferenceIdeal.defs _ _).mono (fun r h => ⟨fun c => (h c).2, sem_eq_zero_of_no_sems (by decide) r.2⟩)
    (Cert.AdaReferenceIdeal.Value.run (F := Ideal) m ρ)

/-- The modulation's values. -/
theorem value_ada : Cert.algebraic_AdaIdeal_AdaReferenceIdeal := fun m g m' g' _ hargs =>
  ⟨fun c => (Cert.AdaIdeal.Gen.dats m 0 c).arrAt 3 Cert.AdaIdeal.cfg0.N, Cert.AdaIdeal.Value.run_blocks (F := Ideal) m g,
    (θ_run Cert.AdaReferenceIdeal.defs _ _).mono (fun _ h c => ⟨(h c).1.trans ((Cert.AdaReferenceIdeal.Read.val_main_v4_eq _ _ _).trans
      (Cert.AdaIdeal.Modulation.result_eq m c _ _ _ (hargs c).1 (hargs c).2.1 (hargs c).2.2)), (h c).2⟩)
      (Cert.AdaReferenceIdeal.Value.run (F := Ideal) m' g')⟩

theorem claim : Cert.Claim := ⟨Cert.Kernel.Gen.facts, Cert.KernelIdeal.Gen.facts, Cert.Ffn.Gen.facts, Cert.FfnIdeal.Gen.facts, Cert.FfnReferenceIdeal.Gen.facts,
  Cert.Ada.Gen.facts, Cert.AdaIdeal.Gen.facts, Cert.AdaReferenceIdeal.Gen.facts,
  frame_kernel, frame_kernelIdeal, frame_ffn, frame_ffnIdeal, frame_ffnReference,
  fun m ρ _ => Cert.Ada.Gen.frame m ρ, fun m ρ _ => Cert.AdaIdeal.Gen.frame m ρ, frame_adaReference,
  trivial, trivial, value, trivial, value_ada⟩

end Cert.Proof

end
